-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_gate_finite [hPre_gate_finite : Cert.Pre_gate_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_gate_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_gate_finite [hPre_gate_finite : Cert.Pre_gate_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_gate_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_ln1_finite [hPre_ln1_finite : Cert.Pre_ln1_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_ln1_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_ln1_finite [hPre_ln1_finite : Cert.Pre_ln1_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_ln1_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_ln2_finite [hPre_ln2_finite : Cert.Pre_ln2_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_ln2_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_ln2_finite [hPre_ln2_finite : Cert.Pre_ln2_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_ln2_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_gate_finite [hKernel4Ideal : Cert.Kernel4Ideal.Facts] [hPre_gate_finite : Cert.Pre_gate_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_gate_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_gate_finite [hReference4Ideal : Cert.Reference4Ideal.Facts] [hPre_gate_finite : Cert.Pre_gate_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_gate_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_ln1_finite [hKernel6Ideal : Cert.Kernel6Ideal.Facts] [hPre_ln1_finite : Cert.Pre_ln1_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_ln1_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_ln1_finite [hReference6Ideal : Cert.Reference6Ideal.Facts] [hPre_ln1_finite : Cert.Pre_ln1_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_ln1_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_ln2_finite [hKernel7Ideal : Cert.Kernel7Ideal.Facts] [hPre_ln2_finite : Cert.Pre_ln2_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_ln2_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_ln2_finite [hReference7Ideal : Cert.Reference7Ideal.Facts] [hPre_ln2_finite : Cert.Pre_ln2_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_ln2_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4)
      ∧ r.2.mem ((c.tc : Thread Cert.Kernel34.nD Cert.Kernel34.τ).loc Cert.Kernel34.main_arg5) = m ((c.tc : Thread Cert.Kernel34.nD Cert.Kernel34.τ).loc Cert.Kernel34.main_arg5))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4)
      ∧ r.2.mem ((c.tc : Thread Cert.Kernel35.nD Cert.Kernel35.τ).loc Cert.Kernel35.main_arg5) = m ((c.tc : Thread Cert.Kernel35.nD Cert.Kernel35.τ).loc Cert.Kernel35.main_arg5))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4)
      ∧ r.2.mem ((c.tc : Thread Cert.Kernel36.nD Cert.Kernel36.τ).loc Cert.Kernel36.main_arg5) = m ((c.tc : Thread Cert.Kernel36.nD Cert.Kernel36.τ).loc Cert.Kernel36.main_arg5))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
      ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4)
      ∧ r.2.mem ((c.tc : Thread Cert.Reference36Ideal.nD Cert.Reference36Ideal.τ).loc Cert.Reference36Ideal.main_arg5) = m ((c.tc : Thread Cert.Reference36Ideal.nD Cert.Reference36Ideal.τ).loc Cert.Reference36Ideal.main_arg5))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3)
      ∧ r.2.mem ((c.tc : Thread Cert.Kernel37.nD Cert.Kernel37.τ).loc Cert.Kernel37.main_arg4) = m ((c.tc : Thread Cert.Kernel37.nD Cert.Kernel37.τ).loc Cert.Kernel37.main_arg4)
      ∧ r.2.mem ((c.tc : Thread Cert.Kernel37.nD Cert.Kernel37.τ).loc Cert.Kernel37.main_arg5) = m ((c.tc : Thread Cert.Kernel37.nD Cert.Kernel37.τ).loc Cert.Kernel37.main_arg5))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
      ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4)
      ∧ r.2.mem ((c.tc : Thread Cert.Reference37Ideal.nD Cert.Reference37Ideal.τ).loc Cert.Reference37Ideal.main_arg5) = m ((c.tc : Thread Cert.Reference37Ideal.nD Cert.Reference37Ideal.τ).loc Cert.Reference37Ideal.main_arg5))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def preserves_Kernel4_Kernel4Ideal : Prop :=
  True

def algebraic_Kernel4Ideal_Reference4Ideal_pre_gate_finite [hKernel4Ideal : Cert.Kernel4Ideal.Facts] [hReference4Ideal : Cert.Reference4Ideal.Facts] [hPre_gate_finite : Cert.Pre_gate_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_gate_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel6_Kernel6Ideal : Prop :=
  True

def algebraic_Kernel6Ideal_Reference6Ideal_pre_ln1_finite [hKernel6Ideal : Cert.Kernel6Ideal.Facts] [hReference6Ideal : Cert.Reference6Ideal.Facts] [hPre_ln1_finite : Cert.Pre_ln1_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_ln1_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v87) = v0 c
          ∧ r.2.mem ((c.tc : Thread Cert.Reference6Ideal.nD Cert.Reference6Ideal.τ).loc Cert.Reference6Ideal.main_v86) = v1 c
          ∧ r.2.mem ((c.tc : Thread Cert.Reference6Ideal.nD Cert.Reference6Ideal.τ).loc Cert.Reference6Ideal.main_v41) = v2 c
          ∧ r.2.mem ((c.tc : Thread Cert.Reference6Ideal.nD Cert.Reference6Ideal.τ).loc Cert.Reference6Ideal.main_v44) = v3 c
          ∧ r.2.mem ((c.tc : Thread Cert.Reference6Ideal.nD Cert.Reference6Ideal.τ).loc Cert.Reference6Ideal.main_v53) = v4 c
          ∧ r.2.mem ((c.tc : Thread Cert.Reference6Ideal.nD Cert.Reference6Ideal.τ).loc Cert.Reference6Ideal.main_v50) = v5 c
          ∧ r.2.mem ((c.tc : Thread Cert.Reference6Ideal.nD Cert.Reference6Ideal.τ).loc Cert.Reference6Ideal.main_v84) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_pre_ln2_finite [hKernel7Ideal : Cert.Kernel7Ideal.Facts] [hReference7Ideal : Cert.Reference7Ideal.Facts] [hPre_ln2_finite : Cert.Pre_ln2_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_ln2_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v85) = v0 c
          ∧ r.2.mem ((c.tc : Thread Cert.Reference7Ideal.nD Cert.Reference7Ideal.τ).loc Cert.Reference7Ideal.main_v84) = v1 c
          ∧ r.2.mem ((c.tc : Thread Cert.Reference7Ideal.nD Cert.Reference7Ideal.τ).loc Cert.Reference7Ideal.main_v86) = v2 c
          ∧ r.2.mem ((c.tc : Thread Cert.Reference7Ideal.nD Cert.Reference7Ideal.τ).loc Cert.Reference7Ideal.main_v51) = v3 c
          ∧ r.2.mem ((c.tc : Thread Cert.Reference7Ideal.nD Cert.Reference7Ideal.τ).loc Cert.Reference7Ideal.main_v48) = v4 c
          ∧ r.2.mem ((c.tc : Thread Cert.Reference7Ideal.nD Cert.Reference7Ideal.τ).loc Cert.Reference7Ideal.main_v82) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v36) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v76) = v0 c
          ∧ r.2.mem ((c.tc : Thread Cert.Reference5Ideal.nD Cert.Reference5Ideal.τ).loc Cert.Reference5Ideal.main_v56) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_v12) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_v28) = v1 c
          ∧ r.2.mem ((c.tc : Thread Cert.Reference32Ideal.nD Cert.Reference32Ideal.τ).loc Cert.Reference32Ideal.main_v9) = v2 c
          ∧ r.2.mem ((c.tc : Thread Cert.Reference32Ideal.nD Cert.Reference32Ideal.τ).loc Cert.Reference32Ideal.main_v15) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v4) = v0 c
          ∧ r.2.mem ((c.tc : Thread Cert.Reference33Ideal.nD Cert.Reference33Ideal.τ).loc Cert.Reference33Ideal.main_v28) = v1 c
          ∧ r.2.mem ((c.tc : Thread Cert.Reference33Ideal.nD Cert.Reference33Ideal.τ).loc Cert.Reference33Ideal.main_v9) = v2 c
          ∧ r.2.mem ((c.tc : Thread Cert.Reference33Ideal.nD Cert.Reference33Ideal.τ).loc Cert.Reference33Ideal.main_v15) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)
      ∧ m' ((c.tc : Thread Cert.Reference34Ideal.nD Cert.Reference34Ideal.τ).loc Cert.Reference34Ideal.main_arg5) = m ((c.tc : Thread Cert.Kernel34Ideal.nD Cert.Kernel34Ideal.τ).loc Cert.Kernel34Ideal.main_arg5)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
          ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v4) = v0 c
          ∧ r.2.mem ((c.tc : Thread Cert.Reference34Ideal.nD Cert.Reference34Ideal.τ).loc Cert.Reference34Ideal.main_v28) = v1 c
          ∧ r.2.mem ((c.tc : Thread Cert.Reference34Ideal.nD Cert.Reference34Ideal.τ).loc Cert.Reference34Ideal.main_v9) = v2 c
          ∧ r.2.mem ((c.tc : Thread Cert.Reference34Ideal.nD Cert.Reference34Ideal.τ).loc Cert.Reference34Ideal.main_v15) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4)
          ∧ r.2.mem ((c.tc : Thread Cert.Reference34Ideal.nD Cert.Reference34Ideal.τ).loc Cert.Reference34Ideal.main_arg5) = m' ((c.tc : Thread Cert.Reference34Ideal.nD Cert.Reference34Ideal.τ).loc Cert.Reference34Ideal.main_arg5))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)
      ∧ m' ((c.tc : Thread Cert.Reference35Ideal.nD Cert.Reference35Ideal.τ).loc Cert.Reference35Ideal.main_arg5) = m ((c.tc : Thread Cert.Kernel35Ideal.nD Cert.Kernel35Ideal.τ).loc Cert.Kernel35Ideal.main_arg5)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
          ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v5) = v0 c
          ∧ r.2.mem ((c.tc : Thread Cert.Reference35Ideal.nD Cert.Reference35Ideal.τ).loc Cert.Reference35Ideal.main_v29) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_v16) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4)
          ∧ r.2.mem ((c.tc : Thread Cert.Reference35Ideal.nD Cert.Reference35Ideal.τ).loc Cert.Reference35Ideal.main_arg5) = m' ((c.tc : Thread Cert.Reference35Ideal.nD Cert.Reference35Ideal.τ).loc Cert.Reference35Ideal.main_arg5))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)
      ∧ m' ((c.tc : Thread Cert.Reference36Ideal.nD Cert.Reference36Ideal.τ).loc Cert.Reference36Ideal.main_arg5) = m ((c.tc : Thread Cert.Kernel36Ideal.nD Cert.Kernel36Ideal.τ).loc Cert.Kernel36Ideal.main_arg5)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
          ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v4) = v0 c
          ∧ r.2.mem ((c.tc : Thread Cert.Reference36Ideal.nD Cert.Reference36Ideal.τ).loc Cert.Reference36Ideal.main_v28) = v1 c
          ∧ r.2.mem ((c.tc : Thread Cert.Reference36Ideal.nD Cert.Reference36Ideal.τ).loc Cert.Reference36Ideal.main_v9) = v2 c
          ∧ r.2.mem ((c.tc : Thread Cert.Reference36Ideal.nD Cert.Reference36Ideal.τ).loc Cert.Reference36Ideal.main_v15) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4)
          ∧ r.2.mem ((c.tc : Thread Cert.Reference36Ideal.nD Cert.Reference36Ideal.τ).loc Cert.Reference36Ideal.main_arg5) = m' ((c.tc : Thread Cert.Reference36Ideal.nD Cert.Reference36Ideal.τ).loc Cert.Reference36Ideal.main_arg5))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)
      ∧ m' ((c.tc : Thread Cert.Reference37Ideal.nD Cert.Reference37Ideal.τ).loc Cert.Reference37Ideal.main_arg4) = m ((c.tc : Thread Cert.Kernel37Ideal.nD Cert.Kernel37Ideal.τ).loc Cert.Kernel37Ideal.main_arg4)
      ∧ m' ((c.tc : Thread Cert.Reference37Ideal.nD Cert.Reference37Ideal.τ).loc Cert.Reference37Ideal.main_arg5) = m ((c.tc : Thread Cert.Kernel37Ideal.nD Cert.Kernel37Ideal.τ).loc Cert.Kernel37Ideal.main_arg5)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
          ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
          ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v4) = v0 c
          ∧ r.2.mem ((c.tc : Thread Cert.Reference37Ideal.nD Cert.Reference37Ideal.τ).loc Cert.Reference37Ideal.main_v28) = v1 c
          ∧ r.2.mem ((c.tc : Thread Cert.Reference37Ideal.nD Cert.Reference37Ideal.τ).loc Cert.Reference37Ideal.main_v9) = v2 c
          ∧ r.2.mem ((c.tc : Thread Cert.Reference37Ideal.nD Cert.Reference37Ideal.τ).loc Cert.Reference37Ideal.main_v15) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3)
          ∧ r.2.mem ((c.tc : Thread Cert.Reference37Ideal.nD Cert.Reference37Ideal.τ).loc Cert.Reference37Ideal.main_arg4) = m' ((c.tc : Thread Cert.Reference37Ideal.nD Cert.Reference37Ideal.τ).loc Cert.Reference37Ideal.main_arg4)
          ∧ r.2.mem ((c.tc : Thread Cert.Reference37Ideal.nD Cert.Reference37Ideal.τ).loc Cert.Reference37Ideal.main_arg5) = m' ((c.tc : Thread Cert.Reference37Ideal.nD Cert.Reference37Ideal.τ).loc Cert.Reference37Ideal.main_arg5))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v0) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v20) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v28) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def Claim : Prop :=
  ∃ (hKernelIdeal : Cert.KernelIdeal.Facts) (hReferenceIdeal : Cert.ReferenceIdeal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hPre_gate_finite : Cert.Pre_gate_finite.Facts) (hPre_ln1_finite : Cert.Pre_ln1_finite.Facts) (hPre_ln2_finite : Cert.Pre_ln2_finite.Facts),
    quiescent_KernelIdeal (hKernelIdeal := hKernelIdeal)
    ∧ quiescent_ReferenceIdeal (hReferenceIdeal := hReferenceIdeal)
    ∧ quiescent_Kernel4 (hKernel4 := hKernel4)
    ∧ quiescent_Kernel4Ideal (hKernel4Ideal := hKernel4Ideal)
    ∧ quiescent_Kernel4Ideal_pre_gate_finite (hKernel4Ideal := hKernel4Ideal) (hPre_gate_finite := hPre_gate_finite)
    ∧ quiescent_Reference4Ideal (hReference4Ideal := hReference4Ideal)
    ∧ quiescent_Reference4Ideal_pre_gate_finite (hReference4Ideal := hReference4Ideal) (hPre_gate_finite := hPre_gate_finite)
    ∧ quiescent_Kernel6 (hKernel6 := hKernel6)
    ∧ quiescent_Kernel6Ideal (hKernel6Ideal := hKernel6Ideal)
    ∧ quiescent_Kernel6Ideal_pre_ln1_finite (hKernel6Ideal := hKernel6Ideal) (hPre_ln1_finite := hPre_ln1_finite)
    ∧ quiescent_Reference6Ideal (hReference6Ideal := hReference6Ideal)
    ∧ quiescent_Reference6Ideal_pre_ln1_finite (hReference6Ideal := hReference6Ideal) (hPre_ln1_finite := hPre_ln1_finite)
    ∧ quiescent_Kernel7 (hKernel7 := hKernel7)
    ∧ quiescent_Kernel7Ideal (hKernel7Ideal := hKernel7Ideal)
    ∧ quiescent_Kernel7Ideal_pre_ln2_finite (hKernel7Ideal := hKernel7Ideal) (hPre_ln2_finite := hPre_ln2_finite)
    ∧ quiescent_Reference7Ideal (hReference7Ideal := hReference7Ideal)
    ∧ quiescent_Reference7Ideal_pre_ln2_finite (hReference7Ideal := hReference7Ideal) (hPre_ln2_finite := hPre_ln2_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ preserves_Kernel4_Kernel4Ideal
    ∧ algebraic_Kernel4Ideal_Reference4Ideal_pre_gate_finite (hKernel4Ideal := hKernel4Ideal) (hReference4Ideal := hReference4Ideal) (hPre_gate_finite := hPre_gate_finite)
    ∧ preserves_Kernel6_Kernel6Ideal
    ∧ algebraic_Kernel6Ideal_Reference6Ideal_pre_ln1_finite (hKernel6Ideal := hKernel6Ideal) (hReference6Ideal := hReference6Ideal) (hPre_ln1_finite := hPre_ln1_finite)
    ∧ preserves_Kernel7_Kernel7Ideal
    ∧ algebraic_Kernel7Ideal_Reference7Ideal_pre_ln2_finite (hKernel7Ideal := hKernel7Ideal) (hReference7Ideal := hReference7Ideal) (hPre_ln2_finite := hPre_ln2_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
-- ==== Pre_gate_finite.lean ====
abbrev S2048x5632 : Shape := ⟨2, ![2048, 5632]⟩
abbrev S2048x11264 : Shape := ⟨2, ![2048, 11264]⟩
abbrev S_ : Shape := ⟨0, ![]⟩

class Facts : Prop where
  bitsLt_bf16_f32 : FTy.bits .bf16 < FTy.bits .f32
  bcast_S_S2048x5632 : S_.BroadcastsInDim S2048x5632 (![] : Fin 0 → Fin S2048x5632.rank)
  slices_S2048x11264_S2048x5632_0_5632 : S2048x11264.Slices ![0, 5632] S2048x5632

variable [Facts]

def fn {F : FTy → Type} [FloatOps F] (main_arg0 : FVec F S2048x5632 .bf16) (main_arg1 : FVec F S2048x11264 .bf16) : IVec S2048x5632 1 :=
  let main_v0 : FVec F S2048x5632 .f32 := (extf .f32 · bitsLt_bf16_f32) main_arg0
  let main_v1 : FVec F S2048x5632 .f32 := Host.absf main_v0
  let main_cst : FVec F S_ .f32 := constant S_ .f32 0x7F800000#32
  let main_v2 : FVec F S2048x5632 .f32 := broadcastInDim S2048x5632 ![] bcast_S_S2048x5632 main_cst
  let main_v3 : IVec S2048x5632 1 := cmpf .olt main_v1 main_v2
  let main_v4 : FVec F S2048x5632 .bf16 := (extractStridedSlice S2048x5632 ![0, 5632] · slices_S2048x11264_S2048x5632_0_5632) main_arg1
  let main_v5 : FVec F S2048x5632 .f32 := (extf .f32 · bitsLt_bf16_f32) main_v4
  let main_v6 : FVec F S2048x5632 .f32 := Host.absf main_v5
  let main_cst_0 : FVec F S_ .f32 := constant S_ .f32 0x7F800000#32
  let main_v7 : FVec F S2048x5632 .f32 := broadcastInDim S2048x5632 ![] bcast_S_S2048x5632 main_cst_0
  let main_v8 : IVec S2048x5632 1 := cmpf .olt main_v6 main_v7
  let main_v9 : IVec S2048x5632 1 := andi main_v3 main_v8
  main_v9
-- ==== Pre_ln1_finite.lean ====
abbrev S2048x2048 : Shape := ⟨2, ![2048, 2048]⟩
abbrev S1x2048 : Shape := ⟨2, ![1, 2048]⟩
abbrev S_ : Shape := ⟨0, ![]⟩

class Facts : Prop where
  bcast_S_S1x2048 : S_.BroadcastsInDim S1x2048 (![] : Fin 0 → Fin S1x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)

variable [Facts]

def fn {F : FTy → Type} [FloatOps F] (main_arg0 : FVec F S2048x2048 .f32) (main_arg1 : FVec F S2048x2048 .f32) (main_arg2 : FVec F S2048x2048 .f32) (main_arg3 : FVec F S2048x2048 .f32) (main_arg4 : FVec F S1x2048 .f32) (main_arg5 : FVec F S1x2048 .f32) (main_arg6 : FVec F S1x2048 .f32) (main_arg7 : FVec F S1x2048 .f32) : IVec S2048x2048 1 :=
  let main_cst : FVec F S_ .f32 := constant S_ .f32 0x3F800000#32
  let main_v0 : FVec F S1x2048 .f32 := broadcastInDim S1x2048 ![] bcast_S_S1x2048 main_cst
  let main_v1 : FVec F S1x2048 .f32 := addf main_v0 main_arg7
  let main_v2 : FVec F S2048x2048 .f32 := broadcastInDim S2048x2048 ![0, 1] bcast_S1x2048_S2048x2048_0_1 main_v1
  let main_v3 : FVec F S2048x2048 .f32 := mulf main_arg3 main_v2
  let main_v4 : FVec F S2048x2048 .f32 := addf main_arg2 main_v3
  let main_v5 : FVec F S2048x2048 .f32 := broadcastInDim S2048x2048 ![0, 1] bcast_S1x2048_S2048x2048_0_1 main_arg5
  let main_v6 : FVec F S2048x2048 .f32 := mulf main_v4 main_v5
  let main_v7 : FVec F S2048x2048 .f32 := Host.absf main_v6
  let main_cst_0 : FVec F S_ .f32 := constant S_ .f32 0x7F800000#32
  let main_v8 : FVec F S2048x2048 .f32 := broadcastInDim S2048x2048 ![] bcast_S_S2048x2048 main_cst_0
  let main_v9 : IVec S2048x2048 1 := cmpf .olt main_v7 main_v8
  main_v9
-- ==== Pre_ln2_finite.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)
  bcast_S1x2048_S2048x2048_0_1 : S1x2048.BroadcastsInDim S2048x2048 (![0, 1] : Fin 2 → Fin S2048x2048.rank)

variable [Facts]

def fn {F : FTy → Type} [FloatOps F] (main_arg0 : FVec F S2048x2048 .f32) (main_arg1 : FVec F S2048x2048 .f32) (main_arg2 : FVec F S1x2048 .f32) (main_arg3 : FVec F S1x2048 .f32) (main_arg4 : FVec F S1x2048 .f32) (main_arg5 : FVec F S2048x2048 .f32) : IVec S2048x2048 1 :=
  let main_v0 : FVec F S2048x2048 .f32 := Host.absf main_arg5
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S1x2048 .f32 := Host.absf main_arg3
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : IVec S2048x2048 1 := broadcastInDim S2048x2048 ![0, 1] bcast_S1x2048_S2048x2048_0_1 main_v5
  let main_v7 : IVec S2048x2048 1 := andi main_v2 main_v6
  let main_v8 : FVec F S1x2048 .f32 := Host.absf main_arg4
  let main_cst_1 : FVec F S_ .f32 := constant S_ .f32 0x7F800000#32
  let main_v9 : FVec F S1x2048 .f32 := broadcastInDim S1x2048 ![] bcast_S_S1x2048 main_cst_1
  let main_v10 : IVec S1x2048 1 := cmpf .olt main_v8 main_v9
  let main_v11 : IVec S2048x2048 1 := broadcastInDim S2048x2048 ![0, 1] bcast_S1x2048_S2048x2048_0_1 main_v10
  let main_v12 : IVec S2048x2048 1 := andi main_v7 main_v11
  main_v12
-- ==== KernelIdeal.lean ====
abbrev S2048x4096 : Shape := ⟨2, ![2048, 4096]⟩
abbrev S2048x128 : Shape := ⟨2, ![2048, 128]⟩
abbrev S2048x2048 : Shape := ⟨2, ![2048, 2048]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x16x256 : Shape := ⟨3, ![2048, 16, 256]⟩
abbrev S2048x16x128 : Shape := ⟨3, ![2048, 16, 128]⟩
abbrev S2048x16x64 : Shape := ⟨3, ![2048, 16, 64]⟩
abbrev S2048x1x32 : Shape := ⟨3, ![2048, 1, 32]⟩
abbrev S2048x16x32 : Shape := ⟨3, ![2048, 16, 32]⟩
abbrev S2048x64 : Shape := ⟨2, ![2048, 64]⟩
abbrev S16x2048x2048 : Shape := ⟨3, ![16, 2048, 2048]⟩
abbrev S2048x2048x16 : Shape := ⟨3, ![2048, 2048, 16]⟩
abbrev S1x1x2048 : Shape := ⟨3, ![1, 1, 2048]⟩
abbrev S1x2048x1 : Shape := ⟨3, ![1, 2048, 1]⟩
abbrev S1x2048x2048 : Shape := ⟨3, ![1, 2048, 2048]⟩
abbrev S16x2048 : Shape := ⟨2, ![16, 2048]⟩
abbrev S16x2048x1 : Shape := ⟨3, ![16, 2048, 1]⟩
abbrev S16x128x2048 : Shape := ⟨3, ![16, 128, 2048]⟩
abbrev S2048x96 : Shape := ⟨2, ![2048, 96]⟩
abbrev S2048x384 : Shape := ⟨2, ![2048, 384]⟩
abbrev S2048x512 : Shape := ⟨2, ![2048, 512]⟩
abbrev S2048x256 : Shape := ⟨2, ![2048, 256]⟩
abbrev S2x2048x1 : Shape := ⟨3, ![2, 2048, 1]⟩
abbrev S2x2048x256 : Shape := ⟨3, ![2, 2048, 256]⟩
abbrev S2x2048x128 : Shape := ⟨3, ![2, 2048, 128]⟩
abbrev S1x2048x128 : Shape := ⟨3, ![1, 2048, 128]⟩
abbrev S512x512 : Shape := ⟨2, ![512, 512]⟩
abbrev S512x256 : Shape := ⟨2, ![512, 256]⟩
abbrev S1x512x256 : Shape := ⟨3, ![1, 512, 256]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩
abbrev S1x512x128 : Shape := ⟨3, ![1, 512, 128]⟩
abbrev S512x384 : Shape := ⟨2, ![512, 384]⟩

abbrev nBuf : Space → Nat
  | .hbm => 138
  | .vmem => 21
  | .smem => 0
  | _ => 0

abbrev hbmTy0_0 (i : Nat) : BufTy := match i % 128 with
  | 0 => ⟨S2048x4096, .bf16⟩
  | 1 => ⟨S2048x4096, .bf16⟩
  | 2 => ⟨S2048x128, .bf16⟩
  | 3 => ⟨S2048x2048, .bf16⟩
  | 4 => ⟨S2048, .i32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S2048, .f32⟩
  | 22 => ⟨S2048x1, .f32⟩
  | 23 => ⟨S1x32, .f32⟩
  | 24 => ⟨S2048x32, .f32⟩
  | 25 => ⟨S2048x32, .f32⟩
  | 26 => ⟨S2048x32, .f32⟩
  | 27 => ⟨S2048x32, .f32⟩
  | 28 => ⟨S2048x32, .f32⟩
  | 29 => ⟨S2048x16x256, .bf16⟩
  | 30 => ⟨S2048x16x256, .bf16⟩
  | 31 => ⟨S2048x16x128, .bf16⟩
  | 32 => ⟨S2048x16x64, .bf16⟩
  | 33 => ⟨S2048x1x32, .f32⟩
  | 34 => ⟨S2048x1x32, .f32⟩
  | 35 => ⟨S2048x16x64, .f32⟩
  | 36 => ⟨S2048x16x32, .f32⟩
  | 37 => ⟨S2048x16x32, .f32⟩
  | 38 => ⟨S2048x16x32, .f32⟩
  | 39 => ⟨S2048x16x32, .f32⟩
  | 40 => ⟨S2048x16x32, .f32⟩
  | 41 => ⟨S2048x16x32, .f32⟩
  | 42 => ⟨S2048x16x32, .f32⟩
  | 43 => ⟨S2048x16x32, .f32⟩
  | 44 => ⟨S2048x16x32, .f32⟩
  | 45 => ⟨S2048x16x32, .f32⟩
  | 46 => ⟨S2048x16x32, .f32⟩
  | 47 => ⟨S2048x16x32, .f32⟩
  | 48 => ⟨S2048x16x64, .f32⟩
  | 49 => ⟨S2048x16x64, .bf16⟩
  | 50 => ⟨S2048x16x128, .bf16⟩
  | 51 => ⟨S2048x16x128, .bf16⟩
  | 52 => ⟨S2048x64, .bf16⟩
  | 53 => ⟨S2048x64, .f32⟩
  | 54 => ⟨S2048x32, .f32⟩
  | 55 => ⟨S2048x32, .f32⟩
  | 56 => ⟨S2048x32, .f32⟩
  | 57 => ⟨S2048x32, .f32⟩
  | 58 => ⟨S2048x32, .f32⟩
  | 59 => ⟨S2048x32, .f32⟩
  | 60 => ⟨S2048x32, .f32⟩
  | 61 => ⟨S2048x32, .f32⟩
  | 62 => ⟨S2048x64, .f32⟩
  | 63 => ⟨S2048x64, .bf16⟩
  | 64 => ⟨S16x2048x2048, .f32⟩
  | 65 => ⟨S2048x2048x16, .f32⟩
  | 66 => ⟨S16x2048x2048, .f32⟩
  | 67 => ⟨S16x2048x2048, .f32⟩
  | 68 => ⟨S_, .f32⟩
  | 69 => ⟨S16x2048x2048, .f32⟩
  | 70 => ⟨S16x2048x2048, .f32⟩
  | 71 => ⟨S2048, .i32⟩
  | 72 => ⟨S_, .i32⟩
  | 73 => ⟨S_, .i32⟩
  | 74 => ⟨S2048, .i32⟩
  | 75 => ⟨S2048, .i32⟩
  | 76 => ⟨S2048, .i32⟩
  | 77 => ⟨S_, .i32⟩
  | 78 => ⟨S2048, .i32⟩
  | 79 => ⟨S2048, .i1⟩
  | 80 => ⟨S2048, .i32⟩
  | 81 => ⟨S2048, .i32⟩
  | 82 => ⟨S_, .i32⟩
  | 83 => ⟨S2048, .i32⟩
  | 84 => ⟨S2048, .i1⟩
  | 85 => ⟨S2048, .i1⟩
  | 86 => ⟨S_, .i32⟩
  | 87 => ⟨S2048, .i32⟩
  | 88 => ⟨S2048, .i32⟩
  | 89 => ⟨S2048, .i32⟩
  | 90 => ⟨S1x1x2048, .i32⟩
  | 91 => ⟨S1x2048x1, .i32⟩
  | 92 => ⟨S1x2048x2048, .i32⟩
  | 93 => ⟨S1x2048x2048, .i32⟩
  | 94 => ⟨S1x2048x2048, .i1⟩
  | 95 => ⟨S_, .f32⟩
  | 96 => ⟨S16x2048x2048, .i1⟩
  | 97 => ⟨S16x2048x2048, .f32⟩
  | 98 => ⟨S16x2048x2048, .f32⟩
  | 99 => ⟨S_, .f32⟩
  | 100 => ⟨S16x2048, .f32⟩
  | 101 => ⟨S16x2048x1, .f32⟩
  | 102 => ⟨S16x2048x2048, .f32⟩
  | 103 => ⟨S16x2048x2048, .f32⟩
  | 104 => ⟨S16x2048x2048, .f32⟩
  | 105 => ⟨S_, .f32⟩
  | 106 => ⟨S16x2048, .f32⟩
  | 107 => ⟨S16x2048x1, .f32⟩
  | 108 => ⟨S16x2048x2048, .f32⟩
  | 109 => ⟨S16x2048x2048, .f32⟩
  | 110 => ⟨S16x2048x2048, .bf16⟩
  | 111 => ⟨S16x128x2048, .f32⟩
  | 112 => ⟨S2048x16x128, .f32⟩
  | 113 => ⟨S2048x16x128, .bf16⟩
  | 114 => ⟨S16x2048x1, .f32⟩
  | 115 => ⟨S16x2048x1, .f32⟩
  | 116 => ⟨S_, .f32⟩
  | 117 => ⟨S16x2048x1, .f32⟩
  | 118 => ⟨S16x2048x1, .f32⟩
  | 119 => ⟨S_, .bf16⟩
  | 120 => ⟨S2048x16x64, .bf16⟩
  | 121 => ⟨S2048x16x256, .bf16⟩
  | 122 => ⟨S2048x4096, .bf16⟩
  | 123 => ⟨S_, .bf16⟩
  | 124 => ⟨S2048x64, .bf16⟩
  | 125 => ⟨S2048x128, .bf16⟩
  | 126 => ⟨S_, .f32⟩
  | 127 => ⟨S2048x32, .f32⟩
  | _ => ⟨S2048x4096, .bf16⟩

abbrev hbmTy0_1 (i : Nat) : BufTy := match i % 128 with
  | 0 => ⟨S_, .f32⟩
  | 1 => ⟨S2048x64, .f32⟩
  | 2 => ⟨S_, .f32⟩
  | 3 => ⟨S2048x96, .f32⟩
  | 4 => ⟨S2048x32, .f32⟩
  | 5 => ⟨S2048x384, .f32⟩
  | 6 => ⟨S2048x2048, .bf16⟩
  | 7 => ⟨S2048x4096, .bf16⟩
  | 8 => ⟨S2048x4096, .bf16⟩
  | 9 => ⟨S2048x128, .f32⟩
  | _ => ⟨S2048x4096, .bf16⟩

abbrev hbmTy (i : Nat) : BufTy := match i / 128 with
  | 0 => hbmTy0_0 i
  | 1 => hbmTy0_1 i
  | _ => ⟨S2048x4096, .bf16⟩

abbrev bufTy : (tb : Table) → Fin (tcTables nBuf tb) → BufTy
  | .hbm, ⟨i, _⟩ => hbmTy i
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2x2048x1, .f32⟩
  | .local _ .vmem, ⟨10, _⟩ => ⟨S2x2048x1, .f32⟩
  | .local _ .vmem, ⟨11, _⟩ => ⟨S2048x384, .f32⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x128, .f32⟩
  | .local _ .vmem, ⟨17, _⟩ => ⟨S2x2048x256, .f32⟩
  | .local _ .vmem, ⟨18, _⟩ => ⟨S2x2048x256, .f32⟩
  | .local _ .vmem, ⟨19, _⟩ => ⟨S2x2048x128, .f32⟩
  | .local _ .vmem, ⟨20, _⟩ => ⟨S2x2048x256, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_4 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_c : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_v8 : Ref sig .tc := ⟨.hbm, 81, rfl⟩
abbrev main_call0_c : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_c_0 : Ref sig .tc := ⟨.hbm, 86, rfl⟩
abbrev main_call0_v12 : Ref sig .tc := ⟨.hbm, 87, rfl⟩
abbrev main_call0_v13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_5 : Ref sig .tc := ⟨.hbm, 95, rfl⟩
abbrev main_call1_v0 : Ref sig .tc := ⟨.hbm, 96, rfl⟩
abbrev main_call1_v1 : Ref sig .tc := ⟨.hbm, 97, rfl⟩
abbrev main_v67 : Ref sig .tc := ⟨.hbm, 98, rfl⟩
abbrev main_cst_6 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_7 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_8 : Ref sig .tc := ⟨.hbm, 116, rfl⟩
abbrev main_v83 : Ref sig .tc := ⟨.hbm, 117, rfl⟩
abbrev main_v84 : Ref sig .tc := ⟨.hbm, 118, rfl⟩
abbrev main_cst_9 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_10 : Ref sig .tc := ⟨.hbm, 123, rfl⟩
abbrev main_v88 : Ref sig .tc := ⟨.hbm, 124, rfl⟩
abbrev main_v89 : Ref sig .tc := ⟨.hbm, 125, rfl⟩
abbrev main_cst_11 : Ref sig .tc := ⟨.hbm, 126, rfl⟩
abbrev main_v90 : Ref sig .tc := ⟨.hbm, 127, rfl⟩
abbrev main_cst_12 : Ref sig .tc := ⟨.hbm, 128, rfl⟩
abbrev main_v91 : Ref sig .tc := ⟨.hbm, 129, rfl⟩
abbrev main_cst_13 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96_0 : Ref sig .tc := ⟨.hbm, 135, rfl⟩
abbrev main_v96_1 : Ref sig .tc := ⟨.hbm, 136, rfl⟩
abbrev main_v96_2 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v30 : BitVec 32 := Scalar.addi c0_i32 c4_i32
  let c1_i32 : BitVec 32 := 1#32
  ⟨c0_i32, v30, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32 : BitVec 32 := 512#32
  let v221 : BitVec 32 := Scalar.muli arg15 c512_i32
  v221
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32_165 : BitVec 32 := 512#32
  let v223 : BitVec 32 := Scalar.muli arg15 c512_i32_165
  v223
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32 : BitVec 32 := 512#32
  let v221 : BitVec 32 := Scalar.muli arg15 c512_i32
  let v222 : BitVec 32 := v221
  let v238 : Index := Scalar.indexCast v222
  let c0_169 : Index := 0#32
  ![v238.toNat, 0]
def k0_off2 (k0_t1 : Fin k0_t1_loop.trips) : Fin 3 → Nat :=
  let c0_170 : Index := 0#32
  let c0_i32 : BitVec 32 := 0#32
  let c1_i32 : BitVec 32 := 1#32
  let arg15 : BitVec 32 := Scf.iv c0_i32 c1_i32 k0_t1
  let c512_i32_165 : BitVec 32 := 512#32
  let v223 : BitVec 32 := Scalar.muli arg15 c512_i32_165
  let v224 : BitVec 32 := v223
  let v241 : Index := Scalar.indexCast v224
  let c0_171 : Index := 0#32
  ![0, v241.toNat, 0]
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32 : BitVec 32 := 512#32
  let v221 : BitVec 32 := Scalar.muli arg15 c512_i32
  let v222 : BitVec 32 := v221
  let v244 : Index := Scalar.indexCast v222
  let c0_172 : Index := 0#32
  ![v244.toNat, 0]
def k0_off4 (k0_t1 : Fin k0_t1_loop.trips) : Fin 3 → Nat :=
  let c0_178 : Index := 0#32
  let c0_i32 : BitVec 32 := 0#32
  let c1_i32 : BitVec 32 := 1#32
  let arg15 : BitVec 32 := Scf.iv c0_i32 c1_i32 k0_t1
  let c512_i32 : BitVec 32 := 512#32
  let v221 : BitVec 32 := Scalar.muli arg15 c512_i32
  let v222 : BitVec 32 := v221
  let v259 : Index := Scalar.indexCast v222
  let c0_179 : Index := 0#32
  ![0, v259.toNat, 0]
def k0_off5 (k0_t1 : Fin k0_t1_loop.trips) : Fin 3 → Nat :=
  let c0_180 : Index := 0#32
  let c0_i32 : BitVec 32 := 0#32
  let c1_i32 : BitVec 32 := 1#32
  let arg15 : BitVec 32 := Scf.iv c0_i32 c1_i32 k0_t1
  let c512_i32_165 : BitVec 32 := 512#32
  let v223 : BitVec 32 := Scalar.muli arg15 c512_i32_165
  let v224 : BitVec 32 := v223
  let v265 : Index := Scalar.indexCast v224
  let c0_181 : Index := 0#32
  ![0, v265.toNat, 0]
def k0_off6 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32_165 : BitVec 32 := 512#32
  let v223 : BitVec 32 := Scalar.muli arg15 c512_i32_165
  let v224 : BitVec 32 := v223
  let v275 : Index := Scalar.indexCast v224
  let c128_185 : Index := 128#32
  ![v275.toNat, 128]
def k0_off7 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32 : BitVec 32 := 512#32
  let v221 : BitVec 32 := Scalar.muli arg15 c512_i32
  let v222 : BitVec 32 := v221
  let v302 : Index := Scalar.indexCast v222
  let c256_198 : Index := 256#32
  ![v302.toNat, 256]
def k0_off8 (k0_t1 : Fin k0_t1_loop.trips) : Fin 3 → Nat :=
  let c1_199 : Index := 1#32
  let c0_i32 : BitVec 32 := 0#32
  let c1_i32 : BitVec 32 := 1#32
  let arg15 : BitVec 32 := Scf.iv c0_i32 c1_i32 k0_t1
  let c512_i32_165 : BitVec 32 := 512#32
  let v223 : BitVec 32 := Scalar.muli arg15 c512_i32_165
  let v224 : BitVec 32 := v223
  let v305 : Index := Scalar.indexCast v224
  let c0_200 : Index := 0#32
  ![1, v305.toNat, 0]
def k0_off9 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32 : BitVec 32 := 512#32
  let v221 : BitVec 32 := Scalar.muli arg15 c512_i32
  let v222 : BitVec 32 := v221
  let v308 : Index := Scalar.indexCast v222
  let c128_201 : Index := 128#32
  ![v308.toNat, 128]
def k0_off10 (k0_t1 : Fin k0_t1_loop.trips) : Fin 3 → Nat :=
  let c1_207 : Index := 1#32
  let c0_i32 : BitVec 32 := 0#32
  let c1_i32 : BitVec 32 := 1#32
  let arg15 : BitVec 32 := Scf.iv c0_i32 c1_i32 k0_t1
  let c512_i32 : BitVec 32 := 512#32
  let v221 : BitVec 32 := Scalar.muli arg15 c512_i32
  let v222 : BitVec 32 := v221
  let v323 : Index := Scalar.indexCast v222
  let c0_208 : Index := 0#32
  ![1, v323.toNat, 0]
def k0_off11 (k0_t1 : Fin k0_t1_loop.trips) : Fin 3 → Nat :=
  let c1_209 : Index := 1#32
  let c0_i32 : BitVec 32 := 0#32
  let c1_i32 : BitVec 32 := 1#32
  let arg15 : BitVec 32 := Scf.iv c0_i32 c1_i32 k0_t1
  let c512_i32_165 : BitVec 32 := 512#32
  let v223 : BitVec 32 := Scalar.muli arg15 c512_i32_165
  let v224 : BitVec 32 := v223
  let v329 : Index := Scalar.indexCast v224
  let c0_210 : Index := 0#32
  ![1, v329.toNat, 0]
def k0_off12 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32_165 : BitVec 32 := 512#32
  let v223 : BitVec 32 := Scalar.muli arg15 c512_i32_165
  let v224 : BitVec 32 := v223
  let v339 : Index := Scalar.indexCast v224
  let c384_214 : Index := 384#32
  ![v339.toNat, 384]
@[reducible] def k0_t2_loop (k0_t1 : Fin k0_t1_loop.trips) : Scf.Loop 32 :=
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c4_i32_228 : BitVec 32 := 4#32
  let v367 : BitVec 32 := Scalar.subi c4_i32_228 v366
  let c1_i32_230 : BitVec 32 := 1#32
  let v369 : BitVec 32 := Scalar.divsi v367 c1_i32_230
  let v370 : BitVec 32 := Scalar.muli v369 c1_i32_230
  let v371 : BitVec 32 := Scalar.addi v366 v370
  let c1_i32_231 : BitVec 32 := 1#32
  ⟨v366, v371, c1_i32_231⟩
def k0_mult3 (k0_t1 : Fin k0_t1_loop.trips) (k0_t2 : Fin (k0_t2_loop k0_t1).trips) : BitVec 32 :=
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c1_i32_231 : BitVec 32 := 1#32
  let arg16 : BitVec 32 := Scf.iv v366 c1_i32_231 k0_t2
  let c512_i32_233 : BitVec 32 := 512#32
  let v374 : BitVec 32 := Scalar.muli arg16 c512_i32_233
  v374
def k0_mult4 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  v376
def k0_off13 (k0_t1 : Fin k0_t1_loop.trips) (k0_t2 : Fin (k0_t2_loop k0_t1).trips) : Fin 2 → Nat :=
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c1_i32_231 : BitVec 32 := 1#32
  let arg16 : BitVec 32 := Scf.iv v366 c1_i32_231 k0_t2
  let c512_i32_233 : BitVec 32 := 512#32
  let v374 : BitVec 32 := Scalar.muli arg16 c512_i32_233
  let v375 : BitVec 32 := v374
  let v378 : Index := Scalar.indexCast v375
  let c0_235 : Index := 0#32
  ![v378.toNat, 0]
def k0_off14 (k0_t1 : Fin k0_t1_loop.trips) : Fin 3 → Nat :=
  let c0_236 : Index := 0#32
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  let v377 : BitVec 32 := v376
  let v381 : Index := Scalar.indexCast v377
  let c0_237 : Index := 0#32
  ![0, v381.toNat, 0]
def k0_off15 (k0_t1 : Fin k0_t1_loop.trips) (k0_t2 : Fin (k0_t2_loop k0_t1).trips) : Fin 2 → Nat :=
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c1_i32_231 : BitVec 32 := 1#32
  let arg16 : BitVec 32 := Scf.iv v366 c1_i32_231 k0_t2
  let c512_i32_233 : BitVec 32 := 512#32
  let v374 : BitVec 32 := Scalar.muli arg16 c512_i32_233
  let v375 : BitVec 32 := v374
  let v384 : Index := Scalar.indexCast v375
  let c0_238 : Index := 0#32
  ![v384.toNat, 0]
def k0_off16 (k0_t1 : Fin k0_t1_loop.trips) (k0_t2 : Fin (k0_t2_loop k0_t1).trips) : Fin 3 → Nat :=
  let c0_243 : Index := 0#32
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c1_i32_231 : BitVec 32 := 1#32
  let arg16 : BitVec 32 := Scf.iv v366 c1_i32_231 k0_t2
  let c512_i32_233 : BitVec 32 := 512#32
  let v374 : BitVec 32 := Scalar.muli arg16 c512_i32_233
  let v375 : BitVec 32 := v374
  let v397 : Index := Scalar.indexCast v375
  let c0_244 : Index := 0#32
  ![0, v397.toNat, 0]
def k0_off17 (k0_t1 : Fin k0_t1_loop.trips) : Fin 3 → Nat :=
  let c0_245 : Index := 0#32
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  let v377 : BitVec 32 := v376
  let v403 : Index := Scalar.indexCast v377
  let c0_246 : Index := 0#32
  ![0, v403.toNat, 0]
def k0_off18 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  let v377 : BitVec 32 := v376
  let v413 : Index := Scalar.indexCast v377
  let c128_250 : Index := 128#32
  ![v413.toNat, 128]
def k0_off19 (k0_t1 : Fin k0_t1_loop.trips) (k0_t2 : Fin (k0_t2_loop k0_t1).trips) : Fin 3 → Nat :=
  let c0_258 : Index := 0#32
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c1_i32_231 : BitVec 32 := 1#32
  let arg16 : BitVec 32 := Scf.iv v366 c1_i32_231 k0_t2
  let c512_i32_233 : BitVec 32 := 512#32
  let v374 : BitVec 32 := Scalar.muli arg16 c512_i32_233
  let v375 : BitVec 32 := v374
  let v431 : Index := Scalar.indexCast v375
  let c0_259 : Index := 0#32
  ![0, v431.toNat, 0]
def k0_off20 (k0_t1 : Fin k0_t1_loop.trips) (k0_t2 : Fin (k0_t2_loop k0_t1).trips) : Fin 2 → Nat :=
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c1_i32_231 : BitVec 32 := 1#32
  let arg16 : BitVec 32 := Scf.iv v366 c1_i32_231 k0_t2
  let c512_i32_233 : BitVec 32 := 512#32
  let v374 : BitVec 32 := Scalar.muli arg16 c512_i32_233
  let v375 : BitVec 32 := v374
  let v440 : Index := Scalar.indexCast v375
  let c256_263 : Index := 256#32
  ![v440.toNat, 256]
def k0_off21 (k0_t1 : Fin k0_t1_loop.trips) : Fin 3 → Nat :=
  let c1_264 : Index := 1#32
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  let v377 : BitVec 32 := v376
  let v443 : Index := Scalar.indexCast v377
  let c0_265 : Index := 0#32
  ![1, v443.toNat, 0]
def k0_off22 (k0_t1 : Fin k0_t1_loop.trips) (k0_t2 : Fin (k0_t2_loop k0_t1).trips) : Fin 2 → Nat :=
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c1_i32_231 : BitVec 32 := 1#32
  let arg16 : BitVec 32 := Scf.iv v366 c1_i32_231 k0_t2
  let c512_i32_233 : BitVec 32 := 512#32
  let v374 : BitVec 32 := Scalar.muli arg16 c512_i32_233
  let v375 : BitVec 32 := v374
  let v446 : Index := Scalar.indexCast v375
  let c128_266 : Index := 128#32
  ![v446.toNat, 128]
def k0_off23 (k0_t1 : Fin k0_t1_loop.trips) (k0_t2 : Fin (k0_t2_loop k0_t1).trips) : Fin 3 → Nat :=
  let c1_271 : Index := 1#32
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c1_i32_231 : BitVec 32 := 1#32
  let arg16 : BitVec 32 := Scf.iv v366 c1_i32_231 k0_t2
  let c512_i32_233 : BitVec 32 := 512#32
  let v374 : BitVec 32 := Scalar.muli arg16 c512_i32_233
  let v375 : BitVec 32 := v374
  let v459 : Index := Scalar.indexCast v375
  let c0_272 : Index := 0#32
  ![1, v459.toNat, 0]
def k0_off24 (k0_t1 : Fin k0_t1_loop.trips) : Fin 3 → Nat :=
  let c1_273 : Index := 1#32
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  let v377 : BitVec 32 := v376
  let v465 : Index := Scalar.indexCast v377
  let c0_274 : Index := 0#32
  ![1, v465.toNat, 0]
def k0_off25 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  let v377 : BitVec 32 := v376
  let v475 : Index := Scalar.indexCast v377
  let c384_278 : Index := 384#32
  ![v475.toNat, 384]
def k0_off26 (k0_t1 : Fin k0_t1_loop.trips) (k0_t2 : Fin (k0_t2_loop k0_t1).trips) : Fin 3 → Nat :=
  let c1_286 : Index := 1#32
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c1_i32_231 : BitVec 32 := 1#32
  let arg16 : BitVec 32 := Scf.iv v366 c1_i32_231 k0_t2
  let c512_i32_233 : BitVec 32 := 512#32
  let v374 : BitVec 32 := Scalar.muli arg16 c512_i32_233
  let v375 : BitVec 32 := v374
  let v493 : Index := Scalar.indexCast v375
  let c0_287 : Index := 0#32
  ![1, v493.toNat, 0]
@[reducible] def k0_t3_loop (k0_t1 : Fin k0_t1_loop.trips) : Scf.Loop 32 :=
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c4_i32_228 : BitVec 32 := 4#32
  let v367 : BitVec 32 := Scalar.subi c4_i32_228 v366
  let c1_i32_230 : BitVec 32 := 1#32
  let v369 : BitVec 32 := Scalar.divsi v367 c1_i32_230
  let v370 : BitVec 32 := Scalar.muli v369 c1_i32_230
  let v371 : BitVec 32 := Scalar.addi v366 v370
  let v368 : BitVec 32 := Scalar.addi v366 v367
  let c1_i32_232 : BitVec 32 := 1#32
  ⟨v371, v368, c1_i32_232⟩
def k0_mult5 (k0_t1 : Fin k0_t1_loop.trips) (k0_t3 : Fin (k0_t3_loop k0_t1).trips) : BitVec 32 :=
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c4_i32_228 : BitVec 32 := 4#32
  let v367 : BitVec 32 := Scalar.subi c4_i32_228 v366
  let c1_i32_230 : BitVec 32 := 1#32
  let v369 : BitVec 32 := Scalar.divsi v367 c1_i32_230
  let v370 : BitVec 32 := Scalar.muli v369 c1_i32_230
  let v371 : BitVec 32 := Scalar.addi v366 v370
  let c1_i32_232 : BitVec 32 := 1#32
  let arg16 : BitVec 32 := Scf.iv v371 c1_i32_232 k0_t3
  let c512_i32_233 : BitVec 32 := 512#32
  let v374 : BitVec 32 := Scalar.muli arg16 c512_i32_233
  v374
def k0_mult6 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  v376
def k0_off27 (k0_t1 : Fin k0_t1_loop.trips) (k0_t3 : Fin (k0_t3_loop k0_t1).trips) : Fin 2 → Nat :=
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c4_i32_228 : BitVec 32 := 4#32
  let v367 : BitVec 32 := Scalar.subi c4_i32_228 v366
  let c1_i32_230 : BitVec 32 := 1#32
  let v369 : BitVec 32 := Scalar.divsi v367 c1_i32_230
  let v370 : BitVec 32 := Scalar.muli v369 c1_i32_230
  let v371 : BitVec 32 := Scalar.addi v366 v370
  let c1_i32_232 : BitVec 32 := 1#32
  let arg16 : BitVec 32 := Scf.iv v371 c1_i32_232 k0_t3
  let c512_i32_233 : BitVec 32 := 512#32
  let v374 : BitVec 32 := Scalar.muli arg16 c512_i32_233
  let v375 : BitVec 32 := v374
  let v378 : Index := Scalar.indexCast v375
  let c0_235 : Index := 0#32
  ![v378.toNat, 0]
def k0_off28 (k0_t1 : Fin k0_t1_loop.trips) : Fin 3 → Nat :=
  let c0_236 : Index := 0#32
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  let v377 : BitVec 32 := v376
  let v381 : Index := Scalar.indexCast v377
  let c0_237 : Index := 0#32
  ![0, v381.toNat, 0]
def k0_off29 (k0_t1 : Fin k0_t1_loop.trips) (k0_t3 : Fin (k0_t3_loop k0_t1).trips) : Fin 2 → Nat :=
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c4_i32_228 : BitVec 32 := 4#32
  let v367 : BitVec 32 := Scalar.subi c4_i32_228 v366
  let c1_i32_230 : BitVec 32 := 1#32
  let v369 : BitVec 32 := Scalar.divsi v367 c1_i32_230
  let v370 : BitVec 32 := Scalar.muli v369 c1_i32_230
  let v371 : BitVec 32 := Scalar.addi v366 v370
  let c1_i32_232 : BitVec 32 := 1#32
  let arg16 : BitVec 32 := Scf.iv v371 c1_i32_232 k0_t3
  let c512_i32_233 : BitVec 32 := 512#32
  let v374 : BitVec 32 := Scalar.muli arg16 c512_i32_233
  let v375 : BitVec 32 := v374
  let v384 : Index := Scalar.indexCast v375
  let c0_238 : Index := 0#32
  ![v384.toNat, 0]
def k0_off30 (k0_t1 : Fin k0_t1_loop.trips) (k0_t3 : Fin (k0_t3_loop k0_t1).trips) : Fin 3 → Nat :=
  let c0_243 : Index := 0#32
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c4_i32_228 : BitVec 32 := 4#32
  let v367 : BitVec 32 := Scalar.subi c4_i32_228 v366
  let c1_i32_230 : BitVec 32 := 1#32
  let v369 : BitVec 32 := Scalar.divsi v367 c1_i32_230
  let v370 : BitVec 32 := Scalar.muli v369 c1_i32_230
  let v371 : BitVec 32 := Scalar.addi v366 v370
  let c1_i32_232 : BitVec 32 := 1#32
  let arg16 : BitVec 32 := Scf.iv v371 c1_i32_232 k0_t3
  let c512_i32_233 : BitVec 32 := 512#32
  let v374 : BitVec 32 := Scalar.muli arg16 c512_i32_233
  let v375 : BitVec 32 := v374
  let v397 : Index := Scalar.indexCast v375
  let c0_244 : Index := 0#32
  ![0, v397.toNat, 0]
def k0_off31 (k0_t1 : Fin k0_t1_loop.trips) : Fin 3 → Nat :=
  let c0_245 : Index := 0#32
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  let v377 : BitVec 32 := v376
  let v403 : Index := Scalar.indexCast v377
  let c0_246 : Index := 0#32
  ![0, v403.toNat, 0]
def k0_off32 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  let v377 : BitVec 32 := v376
  let v413 : Index := Scalar.indexCast v377
  let c128_250 : Index := 128#32
  ![v413.toNat, 128]
def k0_off33 (k0_t1 : Fin k0_t1_loop.trips) (k0_t3 : Fin (k0_t3_loop k0_t1).trips) : Fin 3 → Nat :=
  let c0_258 : Index := 0#32
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c4_i32_228 : BitVec 32 := 4#32
  let v367 : BitVec 32 := Scalar.subi c4_i32_228 v366
  let c1_i32_230 : BitVec 32 := 1#32
  let v369 : BitVec 32 := Scalar.divsi v367 c1_i32_230
  let v370 : BitVec 32 := Scalar.muli v369 c1_i32_230
  let v371 : BitVec 32 := Scalar.addi v366 v370
  let c1_i32_232 : BitVec 32 := 1#32
  let arg16 : BitVec 32 := Scf.iv v371 c1_i32_232 k0_t3
  let c512_i32_233 : BitVec 32 := 512#32
  let v374 : BitVec 32 := Scalar.muli arg16 c512_i32_233
  let v375 : BitVec 32 := v374
  let v431 : Index := Scalar.indexCast v375
  let c0_259 : Index := 0#32
  ![0, v431.toNat, 0]
def k0_off34 (k0_t1 : Fin k0_t1_loop.trips) (k0_t3 : Fin (k0_t3_loop k0_t1).trips) : Fin 2 → Nat :=
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c4_i32_228 : BitVec 32 := 4#32
  let v367 : BitVec 32 := Scalar.subi c4_i32_228 v366
  let c1_i32_230 : BitVec 32 := 1#32
  let v369 : BitVec 32 := Scalar.divsi v367 c1_i32_230
  let v370 : BitVec 32 := Scalar.muli v369 c1_i32_230
  let v371 : BitVec 32 := Scalar.addi v366 v370
  let c1_i32_232 : BitVec 32 := 1#32
  let arg16 : BitVec 32 := Scf.iv v371 c1_i32_232 k0_t3
  let c512_i32_233 : BitVec 32 := 512#32
  let v374 : BitVec 32 := Scalar.muli arg16 c512_i32_233
  let v375 : BitVec 32 := v374
  let v440 : Index := Scalar.indexCast v375
  let c256_263 : Index := 256#32
  ![v440.toNat, 256]
def k0_off35 (k0_t1 : Fin k0_t1_loop.trips) : Fin 3 → Nat :=
  let c1_264 : Index := 1#32
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  let v377 : BitVec 32 := v376
  let v443 : Index := Scalar.indexCast v377
  let c0_265 : Index := 0#32
  ![1, v443.toNat, 0]
def k0_off36 (k0_t1 : Fin k0_t1_loop.trips) (k0_t3 : Fin (k0_t3_loop k0_t1).trips) : Fin 2 → Nat :=
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c4_i32_228 : BitVec 32 := 4#32
  let v367 : BitVec 32 := Scalar.subi c4_i32_228 v366
  let c1_i32_230 : BitVec 32 := 1#32
  let v369 : BitVec 32 := Scalar.divsi v367 c1_i32_230
  let v370 : BitVec 32 := Scalar.muli v369 c1_i32_230
  let v371 : BitVec 32 := Scalar.addi v366 v370
  let c1_i32_232 : BitVec 32 := 1#32
  let arg16 : BitVec 32 := Scf.iv v371 c1_i32_232 k0_t3
  let c512_i32_233 : BitVec 32 := 512#32
  let v374 : BitVec 32 := Scalar.muli arg16 c512_i32_233
  let v375 : BitVec 32 := v374
  let v446 : Index := Scalar.indexCast v375
  let c128_266 : Index := 128#32
  ![v446.toNat, 128]
def k0_off37 (k0_t1 : Fin k0_t1_loop.trips) (k0_t3 : Fin (k0_t3_loop k0_t1).trips) : Fin 3 → Nat :=
  let c1_271 : Index := 1#32
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c4_i32_228 : BitVec 32 := 4#32
  let v367 : BitVec 32 := Scalar.subi c4_i32_228 v366
  let c1_i32_230 : BitVec 32 := 1#32
  let v369 : BitVec 32 := Scalar.divsi v367 c1_i32_230
  let v370 : BitVec 32 := Scalar.muli v369 c1_i32_230
  let v371 : BitVec 32 := Scalar.addi v366 v370
  let c1_i32_232 : BitVec 32 := 1#32
  let arg16 : BitVec 32 := Scf.iv v371 c1_i32_232 k0_t3
  let c512_i32_233 : BitVec 32 := 512#32
  let v374 : BitVec 32 := Scalar.muli arg16 c512_i32_233
  let v375 : BitVec 32 := v374
  let v459 : Index := Scalar.indexCast v375
  let c0_272 : Index := 0#32
  ![1, v459.toNat, 0]
def k0_off38 (k0_t1 : Fin k0_t1_loop.trips) : Fin 3 → Nat :=
  let c1_273 : Index := 1#32
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  let v377 : BitVec 32 := v376
  let v465 : Index := Scalar.indexCast v377
  let c0_274 : Index := 0#32
  ![1, v465.toNat, 0]
def k0_off39 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32_234 : BitVec 32 := 512#32
  let v376 : BitVec 32 := Scalar.muli arg15 c512_i32_234
  let v377 : BitVec 32 := v376
  let v475 : Index := Scalar.indexCast v377
  let c384_278 : Index := 384#32
  ![v475.toNat, 384]
def k0_off40 (k0_t1 : Fin k0_t1_loop.trips) (k0_t3 : Fin (k0_t3_loop k0_t1).trips) : Fin 3 → Nat :=
  let c1_286 : Index := 1#32
  let c0_i32 : BitVec 32 := 0#32
  let c1_i32 : BitVec 32 := 1#32
  let arg15 : BitVec 32 := Scf.iv c0_i32 c1_i32 k0_t1
  let c1_i32_227 : BitVec 32 := 1#32
  let v366 : BitVec 32 := Scalar.addi arg15 c1_i32_227
  let c4_i32_228 : BitVec 32 := 4#32
  let v367 : BitVec 32 := Scalar.subi c4_i32_228 v366
  let c1_i32_230 : BitVec 32 := 1#32
  let v369 : BitVec 32 := Scalar.divsi v367 c1_i32_230
  let v370 : BitVec 32 := Scalar.muli v369 c1_i32_230
  let v371 : BitVec 32 := Scalar.addi v366 v370
  let c1_i32_232 : BitVec 32 := 1#32
  let arg16 : BitVec 32 := Scf.iv v371 c1_i32_232 k0_t3
  let c512_i32_233 : BitVec 32 := 512#32
  let v374 : BitVec 32 := Scalar.muli arg16 c512_i32_233
  let v375 : BitVec 32 := v374
  let v493 : Index := Scalar.indexCast v375
  let c0_287 : Index := 0#32
  ![1, v493.toNat, 0]
def k0_cond1 (i : grid0.Coords) : BitVec 1 :=
  let arg0 : BitVec 32 := BitVec.ofNat 32 (i 0).val
  let c0_i32_160 : BitVec 32 := 0#32
  let v212 : BitVec 1 := Scalar.cmpi .eq arg0 c0_i32_160
  let v213 : BitVec 32 := Scalar.extui v212
  let c0_i32_161 : BitVec 32 := 0#32
  let v214 : BitVec 1 := Scalar.cmpi .ne v213 c0_i32_161
  v214

def k0_cond2 (i : grid0.Coords) : BitVec 1 :=
  let arg0 : BitVec 32 := BitVec.ofNat 32 (i 0).val
  let c0_i32_162 : BitVec 32 := 0#32
  let v215 : BitVec 1 := Scalar.cmpi .sgt arg0 c0_i32_162
  let v216 : BitVec 32 := Scalar.extui v215
  let c0_i32_163 : BitVec 32 := 0#32
  let v217 : BitVec 1 := Scalar.cmpi .ne v216 c0_i32_163
  v217

def k0_cond3 (i : grid0.Coords) : BitVec 1 :=
  let arg0 : BitVec 32 := BitVec.ofNat 32 (i 0).val
  let c7_i32 : BitVec 32 := 7#32
  let v218 : BitVec 1 := Scalar.cmpi .eq arg0 c7_i32
  let v219 : BitVec 32 := Scalar.extui v218
  let c0_i32_164 : BitVec 32 := 0#32
  let v220 : BitVec 1 := Scalar.cmpi .ne v219 c0_i32_164
  v220

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S2048x4096 : Shape := ⟨2, ![2048, 4096]⟩
abbrev S2048x128 : Shape := ⟨2, ![2048, 128]⟩
abbrev S2048x2048 : Shape := ⟨2, ![2048, 2048]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x16x256 : Shape := ⟨3, ![2048, 16, 256]⟩
abbrev S2048x16x192 : Shape := ⟨3, ![2048, 16, 192]⟩
abbrev S2048x16x128 : Shape := ⟨3, ![2048, 16, 128]⟩
abbrev S2048x16x64 : Shape := ⟨3, ![2048, 16, 64]⟩
abbrev S2048x1x32 : Shape := ⟨3, ![2048, 1, 32]⟩
abbrev S2048x16x32 : Shape := ⟨3, ![2048, 16, 32]⟩
abbrev S2048x64 : Shape := ⟨2, ![2048, 64]⟩
abbrev S16x2048x2048 : Shape := ⟨3, ![16, 2048, 2048]⟩
abbrev S2048x2048x16 : Shape := ⟨3, ![2048, 2048, 16]⟩
abbrev S1x1x2048 : Shape := ⟨3, ![1, 1, 2048]⟩
abbrev S1x2048x1 : Shape := ⟨3, ![1, 2048, 1]⟩
abbrev S1x2048x2048 : Shape := ⟨3, ![1, 2048, 2048]⟩
abbrev S16x2048 : Shape := ⟨2, ![16, 2048]⟩
abbrev S16x2048x1 : Shape := ⟨3, ![16, 2048, 1]⟩
abbrev S16x128x2048 : Shape := ⟨3, ![16, 128, 2048]⟩
abbrev S16x2048x128 : Shape := ⟨3, ![16, 2048, 128]⟩

abbrev nBuf : Space → Nat
  | .hbm => 217
  | .vmem => 0
  | .smem => 0
  | _ => 0

abbrev hbmTy0_0 (i : Nat) : BufTy := match i % 128 with
  | 0 => ⟨S2048x4096, .bf16⟩
  | 1 => ⟨S2048x4096, .bf16⟩
  | 2 => ⟨S2048x128, .bf16⟩
  | 3 => ⟨S2048x2048, .bf16⟩
  | 4 => ⟨S2048, .i32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S2048, .f32⟩
  | 22 => ⟨S2048x1, .f32⟩
  | 23 => ⟨S1x32, .f32⟩
  | 24 => ⟨S2048x32, .f32⟩
  | 25 => ⟨S2048x32, .f32⟩
  | 26 => ⟨S2048x32, .f32⟩
  | 27 => ⟨S2048x32, .f32⟩
  | 28 => ⟨S2048x32, .f32⟩
  | 29 => ⟨S2048x4096, .f32⟩
  | 30 => ⟨S2048x4096, .f32⟩
  | 31 => ⟨S2048x128, .f32⟩
  | 32 => ⟨S2048x16x256, .f32⟩
  | 33 => ⟨S2048x16x192, .f32⟩
  | 34 => ⟨S2048x16x256, .f32⟩
  | 35 => ⟨S2048x16x128, .f32⟩
  | 36 => ⟨S2048x16x64, .f32⟩
  | 37 => ⟨S2048x1x32, .f32⟩
  | 38 => ⟨S2048x1x32, .f32⟩
  | 39 => ⟨S2048x16x32, .f32⟩
  | 40 => ⟨S2048x16x32, .f32⟩
  | 41 => ⟨S2048x16x32, .f32⟩
  | 42 => ⟨S2048x16x32, .f32⟩
  | 43 => ⟨S2048x16x32, .f32⟩
  | 44 => ⟨S2048x16x32, .f32⟩
  | 45 => ⟨S2048x16x32, .f32⟩
  | 46 => ⟨S2048x16x32, .f32⟩
  | 47 => ⟨S2048x16x32, .f32⟩
  | 48 => ⟨S2048x16x32, .f32⟩
  | 49 => ⟨S2048x16x32, .f32⟩
  | 50 => ⟨S2048x16x32, .f32⟩
  | 51 => ⟨S2048x16x64, .f32⟩
  | 52 => ⟨S2048x16x128, .f32⟩
  | 53 => ⟨S2048x16x128, .f32⟩
  | 54 => ⟨S2048x64, .f32⟩
  | 55 => ⟨S2048x32, .f32⟩
  | 56 => ⟨S2048x32, .f32⟩
  | 57 => ⟨S2048x32, .f32⟩
  | 58 => ⟨S2048x32, .f32⟩
  | 59 => ⟨S2048x32, .f32⟩
  | 60 => ⟨S2048x32, .f32⟩
  | 61 => ⟨S2048x32, .f32⟩
  | 62 => ⟨S2048x32, .f32⟩
  | 63 => ⟨S2048x64, .f32⟩
  | 64 => ⟨S16x2048x2048, .f32⟩
  | 65 => ⟨S2048x2048x16, .f32⟩
  | 66 => ⟨S16x2048x2048, .f32⟩
  | 67 => ⟨S16x2048x2048, .f32⟩
  | 68 => ⟨S_, .f32⟩
  | 69 => ⟨S16x2048x2048, .f32⟩
  | 70 => ⟨S16x2048x2048, .f32⟩
  | 71 => ⟨S2048, .i32⟩
  | 72 => ⟨S_, .i32⟩
  | 73 => ⟨S_, .i32⟩
  | 74 => ⟨S2048, .i32⟩
  | 75 => ⟨S2048, .i32⟩
  | 76 => ⟨S2048, .i32⟩
  | 77 => ⟨S_, .i32⟩
  | 78 => ⟨S2048, .i32⟩
  | 79 => ⟨S2048, .i1⟩
  | 80 => ⟨S2048, .i32⟩
  | 81 => ⟨S2048, .i32⟩
  | 82 => ⟨S_, .i32⟩
  | 83 => ⟨S2048, .i32⟩
  | 84 => ⟨S2048, .i1⟩
  | 85 => ⟨S2048, .i1⟩
  | 86 => ⟨S_, .i32⟩
  | 87 => ⟨S2048, .i32⟩
  | 88 => ⟨S2048, .i32⟩
  | 89 => ⟨S2048, .i32⟩
  | 90 => ⟨S1x1x2048, .i32⟩
  | 91 => ⟨S1x2048x1, .i32⟩
  | 92 => ⟨S1x2048x2048, .i32⟩
  | 93 => ⟨S1x2048x2048, .i32⟩
  | 94 => ⟨S1x2048x2048, .i1⟩
  | 95 => ⟨S_, .f32⟩
  | 96 => ⟨S16x2048x2048, .i1⟩
  | 97 => ⟨S16x2048x2048, .f32⟩
  | 98 => ⟨S16x2048x2048, .f32⟩
  | 99 => ⟨S_, .f32⟩
  | 100 => ⟨S16x2048x2048, .f32⟩
  | 101 => ⟨S_, .f32⟩
  | 102 => ⟨S16x2048, .f32⟩
  | 103 => ⟨S16x2048x1, .f32⟩
  | 104 => ⟨S16x2048x2048, .f32⟩
  | 105 => ⟨S16x2048x2048, .i1⟩
  | 106 => ⟨S16x2048x2048, .f32⟩
  | 107 => ⟨S_, .f32⟩
  | 108 => ⟨S16x2048, .f32⟩
  | 109 => ⟨S_, .f32⟩
  | 110 => ⟨S16x2048, .f32⟩
  | 111 => ⟨S16x2048, .f32⟩
  | 112 => ⟨S_, .f32⟩
  | 113 => ⟨S16x2048, .f32⟩
  | 114 => ⟨S16x2048, .i1⟩
  | 115 => ⟨S_, .f32⟩
  | 116 => ⟨S16x2048, .f32⟩
  | 117 => ⟨S16x2048, .i1⟩
  | 118 => ⟨S_, .f32⟩
  | 119 => ⟨S16x2048, .f32⟩
  | 120 => ⟨S_, .f32⟩
  | 121 => ⟨S16x2048, .f32⟩
  | 122 => ⟨S_, .f32⟩
  | 123 => ⟨S16x2048, .f32⟩
  | 124 => ⟨S16x2048, .f32⟩
  | 125 => ⟨S16x2048, .f32⟩
  | 126 => ⟨S16x2048x1, .f32⟩
  | 127 => ⟨S16x2048x2048, .f32⟩
  | _ => ⟨S2048x4096, .bf16⟩

abbrev hbmTy0_1 (i : Nat) : BufTy := match i % 128 with
  | 0 => ⟨S16x2048x2048, .f32⟩
  | 1 => ⟨S16x2048x2048, .f32⟩
  | 2 => ⟨S_, .f32⟩
  | 3 => ⟨S16x2048, .f32⟩
  | 4 => ⟨S16x2048x1, .f32⟩
  | 5 => ⟨S16x2048x2048, .f32⟩
  | 6 => ⟨S16x2048x2048, .f32⟩
  | 7 => ⟨S16x2048x1, .f32⟩
  | 8 => ⟨S_, .f32⟩
  | 9 => ⟨S16x2048x1, .f32⟩
  | 10 => ⟨S16x2048x1, .f32⟩
  | 11 => ⟨S16x128x2048, .f32⟩
  | 12 => ⟨S2048x16x128, .f32⟩
  | 13 => ⟨S2048x2048, .f32⟩
  | 14 => ⟨S2048x2048, .f32⟩
  | 15 => ⟨S2048x16x128, .f32⟩
  | 16 => ⟨S16x128x2048, .f32⟩
  | 17 => ⟨S16x2048x2048, .f32⟩
  | 18 => ⟨S16x128x2048, .f32⟩
  | 19 => ⟨S2048x16x128, .f32⟩
  | 20 => ⟨S16x2048x2048, .f32⟩
  | 21 => ⟨S16x2048x2048, .f32⟩
  | 22 => ⟨S16x2048x2048, .f32⟩
  | 23 => ⟨S_, .f32⟩
  | 24 => ⟨S16x2048, .f32⟩
  | 25 => ⟨S16x2048x1, .f32⟩
  | 26 => ⟨S16x2048x1, .f32⟩
  | 27 => ⟨S16x2048x2048, .f32⟩
  | 28 => ⟨S16x2048x2048, .f32⟩
  | 29 => ⟨S_, .f32⟩
  | 30 => ⟨S16x2048, .f32⟩
  | 31 => ⟨S16x2048x2048, .f32⟩
  | 32 => ⟨S16x2048x2048, .f32⟩
  | 33 => ⟨S16x2048x2048, .f32⟩
  | 34 => ⟨S_, .f32⟩
  | 35 => ⟨S16x2048x2048, .f32⟩
  | 36 => ⟨S16x2048x2048, .f32⟩
  | 37 => ⟨S_, .f32⟩
  | 38 => ⟨S16x2048x2048, .f32⟩
  | 39 => ⟨S16x2048x2048, .f32⟩
  | 40 => ⟨S2048x2048x16, .f32⟩
  | 41 => ⟨S2048x16x64, .f32⟩
  | 42 => ⟨S2048x64, .f32⟩
  | 43 => ⟨S16x2048x128, .f32⟩
  | 44 => ⟨S2048x16x128, .f32⟩
  | 45 => ⟨S16x2048x128, .f32⟩
  | 46 => ⟨S2048x16x128, .f32⟩
  | 47 => ⟨S2048x32, .f32⟩
  | 48 => ⟨S2048x32, .f32⟩
  | 49 => ⟨S2048x32, .f32⟩
  | 50 => ⟨S2048x32, .f32⟩
  | 51 => ⟨S2048x32, .f32⟩
  | 52 => ⟨S2048x32, .f32⟩
  | 53 => ⟨S2048x32, .f32⟩
  | 54 => ⟨S2048x32, .f32⟩
  | 55 => ⟨S2048x32, .f32⟩
  | 56 => ⟨S2048x64, .f32⟩
  | 57 => ⟨S_, .f32⟩
  | 58 => ⟨S2048x128, .f32⟩
  | 59 => ⟨S_, .f32⟩
  | 60 => ⟨S2048x16x256, .f32⟩
  | 61 => ⟨S_, .f32⟩
  | 62 => ⟨S2048x16x256, .f32⟩
  | 63 => ⟨S2048x16x256, .f32⟩
  | 64 => ⟨S2048x16x32, .f32⟩
  | 65 => ⟨S2048x16x32, .f32⟩
  | 66 => ⟨S2048x16x32, .f32⟩
  | 67 => ⟨S2048x16x32, .f32⟩
  | 68 => ⟨S2048x16x32, .f32⟩
  | 69 => ⟨S2048x16x32, .f32⟩
  | 70 => ⟨S2048x16x32, .f32⟩
  | 71 => ⟨S2048x16x32, .f32⟩
  | 72 => ⟨S2048x16x32, .f32⟩
  | 73 => ⟨S2048x16x32, .f32⟩
  | 74 => ⟨S2048x16x32, .f32⟩
  | 75 => ⟨S2048x16x32, .f32⟩
  | 76 => ⟨S2048x16x32, .f32⟩
  | 77 => ⟨S2048x16x64, .f32⟩
  | 78 => ⟨S_, .f32⟩
  | 79 => ⟨S2048x16x192, .f32⟩
  | 80 => ⟨S_, .f32⟩
  | 81 => ⟨S2048x16x192, .f32⟩
  | 82 => ⟨S2048x16x192, .f32⟩
  | 83 => ⟨S2048x4096, .f32⟩
  | 84 => ⟨S_, .f32⟩
  | 85 => ⟨S2048x16x256, .f32⟩
  | 86 => ⟨S2048x4096, .f32⟩
  | 87 => ⟨S2048x4096, .bf16⟩
  | 88 => ⟨S2048x4096, .bf16⟩
  | _ => ⟨S2048x4096, .bf16⟩

abbrev hbmTy (i : Nat) : BufTy := match i / 128 with
  | 0 => hbmTy0_0 i
  | 1 => hbmTy0_1 i
  | _ => ⟨S2048x4096, .bf16⟩

abbrev bufTy : (tb : Table) → Fin (tcTables nBuf tb) → BufTy
  | .hbm, ⟨i, _⟩ => hbmTy i
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_4 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_c : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_v8 : Ref sig .tc := ⟨.hbm, 81, rfl⟩
abbrev main_call0_c : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_c_0 : Ref sig .tc := ⟨.hbm, 86, rfl⟩
abbrev main_call0_v12 : Ref sig .tc := ⟨.hbm, 87, rfl⟩
abbrev main_call0_v13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_5 : Ref sig .tc := ⟨.hbm, 95, rfl⟩
abbrev main_v67_1 : Ref sig .tc := ⟨.hbm, 96, rfl⟩
abbrev main_call1_v1 : Ref sig .tc := ⟨.hbm, 97, rfl⟩
abbrev main_v67_0 : Ref sig .tc := ⟨.hbm, 98, rfl⟩
abbrev main_call1_cst : Ref sig .tc := ⟨.hbm, 99, rfl⟩
abbrev main_v67_2 : Ref sig .tc := ⟨.hbm, 100, rfl⟩
abbrev main_cst_6 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_7 : Ref sig .tc := ⟨.hbm, 107, rfl⟩
abbrev main_v73 : Ref sig .tc := ⟨.hbm, 108, rfl⟩
abbrev main_cst_8 : Ref sig .tc := ⟨.hbm, 109, rfl⟩
abbrev main_v74 : Ref sig .tc := ⟨.hbm, 110, rfl⟩
abbrev main_v75 : Ref sig .tc := ⟨.hbm, 111, rfl⟩
abbrev main_cst_9 : Ref sig .tc := ⟨.hbm, 112, rfl⟩
abbrev main_v76 : Ref sig .tc := ⟨.hbm, 113, rfl⟩
abbrev main_v77 : Ref sig .tc := ⟨.hbm, 114, rfl⟩
abbrev main_cst_10 : Ref sig .tc := ⟨.hbm, 115, rfl⟩
abbrev main_v78 : Ref sig .tc := ⟨.hbm, 116, rfl⟩
abbrev main_v79 : Ref sig .tc := ⟨.hbm, 117, rfl⟩
abbrev main_cst_11 : Ref sig .tc := ⟨.hbm, 118, rfl⟩
abbrev main_v80 : Ref sig .tc := ⟨.hbm, 119, rfl⟩
abbrev main_cst_12 : Ref sig .tc := ⟨.hbm, 120, rfl⟩
abbrev main_v81 : Ref sig .tc := ⟨.hbm, 121, rfl⟩
abbrev main_cst_13 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_14 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_15 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_16 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_17 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_call2_cst : Ref sig .tc := ⟨.hbm, 162, rfl⟩
abbrev main_call2_v0 : Ref sig .tc := ⟨.hbm, 163, rfl⟩
abbrev main_v117 : Ref sig .tc := ⟨.hbm, 164, rfl⟩
abbrev main_cst_18 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_19 : Ref sig .tc := ⟨.hbm, 185, rfl⟩
abbrev main_v137 : Ref sig .tc := ⟨.hbm, 186, rfl⟩
abbrev main_cst_20 : Ref sig .tc := ⟨.hbm, 187, rfl⟩
abbrev main_v138 : Ref sig .tc := ⟨.hbm, 188, rfl⟩
abbrev main_cst_21 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_22 : Ref sig .tc := ⟨.hbm, 206, rfl⟩
abbrev main_v155 : Ref sig .tc := ⟨.hbm, 207, rfl⟩
abbrev main_cst_23 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_cst_24 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩

abbrev nD : Nat := 1
abbrev τ : Topo := Topo.v7x

variable {F : FTy → Type} [FloatOps F]
-- ==== Kernel4.lean ====
abbrev S2048x5632 : Shape := ⟨2, ![2048, 5632]⟩
abbrev S2048x11264 : Shape := ⟨2, ![2048, 11264]⟩
abbrev S128x5632 : Shape := ⟨2, ![128, 5632]⟩
abbrev S128x11264 : Shape := ⟨2, ![128, 11264]⟩

abbrev nBuf : Space → Nat
  | .hbm => 3
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S2048x11264, .bf16⟩
  | .hbm, ⟨2, _⟩ => ⟨S2048x11264, .bf16⟩
  | .local _ .vmem, ⟨0, _⟩ => ⟨S128x5632, .bf16⟩
  | .local _ .vmem, ⟨1, _⟩ => ⟨S128x5632, .bf16⟩
  | .local _ .vmem, ⟨2, _⟩ => ⟨S128x5632, .bf16⟩
  | .local _ .vmem, ⟨3, _⟩ => ⟨S128x5632, .bf16⟩
  | .local _ .vmem, ⟨4, _⟩ => ⟨S128x5632, .bf16⟩
  | .local _ .vmem, ⟨5, _⟩ => ⟨S128x5632, .bf16⟩
  | .local _ .vmem, ⟨6, _⟩ => ⟨S128x11264, .bf16⟩
  | .local _ .vmem, ⟨7, _⟩ => ⟨S128x11264, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x11264 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2048x5632 : Shape := ⟨2, ![2048, 5632]⟩
abbrev S2048x11264 : Shape := ⟨2, ![2048, 11264]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x11264, .bf16⟩
  | .hbm, ⟨2, _⟩ => ⟨S2048x11264, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x11264, .f32⟩
  | .hbm, ⟨27, _⟩ => ⟨S2048x11264, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== Kernel6.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 15
  | .vmem => 21
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2048x2048, .bf16⟩
  | .hbm, ⟨9, _⟩ => ⟨S2048x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .f32⟩
  | .local _ .vmem, ⟨15, _⟩ => ⟨S256x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v68 : BitVec 32 := Scalar.extui v67
  let c0_i32_35 : BitVec 32 := 0#32
  let v69 : BitVec 1 := Scalar.cmpi .ne v68 c0_i32_35
  v69

def k0_cond2 (i : grid0.Coords) : BitVec 1 :=
  let arg0 : BitVec 32 := BitVec.ofNat 32 (i 0).val
  let c0_i32_36 : BitVec 32 := 0#32
  let v70 : BitVec 1 := Scalar.cmpi .sgt arg0 c0_i32_36
  let v71 : BitVec 32 := Scalar.extui v70
  let c0_i32_37 : BitVec 32 := 0#32
  let v72 : BitVec 1 := Scalar.cmpi .ne v71 c0_i32_37
  v72

def k0_cond3 (i : grid0.Coords) : BitVec 1 :=
  let arg0 : BitVec 32 := BitVec.ofNat 32 (i 0).val
  let c0_i32_39 : BitVec 32 := 0#32
  let v76 : BitVec 1 := Scalar.cmpi .eq arg0 c0_i32_39
  let v77 : BitVec 32 := Scalar.extui v76
  let c0_i32_40 : BitVec 32 := 0#32
  let v78 : BitVec 1 := Scalar.cmpi .ne v77 c0_i32_40
  v78

def k0_cond4 (i : grid0.Coords) : BitVec 1 :=
  let arg0 : BitVec 32 := BitVec.ofNat 32 (i 0).val
  let c0_i32_41 : BitVec 32 := 0#32
  let v79 : BitVec 1 := Scalar.cmpi .sgt arg0 c0_i32_41
  let v80 : BitVec 32 := Scalar.extui v79
  let c0_i32_42 : BitVec 32 := 0#32
  let v81 : BitVec 1 := Scalar.cmpi .ne v80 c0_i32_42
  v81

def k0_cond5 (i : grid0.Coords) : BitVec 1 :=
  let arg0 : BitVec 32 := BitVec.ofNat 32 (i 0).val
  let c0_i32_44 : BitVec 32 := 0#32
  let v85 : BitVec 1 := Scalar.cmpi .eq arg0 c0_i32_44
  let v86 : BitVec 32 := Scalar.extui v85
  let c0_i32_45 : BitVec 32 := 0#32
  let v87 : BitVec 1 := Scalar.cmpi .ne v86 c0_i32_45
  v87

def k0_cond6 (i : grid0.Coords) : BitVec 1 :=
  let arg0 : BitVec 32 := BitVec.ofNat 32 (i 0).val
  let c0_i32_46 : BitVec 32 := 0#32
  let v88 : BitVec 1 := Scalar.cmpi .sgt arg0 c0_i32_46
  let v89 : BitVec 32 := Scalar.extui v88
  let c0_i32_47 : BitVec 32 := 0#32
  let v90 : BitVec 1 := Scalar.cmpi .ne v89 c0_i32_47
  v90

def k0_cond7 (i : grid0.Coords) : BitVec 1 :=
  let arg0 : BitVec 32 := BitVec.ofNat 32 (i 0).val
  let c0_i32_49 : BitVec 32 := 0#32
  let v93 : BitVec 1 := Scalar.cmpi .eq arg0 c0_i32_49
  let v94 : BitVec 32 := Scalar.extui v93
  let c0_i32_50 : BitVec 32 := 0#32
  let v95 : BitVec 1 := Scalar.cmpi .ne v94 c0_i32_50
  v95

def k0_cond8 (i : grid0.Coords) : BitVec 1 :=
  let arg0 : BitVec 32 := BitVec.ofNat 32 (i 0).val
  let c0_i32_51 : BitVec 32 := 0#32
  let v96 : BitVec 1 := Scalar.cmpi .sgt arg0 c0_i32_51
  let v97 : BitVec 32 := Scalar.extui v96
  let c0_i32_52 : BitVec 32 := 0#32
  let v98 : BitVec 1 := Scalar.cmpi .ne v97 c0_i32_52
  v98

def k0_cond9 (i : grid0.Coords) : BitVec 1 :=
  let arg0 : BitVec 32 := BitVec.ofNat 32 (i 0).val
  let c0_i32_54 : BitVec 32 := 0#32
  let v102 : BitVec 1 := Scalar.cmpi .eq arg0 c0_i32_54
  let v103 : BitVec 32 := Scalar.extui v102
  let c0_i32_55 : BitVec 32 := 0#32
  let v104 : BitVec 1 := Scalar.cmpi .ne v103 c0_i32_55
  v104

def k0_cond10 (i : grid0.Coords) : BitVec 1 :=
  let arg0 : BitVec 32 := BitVec.ofNat 32 (i 0).val
  let c0_i32_56 : BitVec 32 := 0#32
  let v105 : BitVec 1 := Scalar.cmpi .sgt arg0 c0_i32_56
  let v106 : BitVec 32 := Scalar.extui v105
  let c0_i32_57 : BitVec 32 := 0#32
  let v107 : BitVec 1 := Scalar.cmpi .ne v106 c0_i32_57
  v107

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference6Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 119
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S1x2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S2048x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S2048x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S_, .f32⟩
  | .hbm, ⟨80, _⟩ => ⟨S2048, .f32⟩
  | .hbm, ⟨81, _⟩ => ⟨S2048x1, .f32⟩
  | .hbm, ⟨82, _⟩ => ⟨S2048x2048, .f32⟩
  | .hbm, ⟨83, _⟩ => ⟨S2048x2048, .f32⟩
  | .hbm, ⟨84, _⟩ => ⟨S2048x1, .f32⟩
  | .hbm, ⟨85, _⟩ => ⟨S2048x2048, .f32⟩
  | .hbm, ⟨86, _⟩ => ⟨S_, .f32⟩
  | .hbm, ⟨87, _⟩ => ⟨S2048, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S_, .f32⟩
  | .hbm, ⟨98, _⟩ => ⟨S2048, .f32⟩
  | .hbm, ⟨99, _⟩ => ⟨S2048x1, .f32⟩
  | .hbm, ⟨100, _⟩ => ⟨S2048x2048, .f32⟩
  | .hbm, ⟨101, _⟩ => ⟨S2048x1, .f32⟩
  | .hbm, ⟨102, _⟩ => ⟨S_, .f32⟩
  | .hbm, ⟨103, _⟩ => ⟨S2048x1, .f32⟩
  | .hbm, ⟨104, _⟩ => ⟨S2048x1, .f32⟩
  | .hbm, ⟨105, _⟩ => ⟨S_, .f32⟩
  | .hbm, ⟨106, _⟩ => ⟨S2048, .f32⟩
  | .hbm, ⟨107, _⟩ => ⟨S2048x2048, .f32⟩
  | .hbm, ⟨108, _⟩ => ⟨S2048x2048, .f32⟩
  | .hbm, ⟨109, _⟩ => ⟨S2048x2048, .f32⟩
  | .hbm, ⟨110, _⟩ => ⟨S2048x2048, .f32⟩
  | .hbm, ⟨111, _⟩ => ⟨S2048x2048, .f32⟩
  | .hbm, ⟨112, _⟩ => ⟨S_, .f32⟩
  | .hbm, ⟨113, _⟩ => ⟨S2048, .f32⟩
  | .hbm, ⟨114, _⟩ => ⟨S1x2048, .f32⟩
  | .hbm, ⟨115, _⟩ => ⟨S_, .f32⟩
  | .hbm, ⟨116, _⟩ => ⟨S2048x2048, .f32⟩
  | .hbm, ⟨117, _⟩ => ⟨S2048x2048, .f32⟩
  | .hbm, ⟨118, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_17 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_18 : Ref sig .tc := ⟨.hbm, 102, rfl⟩
abbrev main_v75 : Ref sig .tc := ⟨.hbm, 103, rfl⟩
abbrev main_v76 : Ref sig .tc := ⟨.hbm, 104, rfl⟩
abbrev main_cst_19 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_20 : Ref sig .tc := ⟨.hbm, 112, rfl⟩
abbrev main_v83 : Ref sig .tc := ⟨.hbm, 113, rfl⟩
abbrev main_v84 : Ref sig .tc := ⟨.hbm, 114, rfl⟩
abbrev main_cst_21 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]
-- ==== Kernel7.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩
abbrev S2048 : Shape := ⟨1, ![2048]⟩

abbrev nBuf : Space → Nat
  | .hbm => 12
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S1x128, .f32⟩
  | .hbm, ⟨9, _⟩ => ⟨S1x2048, .f32⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | .local _ .vmem, ⟨12, _⟩ => ⟨S256x2048, .f32⟩
  | .local _ .vmem, ⟨13, _⟩ => ⟨S1x128, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_32 : BitVec 32 := 0#32
  let v70 : BitVec 1 := Scalar.cmpi .ne v69 c0_i32_32
  v70

def k0_cond2 (i : grid0.Coords) : BitVec 1 :=
  let arg0 : BitVec 32 := BitVec.ofNat 32 (i 0).val
  let c0_i32_33 : BitVec 32 := 0#32
  let v71 : BitVec 1 := Scalar.cmpi .sgt arg0 c0_i32_33
  let v72 : BitVec 32 := Scalar.extui v71
  let c0_i32_34 : BitVec 32 := 0#32
  let v73 : BitVec 1 := Scalar.cmpi .ne v72 c0_i32_34
  v73

def k0_cond3 (i : grid0.Coords) : BitVec 1 :=
  let arg0 : BitVec 32 := BitVec.ofNat 32 (i 0).val
  let c0_i32_36 : BitVec 32 := 0#32
  let v77 : BitVec 1 := Scalar.cmpi .eq arg0 c0_i32_36
  let v78 : BitVec 32 := Scalar.extui v77
  let c0_i32_37 : BitVec 32 := 0#32
  let v79 : BitVec 1 := Scalar.cmpi .ne v78 c0_i32_37
  v79

def k0_cond4 (i : grid0.Coords) : BitVec 1 :=
  let arg0 : BitVec 32 := BitVec.ofNat 32 (i 0).val
  let c0_i32_38 : BitVec 32 := 0#32
  let v80 : BitVec 1 := Scalar.cmpi .sgt arg0 c0_i32_38
  let v81 : BitVec 32 := Scalar.extui v80
  let c0_i32_39 : BitVec 32 := 0#32
  let v82 : BitVec 1 := Scalar.cmpi .ne v81 c0_i32_39
  v82

def k0_cond5 (i : grid0.Coords) : BitVec 1 :=
  let arg0 : BitVec 32 := BitVec.ofNat 32 (i 0).val
  let c0_i32_41 : BitVec 32 := 0#32
  let v85 : BitVec 1 := Scalar.cmpi .eq arg0 c0_i32_41
  let v86 : BitVec 32 := Scalar.extui v85
  let c0_i32_42 : BitVec 32 := 0#32
  let v87 : BitVec 1 := Scalar.cmpi .ne v86 c0_i32_42
  v87

def k0_cond6 (i : grid0.Coords) : BitVec 1 :=
  let arg0 : BitVec 32 := BitVec.ofNat 32 (i 0).val
  let c0_i32_43 : BitVec 32 := 0#32
  let v88 : BitVec 1 := Scalar.cmpi .sgt arg0 c0_i32_43
  let v89 : BitVec 32 := Scalar.extui v88
  let c0_i32_44 : BitVec 32 := 0#32
  let v90 : BitVec 1 := Scalar.cmpi .ne v89 c0_i32_44
  v90

def k0_cond7 (i : grid0.Coords) : BitVec 1 :=
  let arg0 : BitVec 32 := BitVec.ofNat 32 (i 0).val
  let c0_i32_46 : BitVec 32 := 0#32
  let v94 : BitVec 1 := Scalar.cmpi .eq arg0 c0_i32_46
  let v95 : BitVec 32 := Scalar.extui v94
  let c0_i32_47 : BitVec 32 := 0#32
  let v96 : BitVec 1 := Scalar.cmpi .ne v95 c0_i32_47
  v96

def k0_cond8 (i : grid0.Coords) : BitVec 1 :=
  let arg0 : BitVec 32 := BitVec.ofNat 32 (i 0).val
  let c0_i32_48 : BitVec 32 := 0#32
  let v97 : BitVec 1 := Scalar.cmpi .sgt arg0 c0_i32_48
  let v98 : BitVec 32 := Scalar.extui v97
  let c0_i32_49 : BitVec 32 := 0#32
  let v99 : BitVec 1 := Scalar.cmpi .ne v98 c0_i32_49
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S2048, .f32⟩
  | .hbm, ⟨64, _⟩ => ⟨S_, .f32⟩
  | .hbm, ⟨65, _⟩ => ⟨S2048, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S2048x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S_, .f32⟩
  | .hbm, ⟨80, _⟩ => ⟨S2048, .f32⟩
  | .hbm, ⟨81, _⟩ => ⟨S2048x1, .f32⟩
  | .hbm, ⟨82, _⟩ => ⟨S2048x2048, .f32⟩
  | .hbm, ⟨83, _⟩ => ⟨S2048x2048, .f32⟩
  | .hbm, ⟨84, _⟩ => ⟨S2048x1, .f32⟩
  | .hbm, ⟨85, _⟩ => ⟨S2048x2048, .f32⟩
  | .hbm, ⟨86, _⟩ => ⟨S_, .f32⟩
  | .hbm, ⟨87, _⟩ => ⟨S2048, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S_, .f32⟩
  | .hbm, ⟨98, _⟩ => ⟨S2048, .f32⟩
  | .hbm, ⟨99, _⟩ => ⟨S2048x1, .f32⟩
  | .hbm, ⟨100, _⟩ => ⟨S2048x2048, .f32⟩
  | .hbm, ⟨101, _⟩ => ⟨S2048x1, .f32⟩
  | .hbm, ⟨102, _⟩ => ⟨S_, .f32⟩
  | .hbm, ⟨103, _⟩ => ⟨S2048x1, .f32⟩
  | .hbm, ⟨104, _⟩ => ⟨S2048x1, .f32⟩
  | .hbm, ⟨105, _⟩ => ⟨S_, .f32⟩
  | .hbm, ⟨106, _⟩ => ⟨S2048, .f32⟩
  | .hbm, ⟨107, _⟩ => ⟨S2048x2048, .f32⟩
  | .hbm, ⟨108, _⟩ => ⟨S2048x2048, .f32⟩
  | .hbm, ⟨109, _⟩ => ⟨S2048x2048, .f32⟩
  | .hbm, ⟨110, _⟩ => ⟨S2048x2048, .f32⟩
  | .hbm, ⟨111, _⟩ => ⟨S2048x2048, .f32⟩
  | .hbm, ⟨112, _⟩ => ⟨S_, .f32⟩
  | .hbm, ⟨113, _⟩ => ⟨S2048, .f32⟩
  | .hbm, ⟨114, _⟩ => ⟨S1x2048, .f32⟩
  | .hbm, ⟨115, _⟩ => ⟨S_, .f32⟩
  | .hbm, ⟨116, _⟩ => ⟨S2048x2048, .f32⟩
  | .hbm, ⟨117, _⟩ => ⟨S2048x2048, .f32⟩
  | .hbm, ⟨118, _⟩ => ⟨S2048x2048, .bf16⟩
  | .hbm, ⟨119, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_cst_12 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_cst_14 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_15 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_17 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_cst_19 : Ref sig .tc := ⟨.hbm, 89, rfl⟩
abbrev main_v63 : Ref sig .tc := ⟨.hbm, 90, rfl⟩
abbrev main_v64 : Ref sig .tc := ⟨.hbm, 91, rfl⟩
abbrev main_cst_20 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_21 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_22 : Ref sig .tc := ⟨.hbm, 102, rfl⟩
abbrev main_v73 : Ref sig .tc := ⟨.hbm, 103, rfl⟩
abbrev main_v74 : Ref sig .tc := ⟨.hbm, 104, rfl⟩
abbrev main_cst_23 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_24 : Ref sig .tc := ⟨.hbm, 112, rfl⟩
abbrev main_v81 : Ref sig .tc := ⟨.hbm, 113, rfl⟩
abbrev main_v82 : Ref sig .tc := ⟨.hbm, 114, rfl⟩
abbrev main_cst_25 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]
-- ==== Kernel2.lean ====
abbrev S2048x2048 : Shape := ⟨2, ![2048, 2048]⟩
abbrev S2048x6144 : Shape := ⟨2, ![2048, 6144]⟩
abbrev S3x2048 : Shape := ⟨2, ![3, 2048]⟩
abbrev S256x2048 : Shape := ⟨2, ![256, 2048]⟩
abbrev S16x2048 : Shape := ⟨2, ![16, 2048]⟩
abbrev S256x6144 : Shape := ⟨2, ![256, 6144]⟩
abbrev S1x2048 : Shape := ⟨2, ![1, 2048]⟩
abbrev S272x2048 : Shape := ⟨2, ![272, 2048]⟩
abbrev S2048 : Shape := ⟨1, ![2048]⟩

abbrev nBuf : Space → Nat
  | .hbm => 5
  | .vmem => 20
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S3x2048, .f32⟩
  | .hbm, ⟨3, _⟩ => ⟨S2048x6144, .bf16⟩
  | .hbm, ⟨4, _⟩ => ⟨S3x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S16x2048, .bf16⟩
  | .local _ .vmem, ⟨9, _⟩ => ⟨S16x2048, .bf16⟩
  | .local _ .vmem, ⟨10, _⟩ => ⟨S16x2048, .bf16⟩
  | .local _ .vmem, ⟨11, _⟩ => ⟨S16x2048, .bf16⟩
  | .local _ .vmem, ⟨12, _⟩ => ⟨S16x2048, .bf16⟩
  | .local _ .vmem, ⟨13, _⟩ => ⟨S16x2048, .bf16⟩
  | .local _ .vmem, ⟨14, _⟩ => ⟨S16x2048, .bf16⟩
  | .local _ .vmem, ⟨15, _⟩ => ⟨S16x2048, .bf16⟩
  | .local _ .vmem, ⟨16, _⟩ => ⟨S3x2048, .f32⟩
  | .local _ .vmem, ⟨17, _⟩ => ⟨S256x6144, .bf16⟩
  | .local _ .vmem, ⟨18, _⟩ => ⟨S256x6144, .bf16⟩
  | .local _ .vmem, ⟨19, _⟩ => ⟨S3x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_31 : BitVec 32 := 0#32
  let v82 : BitVec 1 := Scalar.cmpi .eq arg0 c0_i32_31
  let v83 : BitVec 32 := Scalar.extui v82
  let c0_i32_32 : BitVec 32 := 0#32
  let v84 : BitVec 1 := Scalar.cmpi .ne v83 c0_i32_32
  v84

def k0_cond2 (i : grid0.Coords) : BitVec 1 :=
  let arg0 : BitVec 32 := BitVec.ofNat 32 (i 0).val
  let c0_i32_33 : BitVec 32 := 0#32
  let v85 : BitVec 1 := Scalar.cmpi .sgt arg0 c0_i32_33
  let v86 : BitVec 32 := Scalar.extui v85
  let c0_i32_34 : BitVec 32 := 0#32
  let v87 : BitVec 1 := Scalar.cmpi .ne v86 c0_i32_34
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x6144 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S2048x2048 : Shape := ⟨2, ![2048, 2048]⟩
abbrev S2048x6144 : Shape := ⟨2, ![2048, 6144]⟩
abbrev S3x2048 : Shape := ⟨2, ![3, 2048]⟩
abbrev S_ : Shape := ⟨0, ![]⟩
abbrev S2x2048 : Shape := ⟨2, ![2, 2048]⟩
abbrev S2050x2048 : Shape := ⟨2, ![2050, 2048]⟩
abbrev S1x2048 : Shape := ⟨2, ![1, 2048]⟩
abbrev S2048 : Shape := ⟨1, ![2048]⟩

abbrev nBuf : Space → Nat
  | .hbm => 86
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S3x2048, .f32⟩
  | .hbm, ⟨3, _⟩ => ⟨S2048x6144, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2x2048, .f32⟩
  | .hbm, ⟨10, _⟩ => ⟨S2050x2048, .f32⟩
  | .hbm, ⟨11, _⟩ => ⟨S_, .f32⟩
  | .hbm, ⟨12, _⟩ => ⟨S2x2048, .f32⟩
  | .hbm, ⟨13, _⟩ => ⟨S2048x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S_, .f32⟩
  | .hbm, ⟨47, _⟩ => ⟨S3x2048, .f32⟩
  | .hbm, ⟨48, _⟩ => ⟨S_, .f32⟩
  | .hbm, ⟨49, _⟩ => ⟨S2050x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S_, .f32⟩
  | .hbm, ⟨60, _⟩ => ⟨S3x2048, .f32⟩
  | .hbm, ⟨61, _⟩ => ⟨S3x2048, .f32⟩
  | .hbm, ⟨62, _⟩ => ⟨S_, .f32⟩
  | .hbm, ⟨63, _⟩ => ⟨S2050x2048, .f32⟩
  | .hbm, ⟨64, _⟩ => ⟨S2050x2048, .f32⟩
  | .hbm, ⟨65, _⟩ => ⟨S2048x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S2048x2048, .f32⟩
  | .hbm, ⟨70, _⟩ => ⟨S2048x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S_, .f32⟩
  | .hbm, ⟨75, _⟩ => ⟨S3x2048, .f32⟩
  | .hbm, ⟨76, _⟩ => ⟨S3x2048, .f32⟩
  | .hbm, ⟨77, _⟩ => ⟨S_, .f32⟩
  | .hbm, ⟨78, _⟩ => ⟨S2050x2048, .f32⟩
  | .hbm, ⟨79, _⟩ => ⟨S2050x2048, .f32⟩
  | .hbm, ⟨80, _⟩ => ⟨S2x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x6144, .f32⟩
  | .hbm, ⟨85, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel3.lean ====
abbrev S2048x2048 : Shape := ⟨2, ![2048, 2048]⟩
abbrev S2048x4096 : Shape := ⟨2, ![2048, 4096]⟩
abbrev S256x2048 : Shape := ⟨2, ![256, 2048]⟩
abbrev S256x4096 : Shape := ⟨2, ![256, 4096]⟩

abbrev nBuf : Space → Nat
  | .hbm => 7
  | .vmem => 16
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x4096, .bf16⟩
  | .hbm, ⟨4, _⟩ => ⟨S2048x2048, .bf16⟩
  | .hbm, ⟨5, _⟩ => ⟨S2048x2048, .bf16⟩
  | .hbm, ⟨6, _⟩ => ⟨S2048x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x4096, .bf16⟩
  | .local _ .vmem, ⟨15, _⟩ => ⟨S256x4096, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S2048x2048 : Shape := ⟨2, ![2048, 2048]⟩
abbrev S2048x4096 : Shape := ⟨2, ![2048, 4096]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x4096, .bf16⟩
  | .hbm, ⟨4, _⟩ => ⟨S2048x4096, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .bf16⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .bf16⟩
  | .hbm, ⟨44, _⟩ => ⟨S2048x2048, .f32⟩
  | .hbm, ⟨45, _⟩ => ⟨S2048x4096, .f32⟩
  | .hbm, ⟨46, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel5.lean ====
abbrev S2048x512 : Shape := ⟨2, ![2048, 512]⟩
abbrev S2048x1152 : Shape := ⟨2, ![2048, 1152]⟩
abbrev S2048x128 : Shape := ⟨2, ![2048, 128]⟩
abbrev S1x512 : Shape := ⟨2, ![1, 512]⟩
abbrev S256x512 : Shape := ⟨2, ![256, 512]⟩
abbrev S256x1152 : Shape := ⟨2, ![256, 1152]⟩
abbrev S256x128 : Shape := ⟨2, ![256, 128]⟩
abbrev S256 : Shape := ⟨1, ![256]⟩
abbrev S256x1 : Shape := ⟨2, ![256, 1]⟩
abbrev S512 : Shape := ⟨1, ![512]⟩

abbrev nBuf : Space → Nat
  | .hbm => 9
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1152, .f32⟩
  | .hbm, ⟨3, _⟩ => ⟨S2048x128, .f32⟩
  | .hbm, ⟨4, _⟩ => ⟨S1x512, .f32⟩
  | .hbm, ⟨5, _⟩ => ⟨S1x512, .f32⟩
  | .hbm, ⟨6, _⟩ => ⟨S2048x1152, .bf16⟩
  | .hbm, ⟨7, _⟩ => ⟨S1x512, .f32⟩
  | .hbm, ⟨8, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1152, .f32⟩
  | .local _ .vmem, ⟨5, _⟩ => ⟨S256x1152, .f32⟩
  | .local _ .vmem, ⟨6, _⟩ => ⟨S256x128, .f32⟩
  | .local _ .vmem, ⟨7, _⟩ => ⟨S256x128, .f32⟩
  | .local _ .vmem, ⟨8, _⟩ => ⟨S1x512, .f32⟩
  | .local _ .vmem, ⟨9, _⟩ => ⟨S1x512, .f32⟩
  | .local _ .vmem, ⟨10, _⟩ => ⟨S256x1152, .bf16⟩
  | .local _ .vmem, ⟨11, _⟩ => ⟨S256x1152, .bf16⟩
  | .local _ .vmem, ⟨12, _⟩ => ⟨S1x512, .f32⟩
  | .local _ .vmem, ⟨13, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_28 : BitVec 32 := 0#32
  let v73 : BitVec 1 := Scalar.cmpi .ne v72 c0_i32_28
  v73

def k0_cond2 (i : grid0.Coords) : BitVec 1 :=
  let arg0 : BitVec 32 := BitVec.ofNat 32 (i 0).val
  let c0_i32_29 : BitVec 32 := 0#32
  let v74 : BitVec 1 := Scalar.cmpi .sgt arg0 c0_i32_29
  let v75 : BitVec 32 := Scalar.extui v74
  let c0_i32_30 : BitVec 32 := 0#32
  let v76 : BitVec 1 := Scalar.cmpi .ne v75 c0_i32_30
  v76

def k0_cond3 (i : grid0.Coords) : BitVec 1 :=
  let arg0 : BitVec 32 := BitVec.ofNat 32 (i 0).val
  let c0_i32_31 : BitVec 32 := 0#32
  let v77 : BitVec 1 := Scalar.cmpi .eq arg0 c0_i32_31
  let v78 : BitVec 32 := Scalar.extui v77
  let c0_i32_32 : BitVec 32 := 0#32
  let v79 : BitVec 1 := Scalar.cmpi .ne v78 c0_i32_32
  v79

def k0_cond4 (i : grid0.Coords) : BitVec 1 :=
  let arg0 : BitVec 32 := BitVec.ofNat 32 (i 0).val
  let c0_i32_33 : BitVec 32 := 0#32
  let v80 : BitVec 1 := Scalar.cmpi .sgt arg0 c0_i32_33
  let v81 : BitVec 32 := Scalar.extui v80
  let c0_i32_34 : BitVec 32 := 0#32
  let v82 : BitVec 1 := Scalar.cmpi .ne v81 c0_i32_34
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1152 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S2048x512 : Shape := ⟨2, ![2048, 512]⟩
abbrev S2048x1152 : Shape := ⟨2, ![2048, 1152]⟩
abbrev S2048x128 : Shape := ⟨2, ![2048, 128]⟩
abbrev S1x512 : Shape := ⟨2, ![1, 512]⟩
abbrev S_ : Shape := ⟨0, ![]⟩
abbrev S2048 : Shape := ⟨1, ![2048]⟩
abbrev S2048x1 : Shape := ⟨2, ![2048, 1]⟩
abbrev S512 : Shape := ⟨1, ![512]⟩

abbrev nBuf : Space → Nat
  | .hbm => 104
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1152, .f32⟩
  | .hbm, ⟨3, _⟩ => ⟨S2048x128, .f32⟩
  | .hbm, ⟨4, _⟩ => ⟨S1x512, .f32⟩
  | .hbm, ⟨5, _⟩ => ⟨S1x512, .f32⟩
  | .hbm, ⟨6, _⟩ => ⟨S2048x512, .f32⟩
  | .hbm, ⟨7, _⟩ => ⟨S2048x512, .f32⟩
  | .hbm, ⟨8, _⟩ => ⟨S2048x128, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S2048x512, .f32⟩
  | .hbm, ⟨58, _⟩ => ⟨S2048x512, .f32⟩
  | .hbm, ⟨59, _⟩ => ⟨S2048x512, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x512, .f32⟩
  | .hbm, ⟨64, _⟩ => ⟨S2048x512, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S2048x512, .f32⟩
  | .hbm, ⟨79, _⟩ => ⟨S2048x512, .f32⟩
  | .hbm, ⟨80, _⟩ => ⟨S2048x512, .f32⟩
  | .hbm, ⟨81, _⟩ => ⟨S_, .f32⟩
  | .hbm, ⟨82, _⟩ => ⟨S2048, .f32⟩
  | .hbm, ⟨83, _⟩ => ⟨S2048x1, .f32⟩
  | .hbm, ⟨84, _⟩ => ⟨S2048x512, .f32⟩
  | .hbm, ⟨85, _⟩ => ⟨S2048x512, .f32⟩
  | .hbm, ⟨86, _⟩ => ⟨S2048x1, .f32⟩
  | .hbm, ⟨87, _⟩ => ⟨S_, .f32⟩
  | .hbm, ⟨88, _⟩ => ⟨S2048x1, .f32⟩
  | .hbm, ⟨89, _⟩ => ⟨S2048x1, .f32⟩
  | .hbm, ⟨90, _⟩ => ⟨S_, .f32⟩
  | .hbm, ⟨91, _⟩ => ⟨S2048, .f32⟩
  | .hbm, ⟨92, _⟩ => ⟨S2048x512, .f32⟩
  | .hbm, ⟨93, _⟩ => ⟨S2048x512, .f32⟩
  | .hbm, ⟨94, _⟩ => ⟨S2048x512, .f32⟩
  | .hbm, ⟨95, _⟩ => ⟨S_, .f32⟩
  | .hbm, ⟨96, _⟩ => ⟨S2048x1152, .f32⟩
  | .hbm, ⟨97, _⟩ => ⟨S_, .f32⟩
  | .hbm, ⟨98, _⟩ => ⟨S2048x1152, .f32⟩
  | .hbm, ⟨99, _⟩ => ⟨S2048x1152, .f32⟩
  | .hbm, ⟨100, _⟩ => ⟨S_, .f32⟩
  | .hbm, ⟨101, _⟩ => ⟨S2048x1152, .f32⟩
  | .hbm, ⟨102, _⟩ => ⟨S2048x1152, .f32⟩
  | .hbm, ⟨103, _⟩ => ⟨S2048x1152, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_17 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_cst_19 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]
-- ==== Kernel8.lean ====
abbrev S2048x2048 : Shape := ⟨2, ![2048, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_8 : BitVec 32 := 0#32
  let v13 : BitVec 1 := Scalar.cmpi .ne v12 c0_i32_8
  v13

def k0_cond2 (i : grid0.Coords) : BitVec 1 :=
  let arg0 : BitVec 32 := BitVec.ofNat 32 (i 0).val
  let c0_i32_9 : BitVec 32 := 0#32
  let v14 : BitVec 1 := Scalar.cmpi .sgt arg0 c0_i32_9
  let v15 : BitVec 32 := Scalar.extui v14
  let c0_i32_10 : BitVec 32 := 0#32
  let v16 : BitVec 1 := Scalar.cmpi .ne v15 c0_i32_10
  v16

def k0_cond3 (i : grid0.Coords) : BitVec 1 :=
  let arg0 : BitVec 32 := BitVec.ofNat 32 (i 0).val
  let c0_i32_14 : BitVec 32 := 0#32
  let v21 : BitVec 1 := Scalar.cmpi .eq arg0 c0_i32_14
  let v22 : BitVec 32 := Scalar.extui v21
  let c0_i32_15 : BitVec 32 := 0#32
  let v23 : BitVec 1 := Scalar.cmpi .ne v22 c0_i32_15
  v23

def k0_cond4 (i : grid0.Coords) : BitVec 1 :=
  let arg0 : BitVec 32 := BitVec.ofNat 32 (i 0).val
  let c0_i32_16 : BitVec 32 := 0#32
  let v24 : BitVec 1 := Scalar.cmpi .sgt arg0 c0_i32_16
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S2048x2048, .f32⟩
  | .hbm, ⟨18, _⟩ => ⟨S_, .f32⟩
  | .hbm, ⟨19, _⟩ => ⟨S2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel9.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x2048 : Shape := ⟨2, ![2048, 2048]⟩
abbrev S2048x11264 : Shape := ⟨2, ![2048, 11264]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S2048x2816 : Shape := ⟨2, ![2048, 2816]⟩
abbrev S1x2048x2816 : Shape := ⟨3, ![1, 2048, 2816]⟩
abbrev S4x2048x2816 : Shape := ⟨3, ![4, 2048, 2816]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | .hbm, ⟨10, _⟩ => ⟨S2048x2816, .bf16⟩
  | .hbm, ⟨11, _⟩ => ⟨S2048x2816, .bf16⟩
  | .hbm, ⟨12, _⟩ => ⟨S2048x2816, .bf16⟩
  | .hbm, ⟨13, _⟩ => ⟨S2048x2816, .bf16⟩
  | .hbm, ⟨14, _⟩ => ⟨S1x2048x2816, .bf16⟩
  | .hbm, ⟨15, _⟩ => ⟨S1x2048x2816, .bf16⟩
  | .hbm, ⟨16, _⟩ => ⟨S1x2048x2816, .bf16⟩
  | .hbm, ⟨17, _⟩ => ⟨S1x2048x2816, .bf16⟩
  | .hbm, ⟨18, _⟩ => ⟨S4x2048x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel11.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2048x512 : Shape := ⟨2, ![2048, 512]⟩
abbrev S2048x4096 : Shape := ⟨2, ![2048, 4096]⟩
abbrev S512x4096 : Shape := ⟨2, ![512, 4096]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x4096, .bf16⟩
  | .hbm, ⟨2, _⟩ => ⟨S512x4096, .bf16⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x512 : Shape := ⟨2, ![2048, 512]⟩
abbrev S2048x4096 : Shape := ⟨2, ![2048, 4096]⟩
abbrev S_ : Shape := ⟨0, ![]⟩
abbrev S512x4096 : Shape := ⟨2, ![512, 4096]⟩
abbrev S4096x512 : Shape := ⟨2, ![4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x4096, .bf16⟩
  | .hbm, ⟨2, _⟩ => ⟨S_, .f32⟩
  | .hbm, ⟨3, _⟩ => ⟨S512x4096, .f32⟩
  | .hbm, ⟨4, _⟩ => ⟨S2048x512, .f32⟩
  | .hbm, ⟨5, _⟩ => ⟨S2048x4096, .f32⟩
  | .hbm, ⟨6, _⟩ => ⟨S2048x4096, .f32⟩
  | .hbm, ⟨7, _⟩ => ⟨S4096x512, .f32⟩
  | .hbm, ⟨8, _⟩ => ⟨S512x4096, .f32⟩
  | .hbm, ⟨9, _⟩ => ⟨S512x4096, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S2048x4096 : Shape := ⟨2, ![2048, 4096]⟩
abbrev S512x4096 : Shape := ⟨2, ![512, 4096]⟩
abbrev S2048x512 : Shape := ⟨2, ![2048, 512]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S512x4096, .bf16⟩
  | .hbm, ⟨2, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x4096 : Shape := ⟨2, ![2048, 4096]⟩
abbrev S512x4096 : Shape := ⟨2, ![512, 4096]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S512x4096, .bf16⟩
  | .hbm, ⟨2, _⟩ => ⟨S_, .f32⟩
  | .hbm, ⟨3, _⟩ => ⟨S2048x512, .f32⟩
  | .hbm, ⟨4, _⟩ => ⟨S512x4096, .f32⟩
  | .hbm, ⟨5, _⟩ => ⟨S2048x4096, .f32⟩
  | .hbm, ⟨6, _⟩ => ⟨S2048x4096, .f32⟩
  | .hbm, ⟨7, _⟩ => ⟨S2048x512, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S2048x1152 : Shape := ⟨2, ![2048, 1152]⟩
abbrev S2048x2048 : Shape := ⟨2, ![2048, 2048]⟩
abbrev S1152x2048 : Shape := ⟨2, ![1152, 2048]⟩
abbrev S2048x384 : Shape := ⟨2, ![2048, 384]⟩
abbrev S2048x1024 : Shape := ⟨2, ![2048, 1024]⟩
abbrev S384x1024 : Shape := ⟨2, ![384, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1152, .bf16⟩
  | .hbm, ⟨1, _⟩ => ⟨S2048x2048, .bf16⟩
  | .hbm, ⟨2, _⟩ => ⟨S1152x2048, .bf16⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .bf16⟩
  | .local _ .vmem, ⟨5, _⟩ => ⟨S384x1024, .bf16⟩
  | _, _ => ⟨S2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1152 : Shape := ⟨2, ![2048, 1152]⟩
abbrev S2048x2048 : Shape := ⟨2, ![2048, 2048]⟩
abbrev S_ : Shape := ⟨0, ![]⟩
abbrev S1152x2048 : Shape := ⟨2, ![1152, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x1152, .bf16⟩
  | .hbm, ⟨1, _⟩ => ⟨S2048x2048, .bf16⟩
  | .hbm, ⟨2, _⟩ => ⟨S_, .f32⟩
  | .hbm, ⟨3, _⟩ => ⟨S2048x1152, .f32⟩
  | .hbm, ⟨4, _⟩ => ⟨S2048x2048, .f32⟩
  | .hbm, ⟨5, _⟩ => ⟨S2048x1152, .f32⟩
  | .hbm, ⟨6, _⟩ => ⟨S2048x1152, .f32⟩
  | .hbm, ⟨7, _⟩ => ⟨S1152x2048, .f32⟩
  | .hbm, ⟨8, _⟩ => ⟨S2048x1152, .f32⟩
  | .hbm, ⟨9, _⟩ => ⟨S1152x2048, .f32⟩
  | .hbm, ⟨10, _⟩ => ⟨S1152x2048, .bf16⟩
  | _, _ => ⟨S2048x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S2048x6144 : Shape := ⟨2, ![2048, 6144]⟩
abbrev S2048x2048 : Shape := ⟨2, ![2048, 2048]⟩
abbrev S6144x2048 : Shape := ⟨2, ![6144, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S6144x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x6144 : Shape := ⟨2, ![2048, 6144]⟩
abbrev S2048x2048 : Shape := ⟨2, ![2048, 2048]⟩
abbrev S_ : Shape := ⟨0, ![]⟩
abbrev S6144x2048 : Shape := ⟨2, ![6144, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S6144x2048, .f32⟩
  | .hbm, ⟨10, _⟩ => ⟨S6144x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S2048x4096 : Shape := ⟨2, ![2048, 4096]⟩
abbrev S2048x2048 : Shape := ⟨2, ![2048, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S_, .f32⟩
  | .hbm, ⟨3, _⟩ => ⟨S2048x4096, .f32⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S2048x4096, .f32⟩
  | .hbm, ⟨9, _⟩ => ⟨S4096x2048, .f32⟩
  | .hbm, ⟨10, _⟩ => ⟨S4096x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S2048x4096 : Shape := ⟨2, ![2048, 4096]⟩
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S2048x4096 : Shape := ⟨2, ![2048, 4096]⟩
abbrev S4096x2048 : Shape := ⟨2, ![4096, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x2048, .f32⟩
  | .hbm, ⟨10, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel19.lean ====
abbrev S2048x2048 : Shape := ⟨2, ![2048, 2048]⟩
abbrev S1152x2048 : Shape := ⟨2, ![1152, 2048]⟩
abbrev S2048x1152 : Shape := ⟨2, ![2048, 1152]⟩
abbrev S1024x2048 : Shape := ⟨2, ![1024, 2048]⟩
abbrev S384x2048 : Shape := ⟨2, ![384, 2048]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1152x2048, .bf16⟩
  | .hbm, ⟨2, _⟩ => ⟨S2048x1152, .f32⟩
  | .local _ .vmem, ⟨0, _⟩ => ⟨S1024x2048, .bf16⟩
  | .local _ .vmem, ⟨1, _⟩ => ⟨S1024x2048, .bf16⟩
  | .local _ .vmem, ⟨2, _⟩ => ⟨S384x2048, .bf16⟩
  | .local _ .vmem, ⟨3, _⟩ => ⟨S384x2048, .bf16⟩
  | .local _ .vmem, ⟨4, _⟩ => ⟨S1024x384, .f32⟩
  | .local _ .vmem, ⟨5, _⟩ => ⟨S1024x384, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x2048 : Shape := ⟨2, ![2048, 2048]⟩
abbrev S1152x2048 : Shape := ⟨2, ![1152, 2048]⟩
abbrev S2048x1152 : Shape := ⟨2, ![2048, 1152]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1152x2048, .bf16⟩
  | .hbm, ⟨2, _⟩ => ⟨S2048x2048, .f32⟩
  | .hbm, ⟨3, _⟩ => ⟨S1152x2048, .f32⟩
  | .hbm, ⟨4, _⟩ => ⟨S2048x1152, .f32⟩
  | .hbm, ⟨5, _⟩ => ⟨S2048x1152, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S2048x2048 : Shape := ⟨2, ![2048, 2048]⟩
abbrev S6144x2048 : Shape := ⟨2, ![6144, 2048]⟩
abbrev S2048x6144 : Shape := ⟨2, ![2048, 6144]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S6144x2048, .bf16⟩
  | .hbm, ⟨2, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2048x2048 : Shape := ⟨2, ![2048, 2048]⟩
abbrev S6144x2048 : Shape := ⟨2, ![6144, 2048]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S6144x2048, .bf16⟩
  | .hbm, ⟨2, _⟩ => ⟨S2048x2048, .f32⟩
  | .hbm, ⟨3, _⟩ => ⟨S6144x2048, .f32⟩
  | .hbm, ⟨4, _⟩ => ⟨S2048x6144, .f32⟩
  | .hbm, ⟨5, _⟩ => ⟨S2048x6144, .f32⟩
  | .hbm, ⟨6, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel21.lean ====
abbrev S2048x512 : Shape := ⟨2, ![2048, 512]⟩
abbrev S512x4096 : Shape := ⟨2, ![512, 4096]⟩
abbrev S2048x4096 : Shape := ⟨2, ![2048, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S2048x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x512 : Shape := ⟨2, ![2048, 512]⟩
abbrev S512x4096 : Shape := ⟨2, ![512, 4096]⟩
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S2048x512, .f32⟩
  | .hbm, ⟨3, _⟩ => ⟨S512x4096, .f32⟩
  | .hbm, ⟨4, _⟩ => ⟨S2048x4096, .f32⟩
  | .hbm, ⟨5, _⟩ => ⟨S2048x4096, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel23.lean ====
abbrev S2048x2048 : Shape := ⟨2, ![2048, 2048]⟩
abbrev S4x2048x2816 : Shape := ⟨3, ![4, 2048, 2816]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S2048x2048 : Shape := ⟨2, ![2048, 2048]⟩
abbrev S4x2048x2816 : Shape := ⟨3, ![4, 2048, 2816]⟩
abbrev S2048x4x2816 : Shape := ⟨3, ![2048, 4, 2816]⟩
abbrev S2048x11264 : Shape := ⟨2, ![2048, 11264]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x4x2816, .bf16⟩
  | .hbm, ⟨3, _⟩ => ⟨S2048x11264, .bf16⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel24.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference25Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference26Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S1x12288 : Shape := ⟨2, ![1, 12288]⟩

abbrev nBuf : Space → Nat
  | .hbm => 7
  | .vmem => 7
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x12288, .f32⟩
  | .hbm, ⟨5, _⟩ => ⟨S1x12288, .f32⟩
  | .hbm, ⟨6, _⟩ => ⟨S1x12288, .f32⟩
  | .local _ .vmem, ⟨0, _⟩ => ⟨S1x12288, .f32⟩
  | .local _ .vmem, ⟨1, _⟩ => ⟨S1x12288, .f32⟩
  | .local _ .vmem, ⟨2, _⟩ => ⟨S1x12288, .f32⟩
  | .local _ .vmem, ⟨3, _⟩ => ⟨S1x12288, .f32⟩
  | .local _ .vmem, ⟨4, _⟩ => ⟨S1x12288, .f32⟩
  | .local _ .vmem, ⟨5, _⟩ => ⟨S1x12288, .f32⟩
  | .local _ .vmem, ⟨6, _⟩ => ⟨S1x12288, .f32⟩
  | _, _ => ⟨S1x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference27Ideal.lean ====
abbrev S1x12288 : Shape := ⟨2, ![1, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S_, .f32⟩
  | .hbm, ⟨5, _⟩ => ⟨S1x12288, .f32⟩
  | .hbm, ⟨6, _⟩ => ⟨S1x12288, .f32⟩
  | .hbm, ⟨7, _⟩ => ⟨S_, .f32⟩
  | .hbm, ⟨8, _⟩ => ⟨S1x12288, .f32⟩
  | .hbm, ⟨9, _⟩ => ⟨S1x12288, .f32⟩
  | .hbm, ⟨10, _⟩ => ⟨S1x12288, .f32⟩
  | .hbm, ⟨11, _⟩ => ⟨S_, .f32⟩
  | .hbm, ⟨12, _⟩ => ⟨S1x12288, .f32⟩
  | .hbm, ⟨13, _⟩ => ⟨S1x12288, .f32⟩
  | .hbm, ⟨14, _⟩ => ⟨S1x12288, .f32⟩
  | .hbm, ⟨15, _⟩ => ⟨S_, .f32⟩
  | .hbm, ⟨16, _⟩ => ⟨S1x12288, .f32⟩
  | .hbm, ⟨17, _⟩ => ⟨S1x12288, .f32⟩
  | .hbm, ⟨18, _⟩ => ⟨S1x12288, .f32⟩
  | .hbm, ⟨19, _⟩ => ⟨S_, .f32⟩
  | .hbm, ⟨20, _⟩ => ⟨S1x12288, .f32⟩
  | .hbm, ⟨21, _⟩ => ⟨S1x12288, .f32⟩
  | .hbm, ⟨22, _⟩ => ⟨S_, .f32⟩
  | .hbm, ⟨23, _⟩ => ⟨S1x12288, .f32⟩
  | .hbm, ⟨24, _⟩ => ⟨S1x12288, .f32⟩
  | .hbm, ⟨25, _⟩ => ⟨S1x12288, .f32⟩
  | .hbm, ⟨26, _⟩ => ⟨S_, .f32⟩
  | .hbm, ⟨27, _⟩ => ⟨S1x12288, .f32⟩
  | .hbm, ⟨28, _⟩ => ⟨S1x12288, .f32⟩
  | .hbm, ⟨29, _⟩ => ⟨S1x12288, .f32⟩
  | .hbm, ⟨30, _⟩ => ⟨S_, .f32⟩
  | .hbm, ⟨31, _⟩ => ⟨S1x12288, .f32⟩
  | .hbm, ⟨32, _⟩ => ⟨S1x12288, .f32⟩
  | .hbm, ⟨33, _⟩ => ⟨S1x12288, .f32⟩
  | .hbm, ⟨34, _⟩ => ⟨S_, .f32⟩
  | .hbm, ⟨35, _⟩ => ⟨S1x12288, .f32⟩
  | .hbm, ⟨36, _⟩ => ⟨S1x12288, .f32⟩
  | _, _ => ⟨S1x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S3x512 : Shape := ⟨2, ![3, 512]⟩

abbrev nBuf : Space → Nat
  | .hbm => 7
  | .vmem => 7
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S3x512, .f32⟩
  | .hbm, ⟨5, _⟩ => ⟨S3x512, .f32⟩
  | .hbm, ⟨6, _⟩ => ⟨S3x512, .f32⟩
  | .local _ .vmem, ⟨0, _⟩ => ⟨S3x512, .f32⟩
  | .local _ .vmem, ⟨1, _⟩ => ⟨S3x512, .f32⟩
  | .local _ .vmem, ⟨2, _⟩ => ⟨S3x512, .f32⟩
  | .local _ .vmem, ⟨3, _⟩ => ⟨S3x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | _, _ => ⟨S3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference28Ideal.lean ====
abbrev S3x512 : Shape := ⟨2, ![3, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S_, .f32⟩
  | .hbm, ⟨5, _⟩ => ⟨S3x512, .f32⟩
  | .hbm, ⟨6, _⟩ => ⟨S3x512, .f32⟩
  | .hbm, ⟨7, _⟩ => ⟨S_, .f32⟩
  | .hbm, ⟨8, _⟩ => ⟨S3x512, .f32⟩
  | .hbm, ⟨9, _⟩ => ⟨S3x512, .f32⟩
  | .hbm, ⟨10, _⟩ => ⟨S3x512, .f32⟩
  | .hbm, ⟨11, _⟩ => ⟨S_, .f32⟩
  | .hbm, ⟨12, _⟩ => ⟨S3x512, .f32⟩
  | .hbm, ⟨13, _⟩ => ⟨S3x512, .f32⟩
  | .hbm, ⟨14, _⟩ => ⟨S3x512, .f32⟩
  | .hbm, ⟨15, _⟩ => ⟨S_, .f32⟩
  | .hbm, ⟨16, _⟩ => ⟨S3x512, .f32⟩
  | .hbm, ⟨17, _⟩ => ⟨S3x512, .f32⟩
  | .hbm, ⟨18, _⟩ => ⟨S3x512, .f32⟩
  | .hbm, ⟨19, _⟩ => ⟨S_, .f32⟩
  | .hbm, ⟨20, _⟩ => ⟨S3x512, .f32⟩
  | .hbm, ⟨21, _⟩ => ⟨S3x512, .f32⟩
  | .hbm, ⟨22, _⟩ => ⟨S_, .f32⟩
  | .hbm, ⟨23, _⟩ => ⟨S3x512, .f32⟩
  | .hbm, ⟨24, _⟩ => ⟨S3x512, .f32⟩
  | .hbm, ⟨25, _⟩ => ⟨S3x512, .f32⟩
  | .hbm, ⟨26, _⟩ => ⟨S_, .f32⟩
  | .hbm, ⟨27, _⟩ => ⟨S3x512, .f32⟩
  | .hbm, ⟨28, _⟩ => ⟨S3x512, .f32⟩
  | .hbm, ⟨29, _⟩ => ⟨S3x512, .f32⟩
  | .hbm, ⟨30, _⟩ => ⟨S_, .f32⟩
  | .hbm, ⟨31, _⟩ => ⟨S3x512, .f32⟩
  | .hbm, ⟨32, _⟩ => ⟨S3x512, .f32⟩
  | .hbm, ⟨33, _⟩ => ⟨S3x512, .f32⟩
  | .hbm, ⟨34, _⟩ => ⟨S_, .f32⟩
  | .hbm, ⟨35, _⟩ => ⟨S3x512, .f32⟩
  | .hbm, ⟨36, _⟩ => ⟨S3x512, .f32⟩
  | _, _ => ⟨S3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2048x3072 : Shape := ⟨2, ![2048, 3072]⟩
abbrev S64x3072 : Shape := ⟨2, ![64, 3072]⟩

abbrev nBuf : Space → Nat
  | .hbm => 7
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S64x3072, .f32⟩
  | .local _ .vmem, ⟨7, _⟩ => ⟨S64x3072, .f32⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S2048x3072 : Shape := ⟨2, ![2048, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S_, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S_, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S_, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S8x2048 : Shape := ⟨2, ![8, 2048]⟩
abbrev S8x3072 : Shape := ⟨2, ![8, 3072]⟩
abbrev S2048x3072 : Shape := ⟨2, ![2048, 3072]⟩
abbrev S8x512 : Shape := ⟨2, ![8, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .local _ .vmem, ⟨0, _⟩ => ⟨S8x2048, .f32⟩
  | .local _ .vmem, ⟨1, _⟩ => ⟨S8x512, .f32⟩
  | .local _ .vmem, ⟨2, _⟩ => ⟨S8x512, .f32⟩
  | .local _ .vmem, ⟨3, _⟩ => ⟨S2048x512, .f32⟩
  | .local _ .vmem, ⟨4, _⟩ => ⟨S2048x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference30Ideal.lean ====
abbrev S8x2048 : Shape := ⟨2, ![8, 2048]⟩
abbrev S8x3072 : Shape := ⟨2, ![8, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S_, .f32⟩
  | .hbm, ⟨3, _⟩ => ⟨S2048x3072, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x3072, .f32⟩
  | .hbm, ⟨14, _⟩ => ⟨S3072x2048, .f32⟩
  | .hbm, ⟨15, _⟩ => ⟨S2048x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel31.lean ====
abbrev S8x2048 : Shape := ⟨2, ![8, 2048]⟩
abbrev S2048x3072 : Shape := ⟨2, ![2048, 3072]⟩
abbrev S1x3072 : Shape := ⟨2, ![1, 3072]⟩
abbrev S8x3072 : Shape := ⟨2, ![8, 3072]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x3072, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S8x2048 : Shape := ⟨2, ![8, 2048]⟩
abbrev S2048x3072 : Shape := ⟨2, ![2048, 3072]⟩
abbrev S1x3072 : Shape := ⟨2, ![1, 3072]⟩
abbrev S_ : Shape := ⟨0, ![]⟩
abbrev S8x3072 : Shape := ⟨2, ![8, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x3072, .f32⟩
  | .hbm, ⟨13, _⟩ => ⟨S8x3072, .f32⟩
  | .hbm, ⟨14, _⟩ => ⟨S8x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel32.lean ====
abbrev S1 : Shape := ⟨1, ![1]⟩
abbrev S512x2048 : Shape := ⟨2, ![512, 2048]⟩
abbrev S256x2048 : Shape := ⟨2, ![256, 2048]⟩
abbrev S512x512 : Shape := ⟨2, ![512, 512]⟩
abbrev S256x512 : Shape := ⟨2, ![256, 512]⟩

abbrev nBuf : Space → Nat
  | .hbm => 9
  | .vmem => 18
  | .smem => 1
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S256x2048, .f32⟩
  | .hbm, ⟨4, _⟩ => ⟨S256x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .smem, ⟨0, _⟩ => ⟨S1, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference32Ideal.lean ====
abbrev S1 : Shape := ⟨1, ![1]⟩
abbrev S512x2048 : Shape := ⟨2, ![512, 2048]⟩
abbrev S256x2048 : Shape := ⟨2, ![256, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S256x2048, .f32⟩
  | .hbm, ⟨5, _⟩ => ⟨S256x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S_, .f32⟩
  | .hbm, ⟨43, _⟩ => ⟨S512x2048, .f32⟩
  | .hbm, ⟨44, _⟩ => ⟨S512x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel33.lean ====
abbrev S1 : Shape := ⟨1, ![1]⟩
abbrev S1408x2048 : Shape := ⟨2, ![1408, 2048]⟩
abbrev S704x2048 : Shape := ⟨2, ![704, 2048]⟩
abbrev S1408x256 : Shape := ⟨2, ![1408, 256]⟩
abbrev S704x256 : Shape := ⟨2, ![704, 256]⟩

abbrev nBuf : Space → Nat
  | .hbm => 9
  | .vmem => 18
  | .smem => 1
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S704x2048, .f32⟩
  | .hbm, ⟨4, _⟩ => ⟨S704x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S1408x256, .f32⟩
  | .local _ .vmem, ⟨1, _⟩ => ⟨S1408x256, .f32⟩
  | .local _ .vmem, ⟨2, _⟩ => ⟨S1408x256, .f32⟩
  | .local _ .vmem, ⟨3, _⟩ => ⟨S1408x256, .f32⟩
  | .local _ .vmem, ⟨4, _⟩ => ⟨S1408x256, .f32⟩
  | .local _ .vmem, ⟨5, _⟩ => ⟨S1408x256, .f32⟩
  | .local _ .vmem, ⟨6, _⟩ => ⟨S704x256, .f32⟩
  | .local _ .vmem, ⟨7, _⟩ => ⟨S704x256, .f32⟩
  | .local _ .vmem, ⟨8, _⟩ => ⟨S704x256, .f32⟩
  | .local _ .vmem, ⟨9, _⟩ => ⟨S704x256, .f32⟩
  | .local _ .vmem, ⟨10, _⟩ => ⟨S1408x256, .f32⟩
  | .local _ .vmem, ⟨11, _⟩ => ⟨S1408x256, .f32⟩
  | .local _ .vmem, ⟨12, _⟩ => ⟨S1408x256, .f32⟩
  | .local _ .vmem, ⟨13, _⟩ => ⟨S1408x256, .f32⟩
  | .local _ .vmem, ⟨14, _⟩ => ⟨S1408x256, .f32⟩
  | .local _ .vmem, ⟨15, _⟩ => ⟨S1408x256, .f32⟩
  | .local _ .vmem, ⟨16, _⟩ => ⟨S1408x256, .f32⟩
  | .local _ .vmem, ⟨17, _⟩ => ⟨S1408x256, .f32⟩
  | .local _ .smem, ⟨0, _⟩ => ⟨S1, .i32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1408x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1408x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1408x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1408x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1408x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1408x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1408x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference33Ideal.lean ====
abbrev S1 : Shape := ⟨1, ![1]⟩
abbrev S1408x2048 : Shape := ⟨2, ![1408, 2048]⟩
abbrev S704x2048 : Shape := ⟨2, ![704, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1, .i32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S704x2048, .f32⟩
  | .hbm, ⟨5, _⟩ => ⟨S704x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1408x2048, .f32⟩
  | .hbm, ⟨10, _⟩ => ⟨S1408x2048, .f32⟩
  | .hbm, ⟨11, _⟩ => ⟨S1408x2048, .f32⟩
  | .hbm, ⟨12, _⟩ => ⟨S_, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S1408x2048, .f32⟩
  | .hbm, ⟨23, _⟩ => ⟨S_, .f32⟩
  | .hbm, ⟨24, _⟩ => ⟨S1408x2048, .f32⟩
  | .hbm, ⟨25, _⟩ => ⟨S1408x2048, .f32⟩
  | .hbm, ⟨26, _⟩ => ⟨S1408x2048, .f32⟩
  | .hbm, ⟨27, _⟩ => ⟨S_, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | .hbm, ⟨37, _⟩ => ⟨S1408x2048, .f32⟩
  | .hbm, ⟨38, _⟩ => ⟨S_, .f32⟩
  | .hbm, ⟨39, _⟩ => ⟨S1408x2048, .f32⟩
  | .hbm, ⟨40, _⟩ => ⟨S1408x2048, .f32⟩
  | .hbm, ⟨41, _⟩ => ⟨S1408x2048, .f32⟩
  | .hbm, ⟨42, _⟩ => ⟨S_, .f32⟩
  | .hbm, ⟨43, _⟩ => ⟨S1408x2048, .f32⟩
  | .hbm, ⟨44, _⟩ => ⟨S1408x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel34.lean ====
abbrev S1 : Shape := ⟨1, ![1]⟩
abbrev S2048x2816 : Shape := ⟨2, ![2048, 2816]⟩
abbrev S1024x2816 : Shape := ⟨2, ![1024, 2816]⟩
abbrev S2048x128 : Shape := ⟨2, ![2048, 128]⟩
abbrev S1024x128 : Shape := ⟨2, ![1024, 128]⟩

abbrev nBuf : Space → Nat
  | .hbm => 9
  | .vmem => 18
  | .smem => 1
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S1024x2816, .f32⟩
  | .hbm, ⟨4, _⟩ => ⟨S1024x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .smem, ⟨0, _⟩ => ⟨S1, .i32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference34Ideal.lean ====
abbrev S1 : Shape := ⟨1, ![1]⟩
abbrev S2048x2816 : Shape := ⟨2, ![2048, 2816]⟩
abbrev S1024x2816 : Shape := ⟨2, ![1024, 2816]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S1024x2816, .f32⟩
  | .hbm, ⟨5, _⟩ => ⟨S1024x2816, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S_, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S_, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S_, .f32⟩
  | .hbm, ⟨43, _⟩ => ⟨S2048x2816, .f32⟩
  | .hbm, ⟨44, _⟩ => ⟨S2048x2816, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel35.lean ====
abbrev S1 : Shape := ⟨1, ![1]⟩
abbrev S2832x2048 : Shape := ⟨2, ![2832, 2048]⟩
abbrev S1424x2048 : Shape := ⟨2, ![1424, 2048]⟩
abbrev S2832x128 : Shape := ⟨2, ![2832, 128]⟩
abbrev S1424x128 : Shape := ⟨2, ![1424, 128]⟩
abbrev S1408x128 : Shape := ⟨2, ![1408, 128]⟩

abbrev nBuf : Space → Nat
  | .hbm => 9
  | .vmem => 18
  | .smem => 1
  | _ => 0

abbrev bufTy : (tb : Table) → Fin (tcTables nBuf tb) → BufTy
  | .hbm, ⟨0, _⟩ => ⟨S2832x2048, .f32⟩
  | .hbm, ⟨1, _⟩ => ⟨S2832x2048, .f32⟩
  | .hbm, ⟨2, _⟩ => ⟨S2832x2048, .f32⟩
  | .hbm, ⟨3, _⟩ => ⟨S1424x2048, .f32⟩
  | .hbm, ⟨4, _⟩ => ⟨S1424x2048, .f32⟩
  | .hbm, ⟨5, _⟩ => ⟨S2832x2048, .f32⟩
  | .hbm, ⟨6, _⟩ => ⟨S2832x2048, .f32⟩
  | .hbm, ⟨7, _⟩ => ⟨S2832x2048, .f32⟩
  | .hbm, ⟨8, _⟩ => ⟨S2832x2048, .f32⟩
  | .local _ .vmem, ⟨0, _⟩ => ⟨S2832x128, .f32⟩
  | .local _ .vmem, ⟨1, _⟩ => ⟨S2832x128, .f32⟩
  | .local _ .vmem, ⟨2, _⟩ => ⟨S2832x128, .f32⟩
  | .local _ .vmem, ⟨3, _⟩ => ⟨S2832x128, .f32⟩
  | .local _ .vmem, ⟨4, _⟩ => ⟨S2832x128, .f32⟩
  | .local _ .vmem, ⟨5, _⟩ => ⟨S2832x128, .f32⟩
  | .local _ .vmem, ⟨6, _⟩ => ⟨S1424x128, .f32⟩
  | .local _ .vmem, ⟨7, _⟩ => ⟨S1424x128, .f32⟩
  | .local _ .vmem, ⟨8, _⟩ => ⟨S1424x128, .f32⟩
  | .local _ .vmem, ⟨9, _⟩ => ⟨S1424x128, .f32⟩
  | .local _ .vmem, ⟨10, _⟩ => ⟨S2832x128, .f32⟩
  | .local _ .vmem, ⟨11, _⟩ => ⟨S2832x128, .f32⟩
  | .local _ .vmem, ⟨12, _⟩ => ⟨S2832x128, .f32⟩
  | .local _ .vmem, ⟨13, _⟩ => ⟨S2832x128, .f32⟩
  | .local _ .vmem, ⟨14, _⟩ => ⟨S2832x128, .f32⟩
  | .local _ .vmem, ⟨15, _⟩ => ⟨S2832x128, .f32⟩
  | .local _ .vmem, ⟨16, _⟩ => ⟨S2832x128, .f32⟩
  | .local _ .vmem, ⟨17, _⟩ => ⟨S2832x128, .f32⟩
  | .local _ .smem, ⟨0, _⟩ => ⟨S1, .i32⟩
  | _, _ => ⟨S2832x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2832x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2832x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2832x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1424x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1424x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2832x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2832x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2832x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2832x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference35Ideal.lean ====
abbrev S1 : Shape := ⟨1, ![1]⟩
abbrev S2832x2048 : Shape := ⟨2, ![2832, 2048]⟩
abbrev S1424x2048 : Shape := ⟨2, ![1424, 2048]⟩
abbrev S_ : Shape := ⟨0, ![]⟩
abbrev S2848x2048 : Shape := ⟨2, ![2848, 2048]⟩

abbrev nBuf : Space → Nat
  | .hbm => 46
  | .vmem => 0
  | .smem => 0
  | _ => 0

abbrev bufTy : (tb : Table) → Fin (tcTables nBuf tb) → BufTy
  | .hbm, ⟨0, _⟩ => ⟨S1, .i32⟩
  | .hbm, ⟨1, _⟩ => ⟨S2832x2048, .f32⟩
  | .hbm, ⟨2, _⟩ => ⟨S2832x2048, .f32⟩
  | .hbm, ⟨3, _⟩ => ⟨S2832x2048, .f32⟩
  | .hbm, ⟨4, _⟩ => ⟨S1424x2048, .f32⟩
  | .hbm, ⟨5, _⟩ => ⟨S1424x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2848x2048, .f32⟩
  | .hbm, ⟨10, _⟩ => ⟨S2848x2048, .f32⟩
  | .hbm, ⟨11, _⟩ => ⟨S2848x2048, .f32⟩
  | .hbm, ⟨12, _⟩ => ⟨S2832x2048, .f32⟩
  | .hbm, ⟨13, _⟩ => ⟨S_, .f32⟩
  | .hbm, ⟨14, _⟩ => ⟨S2832x2048, .f32⟩
  | .hbm, ⟨15, _⟩ => ⟨S2832x2048, .f32⟩
  | .hbm, ⟨16, _⟩ => ⟨S_, .f32⟩
  | .hbm, ⟨17, _⟩ => ⟨S2832x2048, .f32⟩
  | .hbm, ⟨18, _⟩ => ⟨S2832x2048, .f32⟩
  | .hbm, ⟨19, _⟩ => ⟨S2832x2048, .f32⟩
  | .hbm, ⟨20, _⟩ => ⟨S_, .f32⟩
  | .hbm, ⟨21, _⟩ => ⟨S2832x2048, .f32⟩
  | .hbm, ⟨22, _⟩ => ⟨S2832x2048, .f32⟩
  | .hbm, ⟨23, _⟩ => ⟨S2832x2048, .f32⟩
  | .hbm, ⟨24, _⟩ => ⟨S_, .f32⟩
  | .hbm, ⟨25, _⟩ => ⟨S2832x2048, .f32⟩
  | .hbm, ⟨26, _⟩ => ⟨S2832x2048, .f32⟩
  | .hbm, ⟨27, _⟩ => ⟨S2832x2048, .f32⟩
  | .hbm, ⟨28, _⟩ => ⟨S_, .f32⟩
  | .hbm, ⟨29, _⟩ => ⟨S2832x2048, .f32⟩
  | .hbm, ⟨30, _⟩ => ⟨S2832x2048, .f32⟩
  | .hbm, ⟨31, _⟩ => ⟨S_, .f32⟩
  | .hbm, ⟨32, _⟩ => ⟨S2832x2048, .f32⟩
  | .hbm, ⟨33, _⟩ => ⟨S2832x2048, .f32⟩
  | .hbm, ⟨34, _⟩ => ⟨S2832x2048, .f32⟩
  | .hbm, ⟨35, _⟩ => ⟨S_, .f32⟩
  | .hbm, ⟨36, _⟩ => ⟨S2832x2048, .f32⟩
  | .hbm, ⟨37, _⟩ => ⟨S2832x2048, .f32⟩
  | .hbm, ⟨38, _⟩ => ⟨S2832x2048, .f32⟩
  | .hbm, ⟨39, _⟩ => ⟨S_, .f32⟩
  | .hbm, ⟨40, _⟩ => ⟨S2832x2048, .f32⟩
  | .hbm, ⟨41, _⟩ => ⟨S2832x2048, .f32⟩
  | .hbm, ⟨42, _⟩ => ⟨S2832x2048, .f32⟩
  | .hbm, ⟨43, _⟩ => ⟨S_, .f32⟩
  | .hbm, ⟨44, _⟩ => ⟨S2832x2048, .f32⟩
  | .hbm, ⟨45, _⟩ => ⟨S2832x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel36.lean ====
abbrev S1 : Shape := ⟨1, ![1]⟩
abbrev S512x768 : Shape := ⟨2, ![512, 768]⟩
abbrev S256x768 : Shape := ⟨2, ![256, 768]⟩

abbrev nBuf : Space → Nat
  | .hbm => 9
  | .vmem => 9
  | .smem => 1
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S512x768, .f32⟩
  | .hbm, ⟨3, _⟩ => ⟨S256x768, .f32⟩
  | .hbm, ⟨4, _⟩ => ⟨S256x768, .f32⟩
  | .hbm, ⟨5, _⟩ => ⟨S512x768, .f32⟩
  | .hbm, ⟨6, _⟩ => ⟨S512x768, .f32⟩
  | .hbm, ⟨7, _⟩ => ⟨S512x768, .f32⟩
  | .hbm, ⟨8, _⟩ => ⟨S512x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S256x768, .f32⟩
  | .local _ .vmem, ⟨4, _⟩ => ⟨S256x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .smem, ⟨0, _⟩ => ⟨S1, .i32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference36Ideal.lean ====
abbrev S1 : Shape := ⟨1, ![1]⟩
abbrev S512x768 : Shape := ⟨2, ![512, 768]⟩
abbrev S256x768 : Shape := ⟨2, ![256, 768]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x768, .f32⟩
  | .hbm, ⟨2, _⟩ => ⟨S512x768, .f32⟩
  | .hbm, ⟨3, _⟩ => ⟨S512x768, .f32⟩
  | .hbm, ⟨4, _⟩ => ⟨S256x768, .f32⟩
  | .hbm, ⟨5, _⟩ => ⟨S256x768, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x768, .f32⟩
  | .hbm, ⟨10, _⟩ => ⟨S512x768, .f32⟩
  | .hbm, ⟨11, _⟩ => ⟨S512x768, .f32⟩
  | .hbm, ⟨12, _⟩ => ⟨S_, .f32⟩
  | .hbm, ⟨13, _⟩ => ⟨S512x768, .f32⟩
  | .hbm, ⟨14, _⟩ => ⟨S512x768, .f32⟩
  | .hbm, ⟨15, _⟩ => ⟨S_, .f32⟩
  | .hbm, ⟨16, _⟩ => ⟨S512x768, .f32⟩
  | .hbm, ⟨17, _⟩ => ⟨S512x768, .f32⟩
  | .hbm, ⟨18, _⟩ => ⟨S512x768, .f32⟩
  | .hbm, ⟨19, _⟩ => ⟨S_, .f32⟩
  | .hbm, ⟨20, _⟩ => ⟨S512x768, .f32⟩
  | .hbm, ⟨21, _⟩ => ⟨S512x768, .f32⟩
  | .hbm, ⟨22, _⟩ => ⟨S512x768, .f32⟩
  | .hbm, ⟨23, _⟩ => ⟨S_, .f32⟩
  | .hbm, ⟨24, _⟩ => ⟨S512x768, .f32⟩
  | .hbm, ⟨25, _⟩ => ⟨S512x768, .f32⟩
  | .hbm, ⟨26, _⟩ => ⟨S512x768, .f32⟩
  | .hbm, ⟨27, _⟩ => ⟨S_, .f32⟩
  | .hbm, ⟨28, _⟩ => ⟨S512x768, .f32⟩
  | .hbm, ⟨29, _⟩ => ⟨S512x768, .f32⟩
  | .hbm, ⟨30, _⟩ => ⟨S_, .f32⟩
  | .hbm, ⟨31, _⟩ => ⟨S512x768, .f32⟩
  | .hbm, ⟨32, _⟩ => ⟨S512x768, .f32⟩
  | .hbm, ⟨33, _⟩ => ⟨S512x768, .f32⟩
  | .hbm, ⟨34, _⟩ => ⟨S_, .f32⟩
  | .hbm, ⟨35, _⟩ => ⟨S512x768, .f32⟩
  | .hbm, ⟨36, _⟩ => ⟨S512x768, .f32⟩
  | .hbm, ⟨37, _⟩ => ⟨S512x768, .f32⟩
  | .hbm, ⟨38, _⟩ => ⟨S_, .f32⟩
  | .hbm, ⟨39, _⟩ => ⟨S512x768, .f32⟩
  | .hbm, ⟨40, _⟩ => ⟨S512x768, .f32⟩
  | .hbm, ⟨41, _⟩ => ⟨S512x768, .f32⟩
  | .hbm, ⟨42, _⟩ => ⟨S_, .f32⟩
  | .hbm, ⟨43, _⟩ => ⟨S512x768, .f32⟩
  | .hbm, ⟨44, _⟩ => ⟨S512x768, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel37.lean ====
abbrev S1 : Shape := ⟨1, ![1]⟩
abbrev S512x1024 : Shape := ⟨2, ![512, 1024]⟩
abbrev S256x1024 : Shape := ⟨2, ![256, 1024]⟩
abbrev S512x512 : Shape := ⟨2, ![512, 512]⟩
abbrev S256x512 : Shape := ⟨2, ![256, 512]⟩

abbrev nBuf : Space → Nat
  | .hbm => 9
  | .vmem => 18
  | .smem => 1
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S256x1024, .f32⟩
  | .hbm, ⟨4, _⟩ => ⟨S256x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .smem, ⟨0, _⟩ => ⟨S1, .i32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference37Ideal.lean ====
abbrev S1 : Shape := ⟨1, ![1]⟩
abbrev S512x1024 : Shape := ⟨2, ![512, 1024]⟩
abbrev S256x1024 : Shape := ⟨2, ![256, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S256x1024, .f32⟩
  | .hbm, ⟨5, _⟩ => ⟨S256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel38.lean ====
abbrev S8x16x2048 : Shape := ⟨3, ![8, 16, 2048]⟩
abbrev S16x2048 : Shape := ⟨2, ![16, 2048]⟩
abbrev S1x16x2048 : Shape := ⟨3, ![1, 16, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x16x2048, .f32⟩
  | .hbm, ⟨1, _⟩ => ⟨S16x2048, .f32⟩
  | .local _ .vmem, ⟨0, _⟩ => ⟨S8x16x2048, .f32⟩
  | .local _ .vmem, ⟨1, _⟩ => ⟨S16x2048, .f32⟩
  | _, _ => ⟨S8x16x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference38Ideal.lean ====
abbrev S8x16x2048 : Shape := ⟨3, ![8, 16, 2048]⟩
abbrev S_ : Shape := ⟨0, ![]⟩
abbrev S16x2048 : Shape := ⟨2, ![16, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S_, .f32⟩
  | .hbm, ⟨2, _⟩ => ⟨S16x2048, .f32⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel39.lean ====
abbrev S2048x2048 : Shape := ⟨2, ![2048, 2048]⟩
abbrev S2048x4096 : Shape := ⟨2, ![2048, 4096]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x4096, .bf16⟩
  | .hbm, ⟨3, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference39Ideal.lean ====
abbrev S2048x2048 : Shape := ⟨2, ![2048, 2048]⟩
abbrev S2048x4096 : Shape := ⟨2, ![2048, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x4096, .bf16⟩
  | .hbm, ⟨3, _⟩ => ⟨S2048x4096, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel40.lean ====
abbrev S2048x6144 : Shape := ⟨2, ![2048, 6144]⟩
abbrev S3x2048 : Shape := ⟨2, ![3, 2048]⟩
abbrev S2048x2048 : Shape := ⟨2, ![2048, 2048]⟩
abbrev S256x2048 : Shape := ⟨2, ![256, 2048]⟩
abbrev S16x2048 : Shape := ⟨2, ![16, 2048]⟩
abbrev S1x2048 : Shape := ⟨2, ![1, 2048]⟩
abbrev S272x2048 : Shape := ⟨2, ![272, 2048]⟩

abbrev nBuf : Space → Nat
  | .hbm => 3
  | .vmem => 13
  | .smem => 0
  | _ => 0

abbrev bufTy : (tb : Table) → Fin (tcTables nBuf tb) → BufTy
  | .hbm, ⟨0, _⟩ => ⟨S2048x6144, .bf16⟩
  | .hbm, ⟨1, _⟩ => ⟨S3x2048, .f32⟩
  | .hbm, ⟨2, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S16x2048, .bf16⟩
  | .local _ .vmem, ⟨7, _⟩ => ⟨S16x2048, .bf16⟩
  | .local _ .vmem, ⟨8, _⟩ => ⟨S16x2048, .bf16⟩
  | .local _ .vmem, ⟨9, _⟩ => ⟨S16x2048, .bf16⟩
  | .local _ .vmem, ⟨10, _⟩ => ⟨S3x2048, .f32⟩
  | .local _ .vmem, ⟨11, _⟩ => ⟨S256x2048, .bf16⟩
  | .local _ .vmem, ⟨12, _⟩ => ⟨S256x2048, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference40Ideal.lean ====
abbrev S2048x6144 : Shape := ⟨2, ![2048, 6144]⟩
abbrev S3x2048 : Shape := ⟨2, ![3, 2048]⟩
abbrev S2048x2048 : Shape := ⟨2, ![2048, 2048]⟩
abbrev S_ : Shape := ⟨0, ![]⟩
abbrev S2x2048 : Shape := ⟨2, ![2, 2048]⟩
abbrev S2050x2048 : Shape := ⟨2, ![2050, 2048]⟩
abbrev S1x2048 : Shape := ⟨2, ![1, 2048]⟩
abbrev S2048 : Shape := ⟨1, ![2048]⟩

abbrev nBuf : Space → Nat
  | .hbm => 32
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S3x2048, .f32⟩
  | .hbm, ⟨2, _⟩ => ⟨S2048x6144, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2x2048, .f32⟩
  | .hbm, ⟨9, _⟩ => ⟨S2050x2048, .f32⟩
  | .hbm, ⟨10, _⟩ => ⟨S2048x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Proof.AttnLoop.lean ====
/- The outer loop of the attention's backward step: four query blocks' turns, each adding its diagonal pair and then
   the pairs below it into the three running sums. -/
module

public import proofs.«01_k».proof.Defs
public import proofs.«01_k».proof.Proof.Gen.KernelIdeal.Loops

@[expose] public section

set_option maxRecDepth 16384
set_option maxHeartbeats 4000000

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

variable (c : Dev nD) (i : grid0.Coords)
    (arg1 : Memref sig .tc .vmem S2048x512 .bf16) (harg1 : arg1.IsWhole)
    (arg2 : Memref sig .tc .vmem S2048x512 .bf16) (harg2 : arg2.IsWhole)
    (arg3 : Memref sig .tc .vmem S2048x128 .bf16) (harg3 : arg3.IsWhole)
    (arg4 : Memref sig .tc .vmem S2048x256 .bf16) (harg4 : arg4.IsWhole)
    (arg5 : Memref sig .tc .vmem S2048x256 .bf16) (harg5 : arg5.IsWhole)
    (arg6 : Memref sig .tc .vmem S2x2048x1 .f32) (harg6 : arg6.IsWhole)
    (arg7 : Memref sig .tc .vmem S2048x384 .f32) (harg7 : arg7.IsWhole)
    (arg8 : Memref sig .tc .vmem S2048x512 .bf16) (harg8 : arg8.IsWhole)
    (arg9 : Memref sig .tc .vmem S2048x512 .bf16) (harg9 : arg9.IsWhole)
    (arg10 : Memref sig .tc .vmem S2048x128 .f32) (harg10 : arg10.IsWhole)
    (arg11 : Memref sig .tc .vmem S2x2048x256 .f32) (harg11 : arg11.IsWhole)
    (arg12 : Memref sig .tc .vmem S2x2048x256 .f32) (harg12 : arg12.IsWhole)
    (arg13 : Memref sig .tc .vmem S2x2048x128 .f32) (harg13 : arg13.IsWhole)
    (arg14 : Memref sig .tc .vmem S2x2048x256 .bf16) (harg14 : arg14.IsWhole)

/-- What a turn touches: the blocks it reads, the three sums it adds into. -/
abbrev Held (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (X14 : BufTy.Contents (Elt F) arg14.view.ty)
    (f11 : BufTy.Contents (Elt F) arg11.view.ty) (f12 : BufTy.Contents (Elt F) arg12.view.ty) (f13 : BufTy.Contents (Elt F) arg13.view.ty) : sProp 𝕄G :=
  iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg14.view.loc (c : Thread nD τ) ↦[arg14.view.set]{fullShare} X14) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

/-- One turn: the pieces it writes into the three sums, as functions of what it finds in them. -/
@[irreducible] def turn (𝒱 : Variants) (bd : Option 𝒱.V) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (X14 : BufTy.Contents (Elt F) arg14.view.ty) (k : Fin k0_t1_loop.trips) :
    Σ' (L11 : BufTy.Contents (Elt F) arg11.view.ty → BufTy.Contents (Elt F) arg12.view.ty → BufTy.Contents (Elt F) arg13.view.ty → List (View.Piece (Elt F) S2x2048x256 .f32)) (L12 : BufTy.Contents (Elt F) arg11.view.ty → BufTy.Contents (Elt F) arg12.view.ty → BufTy.Contents (Elt F) arg13.view.ty → List (View.Piece (Elt F) S2x2048x256 .f32)),
      { L13 : BufTy.Contents (Elt F) arg11.view.ty → BufTy.Contents (Elt F) arg12.view.ty → BufTy.Contents (Elt F) arg13.view.ty → List (View.Piece (Elt F) S2x2048x128 .f32) // ∀ (E : Set ℕ) (f11 : BufTy.Contents (Elt F) arg11.view.ty) (f12 : BufTy.Contents (Elt F) arg12.view.ty) (f13 : BufTy.Contents (Elt F) arg13.view.ty),
        Held (F := F) c arg1 arg2 arg4 arg5 arg6 arg11 arg12 arg13 arg14 X1 X2 X4 X5 X6 X14 f11 f12 f13
        ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 k ())
          (fun _ => Held (F := F) c arg1 arg2 arg4 arg5 arg6 arg11 arg12 arg13 arg14 X1 X2 X4 X5 X6 X14 (arg11.view.writes (Elt F) f11 (L11 f11 f12 f13)) (arg12.view.writes (Elt F) f12 (L12 f11 f12 f13)) (arg13.view.writes (Elt F) f13 (L13 f11 f12 f13))) } := by
  refine ⟨?_, ?_, ?_, fun E f11 f12 f13 => ?run⟩
  case run =>
    unfold k0_t1_body
    iintro ⟨R1, R2, R4, R5, R6, R14, W11, W12, W13⟩
    sl_exec
    sl_step
    sl_close

/-- The pieces of the turns before turn `n`, last first. -/
def pieces (𝒱 : Variants) (bd : Option 𝒱.V) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (X14 : BufTy.Contents (Elt F) arg14.view.ty) (G11 : BufTy.Contents (Elt F) arg11.view.ty) (G12 : BufTy.Contents (Elt F) arg12.view.ty) (G13 : BufTy.Contents (Elt F) arg13.view.ty) : ℕ → List (View.Piece (Elt F) S2x2048x256 .f32) × List (View.Piece (Elt F) S2x2048x256 .f32) × List (View.Piece (Elt F) S2x2048x128 .f32)
  | 0 => ([], [], [])
  | n + 1 =>
    if h : n < k0_t1_loop.trips then
      let p := pieces 𝒱 bd X1 X2 X4 X5 X6 X14 G11 G12 G13 n
      let t := turn (F := F) c i arg1 harg1 arg2 harg2 arg3 harg3 arg4 harg4 arg5 harg5 arg6 harg6 arg7 harg7 arg8 harg8 arg9 harg9 arg10 harg10 arg11 harg11 arg12 harg12 arg13 harg13 arg14 harg14 𝒱 bd X1 X2 X4 X5 X6 X14 ⟨n, h⟩
      (t.1 (arg11.view.writes (Elt F) G11 p.1) (arg12.view.writes (Elt F) G12 p.2.1) (arg13.view.writes (Elt F) G13 p.2.2) ++ p.1,
       t.2.1 (arg11.view.writes (Elt F) G11 p.1) (arg12.view.writes (Elt F) G12 p.2.1) (arg13.view.writes (Elt F) G13 p.2.2) ++ p.2.1,
       t.2.2.1 (arg11.view.writes (Elt F) G11 p.1) (arg12.view.writes (Elt F) G12 p.2.1) (arg13.view.writes (Elt F) G13 p.2.2) ++ p.2.2)
    else pieces 𝒱 bd X1 X2 X4 X5 X6 X14 G11 G12 G13 n

/-- Before turn `k`: the blocks as they were, the sums holding the pieces of the turns before. -/
abbrev inv (𝒱 : Variants) (bd : Option 𝒱.V) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (X14 : BufTy.Contents (Elt F) arg14.view.ty) (G11 : BufTy.Contents (Elt F) arg11.view.ty) (G12 : BufTy.Contents (Elt F) arg12.view.ty) (G13 : BufTy.Contents (Elt F) arg13.view.ty) (k : ℕ) (_ : Unit) : sProp 𝕄G :=
  iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg14.view.loc (c : Thread nD τ) ↦[arg14.view.set]{fullShare} X14) ∗ (∃ f, (arg11.view.loc (c : Thread nD τ) ↦[arg11.view.set]{fullShare} f) ∗ ⌜f = arg11.view.writes (Elt F) G11 (pieces (F := F) c i arg1 harg1 arg2 harg2 arg3 harg3 arg4 harg4 arg5 harg5 arg6 harg6 arg7 harg7 arg8 harg8 arg9 harg9 arg10 harg10 arg11 harg11 arg12 harg12 arg13 harg13 arg14 harg14 𝒱 bd X1 X2 X4 X5 X6 X14 G11 G12 G13 k).1⌝) ∗ (∃ f, (arg12.view.loc (c : Thread nD τ) ↦[arg12.view.set]{fullShare} f) ∗ ⌜f = arg12.view.writes (Elt F) G12 (pieces (F := F) c i arg1 harg1 arg2 harg2 arg3 harg3 arg4 harg4 arg5 harg5 arg6 harg6 arg7 harg7 arg8 harg8 arg9 harg9 arg10 harg10 arg11 harg11 arg12 harg12 arg13 harg13 arg14 harg14 𝒱 bd X1 X2 X4 X5 X6 X14 G11 G12 G13 k).2.1⌝) ∗ (∃ f, (arg13.view.loc (c : Thread nD τ) ↦[arg13.view.set]{fullShare} f) ∗ ⌜f = arg13.view.writes (Elt F) G13 (pieces (F := F) c i arg1 harg1 arg2 harg2 arg3 harg3 arg4 harg4 arg5 harg5 arg6 harg6 arg7 harg7 arg8 harg8 arg9 harg9 arg10 harg10 arg11 harg11 arg12 harg12 arg13 harg13 arg14 harg14 𝒱 bd X1 X2 X4 X5 X6 X14 G11 G12 G13 k).2.2⌝))

theorem pieces_succ (𝒱 : Variants) (bd : Option 𝒱.V) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (X14 : BufTy.Contents (Elt F) arg14.view.ty) (G11 : BufTy.Contents (Elt F) arg11.view.ty) (G12 : BufTy.Contents (Elt F) arg12.view.ty) (G13 : BufTy.Contents (Elt F) arg13.view.ty) (k : Fin k0_t1_loop.trips) :
    pieces (F := F) c i arg1 harg1 arg2 harg2 arg3 harg3 arg4 harg4 arg5 harg5 arg6 harg6 arg7 harg7 arg8 harg8 arg9 harg9 arg10 harg10 arg11 harg11 arg12 harg12 arg13 harg13 arg14 harg14 𝒱 bd X1 X2 X4 X5 X6 X14 G11 G12 G13 (k.val + 1) =
      let p := pieces (F := F) c i arg1 harg1 arg2 harg2 arg3 harg3 arg4 harg4 arg5 harg5 arg6 harg6 arg7 harg7 arg8 harg8 arg9 harg9 arg10 harg10 arg11 harg11 arg12 harg12 arg13 harg13 arg14 harg14 𝒱 bd X1 X2 X4 X5 X6 X14 G11 G12 G13 k.val
      let t := turn (F := F) c i arg1 harg1 arg2 harg2 arg3 harg3 arg4 harg4 arg5 harg5 arg6 harg6 arg7 harg7 arg8 harg8 arg9 harg9 arg10 harg10 arg11 harg11 arg12 harg12 arg13 harg13 arg14 harg14 𝒱 bd X1 X2 X4 X5 X6 X14 k
      (t.1 (arg11.view.writes (Elt F) G11 p.1) (arg12.view.writes (Elt F) G12 p.2.1) (arg13.view.writes (Elt F) G13 p.2.2) ++ p.1,
       t.2.1 (arg11.view.writes (Elt F) G11 p.1) (arg12.view.writes (Elt F) G12 p.2.1) (arg13.view.writes (Elt F) G13 p.2.2) ++ p.2.1,
       t.2.2.1 (arg11.view.writes (Elt F) G11 p.1) (arg12.view.writes (Elt F) G12 p.2.1) (arg13.view.writes (Elt F) G13 p.2.2) ++ p.2.2) := by
  rw [pieces.eq_2]; exact dif_pos k.isLt

set_option warn.classDefReducibility false in
/-- The loop by its invariant. -/
@[sl_loop] def loopInv_k0_t1 (𝒱 : Variants) (bd : Option 𝒱.V) (E : Set ℕ) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (X14 : BufTy.Contents (Elt F) arg14.view.ty) (G11 : BufTy.Contents (Elt F) arg11.view.ty) (G12 : BufTy.Contents (Elt F) arg12.view.ty) (G13 : BufTy.Contents (Elt F) arg13.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 where
  inv := inv (F := F) c i arg1 harg1 arg2 harg2 arg3 harg3 arg4 harg4 arg5 harg5 arg6 harg6 arg7 harg7 arg8 harg8 arg9 harg9 arg10 harg10 arg11 harg11 arg12 harg12 arg13 harg13 arg14 harg14 𝒱 bd X1 X2 X4 X5 X6 X14 G11 G12 G13
  step k acc := by
    iintro ⟨R1, R2, R4, R5, R6, R14, ⟨%f11, W11, %h11⟩, ⟨%f12, W12, %h12⟩, ⟨%f13, W13, %h13⟩⟩
    iapply (wp_wand_r Idealize.ShloMosaic.frame (wpE (defs₀ (F := F)) 𝒱 (c : Thread nD τ) bd) E)
    isplitl [R1 R2 R4 R5 R6 R14 W11 W12 W13]
    · iapply ((turn (F := F) c i arg1 harg1 arg2 harg2 arg3 harg3 arg4 harg4 arg5 harg5 arg6 harg6 arg7 harg7 arg8 harg8 arg9 harg9 arg10 harg10 arg11 harg11 arg12 harg12 arg13 harg13 arg14 harg14 𝒱 bd X1 X2 X4 X5 X6 X14 k).2.2.2 E f11 f12 f13)
      isplitl [R1]; · iexact R1
      isplitl [R2]; · iexact R2
      isplitl [R4]; · iexact R4
      isplitl [R5]; · iexact R5
      isplitl [R6]; · iexact R6
      isplitl [R14]; · iexact R14
      isplitl [W11]; · iexact W11
      isplitl [W12]; · iexact W12
      iexact W13
    · iintro %yld ⟨R1, R2, R4, R5, R6, R14, W11, W12, W13⟩
      isplitl [R1]; · iexact R1
      isplitl [R2]; · iexact R2
      isplitl [R4]; · iexact R4
      isplitl [R5]; · iexact R5
      isplitl [R6]; · iexact R6
      isplitl [R14]; · iexact R14
      simp only [pieces_succ]
      isplitl [W11]
      · iexists _; isplitl [W11]; · iexact W11
        ipureintro; rw [h11, h12, h13, ← View.writes_append]
      isplitl [W12]
      · iexists _; isplitl [W12]; · iexact W12
        ipureintro; rw [h11, h12, h13, ← View.writes_append]
      · iexists _; isplitl [W13]; · iexact W13
        ipureintro; rw [h11, h12, h13, ← View.writes_append]

end Cert.Attn

end
-- ==== Proof.AttnRun.lean ====
/- The attention's backward step run once: its products and sums for a pair of heads, and then what becomes of the
   gradient the heads share. -/
module

public import proofs.«01_k».proof.Proof.AttnLoop
public import proofs.«01_k».proof.Proof.Gen.KernelIdeal.Frame

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

variable (c : Dev nD) (i : grid0.Coords)
    (arg1 : Memref sig .tc .vmem S2048x512 .bf16) (harg1 : arg1.IsWhole)
    (arg2 : Memref sig .tc .vmem S2048x512 .bf16) (harg2 : arg2.IsWhole)
    (arg3 : Memref sig .tc .vmem S2048x128 .bf16) (harg3 : arg3.IsWhole)
    (arg4 : Memref sig .tc .vmem S2048x256 .bf16) (harg4 : arg4.IsWhole)
    (arg5 : Memref sig .tc .vmem S2048x256 .bf16) (harg5 : arg5.IsWhole)
    (arg6 : Memref sig .tc .vmem S2x2048x1 .f32) (harg6 : arg6.IsWhole)
    (arg7 : Memref sig .tc .vmem S2048x384 .f32) (harg7 : arg7.IsWhole)
    (arg8 : Memref sig .tc .vmem S2048x512 .bf16) (harg8 : arg8.IsWhole)
    (arg9 : Memref sig .tc .vmem S2048x512 .bf16) (harg9 : arg9.IsWhole)
    (arg10 : Memref sig .tc .vmem S2048x128 .f32) (harg10 : arg10.IsWhole)
    (arg11 : Memref sig .tc .vmem S2x2048x256 .f32) (harg11 : arg11.IsWhole)
    (arg12 : Memref sig .tc .vmem S2x2048x256 .f32) (harg12 : arg12.IsWhole)
    (arg13 : Memref sig .tc .vmem S2x2048x128 .f32) (harg13 : arg13.IsWhole)
    (arg14 : Memref sig .tc .vmem S2x2048x256 .bf16) (harg14 : arg14.IsWhole)

/-- The step up to the shared gradient's contribution. -/
def head : Prog (TpuEff nD τ sig (Elt F) Λ₀ .tc) (FVec F S2048x128 .f32) := do
  let arg0 : BitVec 32 ← k0_part11 i arg1 harg1 arg2 harg2 arg3 harg3 arg4 harg4 arg5 harg5 arg6 harg6 arg7 harg7 arg8 harg8 arg9 harg9 arg10 harg10 arg11 harg11 arg12 harg12 arg13 harg13 arg14 harg14
  let v53 : FVec F S512x128 .bf16 ← k0_part12 i arg1 harg1 arg2 harg2 arg3 harg3 arg4 harg4 arg5 harg5 arg6 harg6 arg7 harg7 arg8 harg8 arg9 harg9 arg10 harg10 arg11 harg11 arg12 harg12 arg13 harg13 arg14 harg14
  let v89 : FVec F S512x128 .bf16 ← k0_part13 i arg1 harg1 arg2 harg2 arg3 harg3 arg4 harg4 arg5 harg5 arg6 harg6 arg7 harg7 arg8 harg8 arg9 harg9 arg10 harg10 arg11 harg11 arg12 harg12 arg13 harg13 arg14 harg14 v53
  k0_part14 i arg1 harg1 arg2 harg2 arg3 harg3 arg4 harg4 arg5 harg5 arg6 harg6 arg7 harg7 arg8 harg8 arg9 harg9 arg10 harg10 arg11 harg11 arg12 harg12 arg13 harg13 arg14 harg14 v89
  let ⟨v144, v147, v148, v149, v150⟩ : Σ' (v144 : FVec F S512x128 .f32) (v147 : FVec F S512x128 .f32) (v148 : FVec F S512x128 .f32) (v149 : FVec F S512x128 .f32), FVec F S512x128 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14
  k0_part16 i arg1 harg1 arg2 harg2 arg3 harg3 arg4 harg4 arg5 harg5 arg6 harg6 arg7 harg7 arg8 harg8 arg9 harg9 arg10 harg10 arg11 harg11 arg12 harg12 arg13 harg13 arg14 harg14 v144 v147 v148 v149 v150
  k0_part17 i arg1 harg1 arg2 harg2 arg3 harg3 arg4 harg4 arg5 harg5 arg6 harg6 arg7 harg7 arg8 harg8 arg9 harg9 arg10 harg10 arg11 harg11 arg12 harg12 arg13 harg13 arg14 harg14 arg0

/-- What becomes of that contribution. -/
def tail (v211 : FVec F S2048x128 .f32) : Prog (TpuEff nD τ sig (Elt F) Λ₀ .tc) PUnit := do
  if k0_h1 : k0_cond1 i = 1#1 then do
    let v221 : Vec F S2048x128 .f32 ← Prog.lift (.load arg10 (Rect.unit (s := S2048x128) ![0, 0] S2048x128.size inb_S2048x128_S2048x128_0_0).toLoadRect (View.loadsAt_vmem h_S2048x128))
    Prog.lift (.store arg10 (Rect.unit (s := S2048x128) ![0, 0] S2048x128.size inb_S2048x128_S2048x128_0_0) v211 Finset.univ (View.stores_vmem_bits_univ h_S2048x128 rfl) (.inl rfl))
    pure ⟨⟩
  else do
    pure ⟨⟩
  if k0_h2 : k0_cond2 i = 1#1 then do
    let v221 : Vec F S2048x128 .f32 ← Prog.lift (.load arg10 (Rect.unit (s := S2048x128) ![0, 0] S2048x128.size inb_S2048x128_S2048x128_0_0).toLoadRect (View.loadsAt_vmem h_S2048x128))
    let v224 : Vec F S2048x128 .f32 ← Prog.lift (.load arg10 (Rect.unit (s := S2048x128) ![0, 0] S2048x128.size inb_S2048x128_S2048x128_0_0).toLoadRect (View.loadsAt_vmem h_S2048x128))
    Prog.lift (.store arg10 (Rect.unit (s := S2048x128) ![0, 0] S2048x128.size inb_S2048x128_S2048x128_0_0) (k0_pay1 v211 v221) Finset.univ (View.stores_vmem_bits_univ h_S2048x128 rfl) (.inl rfl))
    pure ⟨⟩
  else do
    pure ⟨⟩
  if k0_h3 : k0_cond3 i = 1#1 then do
    let ⟨v252, v255, v256, v257, c96_i32_185⟩ : Σ' (v252 : FVec F S512x128 .f32) (v255 : FVec F S512x128 .f32) (v256 : FVec F S512x128 .f32) (v257 : FVec F S512x128 .f32), BitVec 32 ← k0_part10 i arg1 harg1 arg2 harg2 arg3 harg3 arg4 harg4 arg5 harg5 arg6 harg6 arg7 harg7 arg8 harg8 arg9 harg9 arg10 harg10 arg11 harg11 arg12 harg12 arg13 harg13 arg14 harg14
    let v265 : Vec F S512x128 .f32 ← Prog.lift (.load arg10 (Rect.unit (s := S2048x128) ![1024, 0] S512x128.size inb_S2048x128_S512x128_1024_0).toLoadRect (View.loadsAt_vmem h_S512x128))
    Prog.lift (.store arg10 (Rect.unit (s := S2048x128) ![1024, 0] S512x128.size inb_S2048x128_S512x128_1024_0) (k0_pay2 v252 v255 v256 v257 c96_i32_185) Finset.univ (View.stores_vmem_bits_univ h_S512x128 rfl) (.inl rfl))
    let v266 : Vec F S512x128 .f32 ← Prog.lift (.load arg10 (Rect.unit (s := S2048x128) ![1536, 0] S512x128.size inb_S2048x128_S512x128_1536_0).toLoadRect (View.loadsAt_vmem h_S512x128))
    let v268 : Vec F S512x384 .f32 ← Prog.lift (.load arg7 (Rect.unit (s := S2048x384) ![1536, 0] S512x384.size inb_S2048x384_S512x384_1536_0).toLoadRect (View.loadsAt_vmem h_S512x384))
    let v280 : Vec F S512x128 .f32 ← Prog.lift (.load arg10 (Rect.unit (s := S2048x128) ![1536, 0] S512x128.size inb_S2048x128_S512x128_1536_0).toLoadRect (View.loadsAt_vmem h_S512x128))
    Prog.lift (.store arg10 (Rect.unit (s := S2048x128) ![1536, 0] S512x128.size inb_S2048x128_S512x128_1536_0) (k0_pay3 v266 v268) Finset.univ (View.stores_vmem_bits_univ h_S512x128 rfl) (.inl rfl))
    pure ⟨⟩
  else do
    pure ⟨⟩
  pure ⟨⟩

theorem body_split : cc0_attn_bwd (F := F) i arg1 harg1 arg2 harg2 arg3 harg3 arg4 harg4 arg5 harg5 arg6 harg6 arg7 harg7 arg8 harg8 arg9 harg9 arg10 harg10 arg11 harg11 arg12 harg12 arg13 harg13 arg14 harg14 = head (F := F) i arg1 harg1 arg2 harg2 arg3 harg3 arg4 harg4 arg5 harg5 arg6 harg6 arg7 harg7 arg8 harg8 arg9 harg9 arg10 harg10 arg11 harg11 arg12 harg12 arg13 harg13 arg14 harg14 >>= tail (F := F) i arg1 harg1 arg2 harg2 arg3 harg3 arg4 harg4 arg5 harg5 arg6 harg6 arg7 harg7 arg8 harg8 arg9 harg9 arg10 harg10 arg11 harg11 arg12 harg12 arg13 harg13 arg14 harg14 := by
  rw [cc0_attn_bwd_eq_skeleton]
  unfold cc0_attn_bwd_skel head tail
  simp only [bind_assoc]

set_option maxHeartbeats 1000000 in
/-- The step up to that contribution: the contribution, and the pieces it writes into its two own outputs. -/
def headRun (x0 : Vec F S2048x512 .bf16) (x1 : Vec F S2048x512 .bf16) (x2 : Vec F S2048x128 .bf16) (x3 : Vec F S2048x256 .bf16) (x4 : Vec F S2048x256 .bf16) (x5 : Vec F S2x2048x1 .f32) (x6 : Vec F S2048x384 .f32) :
    Σ' (V : FVec F S2048x128 .f32) (L8 : List (View.Piece (Elt F) S2048x512 .bf16)), { L9 : List (View.Piece (Elt F) S2048x512 .bf16) //
      ∀ (E : Set ℕ),
      (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) : sProp 𝕄G)
      ⊢ wp frame (wpE (defs₀ (F := F)) Variants.none c none) E (head (F := F) i arg1 harg1 arg2 harg2 arg3 harg3 arg4 harg4 arg5 harg5 arg6 harg6 arg7 harg7 arg8 harg8 arg9 harg9 arg10 harg10 arg11 harg11 arg12 harg12 arg13 harg13 arg14 harg14)
        (fun v => iprop(⌜v = V⌝ ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))) } := by
  refine ⟨?_, ?_, ?_, fun E => ?run⟩
  case run =>
    unfold head owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d11, %f11, -, H11⟩, ⟨%d12, %f12, -, H12⟩, ⟨%d13, %f13, -, H13⟩, ⟨%d14, %f14, -, H14⟩⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec
    sl_step
    isplitr; · ipureintro; exact rfl
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H11]
    · iexists _; iexists _; isplitr; swap; · iexact H11
      ipureintro; exact rfl
    isplitl [H12]
    · iexists _; iexists _; isplitr; swap; · iexact H12
      ipureintro; exact rfl
    isplitl [H13]
    · iexists _; iexists _; isplitr; swap; · iexact H13
      ipureintro; exact rfl
    iexists _; iexists _; isplitr; swap; · iexact H14
    ipureintro; exact rfl

set_option maxHeartbeats 1000000 in
/-- What the step leaves in the shared sum's block at the first pair of heads: the sum over the heads is started. -/
def runFirst (h1 : k0_cond1 i = 1#1) (h2 : ¬k0_cond2 i = 1#1) (h3 : ¬k0_cond3 i = 1#1) (v : FVec F S2048x128 .f32) (x6 : Vec F S2048x384 .f32) :
    { L10 : List (View.Piece (Elt F) S2048x128 .f32) // ∀ (E : Set ℕ),
      (iprop(owns (c : Thread nD τ) arg7 fullShare x6 ∗ (∃ d, owns (c : Thread nD τ) arg10 fullShare d)) : sProp 𝕄G)
      ⊢ wp frame (wpE (defs₀ (F := F)) Variants.none c none) E (tail (F := F) i arg1 harg1 arg2 harg2 arg3 harg3 arg4 harg4 arg5 harg5 arg6 harg6 arg7 harg7 arg8 harg8 arg9 harg9 arg10 harg10 arg11 harg11 arg12 harg12 arg13 harg13 arg14 harg14 v)
        (fun _ : PUnit => iprop(owns (c : Thread nD τ) arg7 fullShare x6 ∗ (∃ f, arg10.view.loc (c : Thread nD τ) ↦[arg10.view.set]{fullShare} arg10.view.writes (Elt F) f L10))) } := by
  refine ⟨?_, fun E => ?run⟩
  case run =>
    unfold tail owns
    iintro ⟨⟨%f7, %hf7, H7⟩, ⟨%d10, %f10, -, H10⟩⟩
    obtain rfl := harg7.eq_unread hf7
    sl_exec (disch := first | sl_exact h1 | sl_exact h2 | sl_exact h3)
    sl_step
    isplitl [H7]
    · iexists _; isplitr; · ipureintro; exact harg7.read_unread _
      iexact H7
    iexists _; iexact H10

set_option maxHeartbeats 1000000 in
/-- What the step leaves in the shared sum's block at a pair of heads between: added to the sum. -/
def runMid (h1 : ¬k0_cond1 i = 1#1) (h2 : k0_cond2 i = 1#1) (h3 : ¬k0_cond3 i = 1#1) (v : FVec F S2048x128 .f32) (x6 : Vec F S2048x384 .f32) (xo : Vec F S2048x128 .f32) :
    { L10 : List (View.Piece (Elt F) S2048x128 .f32) // ∀ (E : Set ℕ),
      (iprop(owns (c : Thread nD τ) arg7 fullShare x6 ∗ owns (c : Thread nD τ) arg10 fullShare xo) : sProp 𝕄G)
      ⊢ wp frame (wpE (defs₀ (F := F)) Variants.none c none) E (tail (F := F) i arg1 harg1 arg2 harg2 arg3 harg3 arg4 harg4 arg5 harg5 arg6 harg6 arg7 harg7 arg8 harg8 arg9 harg9 arg10 harg10 arg11 harg11 arg12 harg12 arg13 harg13 arg14 harg14 v)
        (fun _ : PUnit => iprop(owns (c : Thread nD τ) arg7 fullShare x6 ∗ (∃ f, arg10.view.loc (c : Thread nD τ) ↦[arg10.view.set]{fullShare} arg10.view.writes (Elt F) f L10))) } := by
  refine ⟨?_, fun E => ?run⟩
  case run =>
    unfold tail owns
    iintro ⟨⟨%f7, %hf7, H7⟩, ⟨%f10, %hf10, H10⟩⟩
    obtain rfl := harg7.eq_unread hf7; obtain rfl := harg10.eq_unread hf10
    sl_exec (disch := first | sl_exact h1 | sl_exact h2 | sl_exact h3)
    sl_step
    isplitl [H7]
    · iexists _; isplitr; · ipureintro; exact harg7.read_unread _
      iexact H7
    iexists _; iexact H10

set_option maxHeartbeats 1000000 in
/-- What the step leaves in the shared sum's block at the last pair of heads: added, and the sum turned back. -/
def runLast (h1 : ¬k0_cond1 i = 1#1) (h2 : k0_cond2 i = 1#1) (h3 : k0_cond3 i = 1#1) (v : FVec F S2048x128 .f32) (x6 : Vec F S2048x384 .f32) (xo : Vec F S2048x128 .f32) :
    { L10 : List (View.Piece (Elt F) S2048x128 .f32) // ∀ (E : Set ℕ),
      (iprop(owns (c : Thread nD τ) arg7 fullShare x6 ∗ owns (c : Thread nD τ) arg10 fullShare xo) : sProp 𝕄G)
      ⊢ wp frame (wpE (defs₀ (F := F)) Variants.none c none) E (tail (F := F) i arg1 harg1 arg2 harg2 arg3 harg3 arg4 harg4 arg5 harg5 arg6 harg6 arg7 harg7 arg8 harg8 arg9 harg9 arg10 harg10 arg11 harg11 arg12 harg12 arg13 harg13 arg14 harg14 v)
        (fun _ : PUnit => iprop(owns (c : Thread nD τ) arg7 fullShare x6 ∗ (∃ f, arg10.view.loc (c : Thread nD τ) ↦[arg10.view.set]{fullShare} arg10.view.writes (Elt F) f L10))) } := by
  refine ⟨?_, fun E => ?run⟩
  case run =>
    unfold tail owns
    iintro ⟨⟨%f7, %hf7, H7⟩, ⟨%f10, %hf10, H10⟩⟩
    obtain rfl := harg7.eq_unread hf7; obtain rfl := harg10.eq_unread hf10
    sl_exec (disch := first | sl_exact h1 | sl_exact h2 | sl_exact h3)
    sl_step
    isplitl [H7]
    · iexists _; isplitr; · ipureintro; exact harg7.read_unread _
      iexact H7
    iexists _; iexact H10

end Cert.Attn

end
-- ==== Proof.AttnFrame.lean ====
/- The attention's backward call as a pipeline: what each of its points leaves, and its frame. -/
module

public import proofs.«01_k».proof.Proof.AttnRun
public import Idealize.ShloMosaic.Lib.Pipeline.TableIdle
public import Idealize.ShloMosaic.Lib.Claim

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the branches go -/

theorem cond1_at : ∀ t : Fin cfg0.N, k0_cond1 (grid0.coords t) = 1#1 ↔ t.val = 0 :=
  (by decide +kernel : ∀ t : Fin grid0.N, k0_cond1 (grid0.coords t) = 1#1 ↔ t.val = 0)
theorem cond2_at : ∀ t : Fin cfg0.N, k0_cond2 (grid0.coords t) = 1#1 ↔ t.val ≠ 0 :=
  (by decide +kernel : ∀ t : Fin grid0.N, k0_cond2 (grid0.coords t) = 1#1 ↔ t.val ≠ 0)
theorem cond3_at : ∀ t : Fin cfg0.N, k0_cond3 (grid0.coords t) = 1#1 ↔ t.val = 7 :=
  (by decide +kernel : ∀ t : Fin grid0.N, k0_cond3 (grid0.coords t) = 1#1 ↔ t.val = 7)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false :=
  (by decide +kernel : ∀ t : Fin grid0.N, idle0 9 (grid0.coords t) = false)

/-- Whether the shared block holds nothing yet. -/
def freshTab : ℕ → Bool
  | 0 => true
  | n + 1 => (0x80 : ℕ).testBit n
theorem freshTab_step : ∀ t : Fin cfg0.N,
    freshTab (t.val + 1) = ((cfg0.win 9).flush t || (cfg0.idle 9 (cfg0.grid.coords t) && freshTab t.val)) := by decide +kernel
theorem fresh_eq (t : Fin cfg0.N) : cfg0.fresh 9 t.val = freshTab t.val :=
  Pipeline.Cfg.fresh_tab cfg0 9 freshTab rfl freshTab_step t.val (Nat.le_of_lt t.isLt)
theorem not_fresh : ∀ t : Fin cfg0.N, t.val ≠ 0 → cfg0.fresh 9 t.val = false := by
  intro t; rw [fresh_eq t]; revert t; decide +kernel

/-! ## The memrefs of a point -/

abbrev ms0 (t : Fin cfg0.N) : Memref sig .tc .vmem S2048x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x2048x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x384 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x512 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S2048x128 .f32 := win0_9.stage (cfg0.slots t 9)
abbrev hs9 (t : Fin cfg0.N) : (ms9 t).IsWhole := hstage0_9 ((cfg0.slots t 9).cast nbuf0_9)
abbrev sc0 : Memref sig .tc .vmem S2x2048x256 .f32 := Memref.whole cc0_scratch0
abbrev sc1 : Memref sig .tc .vmem S2x2048x256 .f32 := Memref.whole cc0_scratch1
abbrev sc2 : Memref sig .tc .vmem S2x2048x128 .f32 := Memref.whole cc0_scratch2
abbrev sc3 : Memref sig .tc .vmem S2x2048x256 .bf16 := Memref.whole cc0_scratch3

/-- The pieces of output 7 cover its block. -/
theorem cover_query (c : Dev nD) (i : grid0.Coords) (arg1 : Memref sig .tc .vmem S2048x512 .bf16) (harg1 : arg1.IsWhole)
    (arg2 : Memref sig .tc .vmem S2048x512 .bf16) (harg2 : arg2.IsWhole)
    (arg3 : Memref sig .tc .vmem S2048x128 .bf16) (harg3 : arg3.IsWhole)
    (arg4 : Memref sig .tc .vmem S2048x256 .bf16) (harg4 : arg4.IsWhole)
    (arg5 : Memref sig .tc .vmem S2048x256 .bf16) (harg5 : arg5.IsWhole)
    (arg6 : Memref sig .tc .vmem S2x2048x1 .f32) (harg6 : arg6.IsWhole)
    (arg7 : Memref sig .tc .vmem S2048x384 .f32) (harg7 : arg7.IsWhole)
    (arg8 : Memref sig .tc .vmem S2048x512 .bf16) (harg8 : arg8.IsWhole)
    (arg9 : Memref sig .tc .vmem S2048x512 .bf16) (harg9 : arg9.IsWhole)
    (arg10 : Memref sig .tc .vmem S2048x128 .f32) (harg10 : arg10.IsWhole)
    (arg11 : Memref sig .tc .vmem S2x2048x256 .f32) (harg11 : arg11.IsWhole)
    (arg12 : Memref sig .tc .vmem S2x2048x256 .f32) (harg12 : arg12.IsWhole)
    (arg13 : Memref sig .tc .vmem S2x2048x128 .f32) (harg13 : arg13.IsWhole)
    (arg14 : Memref sig .tc .vmem S2x2048x256 .bf16) (harg14 : arg14.IsWhole) (x0 : Vec F S2048x512 .bf16) (x1 : Vec F S2048x512 .bf16) (x2 : Vec F S2048x128 .bf16) (x3 : Vec F S2048x256 .bf16) (x4 : Vec F S2048x256 .bf16) (x5 : Vec F S2x2048x1 .f32) (x6 : Vec F S2048x384 .f32) (y : S2048x512.Idx) :
    ∃ pc ∈ (headRun (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1, y ∈ pc.1.set :=
  View.cover_of_tiledL (headRun (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1 S512x128.size (by sl_kernel_rfl) y

/-- The pieces of output 8 cover its block. -/
theorem cover_pair (c : Dev nD) (i : grid0.Coords) (arg1 : Memref sig .tc .vmem S2048x512 .bf16) (harg1 : arg1.IsWhole)
    (arg2 : Memref sig .tc .vmem S2048x512 .bf16) (harg2 : arg2.IsWhole)
    (arg3 : Memref sig .tc .vmem S2048x128 .bf16) (harg3 : arg3.IsWhole)
    (arg4 : Memref sig .tc .vmem S2048x256 .bf16) (harg4 : arg4.IsWhole)
    (arg5 : Memref sig .tc .vmem S2048x256 .bf16) (harg5 : arg5.IsWhole)
    (arg6 : Memref sig .tc .vmem S2x2048x1 .f32) (harg6 : arg6.IsWhole)
    (arg7 : Memref sig .tc .vmem S2048x384 .f32) (harg7 : arg7.IsWhole)
    (arg8 : Memref sig .tc .vmem S2048x512 .bf16) (harg8 : arg8.IsWhole)
    (arg9 : Memref sig .tc .vmem S2048x512 .bf16) (harg9 : arg9.IsWhole)
    (arg10 : Memref sig .tc .vmem S2048x128 .f32) (harg10 : arg10.IsWhole)
    (arg11 : Memref sig .tc .vmem S2x2048x256 .f32) (harg11 : arg11.IsWhole)
    (arg12 : Memref sig .tc .vmem S2x2048x256 .f32) (harg12 : arg12.IsWhole)
    (arg13 : Memref sig .tc .vmem S2x2048x128 .f32) (harg13 : arg13.IsWhole)
    (arg14 : Memref sig .tc .vmem S2x2048x256 .bf16) (harg14 : arg14.IsWhole) (x0 : Vec F S2048x512 .bf16) (x1 : Vec F S2048x512 .bf16) (x2 : Vec F S2048x128 .bf16) (x3 : Vec F S2048x256 .bf16) (x4 : Vec F S2048x256 .bf16) (x5 : Vec F S2x2048x1 .f32) (x6 : Vec F S2048x384 .f32) (y : S2048x512.Idx) :
    ∃ pc ∈ (headRun (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.1, y ∈ pc.1.set :=
  View.cover_of_tiledL (headRun (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.1 S2048x128.size (by sl_kernel_rfl) y

theorem cover_First (c : Dev nD) (i : grid0.Coords) (arg1 : Memref sig .tc .vmem S2048x512 .bf16) (harg1 : arg1.IsWhole)
    (arg2 : Memref sig .tc .vmem S2048x512 .bf16) (harg2 : arg2.IsWhole)
    (arg3 : Memref sig .tc .vmem S2048x128 .bf16) (harg3 : arg3.IsWhole)
    (arg4 : Memref sig .tc .vmem S2048x256 .bf16) (harg4 : arg4.IsWhole)
    (arg5 : Memref sig .tc .vmem S2048x256 .bf16) (harg5 : arg5.IsWhole)
    (arg6 : Memref sig .tc .vmem S2x2048x1 .f32) (harg6 : arg6.IsWhole)
    (arg7 : Memref sig .tc .vmem S2048x384 .f32) (harg7 : arg7.IsWhole)
    (arg8 : Memref sig .tc .vmem S2048x512 .bf16) (harg8 : arg8.IsWhole)
    (arg9 : Memref sig .tc .vmem S2048x512 .bf16) (harg9 : arg9.IsWhole)
    (arg10 : Memref sig .tc .vmem S2048x128 .f32) (harg10 : arg10.IsWhole)
    (arg11 : Memref sig .tc .vmem S2x2048x256 .f32) (harg11 : arg11.IsWhole)
    (arg12 : Memref sig .tc .vmem S2x2048x256 .f32) (harg12 : arg12.IsWhole)
    (arg13 : Memref sig .tc .vmem S2x2048x128 .f32) (harg13 : arg13.IsWhole)
    (arg14 : Memref sig .tc .vmem S2x2048x256 .bf16) (harg14 : arg14.IsWhole) (h1 : k0_cond1 i = 1#1) (h2 : ¬k0_cond2 i = 1#1) (h3 : ¬k0_cond3 i = 1#1) (v : FVec F S2048x128 .f32) (x6 : Vec F S2048x384 .f32) (y : S2048x128.Idx) :
    ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 arg14 harg14 h1 h2 h3 v x6).1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 arg14 harg14 h1 h2 h3 v x6).1 S2048x128.size (by sl_kernel_rfl) y

theorem cover_Mid (c : Dev nD) (i : grid0.Coords) (arg1 : Memref sig .tc .vmem S2048x512 .bf16) (harg1 : arg1.IsWhole)
    (arg2 : Memref sig .tc .vmem S2048x512 .bf16) (harg2 : arg2.IsWhole)
    (arg3 : Memref sig .tc .vmem S2048x128 .bf16) (harg3 : arg3.IsWhole)
    (arg4 : Memref sig .tc .vmem S2048x256 .bf16) (harg4 : arg4.IsWhole)
    (arg5 : Memref sig .tc .vmem S2048x256 .bf16) (harg5 : arg5.IsWhole)
    (arg6 : Memref sig .tc .vmem S2x2048x1 .f32) (harg6 : arg6.IsWhole)
    (arg7 : Memref sig .tc .vmem S2048x384 .f32) (harg7 : arg7.IsWhole)
    (arg8 : Memref sig .tc .vmem S2048x512 .bf16) (harg8 : arg8.IsWhole)
    (arg9 : Memref sig .tc .vmem S2048x512 .bf16) (harg9 : arg9.IsWhole)
    (arg10 : Memref sig .tc .vmem S2048x128 .f32) (harg10 : arg10.IsWhole)
    (arg11 : Memref sig .tc .vmem S2x2048x256 .f32) (harg11 : arg11.IsWhole)
    (arg12 : Memref sig .tc .vmem S2x2048x256 .f32) (harg12 : arg12.IsWhole)
    (arg13 : Memref sig .tc .vmem S2x2048x128 .f32) (harg13 : arg13.IsWhole)
    (arg14 : Memref sig .tc .vmem S2x2048x256 .bf16) (harg14 : arg14.IsWhole) (h1 : ¬k0_cond1 i = 1#1) (h2 : k0_cond2 i = 1#1) (h3 : ¬k0_cond3 i = 1#1) (v : FVec F S2048x128 .f32) (x6 : Vec F S2048x384 .f32) (xo : Vec F S2048x128 .f32) (y : S2048x128.Idx) :
    ∃ pc ∈ (runMid (F := F) c i arg1 harg1 arg2 harg2 arg3 harg3 arg4 harg4 arg5 harg5 arg6 harg6 arg7 harg7 arg8 harg8 arg9 harg9 arg10 harg10 arg11 harg11 arg12 harg12 arg13 harg13 arg14 harg14 h1 h2 h3 v x6 xo).1, y ∈ pc.1.set :=
  View.cover_of_tiledL (runMid (F := F) c i arg1 harg1 arg2 harg2 arg3 harg3 arg4 harg4 arg5 harg5 arg6 harg6 arg7 harg7 arg8 harg8 arg9 harg9 arg10 harg10 arg11 harg11 arg12 harg12 arg13 harg13 arg14 harg14 h1 h2 h3 v x6 xo).1 S2048x128.size (by sl_kernel_rfl) y

theorem cover_Last (c : Dev nD) (i : grid0.Coords) (arg1 : Memref sig .tc .vmem S2048x512 .bf16) (harg1 : arg1.IsWhole)
    (arg2 : Memref sig .tc .vmem S2048x512 .bf16) (harg2 : arg2.IsWhole)
    (arg3 : Memref sig .tc .vmem S2048x128 .bf16) (harg3 : arg3.IsWhole)
    (arg4 : Memref sig .tc .vmem S2048x256 .bf16) (harg4 : arg4.IsWhole)
    (arg5 : Memref sig .tc .vmem S2048x256 .bf16) (harg5 : arg5.IsWhole)
    (arg6 : Memref sig .tc .vmem S2x2048x1 .f32) (harg6 : arg6.IsWhole)
    (arg7 : Memref sig .tc .vmem S2048x384 .f32) (harg7 : arg7.IsWhole)
    (arg8 : Memref sig .tc .vmem S2048x512 .bf16) (harg8 : arg8.IsWhole)
    (arg9 : Memref sig .tc .vmem S2048x512 .bf16) (harg9 : arg9.IsWhole)
    (arg10 : Memref sig .tc .vmem S2048x128 .f32) (harg10 : arg10.IsWhole)
    (arg11 : Memref sig .tc .vmem S2x2048x256 .f32) (harg11 : arg11.IsWhole)
    (arg12 : Memref sig .tc .vmem S2x2048x256 .f32) (harg12 : arg12.IsWhole)
    (arg13 : Memref sig .tc .vmem S2x2048x128 .f32) (harg13 : arg13.IsWhole)
    (arg14 : Memref sig .tc .vmem S2x2048x256 .bf16) (harg14 : arg14.IsWhole) (h1 : ¬k0_cond1 i = 1#1) (h2 : k0_cond2 i = 1#1) (h3 : k0_cond3 i = 1#1) (v : FVec F S2048x128 .f32) (x6 : Vec F S2048x384 .f32) (xo : Vec F S2048x128 .f32) (y : S2048x128.Idx) :
    ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 arg14 harg14 h1 h2 h3 v x6 xo).1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 arg14 harg14 h1 h2 h3 v x6 xo).1 S2048x128.size (by sl_kernel_rfl) y

/-! ## What a point leaves -/

abbrev VO7 : View sig .tc .vmem S2048x512 .bf16 := (Memref.whole cc0_stg7_0 : Memref sig .tc .vmem S2048x512 .bf16).view
abbrev VO8 : View sig .tc .vmem S2048x512 .bf16 := (Memref.whole cc0_stg8_0 : Memref sig .tc .vmem S2048x512 .bf16).view
abbrev VO9 : View sig .tc .vmem S2048x128 .f32 := (Memref.whole cc0_stg9_0 : Memref sig .tc .vmem S2048x128 .f32).view

/-- The gradient of a pair of heads' queries. -/
def query (c : Dev nD) (t : Fin cfg0.N) : Vec F S2048x512 .bf16 :=
  VO7.read (Elt F) (VO7.writes (Elt F) VO7.junk (headRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (iblk m c 6 t)).2.1)

/-- The gradient of a pair of heads' keys and values. -/
def pair (c : Dev nD) (t : Fin cfg0.N) : Vec F S2048x512 .bf16 :=
  VO8.read (Elt F) (VO8.writes (Elt F) VO8.junk (headRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (iblk m c 6 t)).2.2.1)

/-- A pair of heads' share of the gradient of the keys' turned part. -/
def share (c : Dev nD) (t : Fin cfg0.N) : FVec F S2048x128 .f32 :=
  (headRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (iblk m c 6 t)).1

/-- The shared block after a point, from what the point before left. -/
def step (c : Dev nD) (t : Fin cfg0.N) (xo : Vec F S2048x128 .f32) : Vec F S2048x128 .f32 :=
  if h0 : t.val = 0 then VO9.read (Elt F) (VO9.writes (Elt F) VO9.junk
    (runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) ((cond1_at t).mpr h0) (fun h => (by have := (cond2_at t).mp h; omega)) (fun h => (by have := (cond3_at t).mp h; omega)) (share m c t) (iblk m c 6 t)).1)
  else if h7 : t.val = 7 then VO9.read (Elt F) (VO9.writes (Elt F) VO9.junk
    (runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) (fun h => h0 ((cond1_at t).mp h)) ((cond2_at t).mpr h0) ((cond3_at t).mpr h7) (share m c t) (iblk m c 6 t) xo).1)
  else VO9.read (Elt F) (VO9.writes (Elt F) VO9.junk
    (runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) (fun h => h0 ((cond1_at t).mp h)) ((cond2_at t).mpr h0) (fun h => h7 ((cond3_at t).mp h)) (share m c t) (iblk m c 6 t) xo).1)

/-- The shared block after point `n`. -/
def shared (c : Dev nD) : (n : ℕ) → n < cfg0.N → Vec F S2048x128 .f32
  | 0, hn => step m c ⟨0, hn⟩ (VO9.read (Elt F) VO9.junk)
  | n + 1, hn => step m c ⟨n + 1, hn⟩ (shared c n (Nat.lt_of_succ_lt hn))

theorem shared_pos (c : Dev nD) (t : Fin cfg0.N) (h : t.val ≠ 0) :
    shared m c t.val t.isLt = step m c t (shared m c (t.val - 1) (Nat.lt_of_le_of_lt (Nat.sub_le _ _) t.isLt)) := by
  obtain ⟨n, hn⟩ := t
  cases n with
  | zero => exact absurd rfl h
  | succ n => rfl

theorem shared_zero (c : Dev nD) (t : Fin cfg0.N) (h : t.val = 0) :
    shared m c t.val t.isLt = step m c t (VO9.read (Elt F) VO9.junk) := by
  obtain ⟨n, hn⟩ := t
  cases n with
  | zero => rfl
  | succ n => exact absurd h (Nat.succ_ne_zero _)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => query m c t
    | ⟨8, _⟩ => pair m c t
    | ⟨9, _⟩ => shared m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = query m c t := by dsimp only [dats]
theorem after_8 (c : Dev nD) (t : Fin cfg0.N) : (dats m 0 c).after 8 t = pair m c t := by dsimp only [dats]
theorem after_9 (c : Dev nD) (t : Fin cfg0.N) : (dats m 0 c).after 9 t = shared m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem before_9 (c : Dev nD) (t : Fin cfg0.N) (h : t.val ≠ 0) (d) :
    (dats m 0 c).before 9 t d = shared m c (t.val - 1) (Nat.lt_of_le_of_lt (Nat.sub_le _ _) t.isLt) := by
  rw [Dat.before_out_traj _ 9 rfl (fun _ _ => rfl) (fun t _ hi _ => absurd hi (by rw [live9 t]; exact Bool.false_ne_true)) t.val t rfl d,
    if_neg (by rw [not_fresh t h]; exact Bool.false_ne_true)]
  dsimp only [dats]

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [owns_whole]; try rfl

/-! ## The body -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.castSucc = Pipeline.ΦA spec0 c from rfl, show (dats m 0 c).Φ t.succ = Pipeline.ΦA spec0 c from rfl, PhiA_eq]
  rw [show (dats m 0 c).leavesExact 0 t = owns (c : Thread nD τ) (ms0 t) fullShare ((dats m 0 c).after 0 t) from by unfold Dat.leavesExact; rw [live0 t], after_0]
  rw [show (dats m 0 c).leavesExact 1 t = owns (c : Thread nD τ) (ms1 t) fullShare ((dats m 0 c).after 1 t) from by unfold Dat.leavesExact; rw [live1 t], after_1]
  rw [show (dats m 0 c).leavesExact 2 t = owns (c : Thread nD τ) (ms2 t) fullShare ((dats m 0 c).after 2 t) from by unfold Dat.leavesExact; rw [live2 t], after_2]
  rw [show (dats m 0 c).leavesExact 3 t = owns (c : Thread nD τ) (ms3 t) fullShare ((dats m 0 c).after 3 t) from by unfold Dat.leavesExact; rw [live3 t], after_3]
  rw [show (dats m 0 c).leavesExact 4 t = owns (c : Thread nD τ) (ms4 t) fullShare ((dats m 0 c).after 4 t) from by unfold Dat.leavesExact; rw [live4 t], after_4]
  rw [show (dats m 0 c).leavesExact 5 t = owns (c : Thread nD τ) (ms5 t) fullShare ((dats m 0 c).after 5 t) from by unfold Dat.leavesExact; rw [live5 t], after_5]
  rw [show (dats m 0 c).leavesExact 6 t = owns (c : Thread nD τ) (ms6 t) fullShare ((dats m 0 c).after 6 t) from by unfold Dat.leavesExact; rw [live6 t], after_6]
  rw [show (dats m 0 c).leavesExact 7 t = owns (c : Thread nD τ) (ms7 t) fullShare ((dats m 0 c).after 7 t) from by unfold Dat.leavesExact; rw [live7 t], after_7]
  rw [show (dats m 0 c).leavesExact 8 t = owns (c : Thread nD τ) (ms8 t) fullShare ((dats m 0 c).after 8 t) from by unfold Dat.leavesExact; rw [live8 t], after_8]
  rw [show (dats m 0 c).leavesExact 9 t = owns (c : Thread nD τ) (ms9 t) fullShare ((dats m 0 c).after 9 t) from by unfold Dat.leavesExact; rw [live9 t], after_9]
  have hN : t.val < 8 := lt_of_lt_of_eq t.isLt (show cfg0.N = 8 from N_0)
  by_cases h0 : t.val = 0
  · rw [shared_zero m c t h0]; unfold step query pair; rw [dif_pos h0]
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [body_split, wp_bind]
    iapply (wp_wand_r Idealize.ShloMosaic.frame (wpE (defs₀ (F := F)) Variants.none (c : Thread nD τ) none) Set.univ)
    isplitl [H0 H1 H2 H3 H4 H5 H6 H7 H8 S0 S1 S2 S3]
    · iapply (headRun (F := F) c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2.2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [S0]; · iexact S0
      isplitl [S1]; · iexact S1
      isplitl [S2]; · iexact S2
      iexact S3
    · iintro %v ⟨%hv, H0, H1, H2, H3, H4, H5, H6, ⟨%e7, H7⟩, ⟨%e8, H8⟩, S0, S1, S2, S3⟩
      subst hv
      iapply (wp_wand_r Idealize.ShloMosaic.frame (wpE (defs₀ (F := F)) Variants.none (c : Thread nD τ) none) Set.univ)
      isplitl [H6 H9]
      · iapply (runFirst (F := F) c (grid0.coords t) _ _ _ _ _ _ _ _ _ _ _ _ _ _ _ _ _ _ _ _ _ _ _ _ _ _ _ _ ((cond1_at t).mpr h0) (fun h => (by have := (cond2_at t).mp h; omega)) (fun h => (by have := (cond3_at t).mp h; omega)) (share m c t) (iblk m c 6 t)).2
        isplitl [H6]; · iexact H6
        iexists _; iexact H9
      iintro %u ⟨H6, ⟨%e9, H9⟩⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover_query c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover_pair c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover_First c _ _ _ _ _ _ _ _ _ _ _ _ _ _ _ _ _ _ _ _ _ _ _ _ _ _ _ _ _ ((cond1_at t).mpr h0) (fun h => (by have := (cond2_at t).mp h; omega)) (fun h => (by have := (cond3_at t).mp h; omega)) (share m c t) (iblk m c 6 t))
  by_cases h7 : t.val = 7
  · rw [shared_pos m c t h0]; unfold step query pair; rw [dif_neg h0, dif_pos h7]; simp only [before_9 m c t h0]
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [body_split, wp_bind]
    iapply (wp_wand_r Idealize.ShloMosaic.frame (wpE (defs₀ (F := F)) Variants.none (c : Thread nD τ) none) Set.univ)
    isplitl [H0 H1 H2 H3 H4 H5 H6 H7 H8 S0 S1 S2 S3]
    · iapply (headRun (F := F) c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2.2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [S0]; · iexact S0
      isplitl [S1]; · iexact S1
      isplitl [S2]; · iexact S2
      iexact S3
    · iintro %v ⟨%hv, H0, H1, H2, H3, H4, H5, H6, ⟨%e7, H7⟩, ⟨%e8, H8⟩, S0, S1, S2, S3⟩
      subst hv
      iapply (wp_wand_r Idealize.ShloMosaic.frame (wpE (defs₀ (F := F)) Variants.none (c : Thread nD τ) none) Set.univ)
      isplitl [H6 H9]
      · iapply (runLast (F := F) c (grid0.coords t) _ _ _ _ _ _ _ _ _ _ _ _ _ _ _ _ _ _ _ _ _ _ _ _ _ _ _ _ (fun h => h0 ((cond1_at t).mp h)) ((cond2_at t).mpr h0) ((cond3_at t).mpr h7) (share m c t) (iblk m c 6 t) _).2
        isplitl [H6]; · iexact H6
        iexact H9
      iintro %u ⟨H6, ⟨%e9, H9⟩⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover_query c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover_pair c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover_Last c _ _ _ _ _ _ _ _ _ _ _ _ _ _ _ _ _ _ _ _ _ _ _ _ _ _ _ _ _ (fun h => h0 ((cond1_at t).mp h)) ((cond2_at t).mpr h0) ((cond3_at t).mpr h7) (share m c t) (iblk m c 6 t) _)
  · rw [shared_pos m c t h0]; unfold step query pair; rw [dif_neg h0, dif_neg h7]; simp only [before_9 m c t h0]
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [body_split, wp_bind]
    iapply (wp_wand_r Idealize.ShloMosaic.frame (wpE (defs₀ (F := F)) Variants.none (c : Thread nD τ) none) Set.univ)
    isplitl [H0 H1 H2 H3 H4 H5 H6 H7 H8 S0 S1 S2 S3]
    · iapply (headRun (F := F) c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2.2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [S0]; · iexact S0
      isplitl [S1]; · iexact S1
      isplitl [S2]; · iexact S2
      iexact S3
    · iintro %v ⟨%hv, H0, H1, H2, H3, H4, H5, H6, ⟨%e7, H7⟩, ⟨%e8, H8⟩, S0, S1, S2, S3⟩
      subst hv
      iapply (wp_wand_r Idealize.ShloMosaic.frame (wpE (defs₀ (F := F)) Variants.none (c : Thread nD τ) none) Set.univ)
      isplitl [H6 H9]
      · iapply (runMid (F := F) c (grid0.coords t) _ _ _ _ _ _ _ _ _ _ _ _ _ _ _ _ _ _ _ _ _ _ _ _ _ _ _ _ (fun h => h0 ((cond1_at t).mp h)) ((cond2_at t).mpr h0) (fun h => h7 ((cond3_at t).mp h)) (share m c t) (iblk m c 6 t) _).2
        isplitl [H6]; · iexact H6
        iexact H9
      iintro %u ⟨H6, ⟨%e9, H9⟩⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover_query c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover_pair c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover_Mid c _ _ _ _ _ _ _ _ _ _ _ _ _ _ _ _ _ _ _ _ _ _ _ _ _ _ _ _ _ (fun h => h0 ((cond1_at t).mp h)) ((cond2_at t).mpr h0) (fun h => h7 ((cond3_at t).mp h)) (share m c t) (iblk m c 6 t) _)

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Attn

end
-- ==== Proof.Swiglu.lean ====
module

public import proofs.«01_k».proof.Defs
public import proofs.«01_k».proof.Proof.Gen.Kernel4.Frame
public import proofs.«01_k».proof.Proof.Gen.Pre_gate_finite
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Swiglu

open Idealize.ShloMosaic Idealize.ShloMosaic.TcCoe Idealize.SL.Sem Idealize.ShloMosaic.Pipeline
open Cert.Kernel4Ideal Cert.Kernel4Ideal.Gen

/-- The derivative of the gate, factored as the kernel has it and summed as the chain rule gives it. -/
theorem gate (x : ℝ) (h : EReal) :
    (x : EReal) * (Ideal.logistic h * (1 + h * (1 - Ideal.logistic h)))
      = x * Ideal.logistic h + h * x * (Ideal.logistic h * (1 - Ideal.logistic h)) := by
  have one : (1 : EReal) - 1 = 0 := by
    rw [← EReal.coe_one, ← EReal.coe_sub, sub_self, EReal.coe_zero]
  induction h with
  | bot => simp
  | top => simp [one]
  | coe h =>
    rw [Ideal.logistic_coe]
    norm_cast
    ring

theorem real_of_lt (x : EReal) (h : max x (-x) < ⊤) : ∃ r : ℝ, x = r := by
  induction x with
  | bot => simp at h
  | top => simp at h
  | coe r => exact ⟨r, rfl⟩

/-- The gradient that reaches the gate is real. -/
def IsReal (a : S2048x5632.Idx → EReal) (b : S2048x11264.Idx → EReal) : Prop :=
  ∀ (i : Fin 2048) (j : Fin 5632), ∃ x : ℝ, a (ix2 i j) * b (ix2 i ⟨5632 + j.val, by omega⟩) = (x : EReal)

/-- What the precondition says of one element. -/
theorem finite [Cert.Pre_gate_finite.Facts] (a : S2048x5632.Idx → EReal) (b : S2048x11264.Idx → EReal)
    (h : Cert.Pre_gate_finite.fn (F := Ideal) a b = fun _ => 1#1) : IsReal a b := by
  intro i j
  have top : Ideal.ofBits .f32 0x7F800000#32 = ⊤ := by simp [Ideal.ofBits, Ideal.ieee]
  have e : Cert.Pre_gate_finite.fn (F := Ideal) a b (ix2 i j)
      = BitVec.ofBool (decide (max (a (ix2 i j)) (-a (ix2 i j)) < ⊤)
        && decide (max (b (ix2 i ⟨5632 + j.val, by omega⟩)) (-b (ix2 i ⟨5632 + j.val, by omega⟩)) < ⊤)) := by
    pointwise [Cert.Pre_gate_finite.fn]
    rw [top, WordCmp.andi_ofBool]
    rfl
  rw [h] at e
  have t := (WordCmp.ofBool_eq_one_iff _).mp e.symm
  rw [Bool.and_eq_true, decide_eq_true_iff, decide_eq_true_iff] at t
  obtain ⟨r, hr⟩ := real_of_lt _ t.1
  obtain ⟨q, hq⟩ := real_of_lt _ t.2
  exact ⟨r * q, by rw [hr, hq, EReal.coe_mul]⟩

theorem gate_mul (a b h : EReal) (e : ∃ x : ℝ, a * b = (x : EReal)) :
    a * b * (Ideal.logistic h * (1 + h * (1 - Ideal.logistic h)))
      = a * b * Ideal.logistic h + h * (a * b) * (Ideal.logistic h * (1 - Ideal.logistic h)) := by
  obtain ⟨x, e⟩ := e
  rw [e, gate]

variable (m : (ℓ : Loc nD τ sig) → Buf (Elt Ideal) ℓ)

/-- Where the windows' blocks stand at each grid point. -/
theorem idx : ∀ t : Fin cfg0.N, win0_0.index t = ![t.val, 0] ∧ win0_1.index t = ![t.val, 0] ∧ win0_2.index t = ![t.val, 1]
    ∧ win0_3.index t = ![t.val, 0] :=
  (by decide +kernel : ∀ t : Fin grid0.N, win0_0.index t = ![t.val, 0] ∧ win0_1.index t = ![t.val, 0] ∧ win0_2.index t = ![t.val, 1]
    ∧ win0_3.index t = ![t.val, 0])

theorem arr3 (c : Dev nD)
    (hf : IsReal (m ((c.tc : Thread nD τ).loc main_arg0)) (m ((c.tc : Thread nD τ).loc main_arg1))) :
    (dats m 0 c).arrAt 3 cfg0.N
      = Cert.Reference4Ideal.Read.val_main_v10 (F := Ideal) (m ((c.tc : Thread nD τ).loc main_arg0)) (m ((c.tc : Thread nD τ).loc main_arg1)) := by
  refine (dats m 0 c).arrAt_eq_of_covers 3 _ (by decide +kernel) fun t _ y => ?_
  blk_simp
  rw [after0_3]
  frame_out
  obtain ⟨e0, e1, e2, e3⟩ := idx t
  canon_tiles x h
  · pointwise [k0_pay1, k0_pay2, k0_pay3, k0_pay4, k0_pay5, Ideal.logistic, Cert.Reference4Ideal.Read.val_main_v0, Cert.Reference4Ideal.Read.val_main_v1, Cert.Reference4Ideal.Read.val_main_v2, Cert.Reference4Ideal.Read.val_main_call0_v0, Cert.Reference4Ideal.Read.val_main_call0_v1, Cert.Reference4Ideal.Read.val_main_call0_cst, Cert.Reference4Ideal.Read.val_main_call0_v2, Cert.Reference4Ideal.Read.val_main_call0_v3, Cert.Reference4Ideal.Read.val_main_call0_cst_0, Cert.Reference4Ideal.Read.val_main_call0_v4, Cert.Reference4Ideal.Read.val_main_v3_2, Cert.Reference4Ideal.Read.val_main_call0_cst_1, Cert.Reference4Ideal.Read.val_main_call0_v6, Cert.Reference4Ideal.Read.val_main_call0_v7, Cert.Reference4Ideal.Read.val_main_v3_1, Cert.Reference4Ideal.Read.val_main_v3_0, Cert.Reference4Ideal.Read.val_main_v4, Cert.Reference4Ideal.Read.val_main_v5, Cert.Reference4Ideal.Read.val_main_v6, Cert.Reference4Ideal.Read.val_main_v7, Cert.Reference4Ideal.Read.val_main_call1_v0, Cert.Reference4Ideal.Read.val_main_call1_v1, Cert.Reference4Ideal.Read.val_main_call1_v2, Cert.Reference4Ideal.Read.val_main_v8, Cert.Reference4Ideal.Read.val_main_v9, Cert.Reference4Ideal.Read.val_main_v10]
    rw [dif_neg (by blk_simp [e3]; omega)]
    refine Eq.trans ?_ (EReal.mul_comm _ _)
    blk_point [iblk, e0, e1, e2, e3]
  · pointwise [k0_pay1, k0_pay2, k0_pay3, k0_pay4, k0_pay5, Ideal.logistic, Cert.Reference4Ideal.Read.val_main_v0, Cert.Reference4Ideal.Read.val_main_v1, Cert.Reference4Ideal.Read.val_main_v2, Cert.Reference4Ideal.Read.val_main_call0_v0, Cert.Reference4Ideal.Read.val_main_call0_v1, Cert.Reference4Ideal.Read.val_main_call0_cst, Cert.Reference4Ideal.Read.val_main_call0_v2, Cert.Reference4Ideal.Read.val_main_call0_v3, Cert.Reference4Ideal.Read.val_main_call0_cst_0, Cert.Reference4Ideal.Read.val_main_call0_v4, Cert.Reference4Ideal.Read.val_main_v3_2, Cert.Reference4Ideal.Read.val_main_call0_cst_1, Cert.Reference4Ideal.Read.val_main_call0_v6, Cert.Reference4Ideal.Read.val_main_call0_v7, Cert.Reference4Ideal.Read.val_main_v3_1, Cert.Reference4Ideal.Read.val_main_v3_0, Cert.Reference4Ideal.Read.val_main_v4, Cert.Reference4Ideal.Read.val_main_v5, Cert.Reference4Ideal.Read.val_main_v6, Cert.Reference4Ideal.Read.val_main_v7, Cert.Reference4Ideal.Read.val_main_call1_v0, Cert.Reference4Ideal.Read.val_main_call1_v1, Cert.Reference4Ideal.Read.val_main_call1_v2, Cert.Reference4Ideal.Read.val_main_v8, Cert.Reference4Ideal.Read.val_main_v9, Cert.Reference4Ideal.Read.val_main_v10]
    rw [dif_pos (by blk_simp [e3]; omega)]
    refine Eq.trans ?_ (gate_mul _ _ _ (hf _ _))
    simp only [Ideal.logistic]
    blk_point [iblk, e0, e1, e2, e3]

/-- The kernel's gradient of the gate is the reference's. -/
theorem algebraic : Cert.algebraic_Kernel4Ideal_Reference4Ideal_pre_gate_finite (hKernel4Ideal := Cert.Kernel4Ideal.Gen.facts)
    (hReference4Ideal := Cert.Reference4Ideal.Gen.facts) (hPre_gate_finite := Cert.Pre_gate_finite.Gen.facts) := by
  intro m g m' g' hpre hag
  refine ⟨fun c => (dats m 0 c).arrAt 3 cfg0.N, Cert.Kernel4Ideal.Value.run_blocks m g, ?_⟩
  refine (θ_run _ _ _).mono (fun r h c => ?_) (Cert.Reference4Ideal.Value.run (F := Ideal) m' g')
  refine ⟨((h c).1).trans ?_, (h c).2⟩
  rw [(hag c).1, (hag c).2]
  exact (arr3 m c (finite _ _ (hpre c))).symm

end Cert.Swiglu

end
-- ==== Proof.LayerNorm.lean ====
module

public import Idealize.ShloMosaic.PureOps.Ideal
public import Idealize.ShloMosaic.Lib.Pointwise

@[expose] public section

set_option maxRecDepth 16384

noncomputable section

namespace Cert.LayerNorm

open Idealize.ShloMosaic Idealize.ShloMosaic.TcCoe Idealize.SL.Sem Idealize.ShloMosaic.Pipeline

theorem bits_n : Ideal.ofBits .f32 0x45000000#32 = ((2048 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_half : Ideal.ofBits .f32 0xBF000000#32 = ((-(1 / 2) : ℝ) : EReal) := by
  simp [Ideal.ofBits, Ideal.ieee, -EReal.coe_mul]; norm_num

theorem bits_eps : ∃ e : ℝ, 0 < e ∧ Ideal.ofBits .f32 0x3727C5AC#32 = (e : EReal) := by
  simp [Ideal.ofBits, Ideal.ieee, -EReal.coe_mul]

theorem coe_sum {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

section Row

variable {n : ℕ}

/-- A row less its mean. -/
def cen (r : Fin n → EReal) (j : Fin n) : EReal := r j - Ideal.div (∑ k, r k) (Ideal.ofBits .f32 0x45000000#32)

/-- The variance of a row, kept away from zero. -/
def vari (r : Fin n → EReal) : EReal :=
  Ideal.div (∑ k, cen r k * cen r k) (Ideal.ofBits .f32 0x45000000#32) + Ideal.ofBits .f32 0x3727C5AC#32

/-- The normalised row. -/
def norm (r : Fin n → EReal) (j : Fin n) : EReal := cen r j * Ideal.rsqrt (vari r)

/-- The kernel's gradient of a row's normalisation. -/
def kern (r t : Fin n → EReal) (j : Fin n) : EReal :=
  Ideal.rsqrt (vari r) * (t j - Ideal.div (∑ k, t k) (Ideal.ofBits .f32 0x45000000#32)
    - norm r j * Ideal.div (∑ k, t k * norm r k) (Ideal.ofBits .f32 0x45000000#32))

/-- The gradient of the variance's root, as the chain rule gives it. -/
def slope (r t : Fin n → EReal) : EReal :=
  ∑ _u : Fin 1, Ideal.div ((∑ k, cen r k * t k) * (Ideal.ofBits .f32 0xBF000000#32 * Ideal.div (Ideal.rsqrt (vari r)) (vari r)))
    (Ideal.ofBits .f32 0x45000000#32)

/-- The gradient of a row's normalisation as the chain rule gives it. -/
def refr (r t : Fin n → EReal) (j : Fin n) : EReal :=
  t j * Ideal.rsqrt (vari r) + slope r t * (Ideal.ofBits .f32 0x40000000#32 * cen r j)
    + ∑ _u : Fin 1, Ideal.div ((∑ k, -(t k * Ideal.rsqrt (vari r)))
        + ∑ k, -(slope r t * (Ideal.ofBits .f32 0x40000000#32 * cen r k))) (Ideal.ofBits .f32 0x45000000#32)

theorem sum_sq_top (x : Fin n → EReal) (k : Fin n) (h : x k * x k = ⊤) : ∑ k, x k * x k = ⊤ := by
  refine top_le_iff.mp (h.ge.trans (Finset.single_le_sum (f := fun k => x k * x k) (fun k _ => ?_) (Finset.mem_univ k)))
  rcases le_total 0 (x k) with h | h
  · exact mul_nonneg h h
  · rw [← neg_mul_neg]
    exact mul_nonneg (EReal.neg_nonneg.mpr h) (EReal.neg_nonneg.mpr h)

/-- A row with an infinite value has no finite variance. -/
theorem vari_top (r : Fin n → EReal) (h : ¬∀ k, ∃ x : ℝ, r k = x) : vari r = ⊤ := by
  obtain ⟨k, hk⟩ := not_forall.mp h
  have hs : ∑ k, cen r k * cen r k = ⊤ := by
    refine sum_sq_top _ k ?_
    rw [cen]
    generalize Ideal.div (∑ k, r k) (Ideal.ofBits .f32 0x45000000#32) = u
    generalize r k = y at hk
    induction y with
    | bot => simp [sub_eq_add_neg]
    | top => induction u <;> simp [sub_eq_add_neg]
    | coe y => exact absurd ⟨y, rfl⟩ hk
  obtain ⟨e, _, hE⟩ := bits_eps
  rw [vari, hs, hE, bits_n, Ideal.div_coe (by norm_num), EReal.top_mul_coe_of_pos (by norm_num), EReal.top_add_coe]

/-- The two gradients of a row's normalisation agree where the gradient that reaches it is real. -/
theorem row (hn : (n : ℝ) = 2048) (r t : Fin n → EReal) (j : Fin n) (ht : ∀ k, ∃ x : ℝ, t k = x) : kern r t j = refr r t j := by
  by_cases h : ∀ k, ∃ x : ℝ, r k = x
  · choose R hR using h
    choose T hT using ht
    obtain ⟨e, he, hE⟩ := bits_eps
    have hc : ∀ k, cen r k = ((R k - (∑ k, R k) * (1 / 2048) : ℝ) : EReal) := fun k => by
      simp only [cen, hR, bits_n, Ideal.div_coe (by norm_num : (2048 : ℝ) ≠ 0), coe_sum, ← EReal.coe_mul, ← EReal.coe_sub]
    have hz : ∑ k, (R k - (∑ k, R k) * (1 / 2048)) = 0 := by
      rw [Finset.sum_sub_distrib, Finset.sum_const, Finset.card_univ, Fintype.card_fin, nsmul_eq_mul, hn]
      ring
    generalize hC : (fun k => R k - (∑ k, R k) * (1 / 2048)) = C at *
    have hc : ∀ k, cen r k = ((C k : ℝ) : EReal) := fun k => by rw [hc k, ← hC]
    have hz : ∑ k, C k = 0 := hz
    have hs : 0 ≤ ∑ k, C k * C k := Finset.sum_nonneg fun k _ => mul_self_nonneg _
    have hp : 0 < (∑ k, C k * C k) * (1 / 2048) + e := by positivity
    have hv : vari r = (((∑ k, C k * C k) * (1 / 2048) + e : ℝ) : EReal) := by
      simp only [vari, hc, hE, bits_n, Ideal.div_coe (by norm_num : (2048 : ℝ) ≠ 0), coe_sum, ← EReal.coe_mul, ← EReal.coe_add]
    generalize (∑ k, C k * C k) * (1 / 2048) + e = v at hp hv
    have hr : (Real.sqrt v)⁻¹ * (Real.sqrt v)⁻¹ = 1 / v := by
      rw [← mul_inv, Real.mul_self_sqrt hp.le]
      exact (one_div _).symm
    simp only [kern, refr, slope, norm, hc, hv, hT, bits_n, bits_two, bits_half, Fin.sum_univ_one, Ideal.rsqrt_coe, if_neg hp.not_gt, if_neg hp.ne',
      Ideal.div_coe hp.ne', Ideal.div_coe (by norm_num : (2048 : ℝ) ≠ 0), coe_sum, ← EReal.coe_mul, ← EReal.coe_sub, ← EReal.coe_neg, ← EReal.coe_add]
    congr 1
    rw [← hr]
    generalize (Real.sqrt v)⁻¹ = q
    have h1 : ∑ k, T k * (C k * q) = (∑ k, C k * T k) * q := by
      rw [Finset.sum_mul]
      exact Finset.sum_congr rfl fun k _ => by ring
    have h2 : ∑ k, -(T k * q) = -((∑ k, T k) * q) := by rw [Finset.sum_neg_distrib, Finset.sum_mul]
    have h3 : ∀ s : ℝ, ∑ k, -(s * (2 * C k)) = 0 := fun s => by
      rw [Finset.sum_neg_distrib, ← Finset.mul_sum, ← Finset.mul_sum, hz, mul_zero, mul_zero, neg_zero]
    rw [h1, h2, h3]
    ring
  · have h0 : Ideal.rsqrt ⊤ = 0 := rfl
    have hs : slope r t = 0 := by
      rw [slope, vari_top r h, h0, bits_n]
      simp [Ideal.div]
    rw [kern, refr, hs, vari_top r h, h0, bits_n]
    simp [Ideal.div]

end Row

end Cert.LayerNorm

end
-- ==== Proof.NormOne.lean ====
module

public import proofs.«01_k».proof.Defs
public import proofs.«01_k».proof.Proof.Gen.Kernel6.Frame
public import proofs.«01_k».proof.Proof.Gen.Pre_ln1_finite
public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import proofs.«01_k».proof.Proof.LayerNorm

@[expose] public section

set_option maxRecDepth 16384

noncomputable section

namespace Cert.NormOne

open Idealize.ShloMosaic Idealize.ShloMosaic.TcCoe Idealize.SL.Sem Idealize.ShloMosaic.Pipeline
open Cert.Kernel6Ideal Cert.Kernel6Ideal.Gen Cert.LayerNorm

variable (m : (ℓ : Loc nD τ sig) → Buf (Elt Ideal) ℓ) (c : Dev nD)

abbrev A0 : S2048x2048.Idx → EReal := m ((c.tc : Thread nD τ).loc main_arg0)
abbrev A1 : S2048x2048.Idx → EReal := m ((c.tc : Thread nD τ).loc main_arg1)
abbrev A2 : S2048x2048.Idx → EReal := m ((c.tc : Thread nD τ).loc main_arg2)
abbrev A3 : S2048x2048.Idx → EReal := m ((c.tc : Thread nD τ).loc main_arg3)
abbrev A4 : S1x2048.Idx → EReal := m ((c.tc : Thread nD τ).loc main_arg4)
abbrev A5 : S1x2048.Idx → EReal := m ((c.tc : Thread nD τ).loc main_arg5)
abbrev A6 : S1x2048.Idx → EReal := m ((c.tc : Thread nD τ).loc main_arg6)
abbrev A7 : S1x2048.Idx → EReal := m ((c.tc : Thread nD τ).loc main_arg7)

/-- Where the windows' blocks stand at each grid point. -/
theorem idx : ∀ t : Fin cfg0.N, win0_0.index t = ![t.val, 0] ∧ win0_1.index t = ![t.val, 0] ∧ win0_2.index t = ![t.val, 0] ∧ win0_3.index t = ![t.val, 0] ∧ win0_8.index t = ![t.val, 0] ∧ win0_9.index t = ![t.val, 0] ∧ win0_4.index t = ![0, 0] ∧ win0_5.index t = ![0, 0] ∧ win0_6.index t = ![0, 0] ∧ win0_7.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_8.index t = ![t.val, 0] ∧ win0_9.index t = ![t.val, 0] ∧ win0_4.index t = ![0, 0] ∧ win0_5.index t = ![0, 0] ∧ win0_6.index t = ![0, 0] ∧ win0_7.index t = ![0, 0])

section Rows

/-- The residual's row. -/
def res {p : ℕ} (x x' : Fin p → Fin 2048 → EReal) (a : Fin 2048 → EReal) (i : Fin p) (j : Fin 2048) : EReal :=
  Ideal.ofBits .f32 0x3F9837F0#32 * x i j + a j * x' i j

/-- The gradient that reaches the normalised row's affine map. -/
def up {p : ℕ} (d u : Fin p → Fin 2048 → EReal) (s : Fin 2048 → EReal) (i : Fin p) (j : Fin 2048) : EReal :=
  d i j + u i j * (1 + s j)

theorem pay_dr (x x' d u : S256x2048.Idx → EReal) (a g s : S1x2048.Idx → EReal) (i : Fin 256) (j : Fin 2048) :
    k0_pay8 (F := Ideal) u (k0_pay3 x' x a) (k0_pay4 x' x a) d (k0_pay6 s) g (ix2 i j)
      = kern (res (fun i k => x (ix2 i k)) (fun i k => x' (ix2 i k)) (fun k => a (ix2 0 k)) i)
          (fun k => up (fun i k => d (ix2 i k)) (fun i k => u (ix2 i k)) (fun k => s (ix2 0 k)) i k * g (ix2 0 k)) j := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, kern, Cert.LayerNorm.norm, vari, cen, res, up]

theorem pay_norm (x x' : S256x2048.Idx → EReal) (a : S1x2048.Idx → EReal) (i : Fin 256) (j : Fin 2048) :
    k0_pay4 (F := Ideal) x' x a (ix2 i j)
      = Cert.LayerNorm.norm (res (fun i k => x (ix2 i k)) (fun i k => x' (ix2 i k)) (fun k => a (ix2 0 k)) i) j := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, Cert.LayerNorm.norm, vari, cen, res]

theorem ref_dr (x x' d u : S2048x2048.Idx → EReal) (a g s : S1x2048.Idx → EReal) (i j : Fin 2048) :
    Cert.Reference6Ideal.Read.val_main_v79 (F := Ideal) x x' d u a g s (ix2 i j)
      = refr (res (fun i k => x (ix2 i k)) (fun i k => x' (ix2 i k)) (fun k => a (ix2 0 k)) i)
          (fun k => up (fun i k => d (ix2 i k)) (fun i k => u (ix2 i k)) (fun k => s (ix2 0 k)) i k * g (ix2 0 k)) j := by
  rw [refr, Cert.LayerNorm.slope]
  pointwise [Cert.Reference6Ideal.Read.val_main_cst, Cert.Reference6Ideal.Read.val_main_v0, Cert.Reference6Ideal.Read.val_main_cst_0, Cert.Reference6Ideal.Read.val_main_v1, Cert.Reference6Ideal.Read.val_main_v2, Cert.Reference6Ideal.Read.val_main_v3, Cert.Reference6Ideal.Read.val_main_v4, Cert.Reference6Ideal.Read.val_main_v5, Cert.Reference6Ideal.Read.val_main_cst_1, Cert.Reference6Ideal.Read.val_main_v6, Cert.Reference6Ideal.Read.val_main_v7, Cert.Reference6Ideal.Read.val_main_cst_2, Cert.Reference6Ideal.Read.val_main_v8, Cert.Reference6Ideal.Read.val_main_v9, Cert.Reference6Ideal.Read.val_main_v10, Cert.Reference6Ideal.Read.val_main_v11, Cert.Reference6Ideal.Read.val_main_v12, Cert.Reference6Ideal.Read.val_main_cst_3, Cert.Reference6Ideal.Read.val_main_v13, Cert.Reference6Ideal.Read.val_main_v14, Cert.Reference6Ideal.Read.val_main_cst_4, Cert.Reference6Ideal.Read.val_main_v15, Cert.Reference6Ideal.Read.val_main_v16, Cert.Reference6Ideal.Read.val_main_cst_5, Cert.Reference6Ideal.Read.val_main_v17, Cert.Reference6Ideal.Read.val_main_v18, Cert.Reference6Ideal.Read.val_main_v19, Cert.Reference6Ideal.Read.val_main_v20, Cert.Reference6Ideal.Read.val_main_cst_6, Cert.Reference6Ideal.Read.val_main_v21, Cert.Reference6Ideal.Read.val_main_v22, Cert.Reference6Ideal.Read.val_main_v23, Cert.Reference6Ideal.Read.val_main_v24, Cert.Reference6Ideal.Read.val_main_cst_7, Cert.Reference6Ideal.Read.val_main_v25, Cert.Reference6Ideal.Read.val_main_v26, Cert.Reference6Ideal.Read.val_main_v27, Cert.Reference6Ideal.Read.val_main_v28, Cert.Reference6Ideal.Read.val_main_v29, Cert.Reference6Ideal.Read.val_main_v30, Cert.Reference6Ideal.Read.val_main_v31, Cert.Reference6Ideal.Read.val_main_v32, Cert.Reference6Ideal.Read.val_main_cst_8, Cert.Reference6Ideal.Read.val_main_v33, Cert.Reference6Ideal.Read.val_main_v34, Cert.Reference6Ideal.Read.val_main_v35, Cert.Reference6Ideal.Read.val_main_v36, Cert.Reference6Ideal.Read.val_main_v37, Cert.Reference6Ideal.Read.val_main_v38, Cert.Reference6Ideal.Read.val_main_v39, Cert.Reference6Ideal.Read.val_main_cst_9, Cert.Reference6Ideal.Read.val_main_v40, Cert.Reference6Ideal.Read.val_main_v41, Cert.Reference6Ideal.Read.val_main_v42, Cert.Reference6Ideal.Read.val_main_cst_10, Cert.Reference6Ideal.Read.val_main_v43, Cert.Reference6Ideal.Read.val_main_v44, Cert.Reference6Ideal.Read.val_main_v45, Cert.Reference6Ideal.Read.val_main_v46, Cert.Reference6Ideal.Read.val_main_v47, Cert.Reference6Ideal.Read.val_main_v48, Cert.Reference6Ideal.Read.val_main_cst_11, Cert.Reference6Ideal.Read.val_main_v49, Cert.Reference6Ideal.Read.val_main_v50, Cert.Reference6Ideal.Read.val_main_v51, Cert.Reference6Ideal.Read.val_main_cst_12, Cert.Reference6Ideal.Read.val_main_v52, Cert.Reference6Ideal.Read.val_main_v53, Cert.Reference6Ideal.Read.val_main_v54, Cert.Reference6Ideal.Read.val_main_v55, Cert.Reference6Ideal.Read.val_main_v56, Cert.Reference6Ideal.Read.val_main_cst_13, Cert.Reference6Ideal.Read.val_main_v57, Cert.Reference6Ideal.Read.val_main_v58, Cert.Reference6Ideal.Read.val_main_v59, Cert.Reference6Ideal.Read.val_main_v60, Cert.Reference6Ideal.Read.val_main_v61, Cert.Reference6Ideal.Read.val_main_v62, Cert.Reference6Ideal.Read.val_main_cst_14, Cert.Reference6Ideal.Read.val_main_v63, Cert.Reference6Ideal.Read.val_main_v64, Cert.Reference6Ideal.Read.val_main_cst_15, Cert.Reference6Ideal.Read.val_main_v65, Cert.Reference6Ideal.Read.val_main_v66, Cert.Reference6Ideal.Read.val_main_cst_16, Cert.Reference6Ideal.Read.val_main_v67, Cert.Reference6Ideal.Read.val_main_v68, Cert.Reference6Ideal.Read.val_main_v69, Cert.Reference6Ideal.Read.val_main_v70, Cert.Reference6Ideal.Read.val_main_cst_17, Cert.Reference6Ideal.Read.val_main_v71, Cert.Reference6Ideal.Read.val_main_v72, Cert.Reference6Ideal.Read.val_main_v73, Cert.Reference6Ideal.Read.val_main_v74, Cert.Reference6Ideal.Read.val_main_cst_18, Cert.Reference6Ideal.Read.val_main_v75, Cert.Reference6Ideal.Read.val_main_v76, Cert.Reference6Ideal.Read.val_main_cst_19, Cert.Reference6Ideal.Read.val_main_v77, Cert.Reference6Ideal.Read.val_main_v78, Cert.Reference6Ideal.Read.val_main_v79, Cert.Reference6Ideal.Read.val_main_v80, Cert.Reference6Ideal.Read.val_main_v81, Cert.Reference6Ideal.Read.val_main_v82, Cert.Reference6Ideal.Read.val_main_cst_20, Cert.Reference6Ideal.Read.val_main_v83, Cert.Reference6Ideal.Read.val_main_v84, Cert.Reference6Ideal.Read.val_main_cst_21, Cert.Reference6Ideal.Read.val_main_v85, Cert.Reference6Ideal.Read.val_main_v86, Cert.Reference6Ideal.Read.val_main_v87, vari, cen, res, up]

theorem ref_norm (x x' : S2048x2048.Idx → EReal) (a : S1x2048.Idx → EReal) (i j : Fin 2048) :
    Cert.Reference6Ideal.Read.val_main_v28 (F := Ideal) x x' a (ix2 i j)
      = Cert.LayerNorm.norm (res (fun i k => x (ix2 i k)) (fun i k => x' (ix2 i k)) (fun k => a (ix2 0 k)) i) j := by
  pointwise [Cert.Reference6Ideal.Read.val_main_cst, Cert.Reference6Ideal.Read.val_main_v0, Cert.Reference6Ideal.Read.val_main_cst_0, Cert.Reference6Ideal.Read.val_main_v1, Cert.Reference6Ideal.Read.val_main_v2, Cert.Reference6Ideal.Read.val_main_v3, Cert.Reference6Ideal.Read.val_main_v4, Cert.Reference6Ideal.Read.val_main_v5, Cert.Reference6Ideal.Read.val_main_cst_1, Cert.Reference6Ideal.Read.val_main_v6, Cert.Reference6Ideal.Read.val_main_v7, Cert.Reference6Ideal.Read.val_main_cst_2, Cert.Reference6Ideal.Read.val_main_v8, Cert.Reference6Ideal.Read.val_main_v9, Cert.Reference6Ideal.Read.val_main_v10, Cert.Reference6Ideal.Read.val_main_v11, Cert.Reference6Ideal.Read.val_main_v12, Cert.Reference6Ideal.Read.val_main_cst_3, Cert.Reference6Ideal.Read.val_main_v13, Cert.Reference6Ideal.Read.val_main_v14, Cert.Reference6Ideal.Read.val_main_cst_4, Cert.Reference6Ideal.Read.val_main_v15, Cert.Reference6Ideal.Read.val_main_v16, Cert.Reference6Ideal.Read.val_main_cst_5, Cert.Reference6Ideal.Read.val_main_v17, Cert.Reference6Ideal.Read.val_main_v18, Cert.Reference6Ideal.Read.val_main_v19, Cert.Reference6Ideal.Read.val_main_v20, Cert.Reference6Ideal.Read.val_main_cst_6, Cert.Reference6Ideal.Read.val_main_v21, Cert.Reference6Ideal.Read.val_main_v22, Cert.Reference6Ideal.Read.val_main_v23, Cert.Reference6Ideal.Read.val_main_v24, Cert.Reference6Ideal.Read.val_main_cst_7, Cert.Reference6Ideal.Read.val_main_v25, Cert.Reference6Ideal.Read.val_main_v26, Cert.Reference6Ideal.Read.val_main_v27, Cert.Reference6Ideal.Read.val_main_v28, Cert.Reference6Ideal.Read.val_main_v29, Cert.Reference6Ideal.Read.val_main_v30, Cert.Reference6Ideal.Read.val_main_v31, Cert.Reference6Ideal.Read.val_main_v32, Cert.Reference6Ideal.Read.val_main_cst_8, Cert.Reference6Ideal.Read.val_main_v33, Cert.Reference6Ideal.Read.val_main_v34, Cert.Reference6Ideal.Read.val_main_v35, Cert.Reference6Ideal.Read.val_main_v36, Cert.Reference6Ideal.Read.val_main_v37, Cert.Reference6Ideal.Read.val_main_v38, Cert.Reference6Ideal.Read.val_main_v39, Cert.Reference6Ideal.Read.val_main_cst_9, Cert.Reference6Ideal.Read.val_main_v40, Cert.Reference6Ideal.Read.val_main_v41, Cert.Reference6Ideal.Read.val_main_v42, Cert.Reference6Ideal.Read.val_main_cst_10, Cert.Reference6Ideal.Read.val_main_v43, Cert.Reference6Ideal.Read.val_main_v44, Cert.Reference6Ideal.Read.val_main_v45, Cert.Reference6Ideal.Read.val_main_v46, Cert.Reference6Ideal.Read.val_main_v47, Cert.Reference6Ideal.Read.val_main_v48, Cert.Reference6Ideal.Read.val_main_cst_11, Cert.Reference6Ideal.Read.val_main_v49, Cert.Reference6Ideal.Read.val_main_v50, Cert.Reference6Ideal.Read.val_main_v51, Cert.Reference6Ideal.Read.val_main_cst_12, Cert.Reference6Ideal.Read.val_main_v52, Cert.Reference6Ideal.Read.val_main_v53, Cert.Reference6Ideal.Read.val_main_v54, Cert.Reference6Ideal.Read.val_main_v55, Cert.Reference6Ideal.Read.val_main_v56, Cert.Reference6Ideal.Read.val_main_cst_13, Cert.Reference6Ideal.Read.val_main_v57, Cert.Reference6Ideal.Read.val_main_v58, Cert.Reference6Ideal.Read.val_main_v59, Cert.Reference6Ideal.Read.val_main_v60, Cert.Reference6Ideal.Read.val_main_v61, Cert.Reference6Ideal.Read.val_main_v62, Cert.Reference6Ideal.Read.val_main_cst_14, Cert.Reference6Ideal.Read.val_main_v63, Cert.Reference6Ideal.Read.val_main_v64, Cert.Reference6Ideal.Read.val_main_cst_15, Cert.Reference6Ideal.Read.val_main_v65, Cert.Reference6Ideal.Read.val_main_v66, Cert.Reference6Ideal.Read.val_main_cst_16, Cert.Reference6Ideal.Read.val_main_v67, Cert.Reference6Ideal.Read.val_main_v68, Cert.Reference6Ideal.Read.val_main_v69, Cert.Reference6Ideal.Read.val_main_v70, Cert.Reference6Ideal.Read.val_main_cst_17, Cert.Reference6Ideal.Read.val_main_v71, Cert.Reference6Ideal.Read.val_main_v72, Cert.Reference6Ideal.Read.val_main_v73, Cert.Reference6Ideal.Read.val_main_v74, Cert.Reference6Ideal.Read.val_main_cst_18, Cert.Reference6Ideal.Read.val_main_v75, Cert.Reference6Ideal.Read.val_main_v76, Cert.Reference6Ideal.Read.val_main_cst_19, Cert.Reference6Ideal.Read.val_main_v77, Cert.Reference6Ideal.Read.val_main_v78, Cert.Reference6Ideal.Read.val_main_v79, Cert.Reference6Ideal.Read.val_main_v80, Cert.Reference6Ideal.Read.val_main_v81, Cert.Reference6Ideal.Read.val_main_v82, Cert.Reference6Ideal.Read.val_main_cst_20, Cert.Reference6Ideal.Read.val_main_v83, Cert.Reference6Ideal.Read.val_main_v84, Cert.Reference6Ideal.Read.val_main_cst_21, Cert.Reference6Ideal.Read.val_main_v85, Cert.Reference6Ideal.Read.val_main_v86, Cert.Reference6Ideal.Read.val_main_v87, Cert.LayerNorm.norm, vari, cen, res]

end Rows

/-- A block's row in the whole array. -/
def at_ (t : Fin cfg0.N) (i : Fin 256) : Fin 2048 := ⟨256 * t.val + i.val, by have : t.val < 8 := t.isLt; omega⟩

theorem b0 (t : Fin cfg0.N) (i : Fin 256) (k : Fin 2048) : (iblk m c 0 t : S256x2048.Idx → EReal) (ix2 i k) = A0 m c (ix2 (at_ t i) k) := by
  have e := (idx t).1
  blk_point [iblk, e, at_]

theorem b1 (t : Fin cfg0.N) (i : Fin 256) (k : Fin 2048) : (iblk m c 1 t : S256x2048.Idx → EReal) (ix2 i k) = A1 m c (ix2 (at_ t i) k) := by
  have e := (idx t).2.1
  blk_point [iblk, e, at_]

theorem b2 (t : Fin cfg0.N) (i : Fin 256) (k : Fin 2048) : (iblk m c 2 t : S256x2048.Idx → EReal) (ix2 i k) = A2 m c (ix2 (at_ t i) k) := by
  have e := (idx t).2.2.1
  blk_point [iblk, e, at_]

theorem b3 (t : Fin cfg0.N) (i : Fin 256) (k : Fin 2048) : (iblk m c 3 t : S256x2048.Idx → EReal) (ix2 i k) = A3 m c (ix2 (at_ t i) k) := by
  have e := (idx t).2.2.2.1
  blk_point [iblk, e, at_]

theorem b4 (t : Fin cfg0.N) (k : Fin 2048) : (iblk m c 4 t : S1x2048.Idx → EReal) (ix2 0 k) = A4 m c (ix2 0 k) := by
  have e := (idx t).2.2.2.2.2.2.1
  blk_point [iblk, e]

theorem b5 (t : Fin cfg0.N) (k : Fin 2048) : (iblk m c 5 t : S1x2048.Idx → EReal) (ix2 0 k) = A5 m c (ix2 0 k) := by
  have e := (idx t).2.2.2.2.2.2.2.1
  blk_point [iblk, e]

theorem b6 (t : Fin cfg0.N) (k : Fin 2048) : (iblk m c 6 t : S1x2048.Idx → EReal) (ix2 0 k) = A6 m c (ix2 0 k) := by
  have e := (idx t).2.2.2.2.2.2.2.2.1
  blk_point [iblk, e]

theorem b7 (t : Fin cfg0.N) (k : Fin 2048) : (iblk m c 7 t : S1x2048.Idx → EReal) (ix2 0 k) = A7 m c (ix2 0 k) := by
  have e := (idx t).2.2.2.2.2.2.2.2.2
  blk_point [iblk, e]

/-- The gradient that reaches the normalisation is real. -/
def Reals : Prop := ∀ i k : Fin 2048, ∃ r : ℝ, up (fun i k => A2 m c (ix2 i k)) (fun i k => A3 m c (ix2 i k)) (fun k => A7 m c (ix2 0 k)) i k * A5 m c (ix2 0 k) = r

theorem blk_dr (hf : Reals m c) (t : Fin cfg0.N) (i : Fin 256) (j : Fin 2048) :
    k0_pay8 (F := Ideal) (iblk m c 3 t) (k0_pay3 (iblk m c 1 t) (iblk m c 0 t) (iblk m c 4 t)) (k0_pay4 (iblk m c 1 t) (iblk m c 0 t) (iblk m c 4 t)) (iblk m c 2 t) (k0_pay6 (iblk m c 7 t)) (iblk m c 5 t) (ix2 i j)
      = Cert.Reference6Ideal.Read.val_main_v79 (F := Ideal) (A0 m c) (A1 m c) (A2 m c) (A3 m c) (A4 m c) (A5 m c) (A7 m c) (ix2 (at_ t i) j) := by
  refine (pay_dr _ _ _ _ _ _ _ i j).trans ?_
  rw [ref_dr, ← row (by norm_num) _ _ j (hf (at_ t i))]
  congr 1
  · funext k
    simp only [res, b0, b1, b4]
  · funext k
    simp only [up, b2, b3, b5, b7]

theorem blk_norm (t : Fin cfg0.N) (i : Fin 256) (j : Fin 2048) :
    k0_pay4 (F := Ideal) (iblk m c 1 t) (iblk m c 0 t) (iblk m c 4 t) (ix2 i j)
      = Cert.Reference6Ideal.Read.val_main_v28 (F := Ideal) (A0 m c) (A1 m c) (A4 m c) (ix2 (at_ t i) j) := by
  refine (pay_norm _ _ _ i j).trans ?_
  rw [ref_norm]
  congr 1
  funext k
  simp only [res, b0, b1, b4]

theorem blk_up (t : Fin cfg0.N) (i : Fin 256) (j : Fin 2048) :
    k0_pay7 (F := Ideal) (iblk m c 3 t) (iblk m c 2 t) (k0_pay6 (iblk m c 7 t)) (ix2 i j)
      = Cert.Reference6Ideal.Read.val_main_v47 (F := Ideal) (A2 m c) (A3 m c) (A7 m c) (ix2 (at_ t i) j) := by
  pointwise [k0_pay7, k0_pay6, Cert.Reference6Ideal.Read.val_main_cst, Cert.Reference6Ideal.Read.val_main_v0, Cert.Reference6Ideal.Read.val_main_cst_0, Cert.Reference6Ideal.Read.val_main_v1, Cert.Reference6Ideal.Read.val_main_v2, Cert.Reference6Ideal.Read.val_main_v3, Cert.Reference6Ideal.Read.val_main_v4, Cert.Reference6Ideal.Read.val_main_v5, Cert.Reference6Ideal.Read.val_main_cst_1, Cert.Reference6Ideal.Read.val_main_v6, Cert.Reference6Ideal.Read.val_main_v7, Cert.Reference6Ideal.Read.val_main_cst_2, Cert.Reference6Ideal.Read.val_main_v8, Cert.Reference6Ideal.Read.val_main_v9, Cert.Reference6Ideal.Read.val_main_v10, Cert.Reference6Ideal.Read.val_main_v11, Cert.Reference6Ideal.Read.val_main_v12, Cert.Reference6Ideal.Read.val_main_cst_3, Cert.Reference6Ideal.Read.val_main_v13, Cert.Reference6Ideal.Read.val_main_v14, Cert.Reference6Ideal.Read.val_main_cst_4, Cert.Reference6Ideal.Read.val_main_v15, Cert.Reference6Ideal.Read.val_main_v16, Cert.Reference6Ideal.Read.val_main_cst_5, Cert.Reference6Ideal.Read.val_main_v17, Cert.Reference6Ideal.Read.val_main_v18, Cert.Reference6Ideal.Read.val_main_v19, Cert.Reference6Ideal.Read.val_main_v20, Cert.Reference6Ideal.Read.val_main_cst_6, Cert.Reference6Ideal.Read.val_main_v21, Cert.Reference6Ideal.Read.val_main_v22, Cert.Reference6Ideal.Read.val_main_v23, Cert.Reference6Ideal.Read.val_main_v24, Cert.Reference6Ideal.Read.val_main_cst_7, Cert.Reference6Ideal.Read.val_main_v25, Cert.Reference6Ideal.Read.val_main_v26, Cert.Reference6Ideal.Read.val_main_v27, Cert.Reference6Ideal.Read.val_main_v28, Cert.Reference6Ideal.Read.val_main_v29, Cert.Reference6Ideal.Read.val_main_v30, Cert.Reference6Ideal.Read.val_main_v31, Cert.Reference6Ideal.Read.val_main_v32, Cert.Reference6Ideal.Read.val_main_cst_8, Cert.Reference6Ideal.Read.val_main_v33, Cert.Reference6Ideal.Read.val_main_v34, Cert.Reference6Ideal.Read.val_main_v35, Cert.Reference6Ideal.Read.val_main_v36, Cert.Reference6Ideal.Read.val_main_v37, Cert.Reference6Ideal.Read.val_main_v38, Cert.Reference6Ideal.Read.val_main_v39, Cert.Reference6Ideal.Read.val_main_cst_9, Cert.Reference6Ideal.Read.val_main_v40, Cert.Reference6Ideal.Read.val_main_v41, Cert.Reference6Ideal.Read.val_main_v42, Cert.Reference6Ideal.Read.val_main_cst_10, Cert.Reference6Ideal.Read.val_main_v43, Cert.Reference6Ideal.Read.val_main_v44, Cert.Reference6Ideal.Read.val_main_v45, Cert.Reference6Ideal.Read.val_main_v46, Cert.Reference6Ideal.Read.val_main_v47, Cert.Reference6Ideal.Read.val_main_v48, Cert.Reference6Ideal.Read.val_main_cst_11, Cert.Reference6Ideal.Read.val_main_v49, Cert.Reference6Ideal.Read.val_main_v50, Cert.Reference6Ideal.Read.val_main_v51, Cert.Reference6Ideal.Read.val_main_cst_12, Cert.Reference6Ideal.Read.val_main_v52, Cert.Reference6Ideal.Read.val_main_v53, Cert.Reference6Ideal.Read.val_main_v54, Cert.Reference6Ideal.Read.val_main_v55, Cert.Reference6Ideal.Read.val_main_v56, Cert.Reference6Ideal.Read.val_main_cst_13, Cert.Reference6Ideal.Read.val_main_v57, Cert.Reference6Ideal.Read.val_main_v58, Cert.Reference6Ideal.Read.val_main_v59, Cert.Reference6Ideal.Read.val_main_v60, Cert.Reference6Ideal.Read.val_main_v61, Cert.Reference6Ideal.Read.val_main_v62, Cert.Reference6Ideal.Read.val_main_cst_14, Cert.Reference6Ideal.Read.val_main_v63, Cert.Reference6Ideal.Read.val_main_v64, Cert.Reference6Ideal.Read.val_main_cst_15, Cert.Reference6Ideal.Read.val_main_v65, Cert.Reference6Ideal.Read.val_main_v66, Cert.Reference6Ideal.Read.val_main_cst_16, Cert.Reference6Ideal.Read.val_main_v67, Cert.Reference6Ideal.Read.val_main_v68, Cert.Reference6Ideal.Read.val_main_v69, Cert.Reference6Ideal.Read.val_main_v70, Cert.Reference6Ideal.Read.val_main_cst_17, Cert.Reference6Ideal.Read.val_main_v71, Cert.Reference6Ideal.Read.val_main_v72, Cert.Reference6Ideal.Read.val_main_v73, Cert.Reference6Ideal.Read.val_main_v74, Cert.Reference6Ideal.Read.val_main_cst_18, Cert.Reference6Ideal.Read.val_main_v75, Cert.Reference6Ideal.Read.val_main_v76, Cert.Reference6Ideal.Read.val_main_cst_19, Cert.Reference6Ideal.Read.val_main_v77, Cert.Reference6Ideal.Read.val_main_v78, Cert.Reference6Ideal.Read.val_main_v79, Cert.Reference6Ideal.Read.val_main_v80, Cert.Reference6Ideal.Read.val_main_v81, Cert.Reference6Ideal.Read.val_main_v82, Cert.Reference6Ideal.Read.val_main_cst_20, Cert.Reference6Ideal.Read.val_main_v83, Cert.Reference6Ideal.Read.val_main_v84, Cert.Reference6Ideal.Read.val_main_cst_21, Cert.Reference6Ideal.Read.val_main_v85, Cert.Reference6Ideal.Read.val_main_v86, Cert.Reference6Ideal.Read.val_main_v87]
  simp only [b2, b3, b7]

/-- A block's share of a sum over the rows. -/
def part (f : Fin 2048 → Fin 2048 → EReal) (t : Fin cfg0.N) (j : S1x2048.Idx) : EReal := ∑ k : Fin 256, f (at_ t k) (j 1)

theorem sum_part (f : Fin 2048 → Fin 2048 → EReal) (j : S1x2048.Idx) : ∑ t : Fin cfg0.N, part f t j = ∑ i, f i (j 1) := by
  refine Fin.sum_mul_add_congr (n := 256) fun s k hl => ?_
  exact congrArg (fun i => f i (j 1)) (Fin.ext (by simp only [at_]; omega))

theorem at_emb8 (t : Fin cfg0.N) (y : S256x2048.Idx) : ((View.whole main_v0_0).slice (win0_8.rect t)).emb y = ix2 (at_ t (y 0)) (y 1) := by
  have e := (idx t).2.2.2.2.1
  blk_point [e, at_]

theorem at_emb9 (t : Fin cfg0.N) (y : S256x2048.Idx) : ((View.whole main_v0_1).slice (win0_9.rect t)).emb y = ix2 (at_ t (y 0)) (y 1) := by
  have e := (idx t).2.2.2.2.2.1
  blk_point [e, at_]

theorem out8 (hf : Reals m c) (t : Fin cfg0.N) (y : S256x2048.Idx) :
    k0_pay9 (F := Ideal) (iblk m c 3 t) (k0_pay3 (iblk m c 1 t) (iblk m c 0 t) (iblk m c 4 t)) (k0_pay4 (iblk m c 1 t) (iblk m c 0 t) (iblk m c 4 t)) (iblk m c 2 t) (k0_pay6 (iblk m c 7 t)) (iblk m c 5 t) (iblk m c 4 t) y
      = Cert.Reference6Ideal.Read.val_main_v87 (F := Ideal) (A0 m c) (A1 m c) (A2 m c) (A3 m c) (A4 m c) (A5 m c) (A7 m c) (((View.whole main_v0_0).slice (win0_8.rect t)).emb y) := by
  rw [at_emb8]
  idx_vars y
  pointwise [k0_pay9, Cert.Reference6Ideal.Read.val_main_v87, Cert.Reference6Ideal.Read.val_main_v81, Cert.Reference6Ideal.Read.val_main_v80]
  rw [b4]
  exact congrArg _ (blk_dr m c hf t _ _)

theorem out9 (hf : Reals m c) (t : Fin cfg0.N) (y : S256x2048.Idx) :
    k0_pay10 (F := Ideal) (iblk m c 3 t) (k0_pay3 (iblk m c 1 t) (iblk m c 0 t) (iblk m c 4 t)) (k0_pay4 (iblk m c 1 t) (iblk m c 0 t) (iblk m c 4 t)) (iblk m c 2 t) (k0_pay6 (iblk m c 7 t)) (iblk m c 5 t) y
      = Cert.Reference6Ideal.Read.val_main_v86 (F := Ideal) (A0 m c) (A1 m c) (A2 m c) (A3 m c) (A4 m c) (A5 m c) (A7 m c) (((View.whole main_v0_1).slice (win0_9.rect t)).emb y) := by
  rw [at_emb9]
  idx_vars y
  pointwise [k0_pay10, Cert.Reference6Ideal.Read.val_main_v86, Cert.Reference6Ideal.Read.val_main_v85, Cert.Reference6Ideal.Read.val_main_cst_21]
  exact congrArg _ (blk_dr m c hf t _ _)

theorem arr8 (hf : Reals m c) : (dats m 0 c).arrAt 8 cfg0.N = Cert.Reference6Ideal.Read.val_main_v87 (F := Ideal) (A0 m c) (A1 m c) (A2 m c) (A3 m c) (A4 m c) (A5 m c) (A7 m c) := by
  refine (dats m 0 c).arrAt_eq_of_covers 8 _ (by decide +kernel) fun t _ y => ?_
  blk_simp
  rw [after0_8]
  have ht : t.val < 8 := t.isLt
  by_cases h : t.val % 8 = 0
  · have hn : ¬1 ≤ t.val := by omega
    rw [outsAt0_A m c t h hn h hn h hn h hn h hn]
    frame_out
    exact out8 m c hf t y
  · have hn : 1 ≤ t.val := by omega
    rw [outsAt0_B m c t h hn h hn h hn h hn h hn]
    frame_out
    exact out8 m c hf t y

theorem arr9 (hf : Reals m c) : (dats m 0 c).arrAt 9 cfg0.N = Cert.Reference6Ideal.Read.val_main_v86 (F := Ideal) (A0 m c) (A1 m c) (A2 m c) (A3 m c) (A4 m c) (A5 m c) (A7 m c) := by
  refine (dats m 0 c).arrAt_eq_of_covers 9 _ (by decide +kernel) fun t _ y => ?_
  blk_simp
  rw [after0_9]
  have ht : t.val < 8 := t.isLt
  by_cases h : t.val % 8 = 0
  · have hn : ¬1 ≤ t.val := by omega
    rw [outsAt0_A m c t h hn h hn h hn h hn h hn]
    frame_out
    exact out9 m c hf t y
  · have hn : 1 ≤ t.val := by omega
    rw [outsAt0_B m c t h hn h hn h hn h hn h hn]
    frame_out
    exact out9 m c hf t y

theorem share10 (t : Fin cfg0.N) (j : S1x2048.Idx) :
    k0_pay11 (F := Ideal) (iblk m c 3 t) j
      = part (fun i l => A3 m c (ix2 i l)) t j := by
  idx_vars j
  pointwise [k0_pay11, part]
  refine Finset.sum_congr rfl fun k _ => ?_
  exact b3 m c t _ _

theorem arr10 : (dats m 0 c).arrAt 10 cfg0.N = Cert.Reference6Ideal.Read.val_main_v41 (F := Ideal) (A3 m c) := by
  refine (dats m 0 c).arrAt_eq_of_after_last 10 t0_7 (by decide +kernel) _ fun j => ?_
  blk_simp
  rw [after0_10]
  refine (Pipeline.eq_sum_fin_of_reset_step_apply_last (M := EReal) (fun n h => (outsAt0 m c n h).2.2.1) 8 0
    (part (fun i l => A3 m c (ix2 i l))) (fun t h j => ?_) (fun t h j => ?_) (by decide) t0_7 rfl j).trans ?_
  · have hn : ¬1 ≤ t.val := by have : t.val < 8 := t.isLt; omega
    rw [outsAt0_A m c t h hn h hn h hn h hn h hn]
    frame_out
    rw [Pi.zero_apply, zero_add]
    exact share10 m c t j
  · have hn : 1 ≤ t.val := by omega
    rw [outsAt0_B m c t h hn h hn h hn h hn h hn]
    frame_out
    pointwise [k0_pay12]
    exact congrArg _ (share10 m c t j)
  · rw [Pi.zero_apply, zero_add, sum_part]
    idx_vars j
    pointwise [Cert.Reference6Ideal.Read.val_main_v41, Cert.Reference6Ideal.Read.val_main_v40, Cert.Reference6Ideal.Read.val_main_cst_9]

theorem share11 (t : Fin cfg0.N) (j : S1x2048.Idx) :
    k0_pay14 (F := Ideal) (k0_pay13 (iblk m c 3 t) (k0_pay5 (F := Ideal) (iblk m c 1 t) (iblk m c 0 t) (iblk m c 4 t) (iblk m c 5 t) (iblk m c 6 t))) j
      = part (fun i l => Cert.Reference6Ideal.Read.val_main_v42 (F := Ideal) (A0 m c) (A1 m c) (A3 m c) (A4 m c) (A5 m c) (A6 m c) (ix2 i l)) t j := by
  idx_vars j
  pointwise [k0_pay14, k0_pay13, k0_pay5, part]
  refine Finset.sum_congr rfl fun k _ => ?_
  pointwise [Cert.Reference6Ideal.Read.val_main_v42, Cert.Reference6Ideal.Read.val_main_v39, Cert.Reference6Ideal.Read.val_main_v32, Cert.Reference6Ideal.Read.val_main_v31, Cert.Reference6Ideal.Read.val_main_v30, Cert.Reference6Ideal.Read.val_main_v29]
  rw [b3, b5, b6]
  refine (mul_comm _ _).trans (congrArg (· * _) (congrArg (· + _) (congrArg (· * _) (blk_norm m c t _ _))))

theorem arr11 : (dats m 0 c).arrAt 11 cfg0.N = Cert.Reference6Ideal.Read.val_main_v44 (F := Ideal) (A0 m c) (A1 m c) (A3 m c) (A4 m c) (A5 m c) (A6 m c) := by
  refine (dats m 0 c).arrAt_eq_of_after_last 11 t0_7 (by decide +kernel) _ fun j => ?_
  blk_simp
  rw [after0_11]
  refine (Pipeline.eq_sum_fin_of_reset_step_apply_last (M := EReal) (fun n h => (outsAt0 m c n h).2.2.2.1) 8 0
    (part (fun i l => Cert.Reference6Ideal.Read.val_main_v42 (F := Ideal) (A0 m c) (A1 m c) (A3 m c) (A4 m c) (A5 m c) (A6 m c) (ix2 i l))) (fun t h j => ?_) (fun t h j => ?_) (by decide) t0_7 rfl j).trans ?_
  · have hn : ¬1 ≤ t.val := by have : t.val < 8 := t.isLt; omega
    rw [outsAt0_A m c t h hn h hn h hn h hn h hn]
    frame_out
    rw [Pi.zero_apply, zero_add]
    exact share11 m c t j
  · have hn : 1 ≤ t.val := by omega
    rw [outsAt0_B m c t h hn h hn h hn h hn h hn]
    frame_out
    pointwise [k0_pay15]
    exact congrArg _ (share11 m c t j)
  · rw [Pi.zero_apply, zero_add, sum_part]
    idx_vars j
    pointwise [Cert.Reference6Ideal.Read.val_main_v44, Cert.Reference6Ideal.Read.val_main_v43, Cert.Reference6Ideal.Read.val_main_cst_10]

theorem share12 (t : Fin cfg0.N) (j : S1x2048.Idx) :
    k0_pay16 (F := Ideal) (k0_pay4 (F := Ideal) (iblk m c 1 t) (iblk m c 0 t) (iblk m c 4 t)) (k0_pay7 (F := Ideal) (iblk m c 3 t) (iblk m c 2 t) (k0_pay6 (iblk m c 7 t))) j
      = part (fun i l => Cert.Reference6Ideal.Read.val_main_v51 (F := Ideal) (A0 m c) (A1 m c) (A2 m c) (A3 m c) (A4 m c) (A7 m c) (ix2 i l)) t j := by
  idx_vars j
  pointwise [k0_pay16, part]
  refine Finset.sum_congr rfl fun k _ => ?_
  pointwise [Cert.Reference6Ideal.Read.val_main_v51, Cert.Reference6Ideal.Read.val_main_v48]
  exact (congrArg₂ _ (blk_up m c t _ _) (blk_norm m c t _ _)).trans (mul_comm _ _)

theorem arr12 : (dats m 0 c).arrAt 12 cfg0.N = Cert.Reference6Ideal.Read.val_main_v53 (F := Ideal) (A0 m c) (A1 m c) (A2 m c) (A3 m c) (A4 m c) (A7 m c) := by
  refine (dats m 0 c).arrAt_eq_of_after_last 12 t0_7 (by decide +kernel) _ fun j => ?_
  blk_simp
  rw [after0_12]
  refine (Pipeline.eq_sum_fin_of_reset_step_apply_last (M := EReal) (fun n h => (outsAt0 m c n h).2.2.2.2.1) 8 0
    (part (fun i l => Cert.Reference6Ideal.Read.val_main_v51 (F := Ideal) (A0 m c) (A1 m c) (A2 m c) (A3 m c) (A4 m c) (A7 m c) (ix2 i l))) (fun t h j => ?_) (fun t h j => ?_) (by decide) t0_7 rfl j).trans ?_
  · have hn : ¬1 ≤ t.val := by have : t.val < 8 := t.isLt; omega
    rw [outsAt0_A m c t h hn h hn h hn h hn h hn]
    frame_out
    rw [Pi.zero_apply, zero_add]
    exact share12 m c t j
  · have hn : 1 ≤ t.val := by omega
    rw [outsAt0_B m c t h hn h hn h hn h hn h hn]
    frame_out
    pointwise [k0_pay17]
    exact congrArg _ (share12 m c t j)
  · rw [Pi.zero_apply, zero_add, sum_part]
    idx_vars j
    pointwise [Cert.Reference6Ideal.Read.val_main_v53, Cert.Reference6Ideal.Read.val_main_v52, Cert.Reference6Ideal.Read.val_main_cst_12]

theorem share13 (t : Fin cfg0.N) (j : S1x2048.Idx) :
    k0_pay18 (F := Ideal) (k0_pay7 (F := Ideal) (iblk m c 3 t) (iblk m c 2 t) (k0_pay6 (iblk m c 7 t))) j
      = part (fun i l => Cert.Reference6Ideal.Read.val_main_v47 (F := Ideal) (A2 m c) (A3 m c) (A7 m c) (ix2 i l)) t j := by
  idx_vars j
  pointwise [k0_pay18, part]
  refine Finset.sum_congr rfl fun k _ => ?_
  exact blk_up m c t _ _

theorem arr13 : (dats m 0 c).arrAt 13 cfg0.N = Cert.Reference6Ideal.Read.val_main_v50 (F := Ideal) (A2 m c) (A3 m c) (A7 m c) := by
  refine (dats m 0 c).arrAt_eq_of_after_last 13 t0_7 (by decide +kernel) _ fun j => ?_
  blk_simp
  rw [after0_13]
  refine (Pipeline.eq_sum_fin_of_reset_step_apply_last (M := EReal) (fun n h => (outsAt0 m c n h).2.2.2.2.2.1) 8 0
    (part (fun i l => Cert.Reference6Ideal.Read.val_main_v47 (F := Ideal) (A2 m c) (A3 m c) (A7 m c) (ix2 i l))) (fun t h j => ?_) (fun t h j => ?_) (by decide) t0_7 rfl j).trans ?_
  · have hn : ¬1 ≤ t.val := by have : t.val < 8 := t.isLt; omega
    rw [outsAt0_A m c t h hn h hn h hn h hn h hn]
    frame_out
    rw [Pi.zero_apply, zero_add]
    exact share13 m c t j
  · have hn : 1 ≤ t.val := by omega
    rw [outsAt0_B m c t h hn h hn h hn h hn h hn]
    frame_out
    pointwise [k0_pay19]
    exact congrArg _ (share13 m c t j)
  · rw [Pi.zero_apply, zero_add, sum_part]
    idx_vars j
    pointwise [Cert.Reference6Ideal.Read.val_main_v50, Cert.Reference6Ideal.Read.val_main_v49, Cert.Reference6Ideal.Read.val_main_cst_11]

theorem share14 (hf : Reals m c) (t : Fin cfg0.N) (j : S1x2048.Idx) :
    k0_pay20 (F := Ideal) (iblk m c 1 t) (k0_pay8 (F := Ideal) (iblk m c 3 t) (k0_pay3 (iblk m c 1 t) (iblk m c 0 t) (iblk m c 4 t)) (k0_pay4 (iblk m c 1 t) (iblk m c 0 t) (iblk m c 4 t)) (iblk m c 2 t) (k0_pay6 (iblk m c 7 t)) (iblk m c 5 t)) j
      = part (fun i l => Cert.Reference6Ideal.Read.val_main_v82 (F := Ideal) (A0 m c) (A1 m c) (A2 m c) (A3 m c) (A4 m c) (A5 m c) (A7 m c) (ix2 i l)) t j := by
  idx_vars j
  pointwise [k0_pay20, part]
  refine Finset.sum_congr rfl fun k _ => ?_
  pointwise [Cert.Reference6Ideal.Read.val_main_v82]
  rw [b1]
  exact congrArg (· * _) (blk_dr m c hf t _ _)

theorem arr14 (hf : Reals m c) : (dats m 0 c).arrAt 14 cfg0.N = Cert.Reference6Ideal.Read.val_main_v84 (F := Ideal) (A0 m c) (A1 m c) (A2 m c) (A3 m c) (A4 m c) (A5 m c) (A7 m c) := by
  refine (dats m 0 c).arrAt_eq_of_after_last 14 t0_7 (by decide +kernel) _ fun j => ?_
  blk_simp
  rw [after0_14]
  refine (Pipeline.eq_sum_fin_of_reset_step_apply_last (M := EReal) (fun n h => (outsAt0 m c n h).2.2.2.2.2.2) 8 0
    (part (fun i l => Cert.Reference6Ideal.Read.val_main_v82 (F := Ideal) (A0 m c) (A1 m c) (A2 m c) (A3 m c) (A4 m c) (A5 m c) (A7 m c) (ix2 i l))) (fun t h j => ?_) (fun t h j => ?_) (by decide) t0_7 rfl j).trans ?_
  · have hn : ¬1 ≤ t.val := by have : t.val < 8 := t.isLt; omega
    rw [outsAt0_A m c t h hn h hn h hn h hn h hn]
    frame_out
    rw [Pi.zero_apply, zero_add]
    exact share14 m c hf t j
  · have hn : 1 ≤ t.val := by omega
    rw [outsAt0_B m c t h hn h hn h hn h hn h hn]
    frame_out
    pointwise [k0_pay1]
    exact congrArg _ (share14 m c hf t j)
  · rw [Pi.zero_apply, zero_add, sum_part]
    idx_vars j
    pointwise [Cert.Reference6Ideal.Read.val_main_v84, Cert.Reference6Ideal.Read.val_main_v83, Cert.Reference6Ideal.Read.val_main_cst_20]

/-- What the precondition says of one element. -/
theorem finite (h : Cert.Pre_ln1_finite.fn (F := Ideal) (A0 m c) (A1 m c) (A2 m c) (A3 m c) (A4 m c) (A5 m c) (A6 m c) (A7 m c) = fun _ => 1#1) :
    Reals m c := by
  intro i k
  have top : Ideal.ofBits .f32 0x7F800000#32 = ⊤ := by simp [Ideal.ofBits, Ideal.ieee]
  have e : Cert.Pre_ln1_finite.fn (F := Ideal) (A0 m c) (A1 m c) (A2 m c) (A3 m c) (A4 m c) (A5 m c) (A6 m c) (A7 m c) (ix2 i k)
      = BitVec.ofBool (decide (max (up (fun i k => A2 m c (ix2 i k)) (fun i k => A3 m c (ix2 i k)) (fun k => A7 m c (ix2 0 k)) i k * A5 m c (ix2 0 k))
        (-(up (fun i k => A2 m c (ix2 i k)) (fun i k => A3 m c (ix2 i k)) (fun k => A7 m c (ix2 0 k)) i k * A5 m c (ix2 0 k))) < ⊤)) := by
    pointwise [Cert.Pre_ln1_finite.fn, up]
    rw [top]
    rfl
  rw [h] at e
  have t := (WordCmp.ofBool_eq_one_iff _).mp e.symm
  rw [decide_eq_true_iff] at t
  generalize up (fun i k => A2 m c (ix2 i k)) (fun i k => A3 m c (ix2 i k)) (fun k => A7 m c (ix2 0 k)) i k * A5 m c (ix2 0 k) = x at t ⊢
  induction x with
  | bot => simp at t
  | top => simp at t
  | coe r => exact ⟨r, rfl⟩

set_option maxHeartbeats 2000000 in
/-- The kernel's gradients of the first layer norm are the reference's. -/
theorem algebraic : Cert.algebraic_Kernel6Ideal_Reference6Ideal_pre_ln1_finite (hKernel6Ideal := Cert.Kernel6Ideal.Gen.facts)
    (hReference6Ideal := Cert.Reference6Ideal.Gen.facts) (hPre_ln1_finite := Cert.Pre_ln1_finite.Gen.facts) := by
  intro m g m' g' hpre hag
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, fun c => (dats m 0 c).arrAt 13 cfg0.N,
    fun c => (dats m 0 c).arrAt 14 cfg0.N, Cert.Kernel6Ideal.Value.run_blocks m g, ?_⟩
  refine (θ_run _ _ _).mono (fun r h c => ?_) (Cert.Reference6Ideal.Value.run (F := Ideal) m' g')
  have hf : Reals m c := finite m c (hpre c)
  obtain ⟨a0, a1, a2, a3, a4, a5, a6, a7⟩ := hag c
  obtain ⟨r0, r1, r2, r3, r4, r5, r6, hr⟩ := h c
  refine ⟨r0.trans ?_, r1.trans ?_, r2.trans ?_, r3.trans ?_, r4.trans ?_, r5.trans ?_, r6.trans ?_, hr⟩
  · rw [Cert.Reference6Ideal.Read.val_main_v87_eq, a0, a1, a2, a3, a4, a5, a7]
    exact (arr8 m c hf).symm
  · rw [Cert.Reference6Ideal.Read.val_main_v86_eq, a0, a1, a2, a3, a4, a5, a7]
    exact (arr9 m c hf).symm
  · rw [a3]
    exact (arr10 m c).symm
  · rw [a0, a1, a3, a4, a5, a6]
    exact (arr11 m c).symm
  · rw [a0, a1, a2, a3, a4, a7]
    exact (arr12 m c).symm
  · rw [a2, a3, a7]
    exact (arr13 m c).symm
  · rw [Cert.Reference6Ideal.Read.val_main_v84_eq, a0, a1, a2, a3, a4, a5, a7]
    exact (arr14 m c hf).symm

end Cert.NormOne

end
-- ==== Proof.LossBack.lean ====
module

public import proofs.«01_k».proof.Defs
public import proofs.«01_k».proof.Proof.Gen.Kernel7.Frame
public import proofs.«01_k».proof.Proof.Gen.Pre_ln2_finite
public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import proofs.«01_k».proof.Proof.LayerNorm

@[expose] public section

set_option maxRecDepth 16384

noncomputable section

namespace Cert.LossBack

open Idealize.ShloMosaic Idealize.ShloMosaic.TcCoe Idealize.SL.Sem Idealize.ShloMosaic.Pipeline
open Cert.Kernel7Ideal Cert.Kernel7Ideal.Gen Cert.LayerNorm

variable (m : (ℓ : Loc nD τ sig) → Buf (Elt Ideal) ℓ) (c : Dev nD)

abbrev A0 : S2048x2048.Idx → EReal := m ((c.tc : Thread nD τ).loc main_arg0)
abbrev A1 : S2048x2048.Idx → EReal := m ((c.tc : Thread nD τ).loc main_arg1)
abbrev A2 : S1x2048.Idx → EReal := m ((c.tc : Thread nD τ).loc main_arg2)
abbrev A3 : S1x2048.Idx → EReal := m ((c.tc : Thread nD τ).loc main_arg3)
abbrev A4 : S1x2048.Idx → EReal := m ((c.tc : Thread nD τ).loc main_arg4)
abbrev A5 : S2048x2048.Idx → EReal := m ((c.tc : Thread nD τ).loc main_arg5)

/-- Where the windows' blocks stand at each grid point. -/
theorem idx : ∀ t : Fin cfg0.N, win0_0.index t = ![t.val, 0] ∧ win0_1.index t = ![t.val, 0] ∧ win0_5.index t = ![t.val, 0] ∧ win0_6.index t = ![t.val, 0] ∧ win0_7.index t = ![t.val, 0] ∧ win0_2.index t = ![0, 0] ∧ win0_3.index t = ![0, 0] ∧ win0_4.index t = ![0, 0] :=
  (by decide +kernel : ∀ t : Fin grid0.N, win0_0.index t = ![t.val, 0] ∧ win0_1.index t = ![t.val, 0] ∧ win0_5.index t = ![t.val, 0] ∧ win0_6.index t = ![t.val, 0] ∧ win0_7.index t = ![t.val, 0] ∧ win0_2.index t = ![0, 0] ∧ win0_3.index t = ![0, 0] ∧ win0_4.index t = ![0, 0])

section Rows

/-- The residual's row. -/
def res {p : ℕ} (x x' : Fin p → Fin 2048 → EReal) (a : Fin 2048 → EReal) (i : Fin p) (j : Fin 2048) : EReal :=
  Ideal.ofBits .f32 0x3F9837F0#32 * x i j + a j * x' i j

theorem half : Ideal.ofBits .f32 0x3F000000#32 = ((1 / 2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem inv_n : Ideal.ofBits .f32 0x3A000000#32 = ((1 / 2048 : ℝ) : EReal) := by
  simp [Ideal.ofBits, Ideal.ieee, -EReal.coe_mul]; norm_num

theorem half_inv_n : Ideal.ofBits .f32 0x39800000#32 = ((1 / 4096 : ℝ) : EReal) := by
  simp [Ideal.ofBits, Ideal.ieee, -EReal.coe_mul]; norm_num

/-- Half the square's derivative over the row's length. -/
theorem scale (x : EReal) : Ideal.div (Ideal.ofBits .f32 0x3F000000#32 * 1) (Ideal.ofBits .f32 0x45000000#32) * (Ideal.ofBits .f32 0x40000000#32 * x)
    = x * Ideal.ofBits .f32 0x3A000000#32 := by
  rw [half, bits_n, bits_two, inv_n, mul_one, Ideal.div_coe (by norm_num), ← EReal.coe_mul, ← mul_assoc, ← EReal.coe_mul, mul_comm]
  norm_num

/-- A normalised row is real. -/
theorem norm_real {n : ℕ} (r : Fin n → EReal) (j : Fin n) : ∃ x : ℝ, Cert.LayerNorm.norm r j = x := by
  by_cases h : ∀ k, ∃ x : ℝ, r k = x
  · choose R hR using h
    obtain ⟨e, he, hE⟩ := bits_eps
    have hc : ∀ k, cen r k = ((R k - (∑ k, R k) * (1 / 2048) : ℝ) : EReal) := fun k => by
      simp only [cen, hR, bits_n, Ideal.div_coe (by norm_num : (2048 : ℝ) ≠ 0), coe_sum, ← EReal.coe_mul, ← EReal.coe_sub]
    generalize (fun k => R k - (∑ k, R k) * (1 / 2048)) = C at *
    have hp : 0 < (∑ k, (R k - (∑ k, R k) * (1 / 2048)) * (R k - (∑ k, R k) * (1 / 2048))) * (1 / 2048) + e := by
      have hs : 0 ≤ ∑ k, (R k - (∑ k, R k) * (1 / 2048)) * (R k - (∑ k, R k) * (1 / 2048)) := Finset.sum_nonneg fun k _ => mul_self_nonneg _
      positivity
    have hv : vari r = (((∑ k, (R k - (∑ k, R k) * (1 / 2048)) * (R k - (∑ k, R k) * (1 / 2048))) * (1 / 2048) + e : ℝ) : EReal) := by
      simp only [vari, hc, hE, bits_n, Ideal.div_coe (by norm_num : (2048 : ℝ) ≠ 0), coe_sum, ← EReal.coe_mul, ← EReal.coe_add]
    rw [Cert.LayerNorm.norm, hv, hc, Ideal.rsqrt_coe, if_neg hp.not_gt, if_neg hp.ne', ← EReal.coe_mul]
    exact ⟨_, rfl⟩
  · have h0 : Ideal.rsqrt ⊤ = 0 := rfl
    exact ⟨0, by rw [Cert.LayerNorm.norm, vari_top r h, h0, mul_zero, EReal.coe_zero]⟩

theorem pay_norm (x x' t : S256x2048.Idx → EReal) (a g b : S1x2048.Idx → EReal) (i : Fin 256) (j : Fin 2048) :
    k0_pay9 (F := Ideal) x' x a (ix2 i j) = Cert.LayerNorm.norm (res (fun i k => x (ix2 i k)) (fun i k => x' (ix2 i k)) (fun k => a (ix2 0 k)) i) j := by
  pointwise [k0_pay7, k0_pay8, k0_pay9, Cert.LayerNorm.norm, vari, cen, res]

theorem ref_norm (x x' t : S2048x2048.Idx → EReal) (a g b : S1x2048.Idx → EReal) (i j : Fin 2048) :
    Cert.Reference7Ideal.Read.val_main_v27 (F := Ideal) x x' a (ix2 i j) = Cert.LayerNorm.norm (res (fun i k => x (ix2 i k)) (fun i k => x' (ix2 i k)) (fun k => a (ix2 0 k)) i) j := by
  pointwise [Cert.Reference7Ideal.Read.val_main_cst, Cert.Reference7Ideal.Read.val_main_v0, Cert.Reference7Ideal.Read.val_main_v1, Cert.Reference7Ideal.Read.val_main_v2, Cert.Reference7Ideal.Read.val_main_v3, Cert.Reference7Ideal.Read.val_main_v4, Cert.Reference7Ideal.Read.val_main_cst_0, Cert.Reference7Ideal.Read.val_main_v5, Cert.Reference7Ideal.Read.val_main_v6, Cert.Reference7Ideal.Read.val_main_cst_1, Cert.Reference7Ideal.Read.val_main_v7, Cert.Reference7Ideal.Read.val_main_v8, Cert.Reference7Ideal.Read.val_main_v9, Cert.Reference7Ideal.Read.val_main_v10, Cert.Reference7Ideal.Read.val_main_v11, Cert.Reference7Ideal.Read.val_main_cst_2, Cert.Reference7Ideal.Read.val_main_v12, Cert.Reference7Ideal.Read.val_main_v13, Cert.Reference7Ideal.Read.val_main_cst_3, Cert.Reference7Ideal.Read.val_main_v14, Cert.Reference7Ideal.Read.val_main_v15, Cert.Reference7Ideal.Read.val_main_cst_4, Cert.Reference7Ideal.Read.val_main_v16, Cert.Reference7Ideal.Read.val_main_v17, Cert.Reference7Ideal.Read.val_main_v18, Cert.Reference7Ideal.Read.val_main_v19, Cert.Reference7Ideal.Read.val_main_cst_5, Cert.Reference7Ideal.Read.val_main_v20, Cert.Reference7Ideal.Read.val_main_v21, Cert.Reference7Ideal.Read.val_main_v22, Cert.Reference7Ideal.Read.val_main_v23, Cert.Reference7Ideal.Read.val_main_cst_6, Cert.Reference7Ideal.Read.val_main_v24, Cert.Reference7Ideal.Read.val_main_v25, Cert.Reference7Ideal.Read.val_main_v26, Cert.Reference7Ideal.Read.val_main_v27, Cert.LayerNorm.norm, vari, cen, res]

theorem pay_err (x x' t : S256x2048.Idx → EReal) (a g b : S1x2048.Idx → EReal) (i : Fin 256) (j : Fin 2048) :
    k0_pay10 (F := Ideal) x' x a g b t (ix2 i j) = Cert.LayerNorm.norm (res (fun i k => x (ix2 i k)) (fun i k => x' (ix2 i k)) (fun k => a (ix2 0 k)) i) j * g (ix2 0 j) + b (ix2 0 j) - t (ix2 i j) := by
  rw [← pay_norm x x' t a g b]
  pointwise [k0_pay10]

theorem ref_err (x x' t : S2048x2048.Idx → EReal) (a g b : S1x2048.Idx → EReal) (i j : Fin 2048) :
    Cert.Reference7Ideal.Read.val_main_v32 (F := Ideal) x x' a g b t (ix2 i j) = Cert.LayerNorm.norm (res (fun i k => x (ix2 i k)) (fun i k => x' (ix2 i k)) (fun k => a (ix2 0 k)) i) j * g (ix2 0 j) + b (ix2 0 j) - t (ix2 i j) := by
  rw [← ref_norm x x' t a g b]
  pointwise [Cert.Reference7Ideal.Read.val_main_v28, Cert.Reference7Ideal.Read.val_main_v29, Cert.Reference7Ideal.Read.val_main_v30, Cert.Reference7Ideal.Read.val_main_v31, Cert.Reference7Ideal.Read.val_main_v32]

theorem ref_dy (x x' t : S2048x2048.Idx → EReal) (a g b : S1x2048.Idx → EReal) (i j : Fin 2048) :
    Cert.Reference7Ideal.Read.val_main_v46 (F := Ideal) x x' a g b t (ix2 i j) = Cert.Reference7Ideal.Read.val_main_v32 (F := Ideal) x x' a g b t (ix2 i j) * Ideal.ofBits .f32 0x3A000000#32 := by
  rw [← scale]
  pointwise [Cert.Reference7Ideal.Read.val_main_v46, Cert.Reference7Ideal.Read.val_main_v45, Cert.Reference7Ideal.Read.val_main_v44, Cert.Reference7Ideal.Read.val_main_v43, Cert.Reference7Ideal.Read.val_main_v42, Cert.Reference7Ideal.Read.val_main_v41, Cert.Reference7Ideal.Read.val_main_v35, Cert.Reference7Ideal.Read.val_main_v34, Cert.Reference7Ideal.Read.val_main_cst_7, Cert.Reference7Ideal.Read.val_main_cst_12, Cert.Reference7Ideal.Read.val_main_cst_13, Cert.Reference7Ideal.Read.val_main_cst_14]

theorem pay_dr (x x' t : S256x2048.Idx → EReal) (a g b : S1x2048.Idx → EReal) (i : Fin 256) (j : Fin 2048) :
    k0_pay13 (F := Ideal) (k0_pay8 x' x a) (k0_pay9 x' x a) (k0_pay12 x' x a g b t g) (ix2 i j)
      = kern (res (fun i k => x (ix2 i k)) (fun i k => x' (ix2 i k)) (fun k => a (ix2 0 k)) i) (fun k => k0_pay10 (F := Ideal) x' x a g b t (ix2 i k) * Ideal.ofBits .f32 0x3A000000#32 * g (ix2 0 k)) j := by
  pointwise [k0_pay7, k0_pay8, k0_pay9, k0_pay11, k0_pay12, k0_pay13, kern, Cert.LayerNorm.norm, vari, cen, res]

theorem ref_dr (x x' t : S2048x2048.Idx → EReal) (a g b : S1x2048.Idx → EReal) (i j : Fin 2048) :
    Cert.Reference7Ideal.Read.val_main_v77 (F := Ideal) x x' a g b t (ix2 i j)
      = refr (res (fun i k => x (ix2 i k)) (fun i k => x' (ix2 i k)) (fun k => a (ix2 0 k)) i) (fun k => Cert.Reference7Ideal.Read.val_main_v46 (F := Ideal) x x' a g b t (ix2 i k) * g (ix2 0 k)) j := by
  rw [refr, Cert.LayerNorm.slope]
  pointwise [Cert.Reference7Ideal.Read.val_main_cst, Cert.Reference7Ideal.Read.val_main_v0, Cert.Reference7Ideal.Read.val_main_v1, Cert.Reference7Ideal.Read.val_main_v2, Cert.Reference7Ideal.Read.val_main_v3, Cert.Reference7Ideal.Read.val_main_v4, Cert.Reference7Ideal.Read.val_main_cst_0, Cert.Reference7Ideal.Read.val_main_v5, Cert.Reference7Ideal.Read.val_main_v6, Cert.Reference7Ideal.Read.val_main_cst_1, Cert.Reference7Ideal.Read.val_main_v7, Cert.Reference7Ideal.Read.val_main_v8, Cert.Reference7Ideal.Read.val_main_v9, Cert.Reference7Ideal.Read.val_main_v10, Cert.Reference7Ideal.Read.val_main_v11, Cert.Reference7Ideal.Read.val_main_cst_2, Cert.Reference7Ideal.Read.val_main_v12, Cert.Reference7Ideal.Read.val_main_v13, Cert.Reference7Ideal.Read.val_main_cst_3, Cert.Reference7Ideal.Read.val_main_v14, Cert.Reference7Ideal.Read.val_main_v15, Cert.Reference7Ideal.Read.val_main_cst_4, Cert.Reference7Ideal.Read.val_main_v16, Cert.Reference7Ideal.Read.val_main_v17, Cert.Reference7Ideal.Read.val_main_v18, Cert.Reference7Ideal.Read.val_main_v19, Cert.Reference7Ideal.Read.val_main_cst_5, Cert.Reference7Ideal.Read.val_main_v20, Cert.Reference7Ideal.Read.val_main_v21, Cert.Reference7Ideal.Read.val_main_v22, Cert.Reference7Ideal.Read.val_main_v23, Cert.Reference7Ideal.Read.val_main_cst_6, Cert.Reference7Ideal.Read.val_main_v24, Cert.Reference7Ideal.Read.val_main_v25, Cert.Reference7Ideal.Read.val_main_v26, Cert.Reference7Ideal.Read.val_main_v27, Cert.Reference7Ideal.Read.val_main_cst_15, Cert.Reference7Ideal.Read.val_main_v47, Cert.Reference7Ideal.Read.val_main_v48, Cert.Reference7Ideal.Read.val_main_v49, Cert.Reference7Ideal.Read.val_main_cst_16, Cert.Reference7Ideal.Read.val_main_v50, Cert.Reference7Ideal.Read.val_main_v51, Cert.Reference7Ideal.Read.val_main_v52, Cert.Reference7Ideal.Read.val_main_v53, Cert.Reference7Ideal.Read.val_main_v54, Cert.Reference7Ideal.Read.val_main_cst_17, Cert.Reference7Ideal.Read.val_main_v55, Cert.Reference7Ideal.Read.val_main_v56, Cert.Reference7Ideal.Read.val_main_v57, Cert.Reference7Ideal.Read.val_main_v58, Cert.Reference7Ideal.Read.val_main_v59, Cert.Reference7Ideal.Read.val_main_v60, Cert.Reference7Ideal.Read.val_main_cst_18, Cert.Reference7Ideal.Read.val_main_v61, Cert.Reference7Ideal.Read.val_main_v62, Cert.Reference7Ideal.Read.val_main_cst_19, Cert.Reference7Ideal.Read.val_main_v63, Cert.Reference7Ideal.Read.val_main_v64, Cert.Reference7Ideal.Read.val_main_cst_20, Cert.Reference7Ideal.Read.val_main_v65, Cert.Reference7Ideal.Read.val_main_v66, Cert.Reference7Ideal.Read.val_main_v67, Cert.Reference7Ideal.Read.val_main_v68, Cert.Reference7Ideal.Read.val_main_cst_21, Cert.Reference7Ideal.Read.val_main_v69, Cert.Reference7Ideal.Read.val_main_v70, Cert.Reference7Ideal.Read.val_main_v71, Cert.Reference7Ideal.Read.val_main_v72, Cert.Reference7Ideal.Read.val_main_cst_22, Cert.Reference7Ideal.Read.val_main_v73, Cert.Reference7Ideal.Read.val_main_v74, Cert.Reference7Ideal.Read.val_main_cst_23, Cert.Reference7Ideal.Read.val_main_v75, Cert.Reference7Ideal.Read.val_main_v76, Cert.Reference7Ideal.Read.val_main_v77, vari, cen, res]

end Rows

/-- A block's row in the whole array. -/
def at_ (t : Fin cfg0.N) (i : Fin 256) : Fin 2048 := ⟨256 * t.val + i.val, by have : t.val < 8 := t.isLt; omega⟩

theorem b0 (t : Fin cfg0.N) (i : Fin 256) (k : Fin 2048) : (iblk m c 0 t : S256x2048.Idx → EReal) (ix2 i k) = A0 m c (ix2 (at_ t i) k) := by
  have e := (idx t).1
  blk_point [iblk, e, at_]

theorem b1 (t : Fin cfg0.N) (i : Fin 256) (k : Fin 2048) : (iblk m c 1 t : S256x2048.Idx → EReal) (ix2 i k) = A1 m c (ix2 (at_ t i) k) := by
  have e := (idx t).2.1
  blk_point [iblk, e, at_]

theorem b5 (t : Fin cfg0.N) (i : Fin 256) (k : Fin 2048) : (iblk m c 5 t : S256x2048.Idx → EReal) (ix2 i k) = A5 m c (ix2 (at_ t i) k) := by
  have e := (idx t).2.2.1
  blk_point [iblk, e, at_]

theorem b2 (t : Fin cfg0.N) (k : Fin 2048) : (iblk m c 2 t : S1x2048.Idx → EReal) (ix2 0 k) = A2 m c (ix2 0 k) := by
  have e := (idx t).2.2.2.2.2.1
  blk_point [iblk, e]

theorem b3 (t : Fin cfg0.N) (k : Fin 2048) : (iblk m c 3 t : S1x2048.Idx → EReal) (ix2 0 k) = A3 m c (ix2 0 k) := by
  have e := (idx t).2.2.2.2.2.2.1
  blk_point [iblk, e]

theorem b4 (t : Fin cfg0.N) (k : Fin 2048) : (iblk m c 4 t : S1x2048.Idx → EReal) (ix2 0 k) = A4 m c (ix2 0 k) := by
  have e := (idx t).2.2.2.2.2.2.2
  blk_point [iblk, e]

/-- The scale, the shift and the target are real. -/
def Reals : Prop := ∀ i k : Fin 2048, (∃ r : ℝ, A5 m c (ix2 i k) = r) ∧ (∃ r : ℝ, A3 m c (ix2 0 k) = r) ∧ ∃ r : ℝ, A4 m c (ix2 0 k) = r

/-- The error is real. -/
theorem err_real (hf : Reals m c) (i k : Fin 2048) : ∃ r : ℝ, Cert.Reference7Ideal.Read.val_main_v32 (F := Ideal) (A0 m c) (A1 m c) (A2 m c) (A3 m c) (A4 m c) (A5 m c) (ix2 i k) = r := by
  obtain ⟨⟨t, ht⟩, ⟨g, hg⟩, ⟨b, hb⟩⟩ := hf i k
  obtain ⟨n, hn⟩ := norm_real (res (fun i k => A0 m c (ix2 i k)) (fun i k => A1 m c (ix2 i k)) (fun k => A2 m c (ix2 0 k)) i) k
  exact ⟨n * g + b - t, by rw [ref_err, hn, ht, hg, hb, ← EReal.coe_mul, ← EReal.coe_add, ← EReal.coe_sub]⟩

theorem blk_res (t : Fin cfg0.N) (i : Fin 256) :
    res (fun i k => (iblk m c 0 t : S256x2048.Idx → EReal) (ix2 i k)) (fun i k => (iblk m c 1 t : S256x2048.Idx → EReal) (ix2 i k)) (fun k => (iblk m c 2 t : S1x2048.Idx → EReal) (ix2 0 k)) i
      = res (fun i k => A0 m c (ix2 i k)) (fun i k => A1 m c (ix2 i k)) (fun k => A2 m c (ix2 0 k)) (at_ t i) := by
  funext k
  simp only [res, b0, b1, b2]

theorem blk_norm (t : Fin cfg0.N) (i : Fin 256) (j : Fin 2048) :
    k0_pay9 (F := Ideal) (iblk m c 1 t) (iblk m c 0 t) (iblk m c 2 t) (ix2 i j) = Cert.Reference7Ideal.Read.val_main_v27 (F := Ideal) (A0 m c) (A1 m c) (A2 m c) (ix2 (at_ t i) j) := by
  refine (pay_norm _ _ (iblk m c 5 t) _ (iblk m c 3 t) (iblk m c 4 t) i j).trans ?_
  rw [ref_norm _ _ (A5 m c) _ (A3 m c) (A4 m c), blk_res]

theorem blk_err (t : Fin cfg0.N) (i : Fin 256) (j : Fin 2048) :
    k0_pay10 (F := Ideal) (iblk m c 1 t) (iblk m c 0 t) (iblk m c 2 t) (iblk m c 3 t) (iblk m c 4 t) (iblk m c 5 t) (ix2 i j) = Cert.Reference7Ideal.Read.val_main_v32 (F := Ideal) (A0 m c) (A1 m c) (A2 m c) (A3 m c) (A4 m c) (A5 m c) (ix2 (at_ t i) j) := by
  refine (pay_err _ _ _ _ _ _ i j).trans ?_
  rw [ref_err, blk_res, b3, b4, b5]

theorem blk_dy (t : Fin cfg0.N) (i : Fin 256) (j : Fin 2048) :
    k0_pay11 (F := Ideal) (iblk m c 1 t) (iblk m c 0 t) (iblk m c 2 t) (iblk m c 3 t) (iblk m c 4 t) (iblk m c 5 t) (ix2 i j) = Cert.Reference7Ideal.Read.val_main_v46 (F := Ideal) (A0 m c) (A1 m c) (A2 m c) (A3 m c) (A4 m c) (A5 m c) (ix2 (at_ t i) j) := by
  rw [ref_dy, ← blk_err]
  pointwise [k0_pay11]

theorem blk_dr (hf : Reals m c) (t : Fin cfg0.N) (i : Fin 256) (j : Fin 2048) :
    k0_pay13 (F := Ideal) (k0_pay8 (iblk m c 1 t) (iblk m c 0 t) (iblk m c 2 t)) (k0_pay9 (iblk m c 1 t) (iblk m c 0 t) (iblk m c 2 t)) (k0_pay12 (iblk m c 1 t) (iblk m c 0 t) (iblk m c 2 t) (iblk m c 3 t) (iblk m c 4 t) (iblk m c 5 t) (iblk m c 3 t)) (ix2 i j) = Cert.Reference7Ideal.Read.val_main_v77 (F := Ideal) (A0 m c) (A1 m c) (A2 m c) (A3 m c) (A4 m c) (A5 m c) (ix2 (at_ t i) j) := by
  refine (pay_dr _ _ _ _ _ _ i j).trans ?_
  rw [ref_dr, ← row (by norm_num) _ _ j (fun k => ?_), blk_res]
  · congr 1
    funext k
    rw [ref_dy, blk_err, b3]
  · obtain ⟨e, he⟩ := err_real m c hf (at_ t i) k
    obtain ⟨g, hg⟩ := (hf (at_ t i) k).2.1
    exact ⟨e * (1 / 2048) * g, by rw [ref_dy, he, hg, inv_n, EReal.coe_mul, EReal.coe_mul]⟩

/-- A block's share of a sum over the rows. -/
def part (f : Fin 2048 → EReal) (t : Fin cfg0.N) : EReal := ∑ k : Fin 256, f (at_ t k)

theorem sum_part (f : Fin 2048 → EReal) : ∑ t : Fin cfg0.N, part f t = ∑ i, f i := by
  refine Fin.sum_mul_add_congr (n := 256) fun s k hl => ?_
  exact congrArg f (Fin.ext (by simp only [at_]; omega))

theorem at_emb6 (t : Fin cfg0.N) (y : S256x2048.Idx) : ((View.whole main_v0_0).slice (win0_6.rect t)).emb y = ix2 (at_ t (y 0)) (y 1) := by
  have e := (idx t).2.2.2.1
  blk_point [e, at_]

theorem at_emb7 (t : Fin cfg0.N) (y : S256x2048.Idx) : ((View.whole main_v0_1).slice (win0_7.rect t)).emb y = ix2 (at_ t (y 0)) (y 1) := by
  have e := (idx t).2.2.2.2.1
  blk_point [e, at_]

theorem out6 (hf : Reals m c) (t : Fin cfg0.N) (y : S256x2048.Idx) :
    k0_pay14 (F := Ideal) (k0_pay8 (iblk m c 1 t) (iblk m c 0 t) (iblk m c 2 t)) (k0_pay9 (iblk m c 1 t) (iblk m c 0 t) (iblk m c 2 t)) (k0_pay12 (iblk m c 1 t) (iblk m c 0 t) (iblk m c 2 t) (iblk m c 3 t) (iblk m c 4 t) (iblk m c 5 t) (iblk m c 3 t)) (iblk m c 2 t) y = Cert.Reference7Ideal.Read.val_main_v85 (F := Ideal) (A0 m c) (A1 m c) (A2 m c) (A3 m c) (A4 m c) (A5 m c) (((View.whole main_v0_0).slice (win0_6.rect t)).emb y) := by
  rw [at_emb6]
  idx_vars y
  pointwise [k0_pay14, Cert.Reference7Ideal.Read.val_main_v85, Cert.Reference7Ideal.Read.val_main_v79, Cert.Reference7Ideal.Read.val_main_v78]
  rw [b2]
  exact congrArg _ (blk_dr m c hf t _ _)

theorem out7 (hf : Reals m c) (t : Fin cfg0.N) (y : S256x2048.Idx) :
    k0_pay15 (F := Ideal) (k0_pay8 (iblk m c 1 t) (iblk m c 0 t) (iblk m c 2 t)) (k0_pay9 (iblk m c 1 t) (iblk m c 0 t) (iblk m c 2 t)) (k0_pay12 (iblk m c 1 t) (iblk m c 0 t) (iblk m c 2 t) (iblk m c 3 t) (iblk m c 4 t) (iblk m c 5 t) (iblk m c 3 t)) y = Cert.Reference7Ideal.Read.val_main_v84 (F := Ideal) (A0 m c) (A1 m c) (A2 m c) (A3 m c) (A4 m c) (A5 m c) (((View.whole main_v0_1).slice (win0_7.rect t)).emb y) := by
  rw [at_emb7]
  idx_vars y
  pointwise [k0_pay15, Cert.Reference7Ideal.Read.val_main_v84, Cert.Reference7Ideal.Read.val_main_v83, Cert.Reference7Ideal.Read.val_main_cst_25]
  exact congrArg _ (blk_dr m c hf t _ _)

theorem arr6 (hf : Reals m c) : (dats m 0 c).arrAt 6 cfg0.N = Cert.Reference7Ideal.Read.val_main_v85 (F := Ideal) (A0 m c) (A1 m c) (A2 m c) (A3 m c) (A4 m c) (A5 m c) := by
  refine (dats m 0 c).arrAt_eq_of_covers 6 _ (by decide +kernel) fun t _ y => ?_
  blk_simp
  rw [after0_6]
  have ht : t.val < 8 := t.isLt
  by_cases h : t.val % 8 = 0
  · have hn : ¬1 ≤ t.val := by omega
    rw [outsAt0_A m c t h hn h hn h hn h hn]
    frame_out
    exact out6 m c hf t y
  · have hn : 1 ≤ t.val := by omega
    rw [outsAt0_B m c t h hn h hn h hn h hn]
    frame_out
    exact out6 m c hf t y

theorem arr7 (hf : Reals m c) : (dats m 0 c).arrAt 7 cfg0.N = Cert.Reference7Ideal.Read.val_main_v84 (F := Ideal) (A0 m c) (A1 m c) (A2 m c) (A3 m c) (A4 m c) (A5 m c) := by
  refine (dats m 0 c).arrAt_eq_of_covers 7 _ (by decide +kernel) fun t _ y => ?_
  blk_simp
  rw [after0_7]
  have ht : t.val < 8 := t.isLt
  by_cases h : t.val % 8 = 0
  · have hn : ¬1 ≤ t.val := by omega
    rw [outsAt0_A m c t h hn h hn h hn h hn]
    frame_out
    exact out7 m c hf t y
  · have hn : 1 ≤ t.val := by omega
    rw [outsAt0_B m c t h hn h hn h hn h hn]
    frame_out
    exact out7 m c hf t y

/-- A row's squared error is real. -/
theorem sq_real (hf : Reals m c) (l : Fin 2048) : ∃ r : ℝ, ∑ k, Cert.Reference7Ideal.Read.val_main_v33 (F := Ideal) (A0 m c) (A1 m c) (A2 m c) (A3 m c) (A4 m c) (A5 m c) (ix2 l k) = r := by
  choose E hE using err_real m c hf l
  refine ⟨∑ k, E k * E k, ?_⟩
  rw [← coe_sum]
  refine Finset.sum_congr rfl fun k _ => ?_
  pointwise [Cert.Reference7Ideal.Read.val_main_v33]
  rw [hE, ← EReal.coe_mul]

theorem loss_sum (hf : Reals m c) : ∑ l, (Ideal.ofBits .f32 0x39800000#32 * ∑ k, Cert.Reference7Ideal.Read.val_main_v33 (F := Ideal) (A0 m c) (A1 m c) (A2 m c) (A3 m c) (A4 m c) (A5 m c) (ix2 l k))
    = Ideal.ofBits .f32 0x3F000000#32 * ∑ l, Ideal.div (∑ k, Cert.Reference7Ideal.Read.val_main_v33 (F := Ideal) (A0 m c) (A1 m c) (A2 m c) (A3 m c) (A4 m c) (A5 m c) (ix2 l k)) (Ideal.ofBits .f32 0x45000000#32) := by
  choose E hE using sq_real m c hf
  simp only [hE, half_inv_n, half, bits_n, Ideal.div_coe (by norm_num : (2048 : ℝ) ≠ 0), coe_sum, ← EReal.coe_mul]
  congr 1
  rw [← Finset.mul_sum, ← Finset.sum_mul]
  ring

theorem share8 (hf : Reals m c) (t : Fin cfg0.N) (j : S1x128.Idx) :
    k0_pay16 (F := Ideal) (k0_pay10 (F := Ideal) (iblk m c 1 t) (iblk m c 0 t) (iblk m c 2 t) (iblk m c 3 t) (iblk m c 4 t) (iblk m c 5 t)) j
      = part (fun l => Ideal.ofBits .f32 0x39800000#32 * ∑ k, Cert.Reference7Ideal.Read.val_main_v33 (F := Ideal) (A0 m c) (A1 m c) (A2 m c) (A3 m c) (A4 m c) (A5 m c) (ix2 l k)) t := by
  choose E hE using sq_real m c hf
  have hr : ∀ x : Fin 256, ∑ k : Fin 2048, k0_pay10 (F := Ideal) (iblk m c 1 t) (iblk m c 0 t) (iblk m c 2 t) (iblk m c 3 t) (iblk m c 4 t) (iblk m c 5 t) (ix2 x k) * k0_pay10 (F := Ideal) (iblk m c 1 t) (iblk m c 0 t) (iblk m c 2 t) (iblk m c 3 t) (iblk m c 4 t) (iblk m c 5 t) (ix2 x k) = (E (at_ t x) : EReal) := fun x => by
    rw [← hE]
    refine Finset.sum_congr rfl fun k _ => ?_
    rw [blk_err]
    pointwise [Cert.Reference7Ideal.Read.val_main_v33]
  pointwise [k0_pay16]
  rw [show (∑ x : Fin 256, ∑ k : Fin 2048, k0_pay10 (F := Ideal) (iblk m c 1 t) (iblk m c 0 t) (iblk m c 2 t) (iblk m c 3 t) (iblk m c 4 t) (iblk m c 5 t) (ix2 x k) * k0_pay10 (F := Ideal) (iblk m c 1 t) (iblk m c 0 t) (iblk m c 2 t) (iblk m c 3 t) (iblk m c 4 t) (iblk m c 5 t) (ix2 x k)) = ∑ x, (E (at_ t x) : EReal) from Finset.sum_congr rfl fun x _ => hr x]
  simp only [part, hE, half_inv_n, coe_sum, ← EReal.coe_mul]
  rw [Finset.mul_sum]

theorem arr8 (hf : Reals m c) : (dats m 0 c).arrAt 8 cfg0.N = Cert.Reference7Ideal.Read.val_main_v86 (F := Ideal) (A0 m c) (A1 m c) (A2 m c) (A3 m c) (A4 m c) (A5 m c) := by
  refine (dats m 0 c).arrAt_eq_of_after_last 8 t0_7 (by decide +kernel) _ fun j => ?_
  blk_simp
  rw [after0_8]
  refine (Pipeline.eq_sum_fin_of_reset_step_apply_last (M := EReal) (fun n h => (outsAt0 m c n h).2.2.1) 8 0
    (fun t j => part (fun l => Ideal.ofBits .f32 0x39800000#32 * ∑ k, Cert.Reference7Ideal.Read.val_main_v33 (F := Ideal) (A0 m c) (A1 m c) (A2 m c) (A3 m c) (A4 m c) (A5 m c) (ix2 l k)) t) (fun t h j => ?_) (fun t h j => ?_) (by decide) t0_7 rfl j).trans ?_
  · have hn : ¬1 ≤ t.val := by have : t.val < 8 := t.isLt; omega
    rw [outsAt0_A m c t h hn h hn h hn h hn]
    frame_out
    rw [Pi.zero_apply, zero_add]
    exact share8 m c hf t j
  · have hn : 1 ≤ t.val := by omega
    rw [outsAt0_B m c t h hn h hn h hn h hn]
    frame_out
    pointwise [k0_pay17]
    exact congrArg _ (share8 m c hf t j)
  · rw [Pi.zero_apply, zero_add, sum_part]
    idx_vars j
    pointwise [Cert.Reference7Ideal.Read.val_main_v86, Cert.Reference7Ideal.Read.val_main_v40, Cert.Reference7Ideal.Read.val_main_v39, Cert.Reference7Ideal.Read.val_main_v38, Cert.Reference7Ideal.Read.val_main_v37, Cert.Reference7Ideal.Read.val_main_v36, Cert.Reference7Ideal.Read.val_main_cst_8, Cert.Reference7Ideal.Read.val_main_cst_9, Cert.Reference7Ideal.Read.val_main_cst_10, Cert.Reference7Ideal.Read.val_main_cst_11]
    exact loss_sum m c hf

theorem share9 (t : Fin cfg0.N) (j : S1x2048.Idx) :
    k0_pay1 (F := Ideal) (k0_pay18 (k0_pay9 (F := Ideal) (iblk m c 1 t) (iblk m c 0 t) (iblk m c 2 t)) (k0_pay11 (F := Ideal) (iblk m c 1 t) (iblk m c 0 t) (iblk m c 2 t) (iblk m c 3 t) (iblk m c 4 t) (iblk m c 5 t))) j
      = part (fun l => Cert.Reference7Ideal.Read.val_main_v49 (F := Ideal) (A0 m c) (A1 m c) (A2 m c) (A3 m c) (A4 m c) (A5 m c) (ix2 l (j 1))) t := by
  idx_vars j
  pointwise [k0_pay1, k0_pay18, part, Cert.Reference7Ideal.Read.val_main_v49]
  refine Finset.sum_congr rfl fun k _ => ?_
  exact (congrArg₂ _ (blk_dy m c t _ _) (blk_norm m c t _ _)).trans (mul_comm _ _)

theorem arr9 : (dats m 0 c).arrAt 9 cfg0.N = Cert.Reference7Ideal.Read.val_main_v51 (F := Ideal) (A0 m c) (A1 m c) (A2 m c) (A3 m c) (A4 m c) (A5 m c) := by
  refine (dats m 0 c).arrAt_eq_of_after_last 9 t0_7 (by decide +kernel) _ fun j => ?_
  blk_simp
  rw [after0_9]
  refine (Pipeline.eq_sum_fin_of_reset_step_apply_last (M := EReal) (fun n h => (outsAt0 m c n h).2.2.2.1) 8 0
    (fun t j => part (fun l => Cert.Reference7Ideal.Read.val_main_v49 (F := Ideal) (A0 m c) (A1 m c) (A2 m c) (A3 m c) (A4 m c) (A5 m c) (ix2 l (j 1))) t) (fun t h j => ?_) (fun t h j => ?_) (by decide) t0_7 rfl j).trans ?_
  · have hn : ¬1 ≤ t.val := by have : t.val < 8 := t.isLt; omega
    rw [outsAt0_A m c t h hn h hn h hn h hn]
    frame_out
    rw [Pi.zero_apply, zero_add]
    exact share9 m c t j
  · have hn : 1 ≤ t.val := by omega
    rw [outsAt0_B m c t h hn h hn h hn h hn]
    frame_out
    pointwise [k0_pay2]
    exact congrArg _ (share9 m c t j)
  · rw [Pi.zero_apply, zero_add, sum_part]
    idx_vars j
    pointwise [Cert.Reference7Ideal.Read.val_main_v51, Cert.Reference7Ideal.Read.val_main_v50, Cert.Reference7Ideal.Read.val_main_cst_16]

theorem share10 (t : Fin cfg0.N) (j : S1x2048.Idx) :
    k0_pay3 (F := Ideal) (k0_pay11 (F := Ideal) (iblk m c 1 t) (iblk m c 0 t) (iblk m c 2 t) (iblk m c 3 t) (iblk m c 4 t) (iblk m c 5 t)) j
      = part (fun l => Cert.Reference7Ideal.Read.val_main_v46 (F := Ideal) (A0 m c) (A1 m c) (A2 m c) (A3 m c) (A4 m c) (A5 m c) (ix2 l (j 1))) t := by
  idx_vars j
  pointwise [k0_pay3, part]
  refine Finset.sum_congr rfl fun k _ => ?_
  exact blk_dy m c t _ _

theorem arr10 : (dats m 0 c).arrAt 10 cfg0.N = Cert.Reference7Ideal.Read.val_main_v48 (F := Ideal) (A0 m c) (A1 m c) (A2 m c) (A3 m c) (A4 m c) (A5 m c) := by
  refine (dats m 0 c).arrAt_eq_of_after_last 10 t0_7 (by decide +kernel) _ fun j => ?_
  blk_simp
  rw [after0_10]
  refine (Pipeline.eq_sum_fin_of_reset_step_apply_last (M := EReal) (fun n h => (outsAt0 m c n h).2.2.2.2.1) 8 0
    (fun t j => part (fun l => Cert.Reference7Ideal.Read.val_main_v46 (F := Ideal) (A0 m c) (A1 m c) (A2 m c) (A3 m c) (A4 m c) (A5 m c) (ix2 l (j 1))) t) (fun t h j => ?_) (fun t h j => ?_) (by decide) t0_7 rfl j).trans ?_
  · have hn : ¬1 ≤ t.val := by have : t.val < 8 := t.isLt; omega
    rw [outsAt0_A m c t h hn h hn h hn h hn]
    frame_out
    rw [Pi.zero_apply, zero_add]
    exact share10 m c t j
  · have hn : 1 ≤ t.val := by omega
    rw [outsAt0_B m c t h hn h hn h hn h hn]
    frame_out
    pointwise [k0_pay4]
    exact congrArg _ (share10 m c t j)
  · rw [Pi.zero_apply, zero_add, sum_part]
    idx_vars j
    pointwise [Cert.Reference7Ideal.Read.val_main_v48, Cert.Reference7Ideal.Read.val_main_v47, Cert.Reference7Ideal.Read.val_main_cst_15]

theorem share11 (hf : Reals m c) (t : Fin cfg0.N) (j : S1x2048.Idx) :
    k0_pay5 (F := Ideal) (iblk m c 1 t) (k0_pay13 (F := Ideal) (k0_pay8 (iblk m c 1 t) (iblk m c 0 t) (iblk m c 2 t)) (k0_pay9 (iblk m c 1 t) (iblk m c 0 t) (iblk m c 2 t)) (k0_pay12 (iblk m c 1 t) (iblk m c 0 t) (iblk m c 2 t) (iblk m c 3 t) (iblk m c 4 t) (iblk m c 5 t) (iblk m c 3 t))) j
      = part (fun l => Cert.Reference7Ideal.Read.val_main_v80 (F := Ideal) (A0 m c) (A1 m c) (A2 m c) (A3 m c) (A4 m c) (A5 m c) (ix2 l (j 1))) t := by
  idx_vars j
  pointwise [k0_pay5, part, Cert.Reference7Ideal.Read.val_main_v80]
  refine Finset.sum_congr rfl fun k _ => ?_
  rw [b1]
  exact congrArg (· * _) (blk_dr m c hf t _ _)

theorem arr11 (hf : Reals m c) : (dats m 0 c).arrAt 11 cfg0.N = Cert.Reference7Ideal.Read.val_main_v82 (F := Ideal) (A0 m c) (A1 m c) (A2 m c) (A3 m c) (A4 m c) (A5 m c) := by
  refine (dats m 0 c).arrAt_eq_of_after_last 11 t0_7 (by decide +kernel) _ fun j => ?_
  blk_simp
  rw [after0_11]
  refine (Pipeline.eq_sum_fin_of_reset_step_apply_last (M := EReal) (fun n h => (outsAt0 m c n h).2.2.2.2.2) 8 0
    (fun t j => part (fun l => Cert.Reference7Ideal.Read.val_main_v80 (F := Ideal) (A0 m c) (A1 m c) (A2 m c) (A3 m c) (A4 m c) (A5 m c) (ix2 l (j 1))) t) (fun t h j => ?_) (fun t h j => ?_) (by decide) t0_7 rfl j).trans ?_
  · have hn : ¬1 ≤ t.val := by have : t.val < 8 := t.isLt; omega
    rw [outsAt0_A m c t h hn h hn h hn h hn]
    frame_out
    rw [Pi.zero_apply, zero_add]
    exact share11 m c hf t j
  · have hn : 1 ≤ t.val := by omega
    rw [outsAt0_B m c t h hn h hn h hn h hn]
    frame_out
    pointwise [k0_pay6]
    exact congrArg _ (share11 m c hf t j)
  · rw [Pi.zero_apply, zero_add, sum_part]
    idx_vars j
    pointwise [Cert.Reference7Ideal.Read.val_main_v82, Cert.Reference7Ideal.Read.val_main_v81, Cert.Reference7Ideal.Read.val_main_cst_24]

theorem real_of_lt (x : EReal) (h : max x (-x) < ⊤) : ∃ r : ℝ, x = r := by
  induction x with
  | bot => simp at h
  | top => simp at h
  | coe r => exact ⟨r, rfl⟩

/-- What the precondition says of one element. -/
theorem finite (h : Cert.Pre_ln2_finite.fn (F := Ideal) (A0 m c) (A1 m c) (A2 m c) (A3 m c) (A4 m c) (A5 m c) = fun _ => 1#1) : Reals m c := by
  intro i k
  have top : Ideal.ofBits .f32 0x7F800000#32 = ⊤ := by simp [Ideal.ofBits, Ideal.ieee]
  have e : Cert.Pre_ln2_finite.fn (F := Ideal) (A0 m c) (A1 m c) (A2 m c) (A3 m c) (A4 m c) (A5 m c) (ix2 i k)
      = BitVec.ofBool (decide (max (A5 m c (ix2 i k)) (-A5 m c (ix2 i k)) < ⊤) && decide (max (A3 m c (ix2 0 k)) (-A3 m c (ix2 0 k)) < ⊤)
        && decide (max (A4 m c (ix2 0 k)) (-A4 m c (ix2 0 k)) < ⊤)) := by
    pointwise [Cert.Pre_ln2_finite.fn]
    rw [top, WordCmp.andi_ofBool, WordCmp.andi_ofBool]
    rfl
  rw [h] at e
  have t := (WordCmp.ofBool_eq_one_iff _).mp e.symm
  rw [Bool.and_eq_true, Bool.and_eq_true, decide_eq_true_iff, decide_eq_true_iff, decide_eq_true_iff] at t
  exact ⟨real_of_lt _ t.1.1, real_of_lt _ t.1.2, real_of_lt _ t.2⟩

set_option maxHeartbeats 2000000 in
/-- The kernel's loss and gradients of the second layer norm are the reference's. -/
theorem algebraic : Cert.algebraic_Kernel7Ideal_Reference7Ideal_pre_ln2_finite (hKernel7Ideal := Cert.Kernel7Ideal.Gen.facts)
    (hReference7Ideal := Cert.Reference7Ideal.Gen.facts) (hPre_ln2_finite := Cert.Pre_ln2_finite.Gen.facts) := by
  intro m g m' g' hpre hag
  refine ⟨fun c => (dats m 0 c).arrAt 6 cfg0.N, fun c => (dats m 0 c).arrAt 7 cfg0.N, fun c => (dats m 0 c).arrAt 8 cfg0.N,
    fun c => (dats m 0 c).arrAt 9 cfg0.N, fun c => (dats m 0 c).arrAt 10 cfg0.N, fun c => (dats m 0 c).arrAt 11 cfg0.N,
    Cert.Kernel7Ideal.Value.run_blocks m g, ?_⟩
  refine (θ_run _ _ _).mono (fun r h c => ?_) (Cert.Reference7Ideal.Value.run (F := Ideal) m' g')
  have hf : Reals m c := finite m c (hpre c)
  obtain ⟨a0, a1, a2, a3, a4, a5⟩ := hag c
  obtain ⟨r0, r1, r2, r3, r4, r5, hr⟩ := h c
  refine ⟨r0.trans ?_, r1.trans ?_, r2.trans ?_, r3.trans ?_, r4.trans ?_, r5.trans ?_, hr⟩
  · rw [Cert.Reference7Ideal.Read.val_main_v85_eq, a0, a1, a2, a3, a4, a5]
    exact (arr6 m c hf).symm
  · rw [Cert.Reference7Ideal.Read.val_main_v84_eq, a0, a1, a2, a3, a4, a5]
    exact (arr7 m c hf).symm
  · rw [Cert.Reference7Ideal.Read.val_main_v86_eq, a0, a1, a2, a3, a4, a5]
    exact (arr8 m c hf).symm
  · rw [Cert.Reference7Ideal.Read.val_main_v51_eq, a0, a1, a2, a3, a4, a5]
    exact (arr9 m c).symm
  · rw [Cert.Reference7Ideal.Read.val_main_v48_eq, a0, a1, a2, a3, a4, a5]
    exact (arr10 m c).symm
  · rw [Cert.Reference7Ideal.Read.val_main_v82_eq, a0, a1, a2, a3, a4, a5]
    exact (arr11 m c hf).symm

end Cert.LossBack

end
-- ==== Proof.Conv.lean ====
module

public import proofs.«01_k».proof.Defs
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Conv

open Idealize.ShloMosaic Idealize.ShloMosaic.TcCoe Idealize.SL.Sem Idealize.ShloMosaic.Pipeline
open Cert.Kernel2Ideal Cert.Kernel2Ideal.Gen

/-- A matrix read at natural numbers, zero outside. -/
def at2 {R C : ℕ} (a : (⟨2, ![R, C]⟩ : Shape).Idx → EReal) (r k : ℕ) : EReal :=
  if h : r < R ∧ k < C then a (ix2 ⟨r, h.1⟩ ⟨k, h.2⟩) else 0

theorem at2_ix {R C : ℕ} (a : (⟨2, ![R, C]⟩ : Shape).Idx → EReal) (i : Fin R) (j : Fin C) :
    a (ix2 i j) = at2 a i.val j.val := by
  rw [at2, dif_pos ⟨i.isLt, j.isLt⟩]

theorem at2_row {R C : ℕ} (a : (⟨2, ![R, C]⟩ : Shape).Idx → EReal) (r k : ℕ) (h : R ≤ r) : at2 a r k = 0 := by
  rw [at2, dif_neg (by omega)]

section Terms

variable (a0 : S2048x2048.Idx → EReal) (a1 : S2048x6144.Idx → EReal) (a2 : S3x2048.Idx → EReal)

/-- The convolved product `k` rows up, zero before the first row. -/
def sh (k r n : ℕ) : EReal := if r < k then 0 else at2 a1 (r - k) (2048 + n) * at2 a1 (r - k) (4096 + n)

theorem sh_lt {k r n : ℕ} (h : r < k) : sh a1 k r n = 0 := if_pos h

theorem sh_ge {k r n : ℕ} (h : k ≤ r) : sh a1 k r n = at2 a1 (r - k) (2048 + n) * at2 a1 (r - k) (4096 + n) :=
  if_neg (by omega)

/-- The gradient of the convolution's output. -/
def dc (r n : ℕ) : EReal := at2 a0 r n * at2 a1 r n

/-- The convolution's output. -/
def cz (r n : ℕ) : EReal := at2 a2 0 n * sh a1 2 r n + at2 a2 1 n * sh a1 1 r n + at2 a2 2 n * sh a1 0 r n

/-- The gradient of the convolved product. -/
def dz (r n : ℕ) : EReal := at2 a2 2 n * dc a0 a1 r n + at2 a2 1 n * dc a0 a1 (r + 1) n + at2 a2 0 n * dc a0 a1 (r + 2) n

theorem dc_out (r n : ℕ) (h : 2048 ≤ r) : dc a0 a1 r n = 0 := by
  rw [dc, at2_row _ _ _ h, zero_mul]

theorem tap {P : Prop} [Decidable P] (r n : ℕ) (w : EReal) (h : ¬P → 2048 ≤ r) :
    (if _ : P then at2 a1 r n * at2 a0 r n * w else 0) = w * dc a0 a1 r n := by
  split <;> rename_i h'
  · rw [dc, EReal.mul_comm w, EReal.mul_comm (at2 a0 r n)]
  · rw [dc_out _ _ _ _ (h h'), mul_zero]

theorem sel0 (T : ℕ) (hT : T < 8) (a b : EReal) :
    Scalar.select (Scalar.cmpi .eq (BitVec.ofNat 32 T) 0#32) a b = if T = 0 then a else b := by
  interval_cases T <;> rfl

theorem sel7 (T : ℕ) (hT : T < 8) (a b : EReal) :
    Scalar.select (Scalar.cmpi .eq (BitVec.ofNat 32 T) 7#32) a b = if T = 7 then a else b := by
  interval_cases T <;> rfl

theorem pay8 (i : grid0.Coords) (v3 v5 : Vec Ideal S256x2048 .bf16) (v10 v12 : Vec Ideal S16x2048 .bf16)
    (T : ℕ) (hi : (i 0).val = T) (hT : T < 8)
    (h3 : ∀ (p : Fin 256) (n : Fin 2048), v3 (ix2 p n) = at2 a1 (256 * T + p.val) (2048 + n.val))
    (h5 : ∀ (p : Fin 256) (n : Fin 2048), v5 (ix2 p n) = at2 a1 (256 * T + p.val) (4096 + n.val))
    (h10 : T ≠ 0 → ∀ (p : Fin 16) (n : Fin 2048), v10 (ix2 p n) = at2 a1 (256 * T - 16 + p.val) (2048 + n.val))
    (h12 : T ≠ 0 → ∀ (p : Fin 16) (n : Fin 2048), v12 (ix2 p n) = at2 a1 (256 * T - 16 + p.val) (4096 + n.val))
    (p : Fin 256) (n : Fin 2048) :
    k0_pay8 i v3 v5 v10 v12 (ix2 p n) = sh a1 1 (256 * T + p.val) n.val := by
  pointwise [k0_pay8, k0_pay7, k0_pay6, k0_pay3, k0_pay4]
  rw [hi]
  have hp := p.isLt
  split <;> rename_i h
  · rw [sel0 _ hT]
    by_cases h0 : T = 0
    · rw [if_pos h0, sh_lt _ (by omega)]
    · rw [if_neg h0, sh_ge _ (by omega), h10 h0, h12 h0]
      congr 2 <;> simp only [] <;> omega
  · rw [h3, h5, sh_ge _ (by omega)]
    congr 2 <;> simp only [] <;> omega

theorem pay9 (i : grid0.Coords) (v3 v5 : Vec Ideal S256x2048 .bf16) (v10 v12 : Vec Ideal S16x2048 .bf16)
    (T : ℕ) (hi : (i 0).val = T) (hT : T < 8)
    (h3 : ∀ (p : Fin 256) (n : Fin 2048), v3 (ix2 p n) = at2 a1 (256 * T + p.val) (2048 + n.val))
    (h5 : ∀ (p : Fin 256) (n : Fin 2048), v5 (ix2 p n) = at2 a1 (256 * T + p.val) (4096 + n.val))
    (h10 : T ≠ 0 → ∀ (p : Fin 16) (n : Fin 2048), v10 (ix2 p n) = at2 a1 (256 * T - 16 + p.val) (2048 + n.val))
    (h12 : T ≠ 0 → ∀ (p : Fin 16) (n : Fin 2048), v12 (ix2 p n) = at2 a1 (256 * T - 16 + p.val) (4096 + n.val))
    (p : Fin 256) (n : Fin 2048) :
    k0_pay9 i v3 v5 v10 v12 (ix2 p n) = sh a1 2 (256 * T + p.val) n.val := by
  pointwise [k0_pay9, k0_pay7, k0_pay6, k0_pay3, k0_pay4]
  rw [hi]
  have hp := p.isLt
  split <;> rename_i h
  · rw [sel0 _ hT]
    by_cases h0 : T = 0
    · rw [if_pos h0, sh_lt _ (by omega)]
    · rw [if_neg h0, sh_ge _ (by omega), h10 h0, h12 h0]
      congr 2 <;> simp only [] <;> omega
  · rw [h3, h5, sh_ge _ (by omega)]
    congr 2 <;> simp only [] <;> omega

theorem pay12 (w0 w1 w2 : Vec Ideal S1x2048 .f32) (g : FVec Ideal S256x2048 .f32)
    (v35 : Vec Ideal S256x2048 .bf16) (v10 v12 : Vec Ideal S16x2048 .bf16)
    (T : ℕ) (hT : T < 8)
    (hw0 : ∀ n : Fin 2048, w0 (ix2 0 n) = at2 a2 0 n.val)
    (hw1 : ∀ n : Fin 2048, w1 (ix2 0 n) = at2 a2 1 n.val)
    (hw2 : ∀ n : Fin 2048, w2 (ix2 0 n) = at2 a2 2 n.val)
    (hg : ∀ (p : Fin 256) (n : Fin 2048), g (ix2 p n) = at2 a0 (256 * T + p.val) n.val)
    (h35 : ∀ (p : Fin 256) (n : Fin 2048), v35 (ix2 p n) = at2 a1 (256 * T + p.val) n.val)
    (h10 : T ≠ 7 → ∀ (p : Fin 16) (n : Fin 2048), v10 (ix2 p n) = at2 a0 (256 * T + 256 + p.val) n.val)
    (h12 : T ≠ 7 → ∀ (p : Fin 16) (n : Fin 2048), v12 (ix2 p n) = at2 a1 (256 * T + 256 + p.val) n.val)
    (p : Fin 256) (n : Fin 2048) :
    k0_pay12 (BitVec.ofNat 32 T) w0 w1 w2 g v35 v10 v12 (ix2 p n) = dz a0 a1 a2 (256 * T + p.val) n.val := by
  pointwise [k0_pay12, k0_pay11]
  have hp := p.isLt
  rw [dz, hw0, hw1, hw2]
  refine congrArg₂ (· + ·) (congrArg₂ (· + ·) (congrArg (_ * ·) ?_) (congrArg (_ * ·) ?_)) (congrArg (_ * ·) ?_)
  · rw [hg, h35, dc]
  · split <;> rename_i h
    · rw [hg, h35, dc]
      congr 2 <;> simp only [] <;> omega
    · rw [sel7 _ hT]
      by_cases h7 : T = 7
      · rw [if_pos h7, dc_out _ _ _ _ (by omega)]
      · rw [if_neg h7, h10 h7, h12 h7, dc]
        congr 2 <;> simp only [] <;> omega
  · split <;> rename_i h
    · rw [hg, h35, dc]
      congr 2 <;> simp only [] <;> omega
    · rw [sel7 _ hT]
      by_cases h7 : T = 7
      · rw [if_pos h7, dc_out _ _ _ _ (by omega)]
      · rw [if_neg h7, h10 h7, h12 h7, dc]
        congr 2 <;> simp only [] <;> omega

end Terms

/-- The reference's gradient of the projected columns, at an element. -/
theorem ref68 (a0 a1 a2) (i : Cert.Reference2Ideal.S2048x6144.Idx) :
    Cert.Reference2Ideal.Read.val_main_v68 (F := Ideal) a0 a1 a2 i
      = if (i 1).val < 2048 then at2 a0 (i 0).val (i 1).val * cz a1 a2 (i 0).val (i 1).val
        else if (i 1).val < 4096 then dz a0 a1 a2 (i 0).val ((i 1).val - 2048) * at2 a1 (i 0).val ((i 1).val + 2048)
        else at2 a1 (i 0).val ((i 1).val - 2048) * dz a0 a1 a2 (i 0).val ((i 1).val - 4096) := by
  idx_vars i
  have hr := i0.isLt
  have hk := i1.isLt
  pointwise [Cert.Reference2Ideal.Read.val_main_v0, Cert.Reference2Ideal.Read.val_main_v1, Cert.Reference2Ideal.Read.val_main_v2, Cert.Reference2Ideal.Read.val_main_v3, Cert.Reference2Ideal.Read.val_main_v4, Cert.Reference2Ideal.Read.val_main_cst, Cert.Reference2Ideal.Read.val_main_v5, Cert.Reference2Ideal.Read.val_main_v6, Cert.Reference2Ideal.Read.val_main_cst_0, Cert.Reference2Ideal.Read.val_main_v7, Cert.Reference2Ideal.Read.val_main_v8, Cert.Reference2Ideal.Read.val_main_v9, Cert.Reference2Ideal.Read.val_main_v10, Cert.Reference2Ideal.Read.val_main_v11, Cert.Reference2Ideal.Read.val_main_v12, Cert.Reference2Ideal.Read.val_main_v13, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_v19, Cert.Reference2Ideal.Read.val_main_v20, Cert.Reference2Ideal.Read.val_main_v21, Cert.Reference2Ideal.Read.val_main_v22, Cert.Reference2Ideal.Read.val_main_v23, Cert.Reference2Ideal.Read.val_main_v24, Cert.Reference2Ideal.Read.val_main_v25, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_v31, Cert.Reference2Ideal.Read.val_main_v32, Cert.Reference2Ideal.Read.val_main_cst_1, Cert.Reference2Ideal.Read.val_main_v33, Cert.Reference2Ideal.Read.val_main_v34, Cert.Reference2Ideal.Read.val_main_v35, Cert.Reference2Ideal.Read.val_main_v36, Cert.Reference2Ideal.Read.val_main_cst_2, Cert.Reference2Ideal.Read.val_main_v37, Cert.Reference2Ideal.Read.val_main_v38, Cert.Reference2Ideal.Read.val_main_cst_3, Cert.Reference2Ideal.Read.val_main_v39, Cert.Reference2Ideal.Read.val_main_cst_4, Cert.Reference2Ideal.Read.val_main_v40, Cert.Reference2Ideal.Read.val_main_v41, Cert.Reference2Ideal.Read.val_main_cst_5, Cert.Reference2Ideal.Read.val_main_v42, Cert.Reference2Ideal.Read.val_main_v43, Cert.Reference2Ideal.Read.val_main_v44, Cert.Reference2Ideal.Read.val_main_v45, Cert.Reference2Ideal.Read.val_main_cst_6, Cert.Reference2Ideal.Read.val_main_v46, Cert.Reference2Ideal.Read.val_main_v47, Cert.Reference2Ideal.Read.val_main_cst_7, Cert.Reference2Ideal.Read.val_main_v48, Cert.Reference2Ideal.Read.val_main_v49, Cert.Reference2Ideal.Read.val_main_cst_8, Cert.Reference2Ideal.Read.val_main_v50, Cert.Reference2Ideal.Read.val_main_v51, Cert.Reference2Ideal.Read.val_main_v52, Cert.Reference2Ideal.Read.val_main_cst_9, Cert.Reference2Ideal.Read.val_main_v53, Cert.Reference2Ideal.Read.val_main_v54, Cert.Reference2Ideal.Read.val_main_v55, Cert.Reference2Ideal.Read.val_main_v56, Cert.Reference2Ideal.Read.val_main_cst_10, Cert.Reference2Ideal.Read.val_main_v57, Cert.Reference2Ideal.Read.val_main_v58, Cert.Reference2Ideal.Read.val_main_cst_11, Cert.Reference2Ideal.Read.val_main_v59, Cert.Reference2Ideal.Read.val_main_v60, Cert.Reference2Ideal.Read.val_main_cst_12, Cert.Reference2Ideal.Read.val_main_v61, Cert.Reference2Ideal.Read.val_main_v62, Cert.Reference2Ideal.Read.val_main_v63, Cert.Reference2Ideal.Read.val_main_v64, Cert.Reference2Ideal.Read.val_main_v65, Cert.Reference2Ideal.Read.val_main_v66, Cert.Reference2Ideal.Read.val_main_v67, Cert.Reference2Ideal.Read.val_main_v68]
  simp only [at2_ix a0, at2_ix a1, at2_ix a2]
  split <;> rename_i h
  · rw [cz, sh, sh, sh, if_neg (by omega : ¬ i0.val < 0)]
    refine congrArg (_ * ·) (congrArg₂ (· + ·) (congrArg₂ (· + ·) ?_ ?_) ?_)
    · exact EReal.mul_comm _ _
    · refine (EReal.mul_comm _ _).trans (congrArg (_ * ·) ?_)
      by_cases h1 : i0.val < 1
      · rw [if_pos h1, dif_pos (by omega)]
      · rw [if_neg h1, dif_neg (by omega)]
        congr 2 <;> omega
    · exact EReal.mul_comm _ _
  · split <;> rename_i h'
    · rw [if_pos (by omega)]
      have e1 : 4096 + (i1.val - 2048) = i1.val + 2048 := by omega
      have e2 : 2 + i0.val - 1 = i0.val + 1 := by omega
      rw [e1, tap _ _ _ _ _ (by omega), tap _ _ _ _ _ (by omega), e2, Nat.add_comm 2 i0.val, dz]
      refine congrArg (· * _) (congrArg₂ (· + ·) (congrArg₂ (· + ·) ?_ rfl) rfl)
      rw [dc, EReal.mul_comm, EReal.mul_comm (at2 a1 _ _)]
      rfl
    · rw [if_neg (by omega)]
      have e1 : 2048 + (i1.val - 2048 - 2048) = i1.val - 2048 := by omega
      have e2 : 2 + i0.val - 1 = i0.val + 1 := by omega
      have e3 : i1.val - 2048 - 2048 = i1.val - 4096 := by omega
      rw [e1, tap _ _ _ _ _ (by omega), tap _ _ _ _ _ (by omega), tap _ _ _ _ _ (by omega), e2, e3, Nat.add_comm 2 i0.val, dz]
      rfl

theorem ref68_at (a0 a1 a2) (i : Cert.Reference2Ideal.S2048x6144.Idx) (r k : ℕ) (h0 : (i 0).val = r) (h1 : (i 1).val = k) :
    Cert.Reference2Ideal.Read.val_main_v68 (F := Ideal) a0 a1 a2 i
      = if k < 2048 then at2 a0 r k * cz a1 a2 r k
        else if k < 4096 then dz a0 a1 a2 r (k - 2048) * at2 a1 r (k + 2048)
        else at2 a1 r (k - 2048) * dz a0 a1 a2 r (k - 4096) := by
  subst h0 h1
  exact ref68 a0 a1 a2 i

/-- The reference's gradient of the taps, at an element. -/
theorem ref60 (a0 a1) (i : Cert.Reference2Ideal.S3x2048.Idx) :
    Cert.Reference2Ideal.Read.val_main_v60 (F := Ideal) a0 a1 i
      = ∑ r : Fin 2048, dc a0 a1 r.val (i 1).val * sh a1 (2 - (i 0).val) r.val (i 1).val := by
  idx_vars i
  fin_vals i0 with hr
  all_goals
    pointwise [Cert.Reference2Ideal.Read.val_main_v0, Cert.Reference2Ideal.Read.val_main_v1, Cert.Reference2Ideal.Read.val_main_v2, Cert.Reference2Ideal.Read.val_main_v3, Cert.Reference2Ideal.Read.val_main_v4, Cert.Reference2Ideal.Read.val_main_cst, Cert.Reference2Ideal.Read.val_main_v5, Cert.Reference2Ideal.Read.val_main_v6, Cert.Reference2Ideal.Read.val_main_cst_0, Cert.Reference2Ideal.Read.val_main_v7, Cert.Reference2Ideal.Read.val_main_v8, Cert.Reference2Ideal.Read.val_main_v9, Cert.Reference2Ideal.Read.val_main_v10, Cert.Reference2Ideal.Read.val_main_v11, Cert.Reference2Ideal.Read.val_main_v12, Cert.Reference2Ideal.Read.val_main_v13, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_v19, Cert.Reference2Ideal.Read.val_main_v20, Cert.Reference2Ideal.Read.val_main_v21, Cert.Reference2Ideal.Read.val_main_v22, Cert.Reference2Ideal.Read.val_main_v23, Cert.Reference2Ideal.Read.val_main_v24, Cert.Reference2Ideal.Read.val_main_v25, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_v31, Cert.Reference2Ideal.Read.val_main_v32, Cert.Reference2Ideal.Read.val_main_cst_1, Cert.Reference2Ideal.Read.val_main_v33, Cert.Reference2Ideal.Read.val_main_v34, Cert.Reference2Ideal.Read.val_main_v35, Cert.Reference2Ideal.Read.val_main_v36, Cert.Reference2Ideal.Read.val_main_cst_2, Cert.Reference2Ideal.Read.val_main_v37, Cert.Reference2Ideal.Read.val_main_v38, Cert.Reference2Ideal.Read.val_main_cst_3, Cert.Reference2Ideal.Read.val_main_v39, Cert.Reference2Ideal.Read.val_main_cst_4, Cert.Reference2Ideal.Read.val_main_v40, Cert.Reference2Ideal.Read.val_main_v41, Cert.Reference2Ideal.Read.val_main_cst_5, Cert.Reference2Ideal.Read.val_main_v42, Cert.Reference2Ideal.Read.val_main_v43, Cert.Reference2Ideal.Read.val_main_v44, Cert.Reference2Ideal.Read.val_main_v45, Cert.Reference2Ideal.Read.val_main_cst_6, Cert.Reference2Ideal.Read.val_main_v46, Cert.Reference2Ideal.Read.val_main_v47, Cert.Reference2Ideal.Read.val_main_cst_7, Cert.Reference2Ideal.Read.val_main_v48, Cert.Reference2Ideal.Read.val_main_v49, Cert.Reference2Ideal.Read.val_main_cst_8, Cert.Reference2Ideal.Read.val_main_v50, Cert.Reference2Ideal.Read.val_main_v51, Cert.Reference2Ideal.Read.val_main_v52, Cert.Reference2Ideal.Read.val_main_cst_9, Cert.Reference2Ideal.Read.val_main_v53, Cert.Reference2Ideal.Read.val_main_v54, Cert.Reference2Ideal.Read.val_main_v55, Cert.Reference2Ideal.Read.val_main_v56, Cert.Reference2Ideal.Read.val_main_cst_10, Cert.Reference2Ideal.Read.val_main_v57, Cert.Reference2Ideal.Read.val_main_v58, Cert.Reference2Ideal.Read.val_main_cst_11, Cert.Reference2Ideal.Read.val_main_v59, Cert.Reference2Ideal.Read.val_main_v60, Cert.Reference2Ideal.Read.val_main_cst_12, Cert.Reference2Ideal.Read.val_main_v61, Cert.Reference2Ideal.Read.val_main_v62, Cert.Reference2Ideal.Read.val_main_v63, Cert.Reference2Ideal.Read.val_main_v64, Cert.Reference2Ideal.Read.val_main_v65, Cert.Reference2Ideal.Read.val_main_v66, Cert.Reference2Ideal.Read.val_main_v67, Cert.Reference2Ideal.Read.val_main_v68]
    simp only [at2_ix a0, at2_ix a1]
  · rw [dif_neg (by omega), dif_neg (by omega), dif_pos (by omega), Fin.sum_univ_two_halves 2 2046 rfl]
    simp only [Fin.sum_univ_one, zero_add, zero_mul]
    rw [hr]
    refine congrArg₂ (· + ·) (Finset.sum_congr rfl fun x _ => ?_) (Finset.sum_congr rfl fun x _ => ?_)
    · rw [sh_lt _ (by have := x.isLt; omega), mul_zero]
    · rw [sh_ge _ (by omega), dc, EReal.mul_comm (at2 a0 _ _), Nat.add_sub_cancel_left]
      exact EReal.mul_comm _ _
  · rw [dif_neg (by omega), dif_pos (by omega), dif_neg (by omega)]
    simp only [Fin.sum_univ_one, add_zero, zero_add]
    refine Finset.sum_congr rfl fun x _ => ?_
    rw [hr, dc, EReal.mul_comm (at2 a0 _ _)]
    by_cases h : x.val < 1
    · rw [dif_pos (by omega), sh_lt _ (by omega), zero_mul, mul_zero]
    · rw [dif_neg (by omega), sh_ge _ (by omega)]
      have e : 1 + x.val - 2 = x.val - (2 - 1) := by omega
      rw [e]
      exact EReal.mul_comm _ _
  · rw [dif_pos (by omega), dif_neg (by omega), dif_neg (by omega)]
    simp only [Fin.sum_univ_one, add_zero, zero_add]
    refine Finset.sum_congr rfl fun x _ => ?_
    rw [hr, sh_ge _ (by omega), dc, EReal.mul_comm (at2 a0 _ _)]
    exact EReal.mul_comm _ _

section Blocks

variable (m : (ℓ : Loc nD τ sig) → Buf (Elt Ideal) ℓ) (c : Dev nD)

abbrev A0 : S2048x2048.Idx → EReal := m ((c.tc : Thread nD τ).loc main_arg0)
abbrev A1 : S2048x6144.Idx → EReal := m ((c.tc : Thread nD τ).loc main_arg1)
abbrev A2 : S3x2048.Idx → EReal := m ((c.tc : Thread nD τ).loc main_arg2)

/-- Where the windows' blocks stand at each grid point. -/
theorem idx : ∀ t : Fin cfg0.N, (win0_0.index t = ![t.val, 0] ∧ win0_1.index t = ![t.val, 0] ∧ win0_2.index t = ![t.val, 1]
    ∧ win0_3.index t = ![t.val, 2] ∧ win0_4.index t = ![16 * t.val - 1, 1] ∧ win0_5.index t = ![16 * t.val - 1, 2])
    ∧ (win0_6.index t = ![min (16 * t.val + 16) 127, 0] ∧ win0_7.index t = ![min (16 * t.val + 16) 127, 0]
    ∧ win0_8.index t = ![0, 0] ∧ win0_9.index t = ![t.val, 0] ∧ (grid0.coords t 0).val = t.val) :=
  (by decide +kernel : ∀ t : Fin grid0.N, (win0_0.index t = ![t.val, 0] ∧ win0_1.index t = ![t.val, 0] ∧ win0_2.index t = ![t.val, 1]
    ∧ win0_3.index t = ![t.val, 2] ∧ win0_4.index t = ![16 * t.val - 1, 1] ∧ win0_5.index t = ![16 * t.val - 1, 2])
    ∧ (win0_6.index t = ![min (16 * t.val + 16) 127, 0] ∧ win0_7.index t = ![min (16 * t.val + 16) 127, 0]
    ∧ win0_8.index t = ![0, 0] ∧ win0_9.index t = ![t.val, 0] ∧ (grid0.coords t 0).val = t.val))

theorem blk0 (t : Fin cfg0.N) (p : Fin 256) (n : Fin 2048) :
    iblk m c 0 t (ix2 p n) = at2 (A0 m c) (256 * t.val + p.val) (n.val) := by
  obtain ⟨⟨e0, e1, e2, e3, e4, e5⟩, e6, e7, e8, -⟩ := idx t
  have ht : t.val < 8 := t.isLt
  rw [at2, dif_pos ⟨by omega, by omega⟩]
  blk_ext [iblk, e0]

theorem blk1 (t : Fin cfg0.N) (p : Fin 256) (n : Fin 2048) :
    iblk m c 1 t (ix2 p n) = at2 (A1 m c) (256 * t.val + p.val) (n.val) := by
  obtain ⟨⟨e0, e1, e2, e3, e4, e5⟩, e6, e7, e8, -⟩ := idx t
  have ht : t.val < 8 := t.isLt
  rw [at2, dif_pos ⟨by omega, by omega⟩]
  blk_ext [iblk, e1]

theorem blk2 (t : Fin cfg0.N) (p : Fin 256) (n : Fin 2048) :
    iblk m c 2 t (ix2 p n) = at2 (A1 m c) (256 * t.val + p.val) (2048 + n.val) := by
  obtain ⟨⟨e0, e1, e2, e3, e4, e5⟩, e6, e7, e8, -⟩ := idx t
  have ht : t.val < 8 := t.isLt
  rw [at2, dif_pos ⟨by omega, by omega⟩]
  blk_ext [iblk, e2]

theorem blk3 (t : Fin cfg0.N) (p : Fin 256) (n : Fin 2048) :
    iblk m c 3 t (ix2 p n) = at2 (A1 m c) (256 * t.val + p.val) (4096 + n.val) := by
  obtain ⟨⟨e0, e1, e2, e3, e4, e5⟩, e6, e7, e8, -⟩ := idx t
  have ht : t.val < 8 := t.isLt
  rw [at2, dif_pos ⟨by omega, by omega⟩]
  blk_ext [iblk, e3]

theorem blk4 (t : Fin cfg0.N) (h : t.val ≠ 0) (p : Fin 16) (n : Fin 2048) :
    iblk m c 4 t (ix2 p n) = at2 (A1 m c) (256 * t.val - 16 + p.val) (2048 + n.val) := by
  obtain ⟨⟨e0, e1, e2, e3, e4, e5⟩, e6, e7, e8, -⟩ := idx t
  have ht : t.val < 8 := t.isLt
  rw [at2, dif_pos ⟨by omega, by omega⟩]
  blk_ext [iblk, e4]

theorem blk5 (t : Fin cfg0.N) (h : t.val ≠ 0) (p : Fin 16) (n : Fin 2048) :
    iblk m c 5 t (ix2 p n) = at2 (A1 m c) (256 * t.val - 16 + p.val) (4096 + n.val) := by
  obtain ⟨⟨e0, e1, e2, e3, e4, e5⟩, e6, e7, e8, -⟩ := idx t
  have ht : t.val < 8 := t.isLt
  rw [at2, dif_pos ⟨by omega, by omega⟩]
  blk_ext [iblk, e5]

theorem blk6 (t : Fin cfg0.N) (h : t.val ≠ 7) (p : Fin 16) (n : Fin 2048) :
    iblk m c 6 t (ix2 p n) = at2 (A0 m c) (256 * t.val + 256 + p.val) (n.val) := by
  obtain ⟨⟨e0, e1, e2, e3, e4, e5⟩, e6, e7, e8, -⟩ := idx t
  have ht : t.val < 8 := t.isLt
  rw [at2, dif_pos ⟨by omega, by omega⟩]
  blk_ext [iblk, e6]

theorem blk7 (t : Fin cfg0.N) (h : t.val ≠ 7) (p : Fin 16) (n : Fin 2048) :
    iblk m c 7 t (ix2 p n) = at2 (A1 m c) (256 * t.val + 256 + p.val) (n.val) := by
  obtain ⟨⟨e0, e1, e2, e3, e4, e5⟩, e6, e7, e8, -⟩ := idx t
  have ht : t.val < 8 := t.isLt
  rw [at2, dif_pos ⟨by omega, by omega⟩]
  blk_ext [iblk, e7]

theorem blk8 (t : Fin cfg0.N) (p : Fin 3) (n : Fin 2048) :
    iblk m c 8 t (ix2 p n) = at2 (A2 m c) (p.val) (n.val) := by
  obtain ⟨⟨e0, e1, e2, e3, e4, e5⟩, e6, e7, e8, -⟩ := idx t
  have ht : t.val < 8 := t.isLt
  rw [at2, dif_pos ⟨by omega, by omega⟩]
  blk_ext [iblk, e8]

theorem pay10_at (t : Fin cfg0.N) (w0 w1 w2 : Vec Ideal S1x2048 .f32)
    (hw0 : ∀ n : Fin 2048, w0 (ix2 0 n) = at2 (A2 m c) 0 n.val)
    (hw1 : ∀ n : Fin 2048, w1 (ix2 0 n) = at2 (A2 m c) 1 n.val)
    (hw2 : ∀ n : Fin 2048, w2 (ix2 0 n) = at2 (A2 m c) 2 n.val) (p : Fin 256) (n : Fin 2048) :
    k0_pay10 (grid0.coords t) w0 w1 w2 (iblk m c 2 t) (iblk m c 3 t) (iblk m c 4 t) (iblk m c 5 t) (ix2 p n)
      = cz (A1 m c) (A2 m c) (256 * t.val + p.val) n.val := by
  obtain ⟨-, -, -, -, -, ec⟩ := idx t
  have ht : t.val < 8 := t.isLt
  pointwise [k0_pay10, k0_pay6, k0_pay3, k0_pay4]
  rw [pay8 (A1 m c) _ _ _ _ _ t.val ec ht (blk2 m c t) (blk3 m c t) (blk4 m c t) (blk5 m c t),
    pay9 (A1 m c) _ _ _ _ _ t.val ec ht (blk2 m c t) (blk3 m c t) (blk4 m c t) (blk5 m c t), hw0, hw1, hw2, blk2, blk3, cz,
    sh_ge (k := 0) _ (by omega)]
  rfl

theorem pay12_at (t : Fin cfg0.N) (w0 w1 w2 : Vec Ideal S1x2048 .f32)
    (hw0 : ∀ n : Fin 2048, w0 (ix2 0 n) = at2 (A2 m c) 0 n.val)
    (hw1 : ∀ n : Fin 2048, w1 (ix2 0 n) = at2 (A2 m c) 1 n.val)
    (hw2 : ∀ n : Fin 2048, w2 (ix2 0 n) = at2 (A2 m c) 2 n.val) (p : Fin 256) (n : Fin 2048) :
    k0_pay12 (BitVec.ofNat 32 (grid0.coords t 0).val) w0 w1 w2 (k0_pay5 (iblk m c 0 t)) (iblk m c 1 t) (iblk m c 6 t) (iblk m c 7 t) (ix2 p n)
      = dz (A0 m c) (A1 m c) (A2 m c) (256 * t.val + p.val) n.val := by
  obtain ⟨-, -, -, -, -, ec⟩ := idx t
  rw [ec]
  refine pay12 _ _ _ _ _ _ _ _ _ _ t.val t.isLt hw0 hw1 hw2 (fun p n => ?_) (blk1 m c t) (blk6 m c t) (blk7 m c t) p n
  pointwise [k0_pay5]
  exact blk0 m c t p n

theorem w_at (t : Fin cfg0.N) (r : ℕ) (hr : r < 3) (inb) (n : Fin 2048) :
    View.ld (iblk m c 8 t) (Rect.unit (s := S3x2048) ![r, 0] ![1, 2048] inb) (ix2 0 n) = at2 (A2 m c) r n.val := by
  refine Eq.trans ?_ (blk8 m c t ⟨r, hr⟩ n)
  pointwise []

/-- What every point leaves in its block of the projected columns' gradient. -/
theorem out9 (t : Fin cfg0.N) (y : S256x6144.Idx) :
    View.canon
      [⟨Rect.unit ![0, 4096] ![256, 2048] inb_S256x6144_S256x2048_0_4096,
          k0_pay15 (BitVec.ofNat 32 (grid0.coords t 0).val)
            (View.ld (iblk m c 8 t) (Rect.unit ![0, 0] ![1, 2048] inb_S3x2048_S1x2048_0_0))
            (View.ld (iblk m c 8 t) (Rect.unit ![1, 0] ![1, 2048] inb_S3x2048_S1x2048_1_0))
            (View.ld (iblk m c 8 t) (Rect.unit ![2, 0] ![1, 2048] inb_S3x2048_S1x2048_2_0)) (k0_pay3 (iblk m c 2 t))
            (k0_pay5 (iblk m c 0 t)) (iblk m c 1 t) (iblk m c 6 t) (iblk m c 7 t)⟩,
        ⟨Rect.unit ![0, 2048] ![256, 2048] inb_S256x6144_S256x2048_0_2048,
          k0_pay14 (BitVec.ofNat 32 (grid0.coords t 0).val)
            (View.ld (iblk m c 8 t) (Rect.unit ![0, 0] ![1, 2048] inb_S3x2048_S1x2048_0_0))
            (View.ld (iblk m c 8 t) (Rect.unit ![1, 0] ![1, 2048] inb_S3x2048_S1x2048_1_0))
            (View.ld (iblk m c 8 t) (Rect.unit ![2, 0] ![1, 2048] inb_S3x2048_S1x2048_2_0)) (k0_pay4 (iblk m c 3 t))
            (k0_pay5 (iblk m c 0 t)) (iblk m c 1 t) (iblk m c 6 t) (iblk m c 7 t)⟩,
        ⟨Rect.unit ![0, 0] ![256, 2048] inb_S256x6144_S256x2048_0_0,
          k0_pay13 (k0_pay5 (iblk m c 0 t))
            (k0_pay10 (grid0.coords t) (View.ld (iblk m c 8 t) (Rect.unit ![0, 0] ![1, 2048] inb_S3x2048_S1x2048_0_0))
              (View.ld (iblk m c 8 t) (Rect.unit ![1, 0] ![1, 2048] inb_S3x2048_S1x2048_1_0))
              (View.ld (iblk m c 8 t) (Rect.unit ![2, 0] ![1, 2048] inb_S3x2048_S1x2048_2_0)) (iblk m c 2 t)
              (iblk m c 3 t) (iblk m c 4 t) (iblk m c 5 t))⟩]
      y =
    Cert.Reference2Ideal.Read.val_main_v68 (F := Ideal) (A0 m c) (A1 m c) (A2 m c)
      (((View.whole main_v0_0).slice (win0_9.rect t)).emb y) := by
  obtain ⟨-, -, -, -, e9, -⟩ := idx t
  have hw0 := fun n => w_at m c t 0 (by omega) inb_S3x2048_S1x2048_0_0 n
  have hw1 := fun n => w_at m c t 1 (by omega) inb_S3x2048_S1x2048_1_0 n
  have hw2 := fun n => w_at m c t 2 (by omega) inb_S3x2048_S1x2048_2_0 n
  have i0 : ((((View.whole main_v0_0).slice (win0_9.rect t)).emb y 0 : Fin 2048) : ℕ) = 256 * t.val + (y 0).val := by
    blk_simp [e9]
    omega
  have i1 : ((((View.whole main_v0_0).slice (win0_9.rect t)).emb y 1 : Fin 6144) : ℕ) = (y 1).val := by
    blk_simp [e9]
  refine Eq.trans ?_ (ref68_at _ _ _ _ _ _ i0 i1).symm
  canon_tiles x h
  all_goals idx_vars x
  · have e1 : 4096 + x1.val - 2048 = 2048 + x1.val := by omega
    rw [if_neg (by omega), if_neg (by omega), h0, h1, e1, Nat.add_sub_cancel_left]
    pointwise [k0_pay15, k0_pay3]
    rw [pay12_at m c t _ _ _ hw0 hw1 hw2, blk2]
    exact EReal.mul_comm _ _
  · have e1 : 2048 + x1.val + 2048 = 4096 + x1.val := by omega
    rw [if_neg (by omega), if_pos (by omega), h0, h1, e1, Nat.add_sub_cancel_left]
    pointwise [k0_pay14, k0_pay4]
    rw [pay12_at m c t _ _ _ hw0 hw1 hw2, blk3]
  · have e1 : 0 + x1.val = x1.val := by omega
    rw [if_pos (by omega), h0, h1]
    pointwise [k0_pay13, k0_pay5]
    rw [pay10_at m c t _ _ _ hw0 hw1 hw2, blk0]

theorem arr9 : (dats m 0 c).arrAt 9 cfg0.N
    = Cert.Reference2Ideal.Read.val_main_v68 (F := Ideal) (A0 m c) (A1 m c) (A2 m c) := by
  refine (dats m 0 c).arrAt_eq_of_covers 9 _ (by decide +kernel) fun t hf y => ?_
  blk_simp
  rw [after0_9]
  by_cases h0 : t.val % 8 = 0
  · rw [outsAt0_A m c t h0 (by have : t.val < 8 := t.isLt; omega)]
    frame_out
    exact out9 m c t y
  · rw [outsAt0_B m c t h0 (by omega)]
    frame_out
    exact out9 m c t y

/-- What one point adds to the taps' gradient. -/
def part (t : Fin cfg0.N) (j : S3x2048.Idx) : EReal :=
  ∑ k : Fin 256, dc (A0 m c) (A1 m c) (256 * t.val + k.val) (j 1).val * sh (A1 m c) (2 - (j 0).val) (256 * t.val + k.val) (j 1).val

theorem part_eq (t : Fin cfg0.N) (j : S3x2048.Idx) :
    k0_pay1 (k0_pay6 (iblk m c 2 t) (iblk m c 3 t)) (k0_pay8 (grid0.coords t) (iblk m c 2 t) (iblk m c 3 t) (iblk m c 4 t) (iblk m c 5 t))
      (k0_pay11 (k0_pay5 (iblk m c 0 t)) (iblk m c 1 t))
      (k0_pay16 (k0_pay5 (iblk m c 0 t)) (k0_pay9 (grid0.coords t) (iblk m c 2 t) (iblk m c 3 t) (iblk m c 4 t) (iblk m c 5 t)) (iblk m c 1 t)) j
      = part m c t j := by
  obtain ⟨-, -, -, -, -, ec⟩ := idx t
  have ht : t.val < 8 := t.isLt
  idx_vars j
  fin_vals j0 with hj
  all_goals
    pointwise [k0_pay1, k0_pay16, k0_pay11, k0_pay5, k0_pay6, k0_pay3, k0_pay4, part]
    simp only [hj, pay8 (A1 m c) _ _ _ _ _ t.val ec ht (blk2 m c t) (blk3 m c t) (blk4 m c t) (blk5 m c t),
      pay9 (A1 m c) _ _ _ _ _ t.val ec ht (blk2 m c t) (blk3 m c t) (blk4 m c t) (blk5 m c t), blk0, blk1, blk2, blk3, dc]
  · rw [dif_pos (by omega)]
  · rw [dif_neg (by omega), dif_pos (by omega)]
  · rw [dif_neg (by omega), dif_neg (by omega)]
    refine Finset.sum_congr rfl fun x _ => ?_
    rw [sh_ge _ (by omega)]
    rfl

theorem arr10 : (dats m 0 c).arrAt 10 cfg0.N
    = Cert.Reference2Ideal.Read.val_main_v60 (F := Ideal) (A0 m c) (A1 m c) := by
  refine (dats m 0 c).arrAt_eq_of_after_last 10 t0_7 (by decide +kernel) _ fun j => ?_
  blk_simp
  rw [after0_10]
  refine (Pipeline.eq_sum_fin_of_reset_step_apply_last (M := EReal) (fun n h => (outsAt0 m c n h).2) 8 0 (part m c) (fun t h j => ?_) (fun t h j => ?_) (by decide) t0_7 rfl j).trans ?_
  · rw [outsAt0_A m c t h (by have : t.val < 8 := t.isLt; omega)]
    frame_out
    rw [Pi.zero_apply, zero_add]
    exact part_eq m c t j
  · rw [outsAt0_B m c t h (by omega)]
    frame_out
    pointwise [k0_pay2]
    exact congrArg (_ + ·) (part_eq m c t j)
  · rw [ref60, Pi.zero_apply, zero_add]
    refine Fin.sum_mul_add_congr (n := 256) fun s k hl => ?_
    rw [Nat.mul_comm]

end Blocks

/-- The kernel's gradients of the convolution are the reference's. -/
theorem algebraic : Cert.algebraic_Kernel2Ideal_Reference2Ideal (hKernel2Ideal := Cert.Kernel2Ideal.Gen.facts)
    (hReference2Ideal := Cert.Reference2Ideal.Gen.facts) := by
  intro m g m' g' _ hag
  refine ⟨fun c => (dats m 0 c).arrAt 9 cfg0.N, fun c => (dats m 0 c).arrAt 10 cfg0.N,
    Cert.Kernel2Ideal.Value.run_blocks m g, ?_⟩
  refine (θ_run _ _ _).mono (fun r h c => ?_) (Cert.Reference2Ideal.Value.run (F := Ideal) m' g')
  refine ⟨((h c).1).trans ?_, ((h c).2.1).trans ?_, (h c).2.2⟩
  · rw [Cert.Reference2Ideal.Read.val_main_v68_eq, (hag c).1, (hag c).2.1, (hag c).2.2]
    exact (arr9 m c).symm
  · rw [(hag c).1, (hag c).2.1]
    exact (arr10 m c).symm

end Cert.Conv

end
-- ==== Proof.Merge.lean ====
module

public import proofs.«01_k».proof.Defs
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.Merge

open Idealize.ShloMosaic Idealize.ShloMosaic.TcCoe Idealize.SL.Sem Idealize.ShloMosaic.Pipeline
open Cert.Kernel3Ideal Cert.Kernel3Ideal.Gen

variable (m : (ℓ : Loc nD τ sig) → Buf (Elt Ideal) ℓ)

/-- Where the windows' blocks stand at each grid point. -/
theorem idx : ∀ t : Fin cfg0.N, (win0_0.index t = ![t.val, 0] ∧ win0_1.index t = ![t.val, 0] ∧ win0_2.index t = ![t.val, 0]
    ∧ win0_3.index t = ![t.val, 0] ∧ win0_4.index t = ![t.val, 1]) ∧ win0_5.index t = ![t.val, 0]
    ∧ win0_6.index t = ![t.val, 0] ∧ win0_7.index t = ![t.val, 0] :=
  (by decide +kernel : ∀ t : Fin grid0.N, (win0_0.index t = ![t.val, 0] ∧ win0_1.index t = ![t.val, 0] ∧ win0_2.index t = ![t.val, 0]
    ∧ win0_3.index t = ![t.val, 0] ∧ win0_4.index t = ![t.val, 1]) ∧ win0_5.index t = ![t.val, 0]
    ∧ win0_6.index t = ![t.val, 0] ∧ win0_7.index t = ![t.val, 0])

theorem arr5 (c : Dev nD) :
    (dats m 0 c).arrAt 5 cfg0.N
      = Cert.Reference3Ideal.Read.val_main_v33 (F := Ideal) (m ((c.tc : Thread nD τ).loc main_arg0)) (m ((c.tc : Thread nD τ).loc main_arg3)) := by
  refine (dats m 0 c).arrAt_eq_of_covers 5 _ (by decide +kernel) fun t hf y => ?_
  blk_simp
  rw [after0_5]
  frame_out
  obtain ⟨⟨e0, e1, e2, e3, e4⟩, e5, e6, e7⟩ := idx t
  pointwise [k0_pay1, k0_pay2, k0_pay4, Ideal.logistic, Cert.Reference3Ideal.Read.val_main_v0, Cert.Reference3Ideal.Read.val_main_v1, Cert.Reference3Ideal.Read.val_main_v2, Cert.Reference3Ideal.Read.val_main_v3, Cert.Reference3Ideal.Read.val_main_v4, Cert.Reference3Ideal.Read.val_main_cst, Cert.Reference3Ideal.Read.val_main_v5, Cert.Reference3Ideal.Read.val_main_v6, Cert.Reference3Ideal.Read.val_main_cst_0, Cert.Reference3Ideal.Read.val_main_v7, Cert.Reference3Ideal.Read.val_main_v8, Cert.Reference3Ideal.Read.val_main_cst_1, Cert.Reference3Ideal.Read.val_main_v9, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_cst_2, Cert.Reference3Ideal.Read.val_main_v16, Cert.Reference3Ideal.Read.val_main_v17, Cert.Reference3Ideal.Read.val_main_cst_3, Cert.Reference3Ideal.Read.val_main_v18, Cert.Reference3Ideal.Read.val_main_v19, Cert.Reference3Ideal.Read.val_main_cst_4, Cert.Reference3Ideal.Read.val_main_v20, Cert.Reference3Ideal.Read.val_main_v21, Cert.Reference3Ideal.Read.val_main_v22, Cert.Reference3Ideal.Read.val_main_v23, Cert.Reference3Ideal.Read.val_main_v24, Cert.Reference3Ideal.Read.val_main_v25, Cert.Reference3Ideal.Read.val_main_v26, Cert.Reference3Ideal.Read.val_main_v27, Cert.Reference3Ideal.Read.val_main_v28, Cert.Reference3Ideal.Read.val_main_v29, Cert.Reference3Ideal.Read.val_main_v30, Cert.Reference3Ideal.Read.val_main_v31, Cert.Reference3Ideal.Read.val_main_v32, Cert.Reference3Ideal.Read.val_main_v33, Cert.Reference3Ideal.Read.val_main_v34, Cert.Reference3Ideal.Read.val_main_v35, Cert.Reference3Ideal.Read.val_main_v36]
  refine (EReal.mul_comm _ _).trans ?_
  blk_point [iblk, e0, e3, e5]

theorem arr6 (c : Dev nD) :
    (dats m 0 c).arrAt 6 cfg0.N
      = Cert.Reference3Ideal.Read.val_main_v29 (F := Ideal) (m ((c.tc : Thread nD τ).loc main_arg0)) (m ((c.tc : Thread nD τ).loc main_arg3)) := by
  refine (dats m 0 c).arrAt_eq_of_covers 6 _ (by decide +kernel) fun t hf y => ?_
  blk_simp
  rw [after0_6]
  frame_out
  obtain ⟨⟨e0, e1, e2, e3, e4⟩, e5, e6, e7⟩ := idx t
  pointwise [k0_pay1, k0_pay3, k0_pay5, Ideal.logistic, Cert.Reference3Ideal.Read.val_main_v0, Cert.Reference3Ideal.Read.val_main_v1, Cert.Reference3Ideal.Read.val_main_v2, Cert.Reference3Ideal.Read.val_main_v3, Cert.Reference3Ideal.Read.val_main_v4, Cert.Reference3Ideal.Read.val_main_cst, Cert.Reference3Ideal.Read.val_main_v5, Cert.Reference3Ideal.Read.val_main_v6, Cert.Reference3Ideal.Read.val_main_cst_0, Cert.Reference3Ideal.Read.val_main_v7, Cert.Reference3Ideal.Read.val_main_v8, Cert.Reference3Ideal.Read.val_main_cst_1, Cert.Reference3Ideal.Read.val_main_v9, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_cst_2, Cert.Reference3Ideal.Read.val_main_v16, Cert.Reference3Ideal.Read.val_main_v17, Cert.Reference3Ideal.Read.val_main_cst_3, Cert.Reference3Ideal.Read.val_main_v18, Cert.Reference3Ideal.Read.val_main_v19, Cert.Reference3Ideal.Read.val_main_cst_4, Cert.Reference3Ideal.Read.val_main_v20, Cert.Reference3Ideal.Read.val_main_v21, Cert.Reference3Ideal.Read.val_main_v22, Cert.Reference3Ideal.Read.val_main_v23, Cert.Reference3Ideal.Read.val_main_v24, Cert.Reference3Ideal.Read.val_main_v25, Cert.Reference3Ideal.Read.val_main_v26, Cert.Reference3Ideal.Read.val_main_v27, Cert.Reference3Ideal.Read.val_main_v28, Cert.Reference3Ideal.Read.val_main_v29, Cert.Reference3Ideal.Read.val_main_v30, Cert.Reference3Ideal.Read.val_main_v31, Cert.Reference3Ideal.Read.val_main_v32, Cert.Reference3Ideal.Read.val_main_v33, Cert.Reference3Ideal.Read.val_main_v34, Cert.Reference3Ideal.Read.val_main_v35, Cert.Reference3Ideal.Read.val_main_v36]
  refine (EReal.mul_comm _ _).trans ?_
  blk_point [iblk, e0, e4, e6]

theorem arr7 (c : Dev nD) :
    (dats m 0 c).arrAt 7 cfg0.N
      = Cert.Reference3Ideal.Read.val_main_v36 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  blk_simp
  rw [after0_7]
  frame_out
  obtain ⟨⟨e0, e1, e2, e3, e4⟩, e5, e6, e7⟩ := idx t
  canon_tiles x h
  · pointwise [k0_pay1, k0_pay3, k0_pay7, Ideal.logistic, Cert.Reference3Ideal.Read.val_main_v0, Cert.Reference3Ideal.Read.val_main_v1, Cert.Reference3Ideal.Read.val_main_v2, Cert.Reference3Ideal.Read.val_main_v3, Cert.Reference3Ideal.Read.val_main_v4, Cert.Reference3Ideal.Read.val_main_cst, Cert.Reference3Ideal.Read.val_main_v5, Cert.Reference3Ideal.Read.val_main_v6, Cert.Reference3Ideal.Read.val_main_cst_0, Cert.Reference3Ideal.Read.val_main_v7, Cert.Reference3Ideal.Read.val_main_v8, Cert.Reference3Ideal.Read.val_main_cst_1, Cert.Reference3Ideal.Read.val_main_v9, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_cst_2, Cert.Reference3Ideal.Read.val_main_v16, Cert.Reference3Ideal.Read.val_main_v17, Cert.Reference3Ideal.Read.val_main_cst_3, Cert.Reference3Ideal.Read.val_main_v18, Cert.Reference3Ideal.Read.val_main_v19, Cert.Reference3Ideal.Read.val_main_cst_4, Cert.Reference3Ideal.Read.val_main_v20, Cert.Reference3Ideal.Read.val_main_v21, Cert.Reference3Ideal.Read.val_main_v22, Cert.Reference3Ideal.Read.val_main_v23, Cert.Reference3Ideal.Read.val_main_v24, Cert.Reference3Ideal.Read.val_main_v25, Cert.Reference3Ideal.Read.val_main_v26, Cert.Reference3Ideal.Read.val_main_v27, Cert.Reference3Ideal.Read.val_main_v28, Cert.Reference3Ideal.Read.val_main_v29, Cert.Reference3Ideal.Read.val_main_v30, Cert.Reference3Ideal.Read.val_main_v31, Cert.Reference3Ideal.Read.val_main_v32, Cert.Reference3Ideal.Read.val_main_v33, Cert.Reference3Ideal.Read.val_main_v34, Cert.Reference3Ideal.Read.val_main_v35, Cert.Reference3Ideal.Read.val_main_v36]
    rw [dif_neg (by blk_simp [e7]; omega)]
    blk_point [iblk, e0, e1, e2, e3, e4, e7]
  · pointwise [k0_pay1, k0_pay2, k0_pay6, Ideal.logistic, Cert.Reference3Ideal.Read.val_main_v0, Cert.Reference3Ideal.Read.val_main_v1, Cert.Reference3Ideal.Read.val_main_v2, Cert.Reference3Ideal.Read.val_main_v3, Cert.Reference3Ideal.Read.val_main_v4, Cert.Reference3Ideal.Read.val_main_cst, Cert.Reference3Ideal.Read.val_main_v5, Cert.Reference3Ideal.Read.val_main_v6, Cert.Reference3Ideal.Read.val_main_cst_0, Cert.Reference3Ideal.Read.val_main_v7, Cert.Reference3Ideal.Read.val_main_v8, Cert.Reference3Ideal.Read.val_main_cst_1, Cert.Reference3Ideal.Read.val_main_v9, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_cst_2, Cert.Reference3Ideal.Read.val_main_v16, Cert.Reference3Ideal.Read.val_main_v17, Cert.Reference3Ideal.Read.val_main_cst_3, Cert.Reference3Ideal.Read.val_main_v18, Cert.Reference3Ideal.Read.val_main_v19, Cert.Reference3Ideal.Read.val_main_cst_4, Cert.Reference3Ideal.Read.val_main_v20, Cert.Reference3Ideal.Read.val_main_v21, Cert.Reference3Ideal.Read.val_main_v22, Cert.Reference3Ideal.Read.val_main_v23, Cert.Reference3Ideal.Read.val_main_v24, Cert.Reference3Ideal.Read.val_main_v25, Cert.Reference3Ideal.Read.val_main_v26, Cert.Reference3Ideal.Read.val_main_v27, Cert.Reference3Ideal.Read.val_main_v28, Cert.Reference3Ideal.Read.val_main_v29, Cert.Reference3Ideal.Read.val_main_v30, Cert.Reference3Ideal.Read.val_main_v31, Cert.Reference3Ideal.Read.val_main_v32, Cert.Reference3Ideal.Read.val_main_v33, Cert.Reference3Ideal.Read.val_main_v34, Cert.Reference3Ideal.Read.val_main_v35, Cert.Reference3Ideal.Read.val_main_v36]
    rw [dif_pos (by blk_simp [e7]; omega)]
    blk_point [iblk, e0, e1, e2, e3, e4, e7]

/-- The kernel's gradients of the merge are the reference's. -/
theorem algebraic : Cert.algebraic_Kernel3Ideal_Reference3Ideal (hKernel3Ideal := Cert.Kernel3Ideal.Gen.facts)
    (hReference3Ideal := Cert.Reference3Ideal.Gen.facts) := by
  intro m g m' g' _ hag
  refine ⟨fun c => (dats m 0 c).arrAt 5 cfg0.N, fun c => (dats m 0 c).arrAt 6 cfg0.N, fun c => (dats m 0 c).arrAt 7 cfg0.N,
    Cert.Kernel3Ideal.Value.run_blocks m g, ?_⟩
  refine (θ_run _ _ _).mono (fun r h c => ?_) (Cert.Reference3Ideal.Value.run (F := Ideal) m' g')
  refine ⟨((h c).1).trans ?_, ((h c).2.1).trans ?_, ((h c).2.2.1).trans ?_, (h c).2.2.2⟩
  · rw [(hag c).1, (hag c).2.2.2]
    exact (arr5 m c).symm
  · rw [(hag c).1, (hag c).2.2.2]
    exact (arr6 m c).symm
  · rw [(hag c).1, (hag c).2.1, (hag c).2.2.1, (hag c).2.2.2]
    exact (arr7 m c).symm

end Cert.Merge

end
-- ==== Proof.RmsBack.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Read
public import Idealize.ShloMosaic.Lib.Pipeline.ValueKit
public import Idealize.ShloMosaic.Lib.Pointwise

@[expose] public section

set_option maxRecDepth 16384

noncomputable section

namespace Cert.RmsBack

open Idealize.ShloMosaic Idealize.ShloMosaic.TcCoe Idealize.SL.Sem Idealize.ShloMosaic.Pipeline
open Cert.Kernel5Ideal Cert.Kernel5Ideal.Gen

/-- The kernel's gradient of a row's normalisation. -/
def kern {n : ℕ} (x d g : Fin n → EReal) (j : Fin n) : EReal :=
  Ideal.rsqrt (Ideal.div (∑ k, x k * x k) (Ideal.ofBits .f32 0x44000000#32) + Ideal.ofBits .f32 0x358637BD#32) * (d j * g j)
    - x j * (Ideal.rsqrt (Ideal.div (∑ k, x k * x k) (Ideal.ofBits .f32 0x44000000#32) + Ideal.ofBits .f32 0x358637BD#32)
        * Ideal.rsqrt (Ideal.div (∑ k, x k * x k) (Ideal.ofBits .f32 0x44000000#32) + Ideal.ofBits .f32 0x358637BD#32)
        * Ideal.rsqrt (Ideal.div (∑ k, x k * x k) (Ideal.ofBits .f32 0x44000000#32) + Ideal.ofBits .f32 0x358637BD#32))
      * Ideal.div (∑ k, d k * g k * x k) (Ideal.ofBits .f32 0x44000000#32)

/-- The gradient of a row's normalisation as the chain rule gives it. -/
def refr {n : ℕ} (x d g : Fin n → EReal) (j : Fin n) : EReal :=
  d j * g j * Ideal.rsqrt (Ideal.div (∑ k, x k * x k) (Ideal.ofBits .f32 0x44000000#32) + Ideal.ofBits .f32 0x358637BD#32)
    + (∑ _u : Fin 1, Ideal.div ((∑ k, x k * (d k * g k)) * (Ideal.ofBits .f32 0xBF000000#32
        * Ideal.div (Ideal.rsqrt (Ideal.div (∑ k, x k * x k) (Ideal.ofBits .f32 0x44000000#32) + Ideal.ofBits .f32 0x358637BD#32))
            (Ideal.div (∑ k, x k * x k) (Ideal.ofBits .f32 0x44000000#32) + Ideal.ofBits .f32 0x358637BD#32)))
          (Ideal.ofBits .f32 0x44000000#32))
      * (Ideal.ofBits .f32 0x40000000#32 * x j)

theorem bits_512 : Ideal.ofBits .f32 0x44000000#32 = ((512 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_half : Ideal.ofBits .f32 0xBF000000#32 = ((-(1 / 2) : ℝ) : EReal) := by
  simp [Ideal.ofBits, Ideal.ieee, -EReal.coe_mul]; norm_num

theorem bits_eps : ∃ e : ℝ, 0 < e ∧ Ideal.ofBits .f32 0x358637BD#32 = (e : EReal) := by
  simp [Ideal.ofBits, Ideal.ieee, -EReal.coe_mul]

theorem coe_sum {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

theorem sum_sq_nonneg {n : ℕ} (x : Fin n → EReal) : 0 ≤ ∑ k, x k * x k :=
  Finset.sum_nonneg fun k _ => by
    rcases le_total 0 (x k) with h | h
    · exact mul_nonneg h h
    · rw [← neg_mul_neg]
      exact mul_nonneg (EReal.neg_nonneg.mpr h) (EReal.neg_nonneg.mpr h)

/-- The two gradients of a row's normalisation agree, at infinite values too: there the scale's root vanishes. -/
theorem row {n : ℕ} (x d g : Fin n → EReal) (j : Fin n) : kern x d g j = refr x d g j := by
  obtain ⟨e, he, hE⟩ := bits_eps
  have hc : ∑ k, d k * g k * x k = ∑ k, x k * (d k * g k) := Finset.sum_congr rfl fun k _ => mul_comm _ _
  simp only [kern, refr, hc, bits_512, bits_two, bits_half, hE, Fin.sum_univ_one, Ideal.div_coe (by norm_num : (512 : ℝ) ≠ 0)]
  have hs := sum_sq_nonneg x
  generalize ∑ k, x k * x k = s at hs ⊢
  generalize ∑ k, x k * (d k * g k) = w
  generalize d j * g j = u
  generalize x j = z
  induction s with
  | bot => simp at hs
  | top =>
    have ht : (⊤ : EReal) * ((1 / 512 : ℝ) : EReal) + (e : EReal) = ⊤ := by
      rw [EReal.top_mul_coe_of_pos (by norm_num), EReal.top_add_coe]
    rw [ht]
    have h0 : Ideal.rsqrt ⊤ = 0 := rfl
    simp [h0, Ideal.div]
  | coe s =>
    have hs : 0 ≤ s := by exact_mod_cast hs
    have hv : 0 < s * (1 / 512) + e := by positivity
    have hr : (Real.sqrt (s * (1 / 512) + e))⁻¹ * (Real.sqrt (s * (1 / 512) + e))⁻¹ = 1 / (s * (1 / 512) + e) := by
      rw [← mul_inv, Real.mul_self_sqrt hv.le]
      exact (one_div _).symm
    simp only [← EReal.coe_mul, ← EReal.coe_add, Ideal.rsqrt_coe, if_neg hv.not_gt, if_neg hv.ne', Ideal.div_coe hv.ne']
    rw [hr, sub_eq_add_neg, mul_comm u]
    generalize (Real.sqrt (s * (1 / 512) + e))⁻¹ = r
    generalize 1 / (s * (1 / 512) + e) = v
    refine congrArg _ ?_
    have e1 : ((-(1 / 2) * (r * v) : ℝ) : EReal) = -((1 / 2 * (r * v) : ℝ) : EReal) := by
      rw [← EReal.coe_neg, neg_mul]
    have e2 : (v * r : ℝ) = 1 / 2 * (r * v) * 2 := by ring
    rw [e1, mul_neg, neg_mul, neg_mul, e2, EReal.coe_mul _ 2]
    refine congrArg _ ?_
    ac_rfl

variable (m : (ℓ : Loc nD τ sig) → Buf (Elt Ideal) ℓ) (c : Dev nD)

abbrev A0 : S2048x512.Idx → EReal := m ((c.tc : Thread nD τ).loc main_arg0)
abbrev A1 : S2048x512.Idx → EReal := m ((c.tc : Thread nD τ).loc main_arg1)
abbrev A2 : S2048x1152.Idx → EReal := m ((c.tc : Thread nD τ).loc main_arg2)
abbrev A3 : S2048x128.Idx → EReal := m ((c.tc : Thread nD τ).loc main_arg3)
abbrev A4 : S1x512.Idx → EReal := m ((c.tc : Thread nD τ).loc main_arg4)
abbrev A5 : S1x512.Idx → EReal := m ((c.tc : Thread nD τ).loc main_arg5)

/-- Where the windows' blocks stand at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0])

abbrev B0 (t : Fin cfg0.N) : S256x512.Idx → EReal := iblk m c 0 t
abbrev B1 (t : Fin cfg0.N) : S256x512.Idx → EReal := iblk m c 1 t
abbrev B2 (t : Fin cfg0.N) : S256x1152.Idx → EReal := iblk m c 2 t

/-- A block's share of the gradient of the scale. -/
def part (d x : Fin 256 → Fin 512 → EReal) (j : S1x512.Idx) : EReal :=
  ∑ k : Fin 256, d k (j 1) * (x k (j 1)
    * Ideal.rsqrt (Ideal.div (∑ l : Fin 512, x k l * x k l) (Ideal.ofBits .f32 0x44000000#32) + Ideal.ofBits .f32 0x358637BD#32))

def part7 (t : Fin cfg0.N) : S1x512.Idx → EReal :=
  part (fun k l => B0 m c t (ix2 k l)) (fun k l => B2 m c t (ix2 k ⟨l.val, by omega⟩))

def part8 (t : Fin cfg0.N) : S1x512.Idx → EReal :=
  part (fun k l => B1 m c t (ix2 k l)) (fun k l => B2 m c t (ix2 k ⟨512 + l.val, by omega⟩))

section Rows

variable (a0 a1 : S2048x512.Idx → EReal) (a2 : S2048x1152.Idx → EReal) (a3 : S2048x128.Idx → EReal) (a4 a5 : S1x512.Idx → EReal)

/-- The reference's gradient in the query's columns. -/
theorem ref_q (i : Fin 2048) (j : Fin 512) :
    Cert.Reference5Ideal.Read.val_main_v76 (F := Ideal) a0 a1 a2 a3 a4 a5 (ix2 i ⟨j.val, by omega⟩)
      = refr (fun k : Fin 512 => a2 (ix2 i ⟨k.val, by omega⟩)) (fun k => a0 (ix2 i k)) (fun k => a4 (ix2 0 k)) j := by
  pointwise [Cert.Reference5Ideal.Read.val_main_v0, Cert.Reference5Ideal.Read.val_main_v1, Cert.Reference5Ideal.Read.val_main_v2, Cert.Reference5Ideal.Read.val_main_v3, Cert.Reference5Ideal.Read.val_main_cst, Cert.Reference5Ideal.Read.val_main_v4, Cert.Reference5Ideal.Read.val_main_v5, Cert.Reference5Ideal.Read.val_main_cst_0, Cert.Reference5Ideal.Read.val_main_v6, Cert.Reference5Ideal.Read.val_main_v7, Cert.Reference5Ideal.Read.val_main_cst_1, Cert.Reference5Ideal.Read.val_main_v8, Cert.Reference5Ideal.Read.val_main_v9, Cert.Reference5Ideal.Read.val_main_cst_2, Cert.Reference5Ideal.Read.val_main_v10, Cert.Reference5Ideal.Read.val_main_v11, Cert.Reference5Ideal.Read.val_main_v12, Cert.Reference5Ideal.Read.val_main_v13, Cert.Reference5Ideal.Read.val_main_cst_3, Cert.Reference5Ideal.Read.val_main_v14, Cert.Reference5Ideal.Read.val_main_v15, Cert.Reference5Ideal.Read.val_main_v16, Cert.Reference5Ideal.Read.val_main_v17, Cert.Reference5Ideal.Read.val_main_v18, Cert.Reference5Ideal.Read.val_main_v19, Cert.Reference5Ideal.Read.val_main_v20, Cert.Reference5Ideal.Read.val_main_cst_4, Cert.Reference5Ideal.Read.val_main_v21, Cert.Reference5Ideal.Read.val_main_v22, Cert.Reference5Ideal.Read.val_main_cst_5, Cert.Reference5Ideal.Read.val_main_v23, Cert.Reference5Ideal.Read.val_main_v24, Cert.Reference5Ideal.Read.val_main_cst_6, Cert.Reference5Ideal.Read.val_main_v25, Cert.Reference5Ideal.Read.val_main_v26, Cert.Reference5Ideal.Read.val_main_cst_7, Cert.Reference5Ideal.Read.val_main_v27, Cert.Reference5Ideal.Read.val_main_v28, Cert.Reference5Ideal.Read.val_main_v29, Cert.Reference5Ideal.Read.val_main_v30, Cert.Reference5Ideal.Read.val_main_cst_8, Cert.Reference5Ideal.Read.val_main_v31, Cert.Reference5Ideal.Read.val_main_v32, Cert.Reference5Ideal.Read.val_main_v33, Cert.Reference5Ideal.Read.val_main_v34, Cert.Reference5Ideal.Read.val_main_v35, Cert.Reference5Ideal.Read.val_main_v36, Cert.Reference5Ideal.Read.val_main_v37, Cert.Reference5Ideal.Read.val_main_cst_9, Cert.Reference5Ideal.Read.val_main_v38, Cert.Reference5Ideal.Read.val_main_v39, Cert.Reference5Ideal.Read.val_main_v40, Cert.Reference5Ideal.Read.val_main_v41, Cert.Reference5Ideal.Read.val_main_v42, Cert.Reference5Ideal.Read.val_main_cst_10, Cert.Reference5Ideal.Read.val_main_v43, Cert.Reference5Ideal.Read.val_main_v44, Cert.Reference5Ideal.Read.val_main_v45, Cert.Reference5Ideal.Read.val_main_v46, Cert.Reference5Ideal.Read.val_main_v47, Cert.Reference5Ideal.Read.val_main_cst_11, Cert.Reference5Ideal.Read.val_main_v48, Cert.Reference5Ideal.Read.val_main_v49, Cert.Reference5Ideal.Read.val_main_cst_12, Cert.Reference5Ideal.Read.val_main_v50, Cert.Reference5Ideal.Read.val_main_v51, Cert.Reference5Ideal.Read.val_main_v52, Cert.Reference5Ideal.Read.val_main_v53, Cert.Reference5Ideal.Read.val_main_v54, Cert.Reference5Ideal.Read.val_main_cst_13, Cert.Reference5Ideal.Read.val_main_v55, Cert.Reference5Ideal.Read.val_main_v56, Cert.Reference5Ideal.Read.val_main_v57, Cert.Reference5Ideal.Read.val_main_v58, Cert.Reference5Ideal.Read.val_main_v59, Cert.Reference5Ideal.Read.val_main_cst_14, Cert.Reference5Ideal.Read.val_main_v60, Cert.Reference5Ideal.Read.val_main_v61, Cert.Reference5Ideal.Read.val_main_v62, Cert.Reference5Ideal.Read.val_main_v63, Cert.Reference5Ideal.Read.val_main_v64, Cert.Reference5Ideal.Read.val_main_cst_15, Cert.Reference5Ideal.Read.val_main_v65, Cert.Reference5Ideal.Read.val_main_v66, Cert.Reference5Ideal.Read.val_main_cst_16, Cert.Reference5Ideal.Read.val_main_v67, Cert.Reference5Ideal.Read.val_main_v68, Cert.Reference5Ideal.Read.val_main_v69, Cert.Reference5Ideal.Read.val_main_v70, Cert.Reference5Ideal.Read.val_main_cst_17, Cert.Reference5Ideal.Read.val_main_v71, Cert.Reference5Ideal.Read.val_main_cst_18, Cert.Reference5Ideal.Read.val_main_v72, Cert.Reference5Ideal.Read.val_main_v73, Cert.Reference5Ideal.Read.val_main_cst_19, Cert.Reference5Ideal.Read.val_main_v74, Cert.Reference5Ideal.Read.val_main_v75, Cert.Reference5Ideal.Read.val_main_v76]
  rw [dif_neg (by omega), dif_neg (by simp), zero_add, zero_add]
  rfl

/-- The reference's gradient in the columns of the keys and values. -/
theorem ref_kv (i : Fin 2048) (j : Fin 512) :
    Cert.Reference5Ideal.Read.val_main_v76 (F := Ideal) a0 a1 a2 a3 a4 a5 (ix2 i ⟨512 + j.val, by omega⟩)
      = refr (fun k : Fin 512 => a2 (ix2 i ⟨512 + k.val, by omega⟩)) (fun k => a1 (ix2 i k)) (fun k => a5 (ix2 0 k)) j := by
  pointwise [Cert.Reference5Ideal.Read.val_main_v0, Cert.Reference5Ideal.Read.val_main_v1, Cert.Reference5Ideal.Read.val_main_v2, Cert.Reference5Ideal.Read.val_main_v3, Cert.Reference5Ideal.Read.val_main_cst, Cert.Reference5Ideal.Read.val_main_v4, Cert.Reference5Ideal.Read.val_main_v5, Cert.Reference5Ideal.Read.val_main_cst_0, Cert.Reference5Ideal.Read.val_main_v6, Cert.Reference5Ideal.Read.val_main_v7, Cert.Reference5Ideal.Read.val_main_cst_1, Cert.Reference5Ideal.Read.val_main_v8, Cert.Reference5Ideal.Read.val_main_v9, Cert.Reference5Ideal.Read.val_main_cst_2, Cert.Reference5Ideal.Read.val_main_v10, Cert.Reference5Ideal.Read.val_main_v11, Cert.Reference5Ideal.Read.val_main_v12, Cert.Reference5Ideal.Read.val_main_v13, Cert.Reference5Ideal.Read.val_main_cst_3, Cert.Reference5Ideal.Read.val_main_v14, Cert.Reference5Ideal.Read.val_main_v15, Cert.Reference5Ideal.Read.val_main_v16, Cert.Reference5Ideal.Read.val_main_v17, Cert.Reference5Ideal.Read.val_main_v18, Cert.Reference5Ideal.Read.val_main_v19, Cert.Reference5Ideal.Read.val_main_v20, Cert.Reference5Ideal.Read.val_main_cst_4, Cert.Reference5Ideal.Read.val_main_v21, Cert.Reference5Ideal.Read.val_main_v22, Cert.Reference5Ideal.Read.val_main_cst_5, Cert.Reference5Ideal.Read.val_main_v23, Cert.Reference5Ideal.Read.val_main_v24, Cert.Reference5Ideal.Read.val_main_cst_6, Cert.Reference5Ideal.Read.val_main_v25, Cert.Reference5Ideal.Read.val_main_v26, Cert.Reference5Ideal.Read.val_main_cst_7, Cert.Reference5Ideal.Read.val_main_v27, Cert.Reference5Ideal.Read.val_main_v28, Cert.Reference5Ideal.Read.val_main_v29, Cert.Reference5Ideal.Read.val_main_v30, Cert.Reference5Ideal.Read.val_main_cst_8, Cert.Reference5Ideal.Read.val_main_v31, Cert.Reference5Ideal.Read.val_main_v32, Cert.Reference5Ideal.Read.val_main_v33, Cert.Reference5Ideal.Read.val_main_v34, Cert.Reference5Ideal.Read.val_main_v35, Cert.Reference5Ideal.Read.val_main_v36, Cert.Reference5Ideal.Read.val_main_v37, Cert.Reference5Ideal.Read.val_main_cst_9, Cert.Reference5Ideal.Read.val_main_v38, Cert.Reference5Ideal.Read.val_main_v39, Cert.Reference5Ideal.Read.val_main_v40, Cert.Reference5Ideal.Read.val_main_v41, Cert.Reference5Ideal.Read.val_main_v42, Cert.Reference5Ideal.Read.val_main_cst_10, Cert.Reference5Ideal.Read.val_main_v43, Cert.Reference5Ideal.Read.val_main_v44, Cert.Reference5Ideal.Read.val_main_v45, Cert.Reference5Ideal.Read.val_main_v46, Cert.Reference5Ideal.Read.val_main_v47, Cert.Reference5Ideal.Read.val_main_cst_11, Cert.Reference5Ideal.Read.val_main_v48, Cert.Reference5Ideal.Read.val_main_v49, Cert.Reference5Ideal.Read.val_main_cst_12, Cert.Reference5Ideal.Read.val_main_v50, Cert.Reference5Ideal.Read.val_main_v51, Cert.Reference5Ideal.Read.val_main_v52, Cert.Reference5Ideal.Read.val_main_v53, Cert.Reference5Ideal.Read.val_main_v54, Cert.Reference5Ideal.Read.val_main_cst_13, Cert.Reference5Ideal.Read.val_main_v55, Cert.Reference5Ideal.Read.val_main_v56, Cert.Reference5Ideal.Read.val_main_v57, Cert.Reference5Ideal.Read.val_main_v58, Cert.Reference5Ideal.Read.val_main_v59, Cert.Reference5Ideal.Read.val_main_cst_14, Cert.Reference5Ideal.Read.val_main_v60, Cert.Reference5Ideal.Read.val_main_v61, Cert.Reference5Ideal.Read.val_main_v62, Cert.Reference5Ideal.Read.val_main_v63, Cert.Reference5Ideal.Read.val_main_v64, Cert.Reference5Ideal.Read.val_main_cst_15, Cert.Reference5Ideal.Read.val_main_v65, Cert.Reference5Ideal.Read.val_main_v66, Cert.Reference5Ideal.Read.val_main_cst_16, Cert.Reference5Ideal.Read.val_main_v67, Cert.Reference5Ideal.Read.val_main_v68, Cert.Reference5Ideal.Read.val_main_v69, Cert.Reference5Ideal.Read.val_main_v70, Cert.Reference5Ideal.Read.val_main_cst_17, Cert.Reference5Ideal.Read.val_main_v71, Cert.Reference5Ideal.Read.val_main_cst_18, Cert.Reference5Ideal.Read.val_main_v72, Cert.Reference5Ideal.Read.val_main_v73, Cert.Reference5Ideal.Read.val_main_cst_19, Cert.Reference5Ideal.Read.val_main_v74, Cert.Reference5Ideal.Read.val_main_v75, Cert.Reference5Ideal.Read.val_main_v76]
  rw [dif_neg (by omega), zero_add]
  rfl

/-- The reference's gradient in the columns of the rotated key. -/
theorem ref_rope (i : Fin 2048) (j : Fin 128) :
    Cert.Reference5Ideal.Read.val_main_v76 (F := Ideal) a0 a1 a2 a3 a4 a5 (ix2 i ⟨1024 + j.val, by omega⟩) = a3 (ix2 i j) := by
  pointwise [Cert.Reference5Ideal.Read.val_main_v0, Cert.Reference5Ideal.Read.val_main_v1, Cert.Reference5Ideal.Read.val_main_v2, Cert.Reference5Ideal.Read.val_main_v3, Cert.Reference5Ideal.Read.val_main_cst, Cert.Reference5Ideal.Read.val_main_v4, Cert.Reference5Ideal.Read.val_main_v5, Cert.Reference5Ideal.Read.val_main_cst_0, Cert.Reference5Ideal.Read.val_main_v6, Cert.Reference5Ideal.Read.val_main_v7, Cert.Reference5Ideal.Read.val_main_cst_1, Cert.Reference5Ideal.Read.val_main_v8, Cert.Reference5Ideal.Read.val_main_v9, Cert.Reference5Ideal.Read.val_main_cst_2, Cert.Reference5Ideal.Read.val_main_v10, Cert.Reference5Ideal.Read.val_main_v11, Cert.Reference5Ideal.Read.val_main_v12, Cert.Reference5Ideal.Read.val_main_v13, Cert.Reference5Ideal.Read.val_main_cst_3, Cert.Reference5Ideal.Read.val_main_v14, Cert.Reference5Ideal.Read.val_main_v15, Cert.Reference5Ideal.Read.val_main_v16, Cert.Reference5Ideal.Read.val_main_v17, Cert.Reference5Ideal.Read.val_main_v18, Cert.Reference5Ideal.Read.val_main_v19, Cert.Reference5Ideal.Read.val_main_v20, Cert.Reference5Ideal.Read.val_main_cst_4, Cert.Reference5Ideal.Read.val_main_v21, Cert.Reference5Ideal.Read.val_main_v22, Cert.Reference5Ideal.Read.val_main_cst_5, Cert.Reference5Ideal.Read.val_main_v23, Cert.Reference5Ideal.Read.val_main_v24, Cert.Reference5Ideal.Read.val_main_cst_6, Cert.Reference5Ideal.Read.val_main_v25, Cert.Reference5Ideal.Read.val_main_v26, Cert.Reference5Ideal.Read.val_main_cst_7, Cert.Reference5Ideal.Read.val_main_v27, Cert.Reference5Ideal.Read.val_main_v28, Cert.Reference5Ideal.Read.val_main_v29, Cert.Reference5Ideal.Read.val_main_v30, Cert.Reference5Ideal.Read.val_main_cst_8, Cert.Reference5Ideal.Read.val_main_v31, Cert.Reference5Ideal.Read.val_main_v32, Cert.Reference5Ideal.Read.val_main_v33, Cert.Reference5Ideal.Read.val_main_v34, Cert.Reference5Ideal.Read.val_main_v35, Cert.Reference5Ideal.Read.val_main_v36, Cert.Reference5Ideal.Read.val_main_v37, Cert.Reference5Ideal.Read.val_main_cst_9, Cert.Reference5Ideal.Read.val_main_v38, Cert.Reference5Ideal.Read.val_main_v39, Cert.Reference5Ideal.Read.val_main_v40, Cert.Reference5Ideal.Read.val_main_v41, Cert.Reference5Ideal.Read.val_main_v42, Cert.Reference5Ideal.Read.val_main_cst_10, Cert.Reference5Ideal.Read.val_main_v43, Cert.Reference5Ideal.Read.val_main_v44, Cert.Reference5Ideal.Read.val_main_v45, Cert.Reference5Ideal.Read.val_main_v46, Cert.Reference5Ideal.Read.val_main_v47, Cert.Reference5Ideal.Read.val_main_cst_11, Cert.Reference5Ideal.Read.val_main_v48, Cert.Reference5Ideal.Read.val_main_v49, Cert.Reference5Ideal.Read.val_main_cst_12, Cert.Reference5Ideal.Read.val_main_v50, Cert.Reference5Ideal.Read.val_main_v51, Cert.Reference5Ideal.Read.val_main_v52, Cert.Reference5Ideal.Read.val_main_v53, Cert.Reference5Ideal.Read.val_main_v54, Cert.Reference5Ideal.Read.val_main_cst_13, Cert.Reference5Ideal.Read.val_main_v55, Cert.Reference5Ideal.Read.val_main_v56, Cert.Reference5Ideal.Read.val_main_v57, Cert.Reference5Ideal.Read.val_main_v58, Cert.Reference5Ideal.Read.val_main_v59, Cert.Reference5Ideal.Read.val_main_cst_14, Cert.Reference5Ideal.Read.val_main_v60, Cert.Reference5Ideal.Read.val_main_v61, Cert.Reference5Ideal.Read.val_main_v62, Cert.Reference5Ideal.Read.val_main_v63, Cert.Reference5Ideal.Read.val_main_v64, Cert.Reference5Ideal.Read.val_main_cst_15, Cert.Reference5Ideal.Read.val_main_v65, Cert.Reference5Ideal.Read.val_main_v66, Cert.Reference5Ideal.Read.val_main_cst_16, Cert.Reference5Ideal.Read.val_main_v67, Cert.Reference5Ideal.Read.val_main_v68, Cert.Reference5Ideal.Read.val_main_v69, Cert.Reference5Ideal.Read.val_main_v70, Cert.Reference5Ideal.Read.val_main_cst_17, Cert.Reference5Ideal.Read.val_main_v71, Cert.Reference5Ideal.Read.val_main_cst_18, Cert.Reference5Ideal.Read.val_main_v72, Cert.Reference5Ideal.Read.val_main_v73, Cert.Reference5Ideal.Read.val_main_cst_19, Cert.Reference5Ideal.Read.val_main_v74, Cert.Reference5Ideal.Read.val_main_v75, Cert.Reference5Ideal.Read.val_main_v76]
  rw [dif_neg (by omega), dif_neg (by omega), add_zero, add_zero]

theorem pay_q (d x : S256x512.Idx → EReal) (g : S1x512.Idx → EReal) (i : Fin 256) (j : Fin 512) :
    k0_pay9 (F := Ideal) (k0_pay3 d x g) (ix2 i j) = kern (fun k => x (ix2 i k)) (fun k => d (ix2 i k)) (fun k => g (ix2 0 k)) j := by
  pointwise [k0_pay1, k0_pay2, k0_pay3, k0_pay4, k0_pay5, k0_pay6, k0_pay7, k0_pay8, k0_pay9, k0_pay10, k0_pay11, k0_pay12, kern]

theorem pay_kv (d x : S256x512.Idx → EReal) (g : S1x512.Idx → EReal) (i : Fin 256) (j : Fin 512) :
    k0_pay10 (F := Ideal) d x g (k0_pay5 x) k0_pay6 (ix2 i j)
      = kern (fun k => x (ix2 i k)) (fun k => d (ix2 i k)) (fun k => g (ix2 0 k)) j := by
  pointwise [k0_pay1, k0_pay2, k0_pay3, k0_pay4, k0_pay5, k0_pay6, k0_pay7, k0_pay8, k0_pay9, k0_pay10, k0_pay11, k0_pay12, kern]

end Rows

theorem piece_q (t : Fin cfg0.N) (x : S256x512.Idx → EReal)
    (hx : ∀ i k, x (ix2 i k) = A2 m c (ix2 ⟨256 * t.val + i.val, by have : t.val < 8 := t.isLt; omega⟩ ⟨k.val, by omega⟩)) (i : Fin 256) (j : Fin 512) (y : S256x1152.Idx)
    (h0 : (y 0).val = i.val) (h1 : (y 1).val = j.val) :
    k0_pay9 (F := Ideal) (k0_pay3 (iblk m c 0 t) x (iblk m c 4 t)) (ix2 i j)
      = Cert.Reference5Ideal.Read.val_main_v76 (F := Ideal) (A0 m c) (A1 m c) (A2 m c) (A3 m c) (A4 m c) (A5 m c)
        (((View.whole main_v0_0).slice (win0_6.rect t)).emb y) := by
  obtain ⟨e0, e1, e2, e3, e4, e5, e6⟩ := idx t
  have ht : t.val < 8 := t.isLt
  have he : ((View.whole main_v0_0).slice (win0_6.rect t)).emb y = ix2 ⟨256 * t.val + i.val, by omega⟩ ⟨j.val, by omega⟩ := by
    blk_point [e6, h0, h1]
  rw [he, ref_q, ← row]
  refine (pay_q _ _ _ i j).trans ?_
  congr 1
  · exact funext fun k => hx i k
  · funext k
    blk_point [iblk, e0]
  · funext k
    blk_point [iblk, e4]

theorem piece_kv (t : Fin cfg0.N) (x : S256x512.Idx → EReal)
    (hx : ∀ i k, x (ix2 i k) = A2 m c (ix2 ⟨256 * t.val + i.val, by have : t.val < 8 := t.isLt; omega⟩ ⟨512 + k.val, by omega⟩)) (i : Fin 256) (j : Fin 512) (y : S256x1152.Idx)
    (h0 : (y 0).val = i.val) (h1 : (y 1).val = 512 + j.val) :
    k0_pay10 (F := Ideal) (iblk m c 1 t) x (iblk m c 5 t) (k0_pay5 x) k0_pay6 (ix2 i j)
      = Cert.Reference5Ideal.Read.val_main_v76 (F := Ideal) (A0 m c) (A1 m c) (A2 m c) (A3 m c) (A4 m c) (A5 m c)
        (((View.whole main_v0_0).slice (win0_6.rect t)).emb y) := by
  obtain ⟨e0, e1, e2, e3, e4, e5, e6⟩ := idx t
  have ht : t.val < 8 := t.isLt
  have he : ((View.whole main_v0_0).slice (win0_6.rect t)).emb y = ix2 ⟨256 * t.val + i.val, by omega⟩ ⟨512 + j.val, by omega⟩ := by
    blk_point [e6, h0, h1]
  rw [he, ref_kv, ← row]
  refine (pay_kv _ _ _ i j).trans ?_
  congr 1
  · exact funext fun k => hx i k
  · funext k
    blk_point [iblk, e1]
  · funext k
    blk_point [iblk, e5]

theorem piece_rope (t : Fin cfg0.N) (i : Fin 256) (j : Fin 128) (y : S256x1152.Idx)
    (h0 : (y 0).val = i.val) (h1 : (y 1).val = 1024 + j.val) :
    k0_pay11 (F := Ideal) (iblk m c 3 t) (ix2 i j)
      = Cert.Reference5Ideal.Read.val_main_v76 (F := Ideal) (A0 m c) (A1 m c) (A2 m c) (A3 m c) (A4 m c) (A5 m c)
        (((View.whole main_v0_0).slice (win0_6.rect t)).emb y) := by
  obtain ⟨e0, e1, e2, e3, e4, e5, e6⟩ := idx t
  have ht : t.val < 8 := t.isLt
  have he : ((View.whole main_v0_0).slice (win0_6.rect t)).emb y = ix2 ⟨256 * t.val + i.val, by omega⟩ ⟨1024 + j.val, by omega⟩ := by
    blk_point [e6, h0, h1]
  rw [he, ref_rope]
  pointwise [k0_pay11]
  blk_point [iblk, e3]

theorem arr6 : (dats m 0 c).arrAt 6 cfg0.N
    = Cert.Reference5Ideal.Read.val_main_v76 (F := Ideal) (A0 m c) (A1 m c) (A2 m c) (A3 m c) (A4 m c) (A5 m c) := by
  refine (dats m 0 c).arrAt_eq_of_covers 6 _ (by decide +kernel) fun t _ y => ?_
  blk_simp
  rw [after0_6]
  have ht : t.val < 8 := t.isLt
  obtain ⟨e0, e1, e2, e3, e4, e5, e6⟩ := idx t
  by_cases hz : t.val % 8 = 0
  on_goal 1 => rw [outsAt0_A m c t hz (by omega) hz (by omega)]
  on_goal 2 => rw [outsAt0_B m c t hz (by omega) hz (by omega)]
  all_goals
    frame_out
    canon_tiles x h using View.cover_of_tiledBy _ ![256, 128] (by sl_kernel_rfl) _
    · idx_vars x
      exact piece_rope m c t _ _ y h0 h1
    · idx_vars x
      refine piece_kv m c t _ (fun i k => ?_) _ _ y h0 h1
      pointwise []
      blk_point [iblk, e2]
    · idx_vars x
      refine piece_q m c t _ (fun i k => ?_) _ _ y h0 h1
      pointwise []
      blk_point [iblk, e2]

theorem arr7 : (dats m 0 c).arrAt 7 cfg0.N = Cert.Reference5Ideal.Read.val_main_v56 (F := Ideal) (A0 m c) (A2 m c) := by
  refine (dats m 0 c).arrAt_eq_of_after_last 7 t0_7 (by decide +kernel) _ fun j => ?_
  blk_simp
  rw [after0_7]
  refine (Pipeline.eq_sum_fin_of_reset_step_apply_last (M := EReal) (fun n h => (outsAt0 m c n h).2.1) 8 0 (part7 m c) (fun t h j => ?_) (fun t h j => ?_) (by decide) t0_7 rfl j).trans ?_
  · rw [outsAt0_A m c t h (by have : t.val < 8 := t.isLt; omega) h (by have : t.val < 8 := t.isLt; omega)]
    frame_out
    rw [Pi.zero_apply, zero_add]
    idx_vars j
    pointwise [part7, part, k0_pay4, k0_pay2]
  · rw [outsAt0_B m c t h (by omega) h (by omega)]
    frame_out
    idx_vars j
    pointwise [part7, part, k0_pay12, k0_pay4, k0_pay2]
  · rw [Pi.zero_apply, zero_add]
    idx_vars j
    simp only [part7, part]
    pointwise [Cert.Reference5Ideal.Read.val_main_v0, Cert.Reference5Ideal.Read.val_main_v1, Cert.Reference5Ideal.Read.val_main_v2, Cert.Reference5Ideal.Read.val_main_v3, Cert.Reference5Ideal.Read.val_main_cst, Cert.Reference5Ideal.Read.val_main_v4, Cert.Reference5Ideal.Read.val_main_v5, Cert.Reference5Ideal.Read.val_main_cst_0, Cert.Reference5Ideal.Read.val_main_v6, Cert.Reference5Ideal.Read.val_main_v7, Cert.Reference5Ideal.Read.val_main_cst_1, Cert.Reference5Ideal.Read.val_main_v8, Cert.Reference5Ideal.Read.val_main_v9, Cert.Reference5Ideal.Read.val_main_cst_2, Cert.Reference5Ideal.Read.val_main_v10, Cert.Reference5Ideal.Read.val_main_v11, Cert.Reference5Ideal.Read.val_main_v12, Cert.Reference5Ideal.Read.val_main_v13, Cert.Reference5Ideal.Read.val_main_cst_3, Cert.Reference5Ideal.Read.val_main_v14, Cert.Reference5Ideal.Read.val_main_v15, Cert.Reference5Ideal.Read.val_main_v16, Cert.Reference5Ideal.Read.val_main_v17, Cert.Reference5Ideal.Read.val_main_v18, Cert.Reference5Ideal.Read.val_main_v19, Cert.Reference5Ideal.Read.val_main_v20, Cert.Reference5Ideal.Read.val_main_cst_4, Cert.Reference5Ideal.Read.val_main_v21, Cert.Reference5Ideal.Read.val_main_v22, Cert.Reference5Ideal.Read.val_main_cst_5, Cert.Reference5Ideal.Read.val_main_v23, Cert.Reference5Ideal.Read.val_main_v24, Cert.Reference5Ideal.Read.val_main_cst_6, Cert.Reference5Ideal.Read.val_main_v25, Cert.Reference5Ideal.Read.val_main_v26, Cert.Reference5Ideal.Read.val_main_cst_7, Cert.Reference5Ideal.Read.val_main_v27, Cert.Reference5Ideal.Read.val_main_v28, Cert.Reference5Ideal.Read.val_main_v29, Cert.Reference5Ideal.Read.val_main_v30, Cert.Reference5Ideal.Read.val_main_cst_8, Cert.Reference5Ideal.Read.val_main_v31, Cert.Reference5Ideal.Read.val_main_v32, Cert.Reference5Ideal.Read.val_main_v33, Cert.Reference5Ideal.Read.val_main_v34, Cert.Reference5Ideal.Read.val_main_v35, Cert.Reference5Ideal.Read.val_main_v36, Cert.Reference5Ideal.Read.val_main_v37, Cert.Reference5Ideal.Read.val_main_cst_9, Cert.Reference5Ideal.Read.val_main_v38, Cert.Reference5Ideal.Read.val_main_v39, Cert.Reference5Ideal.Read.val_main_v40, Cert.Reference5Ideal.Read.val_main_v41, Cert.Reference5Ideal.Read.val_main_v42, Cert.Reference5Ideal.Read.val_main_cst_10, Cert.Reference5Ideal.Read.val_main_v43, Cert.Reference5Ideal.Read.val_main_v44, Cert.Reference5Ideal.Read.val_main_v45, Cert.Reference5Ideal.Read.val_main_v46, Cert.Reference5Ideal.Read.val_main_v47, Cert.Reference5Ideal.Read.val_main_cst_11, Cert.Reference5Ideal.Read.val_main_v48, Cert.Reference5Ideal.Read.val_main_v49, Cert.Reference5Ideal.Read.val_main_cst_12, Cert.Reference5Ideal.Read.val_main_v50, Cert.Reference5Ideal.Read.val_main_v51, Cert.Reference5Ideal.Read.val_main_v52, Cert.Reference5Ideal.Read.val_main_v53, Cert.Reference5Ideal.Read.val_main_v54, Cert.Reference5Ideal.Read.val_main_cst_13, Cert.Reference5Ideal.Read.val_main_v55, Cert.Reference5Ideal.Read.val_main_v56, Cert.Reference5Ideal.Read.val_main_v57, Cert.Reference5Ideal.Read.val_main_v58, Cert.Reference5Ideal.Read.val_main_v59, Cert.Reference5Ideal.Read.val_main_cst_14, Cert.Reference5Ideal.Read.val_main_v60, Cert.Reference5Ideal.Read.val_main_v61, Cert.Reference5Ideal.Read.val_main_v62, Cert.Reference5Ideal.Read.val_main_v63, Cert.Reference5Ideal.Read.val_main_v64, Cert.Reference5Ideal.Read.val_main_cst_15, Cert.Reference5Ideal.Read.val_main_v65, Cert.Reference5Ideal.Read.val_main_v66, Cert.Reference5Ideal.Read.val_main_cst_16, Cert.Reference5Ideal.Read.val_main_v67, Cert.Reference5Ideal.Read.val_main_v68, Cert.Reference5Ideal.Read.val_main_v69, Cert.Reference5Ideal.Read.val_main_v70, Cert.Reference5Ideal.Read.val_main_cst_17, Cert.Reference5Ideal.Read.val_main_v71, Cert.Reference5Ideal.Read.val_main_cst_18, Cert.Reference5Ideal.Read.val_main_v72, Cert.Reference5Ideal.Read.val_main_v73, Cert.Reference5Ideal.Read.val_main_cst_19, Cert.Reference5Ideal.Read.val_main_v74, Cert.Reference5Ideal.Read.val_main_v75, Cert.Reference5Ideal.Read.val_main_v76]
    refine Fin.sum_mul_add_congr (n := 256) fun s k hl => ?_
    obtain ⟨e0, e1, e2, e3, e4, e5, e6⟩ := idx s
    refine (EReal.mul_comm _ _).trans ?_
    blk_point [B0, B2, iblk, e0, e2]

theorem arr8 : (dats m 0 c).arrAt 8 cfg0.N = Cert.Reference5Ideal.Read.val_main_v39 (F := Ideal) (A1 m c) (A2 m c) := by
  refine (dats m 0 c).arrAt_eq_of_after_last 8 t0_7 (by decide +kernel) _ fun j => ?_
  blk_simp
  rw [after0_8]
  refine (Pipeline.eq_sum_fin_of_reset_step_apply_last (M := EReal) (fun n h => (outsAt0 m c n h).2.2) 8 0 (part8 m c) (fun t h j => ?_) (fun t h j => ?_) (by decide) t0_7 rfl j).trans ?_
  · rw [outsAt0_A m c t h (by have : t.val < 8 := t.isLt; omega) h (by have : t.val < 8 := t.isLt; omega)]
    frame_out
    rw [Pi.zero_apply, zero_add]
    idx_vars j
    pointwise [part8, part, k0_pay8, k0_pay7, k0_pay6, k0_pay5]
  · rw [outsAt0_B m c t h (by omega) h (by omega)]
    frame_out
    idx_vars j
    pointwise [part8, part, k0_pay1, k0_pay8, k0_pay7, k0_pay6, k0_pay5]
  · rw [Pi.zero_apply, zero_add]
    idx_vars j
    simp only [part8, part]
    pointwise [Cert.Reference5Ideal.Read.val_main_v0, Cert.Reference5Ideal.Read.val_main_v1, Cert.Reference5Ideal.Read.val_main_v2, Cert.Reference5Ideal.Read.val_main_v3, Cert.Reference5Ideal.Read.val_main_cst, Cert.Reference5Ideal.Read.val_main_v4, Cert.Reference5Ideal.Read.val_main_v5, Cert.Reference5Ideal.Read.val_main_cst_0, Cert.Reference5Ideal.Read.val_main_v6, Cert.Reference5Ideal.Read.val_main_v7, Cert.Reference5Ideal.Read.val_main_cst_1, Cert.Reference5Ideal.Read.val_main_v8, Cert.Reference5Ideal.Read.val_main_v9, Cert.Reference5Ideal.Read.val_main_cst_2, Cert.Reference5Ideal.Read.val_main_v10, Cert.Reference5Ideal.Read.val_main_v11, Cert.Reference5Ideal.Read.val_main_v12, Cert.Reference5Ideal.Read.val_main_v13, Cert.Reference5Ideal.Read.val_main_cst_3, Cert.Reference5Ideal.Read.val_main_v14, Cert.Reference5Ideal.Read.val_main_v15, Cert.Reference5Ideal.Read.val_main_v16, Cert.Reference5Ideal.Read.val_main_v17, Cert.Reference5Ideal.Read.val_main_v18, Cert.Reference5Ideal.Read.val_main_v19, Cert.Reference5Ideal.Read.val_main_v20, Cert.Reference5Ideal.Read.val_main_cst_4, Cert.Reference5Ideal.Read.val_main_v21, Cert.Reference5Ideal.Read.val_main_v22, Cert.Reference5Ideal.Read.val_main_cst_5, Cert.Reference5Ideal.Read.val_main_v23, Cert.Reference5Ideal.Read.val_main_v24, Cert.Reference5Ideal.Read.val_main_cst_6, Cert.Reference5Ideal.Read.val_main_v25, Cert.Reference5Ideal.Read.val_main_v26, Cert.Reference5Ideal.Read.val_main_cst_7, Cert.Reference5Ideal.Read.val_main_v27, Cert.Reference5Ideal.Read.val_main_v28, Cert.Reference5Ideal.Read.val_main_v29, Cert.Reference5Ideal.Read.val_main_v30, Cert.Reference5Ideal.Read.val_main_cst_8, Cert.Reference5Ideal.Read.val_main_v31, Cert.Reference5Ideal.Read.val_main_v32, Cert.Reference5Ideal.Read.val_main_v33, Cert.Reference5Ideal.Read.val_main_v34, Cert.Reference5Ideal.Read.val_main_v35, Cert.Reference5Ideal.Read.val_main_v36, Cert.Reference5Ideal.Read.val_main_v37, Cert.Reference5Ideal.Read.val_main_cst_9, Cert.Reference5Ideal.Read.val_main_v38, Cert.Reference5Ideal.Read.val_main_v39, Cert.Reference5Ideal.Read.val_main_v40, Cert.Reference5Ideal.Read.val_main_v41, Cert.Reference5Ideal.Read.val_main_v42, Cert.Reference5Ideal.Read.val_main_cst_10, Cert.Reference5Ideal.Read.val_main_v43, Cert.Reference5Ideal.Read.val_main_v44, Cert.Reference5Ideal.Read.val_main_v45, Cert.Reference5Ideal.Read.val_main_v46, Cert.Reference5Ideal.Read.val_main_v47, Cert.Reference5Ideal.Read.val_main_cst_11, Cert.Reference5Ideal.Read.val_main_v48, Cert.Reference5Ideal.Read.val_main_v49, Cert.Reference5Ideal.Read.val_main_cst_12, Cert.Reference5Ideal.Read.val_main_v50, Cert.Reference5Ideal.Read.val_main_v51, Cert.Reference5Ideal.Read.val_main_v52, Cert.Reference5Ideal.Read.val_main_v53, Cert.Reference5Ideal.Read.val_main_v54, Cert.Reference5Ideal.Read.val_main_cst_13, Cert.Reference5Ideal.Read.val_main_v55, Cert.Reference5Ideal.Read.val_main_v56, Cert.Reference5Ideal.Read.val_main_v57, Cert.Reference5Ideal.Read.val_main_v58, Cert.Reference5Ideal.Read.val_main_v59, Cert.Reference5Ideal.Read.val_main_cst_14, Cert.Reference5Ideal.Read.val_main_v60, Cert.Reference5Ideal.Read.val_main_v61, Cert.Reference5Ideal.Read.val_main_v62, Cert.Reference5Ideal.Read.val_main_v63, Cert.Reference5Ideal.Read.val_main_v64, Cert.Reference5Ideal.Read.val_main_cst_15, Cert.Reference5Ideal.Read.val_main_v65, Cert.Reference5Ideal.Read.val_main_v66, Cert.Reference5Ideal.Read.val_main_cst_16, Cert.Reference5Ideal.Read.val_main_v67, Cert.Reference5Ideal.Read.val_main_v68, Cert.Reference5Ideal.Read.val_main_v69, Cert.Reference5Ideal.Read.val_main_v70, Cert.Reference5Ideal.Read.val_main_cst_17, Cert.Reference5Ideal.Read.val_main_v71, Cert.Reference5Ideal.Read.val_main_cst_18, Cert.Reference5Ideal.Read.val_main_v72, Cert.Reference5Ideal.Read.val_main_v73, Cert.Reference5Ideal.Read.val_main_cst_19, Cert.Reference5Ideal.Read.val_main_v74, Cert.Reference5Ideal.Read.val_main_v75, Cert.Reference5Ideal.Read.val_main_v76]
    refine Fin.sum_mul_add_congr (n := 256) fun s k hl => ?_
    obtain ⟨e0, e1, e2, e3, e4, e5, e6⟩ := idx s
    refine (EReal.mul_comm _ _).trans ?_
    blk_point [B1, B2, iblk, e1, e2]

/-- The kernel's gradients of the two normalisations are the reference's. -/
theorem algebraic : Cert.algebraic_Kernel5Ideal_Reference5Ideal (hKernel5Ideal := Cert.Kernel5Ideal.Gen.facts)
    (hReference5Ideal := Cert.Reference5Ideal.Gen.facts) := by
  intro m g m' g' _ hag
  refine ⟨fun c => (dats m 0 c).arrAt 6 cfg0.N, fun c => (dats m 0 c).arrAt 7 cfg0.N, fun c => (dats m 0 c).arrAt 8 cfg0.N,
    Cert.Kernel5Ideal.Value.run_blocks m g, ?_⟩
  refine (θ_run _ _ _).mono (fun r h c => ?_) (Cert.Reference5Ideal.Value.run (F := Ideal) m' g')
  refine ⟨((h c).1).trans ?_, ((h c).2.1).trans ?_, ((h c).2.2.1).trans ?_, (h c).2.2.2⟩
  · rw [Cert.Reference5Ideal.Read.val_main_v76_eq, (hag c).1, (hag c).2.1, (hag c).2.2.1, (hag c).2.2.2.1, (hag c).2.2.2.2.1, (hag c).2.2.2.2.2]
    exact (arr6 m c).symm
  · rw [(hag c).1, (hag c).2.2.1]
    exact (arr7 m c).symm
  · rw [(hag c).2.1, (hag c).2.2.1]
    exact (arr8 m c).symm

end Cert.RmsBack

end
-- ==== Proof.Modulate.lean ====
module

public import proofs.«01_k».proof.Defs
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise

@[expose] public section

set_option maxRecDepth 16384

noncomputable section

namespace Cert.Modulate

open Idealize.ShloMosaic Idealize.ShloMosaic.TcCoe Idealize.SL.Sem Idealize.ShloMosaic.Pipeline
open Cert.Kernel8Ideal Cert.Kernel8Ideal.Gen

variable (m : (ℓ : Loc nD τ sig) → Buf (Elt Ideal) ℓ) (c : Dev nD)

abbrev A0 : S2048x2048.Idx → EReal := m ((c.tc : Thread nD τ).loc main_arg0)
abbrev A1 : S2048x2048.Idx → EReal := m ((c.tc : Thread nD τ).loc main_arg1)
abbrev A2 : S2048x2048.Idx → EReal := m ((c.tc : Thread nD τ).loc main_arg2)
abbrev A3 : S1x2048.Idx → EReal := m ((c.tc : Thread nD τ).loc main_arg3)

/-- Where the windows' blocks stand at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![t.val, 0])

/-- The input's gradient at a point. -/
theorem out4 (t : Fin cfg0.N) (y : S256x2048.Idx) :
    k0_pay1 (iblk m c 1 t) (iblk m c 0 t) (iblk m c 3 t) y
      = Cert.Reference8Ideal.Read.val_main_v15 (F := Ideal) (A0 m c) (A1 m c) (A3 m c)
        (((View.whole main_v0_0).slice (win0_4.rect t)).emb y) := by
  obtain ⟨e0, e1, e2, e3, e4⟩ := idx t
  pointwise [k0_pay1, Cert.Reference8Ideal.Read.val_main_cst, Cert.Reference8Ideal.Read.val_main_v0, Cert.Reference8Ideal.Read.val_main_cst_0, Cert.Reference8Ideal.Read.val_main_v1, Cert.Reference8Ideal.Read.val_main_v2, Cert.Reference8Ideal.Read.val_main_v3, Cert.Reference8Ideal.Read.val_main_v4, Cert.Reference8Ideal.Read.val_main_v5, Cert.Reference8Ideal.Read.val_main_v6, Cert.Reference8Ideal.Read.val_main_v7, Cert.Reference8Ideal.Read.val_main_cst_1, Cert.Reference8Ideal.Read.val_main_v8, Cert.Reference8Ideal.Read.val_main_v9, Cert.Reference8Ideal.Read.val_main_v10, Cert.Reference8Ideal.Read.val_main_cst_2, Cert.Reference8Ideal.Read.val_main_v11, Cert.Reference8Ideal.Read.val_main_v12, Cert.Reference8Ideal.Read.val_main_v13, Cert.Reference8Ideal.Read.val_main_v14, Cert.Reference8Ideal.Read.val_main_v15]
  blk_point [iblk, e0, e1, e3, e4]

theorem arr4 : (dats m 0 c).arrAt 4 cfg0.N
    = Cert.Reference8Ideal.Read.val_main_v15 (F := Ideal) (A0 m c) (A1 m c) (A3 m c) := by
  refine (dats m 0 c).arrAt_eq_of_covers 4 _ (by decide +kernel) fun t hf y => ?_
  blk_simp
  rw [after0_4]
  have ht : t.val < 8 := t.isLt
  by_cases h0 : t.val % 8 = 0
  · rw [outsAt0_A m c t h0 (by omega) h0 (by omega)]
    frame_out
    exact out4 m c t y
  · rw [outsAt0_B m c t h0 (by omega) h0 (by omega)]
    frame_out
    exact out4 m c t y

abbrev B1 (t : Fin cfg0.N) : S256x2048.Idx → EReal := iblk m c 1 t

abbrev B2 (t : Fin cfg0.N) : S256x2048.Idx → EReal := iblk m c 2 t

def part5 (t : Fin cfg0.N) (j : S1x2048.Idx) : EReal := k0_pay2 (iblk m c 1 t) j

def part6 (t : Fin cfg0.N) (j : S1x2048.Idx) : EReal := k0_pay4 (iblk m c 1 t) (iblk m c 2 t) j

theorem arr5 : (dats m 0 c).arrAt 5 cfg0.N = Cert.Reference8Ideal.Read.val_main_v9 (F := Ideal) (A1 m c) := by
  refine (dats m 0 c).arrAt_eq_of_after_last 5 t0_7 (by decide +kernel) _ fun j => ?_
  blk_simp
  rw [after0_5]
  refine (Pipeline.eq_sum_fin_of_reset_step_apply_last (M := EReal) (fun n h => (outsAt0 m c n h).2.1) 8 0 (part5 m c) (fun t h j => ?_) (fun t h j => ?_) (by decide) t0_7 rfl j).trans ?_
  · rw [outsAt0_A m c t h (by have : t.val < 8 := t.isLt; omega) h (by have : t.val < 8 := t.isLt; omega)]
    frame_out
    rw [Pi.zero_apply, zero_add, part5]
  · rw [outsAt0_B m c t h (by omega) h (by omega)]
    frame_out
    pointwise [k0_pay3, part5]
  · rw [Pi.zero_apply, zero_add]
    idx_vars j
    have hp : ∀ s : Fin cfg0.N, part5 m c s (ix2 j0 j1) = ∑ k : Fin 256, B1 m c s (ix2 k j1) := fun s => by
      pointwise [part5, k0_pay2]
    simp only [hp]
    pointwise [Cert.Reference8Ideal.Read.val_main_cst, Cert.Reference8Ideal.Read.val_main_v0, Cert.Reference8Ideal.Read.val_main_cst_0, Cert.Reference8Ideal.Read.val_main_v1, Cert.Reference8Ideal.Read.val_main_v2, Cert.Reference8Ideal.Read.val_main_v3, Cert.Reference8Ideal.Read.val_main_v4, Cert.Reference8Ideal.Read.val_main_v5, Cert.Reference8Ideal.Read.val_main_v6, Cert.Reference8Ideal.Read.val_main_v7, Cert.Reference8Ideal.Read.val_main_cst_1, Cert.Reference8Ideal.Read.val_main_v8, Cert.Reference8Ideal.Read.val_main_v9, Cert.Reference8Ideal.Read.val_main_v10, Cert.Reference8Ideal.Read.val_main_cst_2, Cert.Reference8Ideal.Read.val_main_v11, Cert.Reference8Ideal.Read.val_main_v12, Cert.Reference8Ideal.Read.val_main_v13, Cert.Reference8Ideal.Read.val_main_v14, Cert.Reference8Ideal.Read.val_main_v15]
    refine Fin.sum_mul_add_congr (n := 256) fun s k hl => ?_
    obtain ⟨e0, e1, e2, e3, e4⟩ := idx s
    blk_point [B1, iblk, e1]

theorem arr6 : (dats m 0 c).arrAt 6 cfg0.N = Cert.Reference8Ideal.Read.val_main_v12 (F := Ideal) (A1 m c) (A2 m c) := by
  refine (dats m 0 c).arrAt_eq_of_after_last 6 t0_7 (by decide +kernel) _ fun j => ?_
  blk_simp
  rw [after0_6]
  refine (Pipeline.eq_sum_fin_of_reset_step_apply_last (M := EReal) (fun n h => (outsAt0 m c n h).2.2) 8 0 (part6 m c) (fun t h j => ?_) (fun t h j => ?_) (by decide) t0_7 rfl j).trans ?_
  · rw [outsAt0_A m c t h (by have : t.val < 8 := t.isLt; omega) h (by have : t.val < 8 := t.isLt; omega)]
    frame_out
    rw [Pi.zero_apply, zero_add, part6]
  · rw [outsAt0_B m c t h (by omega) h (by omega)]
    frame_out
    pointwise [k0_pay5, k0_pay4, part6]
  · rw [Pi.zero_apply, zero_add]
    idx_vars j
    have hp : ∀ s : Fin cfg0.N, part6 m c s (ix2 j0 j1)
        = ∑ k : Fin 256, B1 m c s (ix2 k j1) * B2 m c s (ix2 k j1) := fun s => by
      pointwise [part6, k0_pay4]
    simp only [hp]
    pointwise [Cert.Reference8Ideal.Read.val_main_cst, Cert.Reference8Ideal.Read.val_main_v0, Cert.Reference8Ideal.Read.val_main_cst_0, Cert.Reference8Ideal.Read.val_main_v1, Cert.Reference8Ideal.Read.val_main_v2, Cert.Reference8Ideal.Read.val_main_v3, Cert.Reference8Ideal.Read.val_main_v4, Cert.Reference8Ideal.Read.val_main_v5, Cert.Reference8Ideal.Read.val_main_v6, Cert.Reference8Ideal.Read.val_main_v7, Cert.Reference8Ideal.Read.val_main_cst_1, Cert.Reference8Ideal.Read.val_main_v8, Cert.Reference8Ideal.Read.val_main_v9, Cert.Reference8Ideal.Read.val_main_v10, Cert.Reference8Ideal.Read.val_main_cst_2, Cert.Reference8Ideal.Read.val_main_v11, Cert.Reference8Ideal.Read.val_main_v12, Cert.Reference8Ideal.Read.val_main_v13, Cert.Reference8Ideal.Read.val_main_v14, Cert.Reference8Ideal.Read.val_main_v15]
    refine Fin.sum_mul_add_congr (n := 256) fun s k hl => ?_
    obtain ⟨e0, e1, e2, e3, e4⟩ := idx s
    refine (EReal.mul_comm _ _).trans ?_
    blk_point [B1, B2, iblk, e1, e2]

/-- The kernel's gradients of the modulation are the reference's. -/
theorem algebraic : Cert.algebraic_Kernel8Ideal_Reference8Ideal (hKernel8Ideal := Cert.Kernel8Ideal.Gen.facts)
    (hReference8Ideal := Cert.Reference8Ideal.Gen.facts) := by
  intro m g m' g' _ hag
  refine ⟨fun c => (dats m 0 c).arrAt 4 cfg0.N, fun c => (dats m 0 c).arrAt 5 cfg0.N, fun c => (dats m 0 c).arrAt 6 cfg0.N,
    Cert.Kernel8Ideal.Value.run_blocks m g, ?_⟩
  refine (θ_run _ _ _).mono (fun r h c => ?_) (Cert.Reference8Ideal.Value.run (F := Ideal) m' g')
  refine ⟨((h c).1).trans ?_, ((h c).2.1).trans ?_, ((h c).2.2.1).trans ?_, (h c).2.2.2⟩
  · rw [(hag c).1, (hag c).2.1, (hag c).2.2.2]
    exact (arr4 m c).symm
  · rw [(hag c).2.1]
    exact (arr5 m c).symm
  · rw [(hag c).2.1, (hag c).2.2.1]
    exact (arr6 m c).symm

end Cert.Modulate

end
-- ==== Proof.Product.lean ====
module

public import proofs.«01_k».proof.Defs
public import proofs.«01_k».proof.Proof.Gen.Kernel9Ideal.Value
public import proofs.«01_k».proof.Proof.Gen.Reference9Ideal.Read
public import Idealize.ShloMosaic.Lib.Pipeline.ValueKit
public import Idealize.ShloMosaic.Lib.Pointwise

@[expose] public section

set_option maxRecDepth 16384

noncomputable section

namespace Cert.Product

open Idealize.ShloMosaic Idealize.ShloMosaic.TcCoe Idealize.SL.Sem Idealize.ShloMosaic.Pipeline
open Cert.Kernel9Ideal Cert.Kernel9Ideal.Gen

variable (m : (ℓ : Loc nD τ sig) → Buf (Elt Ideal) ℓ)

/-- Where the windows' blocks stand at each grid point. -/
theorem idx : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, win0_0.index t 0 = 0 ∧ win0_0.index t 1 = win0_2.index t 0
    ∧ win0_1.index t 0 = 0 ∧ win0_1.index t 1 = win0_2.index t 1)

theorem arr (c : Dev nD) :
    (dats m 0 c).arrAt 2 cfg0.N
      = Cert.Reference9Ideal.Read.val_main_v6 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [Cert.Reference9Ideal.Read.val_main_v6]
  unfold Cert.Reference9Ideal.Read.val_main_v5 Cert.Reference9Ideal.Read.val_main_v4 Cert.Reference9Ideal.Read.val_main_v3 Cert.Reference9Ideal.Read.val_main_v1
  pointwise [k0_pay1]
  refine Fin.sum_fin_congr fun k => ?_
  refine (EReal.mul_comm _ _).trans ?_
  obtain ⟨e0, e1, e2, e3⟩ := idx t
  blk_point [iblk, e0, e1, e2, e3]

/-- The kernel's weight gradient is the reference's. -/
theorem algebraic : Cert.algebraic_Kernel9Ideal_Reference9Ideal (hKernel9Ideal := Cert.Kernel9Ideal.Gen.facts)
    (hReference9Ideal := Cert.Reference9Ideal.Gen.facts) := by
  intro m g m' g' _ hag
  refine ⟨fun c => (dats m 0 c).arrAt 2 cfg0.N, Cert.Kernel9Ideal.Value.run_blocks m g, ?_⟩
  refine (θ_run _ _ _).mono (fun r h c => ?_) (Cert.Reference9Ideal.Value.run (F := Ideal) m' g')
  refine ⟨((h c).1).trans ?_, (h c).2⟩
  rw [(hag c).1, (hag c).2]
  exact (arr m c).symm

end Cert.Product

end
-- ==== Proof.ProductFfn.lean ====
module

public import proofs.«01_k».proof.Defs
public import proofs.«01_k».proof.Proof.Gen.Kernel10Ideal.Value
public import proofs.«01_k».proof.Proof.Gen.Reference10Ideal.Read
public import Idealize.ShloMosaic.Lib.Pipeline.ValueKit
public import Idealize.ShloMosaic.Lib.Pointwise

@[expose] public section

set_option maxRecDepth 16384

noncomputable section

namespace Cert.ProductFfn

open Idealize.ShloMosaic Idealize.ShloMosaic.TcCoe Idealize.SL.Sem Idealize.ShloMosaic.Pipeline
open Cert.Kernel10Ideal Cert.Kernel10Ideal.Gen

variable (m : (ℓ : Loc nD τ sig) → Buf (Elt Ideal) ℓ)

/-- Where the windows' blocks stand at each grid point: a shard of the output is two blocks wide. -/
theorem idx : ∀ t : Fin cfg0.N, win0_0.index t 0 = 0 ∧ win0_0.index t 1 = win0_2.index t 1
    ∧ win0_1.index t 0 = 0 ∧ win0_1.index t 1 = win0_2.index t 0 * 2 + win0_2.index t 2 :=
  (by decide +kernel : ∀ t : Fin grid0.N, win0_0.index t 0 = 0 ∧ win0_0.index t 1 = win0_2.index t 1
    ∧ win0_1.index t 0 = 0 ∧ win0_1.index t 1 = win0_2.index t 0 * 2 + win0_2.index t 2)

/-- The product whose columns the reference lays out in four shards. -/
theorem product (x0 : S2048x2048.Idx → EReal) (x1 : S2048x11264.Idx → EReal) (i : Fin 2048) (j : Fin 11264) :
    Cert.Reference10Ideal.Read.val_main_v6 (F := Ideal) x0 x1 (ix2 i j) = ∑ k : Fin 2048, x0 (ix2 k i) * x1 (ix2 k j) := by
  pointwise [Cert.Reference10Ideal.Read.val_main_v6, Cert.Reference10Ideal.Read.val_main_v5, Cert.Reference10Ideal.Read.val_main_v4, Cert.Reference10Ideal.Read.val_main_v3, Cert.Reference10Ideal.Read.val_main_v1]
  exact Fin.sum_fin_congr fun k => EReal.mul_comm _ _

/-- The four shards of the reference's product, laid one after another. -/
theorem shards (x0 : S2048x2048.Idx → EReal) (x1 : S2048x11264.Idx → EReal) (a : Fin 4) (i : Fin 2048) (j : Fin 2816) :
    Cert.Reference10Ideal.Read.val_main_v15 (F := Ideal) x0 x1 (ix3 a i j)
      = ∑ k : Fin 2048, x0 (ix2 k i) * x1 (ix2 k ⟨a.val * 2816 + j.val, by omega⟩) := by
  rw [← product]
  refine (concatenate_ofFn_unit_apply (t := S4x2048x2816) (s₁ := Cert.Reference10Ideal.S1x2048x2816) (0 : Fin 3) ![Cert.Reference10Ideal.Read.val_main_v11 (F := Ideal) x0 x1, Cert.Reference10Ideal.Read.val_main_v12 (F := Ideal) x0 x1,
    Cert.Reference10Ideal.Read.val_main_v13 (F := Ideal) x0 x1, Cert.Reference10Ideal.Read.val_main_v14 (F := Ideal) x0 x1] _ rfl rfl (ix3 a i j) a rfl (ix3 0 i j) ?_).trans ?_
  · intro b hb
    fin_cases b
    · exact absurd rfl hb
    · rfl
    · rfl
  · fin_cases a
    · refine (Cert.Reference10Ideal.Read.val_main_v11_apply (F := Ideal) x0 x1 _).trans ((Cert.Reference10Ideal.Read.val_main_v7_apply (F := Ideal) x0 x1 _).trans (congrArg _ ?_))
      idx_ext
    · refine (Cert.Reference10Ideal.Read.val_main_v12_apply (F := Ideal) x0 x1 _).trans ((Cert.Reference10Ideal.Read.val_main_v8_apply (F := Ideal) x0 x1 _).trans (congrArg _ ?_))
      idx_ext
    · refine (Cert.Reference10Ideal.Read.val_main_v13_apply (F := Ideal) x0 x1 _).trans ((Cert.Reference10Ideal.Read.val_main_v9_apply (F := Ideal) x0 x1 _).trans (congrArg _ ?_))
      idx_ext
    · refine (Cert.Reference10Ideal.Read.val_main_v14_apply (F := Ideal) x0 x1 _).trans ((Cert.Reference10Ideal.Read.val_main_v10_apply (F := Ideal) x0 x1 _).trans (congrArg _ ?_))
      idx_ext

theorem shards_at (x0 : S2048x2048.Idx → EReal) (x1 : S2048x11264.Idx → EReal) (z : S4x2048x2816.Idx) :
    Cert.Reference10Ideal.Read.val_main_v15 (F := Ideal) x0 x1 z
      = ∑ k : Fin 2048, x0 (ix2 k (z 1)) * x1 (ix2 k ⟨(z 0).val * 2816 + (z 2).val, by
          have h0 : (z 0).val < 4 := (z 0).isLt
          have h2 : (z 2).val < 2816 := (z 2).isLt
          omega⟩) := by
  idx_vars z
  exact shards x0 x1 z0 z1 z2

abbrev A0 (c : Dev nD) : S2048x2048.Idx → EReal := m ((c.tc : Thread nD τ).loc main_arg0)
abbrev A1 (c : Dev nD) : S2048x11264.Idx → EReal := m ((c.tc : Thread nD τ).loc main_arg1)

theorem arr (c : Dev nD) : (dats m 0 c).arrAt 2 cfg0.N = Cert.Reference10Ideal.Read.val_main_v15 (F := Ideal) (A0 m c) (A1 m c) := by
  refine (dats m 0 c).arrAt_eq_of_covers 2 _ (by decide +kernel) fun t hf y => ?_
  blk_simp
  rw [after0_2]
  frame_out
  obtain ⟨e0, e1, e2, e3⟩ := idx t
  refine Eq.trans ?_ (shards_at (A0 m c) (A1 m c) _).symm
  pointwise [k0_pay1]
  refine Fin.sum_fin_congr fun k => ?_
  blk_point [iblk, A0, A1, e0, e1, e2, e3]

/-- The gradient of the feed-forward input weights, in its four shards, is the reference's. -/
theorem algebraic : Cert.algebraic_Kernel10Ideal_Reference10Ideal (hKernel10Ideal := Cert.Kernel10Ideal.Gen.facts)
    (hReference10Ideal := Cert.Reference10Ideal.Gen.facts) := by
  intro m g m' g' _ hag
  refine ⟨fun c => (dats m 0 c).arrAt 2 cfg0.N, Cert.Kernel10Ideal.Value.run_blocks m g, ?_⟩
  refine (θ_run _ _ _).mono (fun r h c => ?_) (Cert.Reference10Ideal.Value.run (F := Ideal) m' g')
  refine ⟨((h c).1).trans ?_, (h c).2⟩
  rw [(hag c).1, (hag c).2]
  exact (arr m c).symm

end Cert.ProductFfn

end
-- ==== Proof.ProductO.lean ====
module

public import proofs.«01_k».proof.Defs
public import proofs.«01_k».proof.Proof.Gen.Kernel11Ideal.Value
public import proofs.«01_k».proof.Proof.Gen.Reference11Ideal.Read
public import proofs.«01_k».proof.Proof.Gen.Kernel13Ideal.Value
public import proofs.«01_k».proof.Proof.Gen.Reference13Ideal.Read
public import proofs.«01_k».proof.Proof.Gen.Kernel12Ideal.Value
public import proofs.«01_k».proof.Proof.Gen.Reference12Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.ProductO

open Cert.Kernel11Ideal Cert.Kernel11Ideal.Gen

variable (m : (ℓ : Loc nD τ sig) → Buf (Elt Ideal) ℓ)

theorem idx : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, win0_0.index t 0 = 0 ∧ win0_0.index t 1 = win0_2.index t 0
    ∧ win0_1.index t 0 = 0 ∧ win0_1.index t 1 = win0_2.index t 1)

theorem arr (c : Dev nD) :
    (dats m 0 c).arrAt 2 cfg0.N
      = Cert.Reference11Ideal.Read.val_main_v6 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [Cert.Reference11Ideal.Read.val_main_v6]
  unfold Cert.Reference11Ideal.Read.val_main_v5 Cert.Reference11Ideal.Read.val_main_v4 Cert.Reference11Ideal.Read.val_main_v3 Cert.Reference11Ideal.Read.val_main_v1
  pointwise [k0_pay1]
  refine Fin.sum_fin_congr fun k => ?_
  refine (EReal.mul_comm _ _).trans ?_
  obtain ⟨e0, e1, e2, e3⟩ := idx t
  blk_point [iblk, e0, e1, e2, e3]

/-- The gradient of the attention's output weights is the reference's. -/
theorem algebraic : Cert.algebraic_Kernel11Ideal_Reference11Ideal (hKernel11Ideal := Cert.Kernel11Ideal.Gen.facts)
    (hReference11Ideal := Cert.Reference11Ideal.Gen.facts) := by
  intro m g m' g' _ hag
  refine ⟨fun c => (dats m 0 c).arrAt 2 cfg0.N, Cert.Kernel11Ideal.Value.run_blocks m g, ?_⟩
  refine (θ_run _ _ _).mono (fun r h c => ?_) (Cert.Reference11Ideal.Value.run (F := Ideal) m' g')
  refine ⟨((h c).1).trans ?_, (h c).2⟩
  rw [(hag c).1, (hag c).2]
  exact (arr m c).symm

end Cert.ProductO

namespace Cert.ProductQ

open Cert.Kernel13Ideal Cert.Kernel13Ideal.Gen

variable (m : (ℓ : Loc nD τ sig) → Buf (Elt Ideal) ℓ)

theorem idx : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, win0_0.index t 0 = 0 ∧ win0_0.index t 1 = win0_2.index t 0
    ∧ win0_1.index t 0 = 0 ∧ win0_1.index t 1 = win0_2.index t 1)

theorem arr (c : Dev nD) :
    (dats m 0 c).arrAt 2 cfg0.N
      = Cert.Reference13Ideal.Read.val_main_v6 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [Cert.Reference13Ideal.Read.val_main_v6]
  unfold Cert.Reference13Ideal.Read.val_main_v5 Cert.Reference13Ideal.Read.val_main_v4 Cert.Reference13Ideal.Read.val_main_v3 Cert.Reference13Ideal.Read.val_main_v1
  pointwise [k0_pay1]
  refine Fin.sum_fin_congr fun k => ?_
  refine (EReal.mul_comm _ _).trans ?_
  obtain ⟨e0, e1, e2, e3⟩ := idx t
  blk_point [iblk, e0, e1, e2, e3]

/-- The gradient of the second query weights is the reference's. -/
theorem algebraic : Cert.algebraic_Kernel13Ideal_Reference13Ideal (hKernel13Ideal := Cert.Kernel13Ideal.Gen.facts)
    (hReference13Ideal := Cert.Reference13Ideal.Gen.facts) := by
  intro m g m' g' _ hag
  refine ⟨fun c => (dats m 0 c).arrAt 2 cfg0.N, Cert.Kernel13Ideal.Value.run_blocks m g, ?_⟩
  refine (θ_run _ _ _).mono (fun r h c => ?_) (Cert.Reference13Ideal.Value.run (F := Ideal) m' g')
  refine ⟨((h c).1).trans ?_, (h c).2⟩
  rw [(hag c).1, (hag c).2]
  exact (arr m c).symm

end Cert.ProductQ

namespace Cert.ProductMerged

open Cert.Kernel12Ideal Cert.Kernel12Ideal.Gen

variable (m : (ℓ : Loc nD τ sig) → Buf (Elt Ideal) ℓ)

theorem idx : ∀ t : Fin cfg0.N, win0_0.index t 1 = 0 ∧ win0_0.index t 0 = win0_2.index t 0
    ∧ win0_1.index t 1 = 0 ∧ win0_1.index t 0 = win0_2.index t 1 :=
  (by decide +kernel : ∀ t : Fin grid0.N, win0_0.index t 1 = 0 ∧ win0_0.index t 0 = win0_2.index t 0
    ∧ win0_1.index t 1 = 0 ∧ win0_1.index t 0 = win0_2.index t 1)

theorem arr (c : Dev nD) :
    (dats m 0 c).arrAt 2 cfg0.N
      = Cert.Reference12Ideal.Read.val_main_v5 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [Cert.Reference12Ideal.Read.val_main_v5]
  unfold Cert.Reference12Ideal.Read.val_main_v4 Cert.Reference12Ideal.Read.val_main_v3 Cert.Reference12Ideal.Read.val_main_v1
  pointwise [k0_pay1]
  refine Fin.sum_fin_congr fun k => ?_
  obtain ⟨e0, e1, e2, e3⟩ := idx t
  blk_point [iblk, e0, e1, e2, e3]

/-- The gradient of the merged rows is the reference's. -/
theorem algebraic : Cert.algebraic_Kernel12Ideal_Reference12Ideal (hKernel12Ideal := Cert.Kernel12Ideal.Gen.facts)
    (hReference12Ideal := Cert.Reference12Ideal.Gen.facts) := by
  intro m g m' g' _ hag
  refine ⟨fun c => (dats m 0 c).arrAt 2 cfg0.N, Cert.Kernel12Ideal.Value.run_blocks m g, ?_⟩
  refine (θ_run _ _ _).mono (fun r h c => ?_) (Cert.Reference12Ideal.Value.run (F := Ideal) m' g')
  refine ⟨((h c).1).trans ?_, (h c).2⟩
  rw [(hag c).1, (hag c).2]
  exact (arr m c).symm

end Cert.ProductMerged

end
-- ==== Proof.ProductRows.lean ====
module

public import proofs.«01_k».proof.Defs
public import proofs.«01_k».proof.Proof.Gen.Kernel14Ideal.Value
public import proofs.«01_k».proof.Proof.Gen.Reference14Ideal.Read
public import proofs.«01_k».proof.Proof.Gen.Kernel18Ideal.Value
public import proofs.«01_k».proof.Proof.Gen.Reference18Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.ProductRq

open Cert.Kernel14Ideal Cert.Kernel14Ideal.Gen

variable (m : (ℓ : Loc nD τ sig) → Buf (Elt Ideal) ℓ)

/-- Where the windows' blocks stand at the second point of a pair. -/
theorem idx : ∀ t s : Fin cfg0.N, t.val % 2 = 1 → s.val + 1 = t.val → win0_0.index t 0 = win0_2.index t 0 ∧ win0_0.index t 1 = 1
    ∧ win0_1.index t 0 = win0_2.index t 1 ∧ win0_1.index t 1 = 1 ∧ win0_0.index s 0 = win0_2.index t 0 ∧ win0_0.index s 1 = 0
    ∧ win0_1.index s 0 = win0_2.index t 1 ∧ win0_1.index s 1 = 0 :=
  (by decide +kernel : ∀ t s : Fin grid0.N, t.val % 2 = 1 → s.val + 1 = t.val → win0_0.index t 0 = win0_2.index t 0 ∧ win0_0.index t 1 = 1
    ∧ win0_1.index t 0 = win0_2.index t 1 ∧ win0_1.index t 1 = 1 ∧ win0_0.index s 0 = win0_2.index t 0 ∧ win0_0.index s 1 = 0
    ∧ win0_1.index s 0 = win0_2.index t 1 ∧ win0_1.index s 1 = 0)

theorem arr (c : Dev nD) :
    (dats m 0 c).arrAt 2 cfg0.N
      = Cert.Reference14Ideal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  by_cases h0 : t.val % 2 = 0
  · exact absurd hf ((by decide +kernel : ∀ t : Fin grid0.N, t.val % 2 = 0 → ¬(cfg0.win 2).flush t = true) t h0)
  · have h1 : t.val % 2 = 1 := by omega
    have hs : t.val - 1 < cfg0.N := Nat.lt_of_le_of_lt (Nat.sub_le _ _) t.isLt
    rw [outsAt0_B m c t h0 h1, show (outsAt0 m c (t.val - 1) hs) = outsAt0 m c (⟨t.val - 1, hs⟩ : Fin cfg0.N).val (Fin.isLt _) from rfl,
      outsAt0_A m c ⟨t.val - 1, hs⟩ (show (t.val - 1) % 2 = 0 by omega) (show ¬(t.val - 1) % 2 = 1 by omega)]
    frame_out
    obtain ⟨e0, e1, e2, e3, e4, e5, e6, e7⟩ := idx t ⟨t.val - 1, hs⟩ h1 (show t.val - 1 + 1 = t.val by omega)
    rw [Cert.Reference14Ideal.Read.val_main_v4]
    unfold Cert.Reference14Ideal.Read.val_main_v3 Cert.Reference14Ideal.Read.val_main_v1
    pointwise [k0_pay1, k0_pay2, k0_pay4]
    refine (congrArg (fun z : EReal => (z + (_ : EReal) : EReal)) (congrFun ((Memref.isWhole_whole cc0_scratch0).read_unread _) y)).trans ?_
    pointwise
    refine Eq.trans ?_ (Fin.sum_univ_add (a := 2048) (b := 2048) _).symm
    refine congrArg₂ (· + ·) (Fin.sum_fin_congr fun k => ?_) (Fin.sum_fin_congr fun k => ?_)
    · blk_point [iblk, e0, e1, e2, e3, e4, e5, e6, e7]
      all_goals rfl
    · blk_point [iblk, e0, e1, e2, e3, e4, e5, e6, e7]
      all_goals rfl

/-- The gradient of the query rows is the reference's. -/
theorem algebraic : Cert.algebraic_Kernel14Ideal_Reference14Ideal (hKernel14Ideal := Cert.Kernel14Ideal.Gen.facts)
    (hReference14Ideal := Cert.Reference14Ideal.Gen.facts) := by
  intro m g m' g' _ hag
  refine ⟨fun c => (dats m 0 c).arrAt 2 cfg0.N, Cert.Kernel14Ideal.Value.run_blocks m g, ?_⟩
  refine (θ_run _ _ _).mono (fun r h c => ?_) (Cert.Reference14Ideal.Value.run (F := Ideal) m' g')
  refine ⟨((h c).1).trans ?_, (h c).2⟩
  rw [(hag c).1, (hag c).2]
  exact (arr m c).symm

end Cert.ProductRq

namespace Cert.ProductGateRows

open Cert.Kernel18Ideal Cert.Kernel18Ideal.Gen

variable (m : (ℓ : Loc nD τ sig) → Buf (Elt Ideal) ℓ)

/-- Where the windows' blocks stand at the second point of a pair. -/
theorem idx : ∀ t s : Fin cfg0.N, t.val % 2 = 1 → s.val + 1 = t.val → win0_0.index t 0 = win0_3.index t 0 ∧ win0_0.index t 1 = 1
    ∧ win0_1.index t 1 = win0_3.index t 1 ∧ win0_1.index t 0 = 1 ∧ win0_0.index s 0 = win0_3.index t 0 ∧ win0_0.index s 1 = 0
    ∧ win0_1.index s 1 = win0_3.index t 1 ∧ win0_1.index s 0 = 0 ∧ win0_2.index t 0 = win0_3.index t 0 ∧ win0_2.index t 1 = win0_3.index t 1 :=
  (by decide +kernel : ∀ t s : Fin grid0.N, t.val % 2 = 1 → s.val + 1 = t.val → win0_0.index t 0 = win0_3.index t 0 ∧ win0_0.index t 1 = 1
    ∧ win0_1.index t 1 = win0_3.index t 1 ∧ win0_1.index t 0 = 1 ∧ win0_0.index s 0 = win0_3.index t 0 ∧ win0_0.index s 1 = 0
    ∧ win0_1.index s 1 = win0_3.index t 1 ∧ win0_1.index s 0 = 0 ∧ win0_2.index t 0 = win0_3.index t 0 ∧ win0_2.index t 1 = win0_3.index t 1)

theorem arr (c : Dev nD) :
    (dats m 0 c).arrAt 3 cfg0.N
      = Cert.Reference18Ideal.Read.val_main_v6 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  by_cases h0 : t.val % 2 = 0
  · exact absurd hf ((by decide +kernel : ∀ t : Fin grid0.N, t.val % 2 = 0 → ¬(cfg0.win 3).flush t = true) t h0)
  · have h1 : t.val % 2 = 1 := by omega
    have hs : t.val - 1 < cfg0.N := Nat.lt_of_le_of_lt (Nat.sub_le _ _) t.isLt
    rw [outsAt0_B m c t h0 h1, show (outsAt0 m c (t.val - 1) hs) = outsAt0 m c (⟨t.val - 1, hs⟩ : Fin cfg0.N).val (Fin.isLt _) from rfl,
      outsAt0_A m c ⟨t.val - 1, hs⟩ (show (t.val - 1) % 2 = 0 by omega) (show ¬(t.val - 1) % 2 = 1 by omega)]
    frame_out
    obtain ⟨e0, e1, e2, e3, e4, e5, e6, e7, e8, e9⟩ := idx t ⟨t.val - 1, hs⟩ h1 (show t.val - 1 + 1 = t.val by omega)
    rw [Cert.Reference18Ideal.Read.val_main_v6]
    unfold Cert.Reference18Ideal.Read.val_main_v5 Cert.Reference18Ideal.Read.val_main_v4 Cert.Reference18Ideal.Read.val_main_v2 Cert.Reference18Ideal.Read.val_main_v1
    pointwise [k0_pay1, k0_pay2, k0_pay4]
    refine (congrArg (fun z : EReal => (z + (_ : EReal) + (_ : EReal) : EReal)) (congrFun ((Memref.isWhole_whole cc0_scratch0).read_unread _) y)).trans ?_
    pointwise
    refine (add_comm (G := EReal) _ _).trans (congrArg₂ (· + ·) (by blk_point [iblk, e0, e1, e2, e3, e4, e5, e6, e7, e8, e9]) ?_)
    refine Eq.trans ?_ (Fin.sum_univ_add (a := 2048) (b := 2048) _).symm
    refine congrArg₂ (· + ·) (Fin.sum_fin_congr fun k => ?_) (Fin.sum_fin_congr fun k => ?_)
    · blk_point [iblk, e0, e1, e2, e3, e4, e5, e6, e7, e8, e9]
      all_goals rfl
    · blk_point [iblk, e0, e1, e2, e3, e4, e5, e6, e7, e8, e9]
      all_goals rfl

/-- The gradient of the gate's input rows, added to what it already held, is the reference's. -/
theorem algebraic : Cert.algebraic_Kernel18Ideal_Reference18Ideal (hKernel18Ideal := Cert.Kernel18Ideal.Gen.facts)
    (hReference18Ideal := Cert.Reference18Ideal.Gen.facts) := by
  intro m g m' g' _ hag
  refine ⟨fun c => (dats m 0 c).arrAt 3 cfg0.N, Cert.Kernel18Ideal.Value.run_blocks m g, ?_⟩
  refine (θ_run _ _ _).mono (fun r h c => ?_) (Cert.Reference18Ideal.Value.run (F := Ideal) m' g')
  refine ⟨((h c).1).trans ?_, (h c).2⟩
  rw [(hag c).1, (hag c).2.1, (hag c).2.2]
  exact (arr m c).symm

end Cert.ProductGateRows

end
-- ==== Proof.ProductT.lean ====
module

public import proofs.«01_k».proof.Defs
public import proofs.«01_k».proof.Proof.Gen.Kernel15Ideal.Value
public import proofs.«01_k».proof.Proof.Gen.Reference15Ideal.Read
public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.ProductQkv

open Cert.Kernel15Ideal Cert.Kernel15Ideal.Gen

variable (m : (ℓ : Loc nD τ sig) → Buf (Elt Ideal) ℓ)

theorem idx : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, win0_0.index t 0 = 0 ∧ win0_0.index t 1 = win0_2.index t 0
    ∧ win0_1.index t 0 = 0 ∧ win0_1.index t 1 = win0_2.index t 1)

theorem arr (c : Dev nD) :
    (dats m 0 c).arrAt 2 cfg0.N
      = Cert.Reference15Ideal.Read.val_main_v7 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [Cert.Reference15Ideal.Read.val_main_v7]
  unfold Cert.Reference15Ideal.Read.val_main_v6 Cert.Reference15Ideal.Read.val_main_v5 Cert.Reference15Ideal.Read.val_main_v4 Cert.Reference15Ideal.Read.val_main_v3 Cert.Reference15Ideal.Read.val_main_v1
  pointwise [k0_pay1]
  refine Fin.sum_fin_congr fun k => ?_
  obtain ⟨e0, e1, e2, e3⟩ := idx t
  blk_point [iblk, e0, e1, e2, e3]

/-- The gradient of the transposed query, key and value weights is the reference's. -/
theorem algebraic : Cert.algebraic_Kernel15Ideal_Reference15Ideal (hKernel15Ideal := Cert.Kernel15Ideal.Gen.facts)
    (hReference15Ideal := Cert.Reference15Ideal.Gen.facts) := by
  intro m g m' g' _ hag
  refine ⟨fun c => (dats m 0 c).arrAt 2 cfg0.N, Cert.Kernel15Ideal.Value.run_blocks m g, ?_⟩
  refine (θ_run _ _ _).mono (fun r h c => ?_) (Cert.Reference15Ideal.Value.run (F := Ideal) m' g')
  refine ⟨((h c).1).trans ?_, (h c).2⟩
  rw [(hag c).1, (hag c).2]
  exact (arr m c).symm

end Cert.ProductQkv

namespace Cert.ProductConv

open Cert.Kernel16Ideal Cert.Kernel16Ideal.Gen

variable (m : (ℓ : Loc nD τ sig) → Buf (Elt Ideal) ℓ)

theorem idx : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, win0_0.index t 0 = 0 ∧ win0_0.index t 1 = win0_2.index t 0
    ∧ win0_1.index t 0 = 0 ∧ win0_1.index t 1 = win0_2.index t 1)

theorem arr (c : Dev nD) :
    (dats m 0 c).arrAt 2 cfg0.N
      = Cert.Reference16Ideal.Read.val_main_v7 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [Cert.Reference16Ideal.Read.val_main_v7]
  unfold Cert.Reference16Ideal.Read.val_main_v6 Cert.Reference16Ideal.Read.val_main_v5 Cert.Reference16Ideal.Read.val_main_v4 Cert.Reference16Ideal.Read.val_main_v3 Cert.Reference16Ideal.Read.val_main_v1
  pointwise [k0_pay1]
  refine Fin.sum_fin_congr fun k => ?_
  obtain ⟨e0, e1, e2, e3⟩ := idx t
  blk_point [iblk, e0, e1, e2, e3]

/-- The gradient of the transposed convolution weights is the reference's. -/
theorem algebraic : Cert.algebraic_Kernel16Ideal_Reference16Ideal (hKernel16Ideal := Cert.Kernel16Ideal.Gen.facts)
    (hReference16Ideal := Cert.Reference16Ideal.Gen.facts) := by
  intro m g m' g' _ hag
  refine ⟨fun c => (dats m 0 c).arrAt 2 cfg0.N, Cert.Kernel16Ideal.Value.run_blocks m g, ?_⟩
  refine (θ_run _ _ _).mono (fun r h c => ?_) (Cert.Reference16Ideal.Value.run (F := Ideal) m' g')
  refine ⟨((h c).1).trans ?_, (h c).2⟩
  rw [(hag c).1, (hag c).2]
  exact (arr m c).symm

end Cert.ProductConv

namespace Cert.ProductGate

open Cert.Kernel17Ideal Cert.Kernel17Ideal.Gen

variable (m : (ℓ : Loc nD τ sig) → Buf (Elt Ideal) ℓ)

theorem idx : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, win0_0.index t 0 = 0 ∧ win0_0.index t 1 = win0_2.index t 0
    ∧ win0_1.index t 0 = 0 ∧ win0_1.index t 1 = win0_2.index t 1)

theorem arr (c : Dev nD) :
    (dats m 0 c).arrAt 2 cfg0.N
      = Cert.Reference17Ideal.Read.val_main_v7 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [Cert.Reference17Ideal.Read.val_main_v7]
  unfold Cert.Reference17Ideal.Read.val_main_v6 Cert.Reference17Ideal.Read.val_main_v5 Cert.Reference17Ideal.Read.val_main_v4 Cert.Reference17Ideal.Read.val_main_v3 Cert.Reference17Ideal.Read.val_main_v1
  pointwise [k0_pay1]
  refine Fin.sum_fin_congr fun k => ?_
  obtain ⟨e0, e1, e2, e3⟩ := idx t
  blk_point [iblk, e0, e1, e2, e3]

/-- The gradient of the transposed gate weights is the reference's. -/
theorem algebraic : Cert.algebraic_Kernel17Ideal_Reference17Ideal (hKernel17Ideal := Cert.Kernel17Ideal.Gen.facts)
    (hReference17Ideal := Cert.Reference17Ideal.Gen.facts) := by
  intro m g m' g' _ hag
  refine ⟨fun c => (dats m 0 c).arrAt 2 cfg0.N, Cert.Kernel17Ideal.Value.run_blocks m g, ?_⟩
  refine (θ_run _ _ _).mono (fun r h c => ?_) (Cert.Reference17Ideal.Value.run (F := Ideal) m' g')
  refine ⟨((h c).1).trans ?_, (h c).2⟩
  rw [(hag c).1, (hag c).2]
  exact (arr m c).symm

end Cert.ProductGate

end
-- ==== Proof.Forward.lean ====
module

public import proofs.«01_k».proof.Defs
public import proofs.«01_k».proof.Proof.Gen.Kernel19Ideal.Value
public import proofs.«01_k».proof.Proof.Gen.Reference19Ideal.Read
public import proofs.«01_k».proof.Proof.Gen.Kernel20Ideal.Value
public import proofs.«01_k».proof.Proof.Gen.Reference20Ideal.Read
public import proofs.«01_k».proof.Proof.Gen.Kernel21Ideal.Value
public import proofs.«01_k».proof.Proof.Gen.Reference21Ideal.Read
public import proofs.«01_k».proof.Proof.Gen.Kernel22Ideal.Value
public import proofs.«01_k».proof.Proof.Gen.Reference22Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.ProjQkv

open Cert.Kernel19Ideal Cert.Kernel19Ideal.Gen

variable (m : (ℓ : Loc nD τ sig) → Buf (Elt Ideal) ℓ)

theorem idx : ∀ t : Fin cfg0.N, win0_0.index t 1 = 0 ∧ win0_0.index t 0 = win0_2.index t 0
    ∧ win0_1.index t 1 = 0 ∧ win0_1.index t 0 = win0_2.index t 1 :=
  (by decide +kernel : ∀ t : Fin grid0.N, win0_0.index t 1 = 0 ∧ win0_0.index t 0 = win0_2.index t 0
    ∧ win0_1.index t 1 = 0 ∧ win0_1.index t 0 = win0_2.index t 1)

theorem arr (c : Dev nD) :
    (dats m 0 c).arrAt 2 cfg0.N
      = Cert.Reference19Ideal.Read.val_main_v3 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [Cert.Reference19Ideal.Read.val_main_v3]
  unfold Cert.Reference19Ideal.Read.val_main_v2 Cert.Reference19Ideal.Read.val_main_v1 Cert.Reference19Ideal.Read.val_main_v0
  pointwise [k0_pay1]
  refine Fin.sum_fin_congr fun k => ?_
  obtain ⟨e0, e1, e2, e3⟩ := idx t
  blk_point [iblk, e0, e1, e2, e3]

/-- The query, key and value rows are the reference's product. -/
theorem algebraic : Cert.algebraic_Kernel19Ideal_Reference19Ideal (hKernel19Ideal := Cert.Kernel19Ideal.Gen.facts)
    (hReference19Ideal := Cert.Reference19Ideal.Gen.facts) := by
  intro m g m' g' _ hag
  refine ⟨fun c => (dats m 0 c).arrAt 2 cfg0.N, Cert.Kernel19Ideal.Value.run_blocks m g, ?_⟩
  refine (θ_run _ _ _).mono (fun r h c => ?_) (Cert.Reference19Ideal.Value.run (F := Ideal) m' g')
  refine ⟨((h c).1).trans ?_, (h c).2⟩
  rw [(hag c).1, (hag c).2]
  exact (arr m c).symm

end Cert.ProjQkv

namespace Cert.ProjConv

open Cert.Kernel20Ideal Cert.Kernel20Ideal.Gen

variable (m : (ℓ : Loc nD τ sig) → Buf (Elt Ideal) ℓ)

theorem idx : ∀ t : Fin cfg0.N, win0_0.index t 1 = 0 ∧ win0_0.index t 0 = win0_2.index t 0
    ∧ win0_1.index t 1 = 0 ∧ win0_1.index t 0 = win0_2.index t 1 :=
  (by decide +kernel : ∀ t : Fin grid0.N, win0_0.index t 1 = 0 ∧ win0_0.index t 0 = win0_2.index t 0
    ∧ win0_1.index t 1 = 0 ∧ win0_1.index t 0 = win0_2.index t 1)

theorem arr (c : Dev nD) :
    (dats m 0 c).arrAt 2 cfg0.N
      = Cert.Reference20Ideal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [Cert.Reference20Ideal.Read.val_main_v4]
  unfold Cert.Reference20Ideal.Read.val_main_v3 Cert.Reference20Ideal.Read.val_main_v2 Cert.Reference20Ideal.Read.val_main_v1 Cert.Reference20Ideal.Read.val_main_v0
  pointwise [k0_pay1]
  refine Fin.sum_fin_congr fun k => ?_
  obtain ⟨e0, e1, e2, e3⟩ := idx t
  blk_point [iblk, e0, e1, e2, e3]

/-- The convolution branch's rows are the reference's product. -/
theorem algebraic : Cert.algebraic_Kernel20Ideal_Reference20Ideal (hKernel20Ideal := Cert.Kernel20Ideal.Gen.facts)
    (hReference20Ideal := Cert.Reference20Ideal.Gen.facts) := by
  intro m g m' g' _ hag
  refine ⟨fun c => (dats m 0 c).arrAt 2 cfg0.N, Cert.Kernel20Ideal.Value.run_blocks m g, ?_⟩
  refine (θ_run _ _ _).mono (fun r h c => ?_) (Cert.Reference20Ideal.Value.run (F := Ideal) m' g')
  refine ⟨((h c).1).trans ?_, (h c).2⟩
  rw [(hag c).1, (hag c).2]
  exact (arr m c).symm

end Cert.ProjConv

namespace Cert.KvB

open Cert.Kernel21Ideal Cert.Kernel21Ideal.Gen

variable (m : (ℓ : Loc nD τ sig) → Buf (Elt Ideal) ℓ)

theorem idx : ∀ t : Fin cfg0.N, win0_0.index t 1 = 0 ∧ win0_0.index t 0 = win0_2.index t 0
    ∧ win0_1.index t 0 = 0 ∧ win0_1.index t 1 = win0_2.index t 1 :=
  (by decide +kernel : ∀ t : Fin grid0.N, win0_0.index t 1 = 0 ∧ win0_0.index t 0 = win0_2.index t 0
    ∧ win0_1.index t 0 = 0 ∧ win0_1.index t 1 = win0_2.index t 1)

theorem arr (c : Dev nD) :
    (dats m 0 c).arrAt 2 cfg0.N
      = Cert.Reference21Ideal.Read.val_main_v3 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [Cert.Reference21Ideal.Read.val_main_v3]
  unfold Cert.Reference21Ideal.Read.val_main_v2 Cert.Reference21Ideal.Read.val_main_v1 Cert.Reference21Ideal.Read.val_main_v0
  pointwise [k0_pay1]
  refine Fin.sum_fin_congr fun k => ?_
  obtain ⟨e0, e1, e2, e3⟩ := idx t
  blk_point [iblk, e0, e1, e2, e3]

/-- The keys and values are the reference's product. -/
theorem algebraic : Cert.algebraic_Kernel21Ideal_Reference21Ideal (hKernel21Ideal := Cert.Kernel21Ideal.Gen.facts)
    (hReference21Ideal := Cert.Reference21Ideal.Gen.facts) := by
  intro m g m' g' _ hag
  refine ⟨fun c => (dats m 0 c).arrAt 2 cfg0.N, Cert.Kernel21Ideal.Value.run_blocks m g, ?_⟩
  refine (θ_run _ _ _).mono (fun r h c => ?_) (Cert.Reference21Ideal.Value.run (F := Ideal) m' g')
  refine ⟨((h c).1).trans ?_, (h c).2⟩
  rw [(hag c).1, (hag c).2]
  exact (arr m c).symm

end Cert.KvB

namespace Cert.OutRows

open Cert.Kernel22Ideal Cert.Kernel22Ideal.Gen

variable (m : (ℓ : Loc nD τ sig) → Buf (Elt Ideal) ℓ)

theorem idx : ∀ t : Fin cfg0.N, win0_0.index t 1 = 0 ∧ win0_0.index t 0 = win0_2.index t 0
    ∧ win0_1.index t 0 = 0 ∧ win0_1.index t 1 = win0_2.index t 1 :=
  (by decide +kernel : ∀ t : Fin grid0.N, win0_0.index t 1 = 0 ∧ win0_0.index t 0 = win0_2.index t 0
    ∧ win0_1.index t 0 = 0 ∧ win0_1.index t 1 = win0_2.index t 1)

theorem arr (c : Dev nD) :
    (dats m 0 c).arrAt 2 cfg0.N
      = Cert.Reference22Ideal.Read.val_main_v3 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [Cert.Reference22Ideal.Read.val_main_v3]
  unfold Cert.Reference22Ideal.Read.val_main_v2 Cert.Reference22Ideal.Read.val_main_v1 Cert.Reference22Ideal.Read.val_main_v0
  pointwise [k0_pay1]
  refine Fin.sum_fin_congr fun k => ?_
  obtain ⟨e0, e1, e2, e3⟩ := idx t
  blk_point [iblk, e0, e1, e2, e3]

/-- The output rows of a mixer are the reference's product. -/
theorem algebraic : Cert.algebraic_Kernel22Ideal_Reference22Ideal (hKernel22Ideal := Cert.Kernel22Ideal.Gen.facts)
    (hReference22Ideal := Cert.Reference22Ideal.Gen.facts) := by
  intro m g m' g' _ hag
  refine ⟨fun c => (dats m 0 c).arrAt 2 cfg0.N, Cert.Kernel22Ideal.Value.run_blocks m g, ?_⟩
  refine (θ_run _ _ _).mono (fun r h c => ?_) (Cert.Reference22Ideal.Value.run (F := Ideal) m' g')
  refine ⟨((h c).1).trans ?_, (h c).2⟩
  rw [(hag c).1, (hag c).2]
  exact (arr m c).symm

end Cert.OutRows

end
-- ==== Proof.FfnIn.lean ====
module

public import proofs.«01_k».proof.Defs
public import proofs.«01_k».proof.Proof.Gen.Kernel23Ideal.Value
public import proofs.«01_k».proof.Proof.Gen.Reference23Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.FfnIn

open Cert.Kernel23Ideal Cert.Kernel23Ideal.Gen

variable (m : (ℓ : Loc nD τ sig) → Buf (Elt Ideal) ℓ)

/-- Where the windows' blocks stand at each grid point: a block of the weights is two blocks wide. -/
theorem idx : ∀ t : Fin cfg0.N, win0_0.index t 0 = win0_2.index t 0 ∧ win0_0.index t 1 = 0
    ∧ win0_1.index t 0 * 2 + win0_1.index t 2 = win0_2.index t 1 ∧ win0_1.index t 1 = 0 ∧ win0_1.index t 2 < 2 :=
  (by decide +kernel : ∀ t : Fin grid0.N, win0_0.index t 0 = win0_2.index t 0 ∧ win0_0.index t 1 = 0
    ∧ win0_1.index t 0 * 2 + win0_1.index t 2 = win0_2.index t 1 ∧ win0_1.index t 1 = 0 ∧ win0_1.index t 2 < 2)

/-- A column of the whole weights lies in one of the four blocks of columns. -/
theorem column (x1 : S4x2048x2816.Idx → EReal) (a : Fin 4) (k : Fin 2048) (j : Fin 2816) (h : a.val * 2816 + j.val < 11264) :
    Cert.Reference23Ideal.Read.val_main_v1 (F := Ideal) x1 (ix2 k ⟨a.val * 2816 + j.val, h⟩) = x1 (ix3 a k j) := by
  rw [Cert.Reference23Ideal.Read.val_main_v1_apply, Cert.Reference23Ideal.Read.val_main_v0_apply]
  refine congrArg x1 ?_
  idx_ext

/-- The reference's product at a column, from the block of columns that holds it. -/
theorem product (x0 : S2048x2048.Idx → EReal) (x1 : S4x2048x2816.Idx → EReal) (z : S2048x11264.Idx) (a : Fin 4) (j : Fin 2816)
    (hz : (z 1).val = a.val * 2816 + j.val) :
    Cert.Reference23Ideal.Read.val_main_v5 (F := Ideal) x0 x1 z = ∑ k : Fin 2048, x0 (ix2 (z 0) k) * x1 (ix3 a k j) := by
  have h1 : (z 1).val < 11264 := (z 1).isLt
  have e : z = ix2 (z 0) ⟨a.val * 2816 + j.val, by omega⟩ := by
    funext b
    fin_cases b
    · rfl
    · exact Fin.ext hz
  rw [e]
  pointwise [Cert.Reference23Ideal.Read.val_main_v5, Cert.Reference23Ideal.Read.val_main_v4, Cert.Reference23Ideal.Read.val_main_v3, Cert.Reference23Ideal.Read.val_main_v2]
  exact Fin.sum_fin_congr fun k => congrArg₂ (· * ·) rfl (column x1 a k j _)

abbrev A0 (c : Dev nD) : S2048x2048.Idx → EReal := m ((c.tc : Thread nD τ).loc main_arg0)
abbrev A1 (c : Dev nD) : S4x2048x2816.Idx → EReal := m ((c.tc : Thread nD τ).loc main_arg1)

theorem arr (c : Dev nD) : (dats m 0 c).arrAt 2 cfg0.N = Cert.Reference23Ideal.Read.val_main_v5 (F := Ideal) (A0 m c) (A1 m c) := by
  refine (dats m 0 c).arrAt_eq_of_covers 2 _ (by decide +kernel) fun t hf y => ?_
  blk_simp
  rw [after0_2]
  frame_out
  obtain ⟨e0, e1, e2, e3, e4⟩ := idx t
  have ha : win0_1.index t 0 < 4 := (by decide +kernel : ∀ t : Fin grid0.N, win0_1.index t 0 < 4) t
  have hy : (y 1).val < 1408 := (y 1).isLt
  refine Eq.trans ?_ (product (A0 m c) (A1 m c) _ ⟨win0_1.index t 0, ha⟩ ⟨win0_1.index t 2 * 1408 + (y 1).val, by omega⟩ ?_).symm
  · pointwise [k0_pay1]
    refine Fin.sum_fin_congr fun k => ?_
    blk_point [iblk, A0, A1, e0, e1, e3]
  · show win0_2.index t 1 * 1408 + 1 * (y 1).val = win0_1.index t 0 * 2816 + (win0_1.index t 2 * 1408 + (y 1).val)
    omega

/-- The channel mixer's input product is the reference's. -/
theorem algebraic : Cert.algebraic_Kernel23Ideal_Reference23Ideal (hKernel23Ideal := Cert.Kernel23Ideal.Gen.facts)
    (hReference23Ideal := Cert.Reference23Ideal.Gen.facts) := by
  intro m g m' g' _ hag
  refine ⟨fun c => (dats m 0 c).arrAt 2 cfg0.N, Cert.Kernel23Ideal.Value.run_blocks m g, ?_⟩
  refine (θ_run _ _ _).mono (fun r h c => ?_) (Cert.Reference23Ideal.Value.run (F := Ideal) m' g')
  refine ⟨((h c).1).trans ?_, (h c).2⟩
  rw [(hag c).1, (hag c).2]
  exact (arr m c).symm

end Cert.FfnIn

end
-- ==== Proof.FfnOut.lean ====
module

public import proofs.«01_k».proof.Defs
public import proofs.«01_k».proof.Proof.Gen.Kernel24Ideal.Value
public import proofs.«01_k».proof.Proof.Gen.Reference24Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.FfnOut

open Cert.Kernel24Ideal Cert.Kernel24Ideal.Gen

variable (m : (ℓ : Loc nD τ sig) → Buf (Elt Ideal) ℓ)

/-- Where the windows' blocks stand at the second point of a pair. -/
theorem idx : ∀ t s : Fin cfg0.N, t.val % 2 = 1 → s.val + 1 = t.val → win0_0.index t 0 = win0_2.index t 0 ∧ win0_0.index t 1 = 1
    ∧ win0_1.index t 1 = win0_2.index t 1 ∧ win0_1.index t 0 = 1 ∧ win0_0.index s 0 = win0_2.index t 0 ∧ win0_0.index s 1 = 0
    ∧ win0_1.index s 1 = win0_2.index t 1 ∧ win0_1.index s 0 = 0 :=
  (by decide +kernel : ∀ t s : Fin grid0.N, t.val % 2 = 1 → s.val + 1 = t.val → win0_0.index t 0 = win0_2.index t 0 ∧ win0_0.index t 1 = 1
    ∧ win0_1.index t 1 = win0_2.index t 1 ∧ win0_1.index t 0 = 1 ∧ win0_0.index s 0 = win0_2.index t 0 ∧ win0_0.index s 1 = 0
    ∧ win0_1.index s 1 = win0_2.index t 1 ∧ win0_1.index s 0 = 0)

theorem arr (c : Dev nD) :
    (dats m 0 c).arrAt 2 cfg0.N
      = Cert.Reference24Ideal.Read.val_main_v2 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  by_cases h0 : t.val % 2 = 0
  · exact absurd hf ((by decide +kernel : ∀ t : Fin grid0.N, t.val % 2 = 0 → ¬(cfg0.win 2).flush t = true) t h0)
  · have h1 : t.val % 2 = 1 := by omega
    have hs : t.val - 1 < cfg0.N := Nat.lt_of_le_of_lt (Nat.sub_le _ _) t.isLt
    rw [outsAt0_B m c t h0 h1, show (outsAt0 m c (t.val - 1) hs) = outsAt0 m c (⟨t.val - 1, hs⟩ : Fin cfg0.N).val (Fin.isLt _) from rfl,
      outsAt0_A m c ⟨t.val - 1, hs⟩ (show (t.val - 1) % 2 = 0 by omega) (show ¬(t.val - 1) % 2 = 1 by omega)]
    frame_out
    obtain ⟨e0, e1, e2, e3, e4, e5, e6, e7⟩ := idx t ⟨t.val - 1, hs⟩ h1 (show t.val - 1 + 1 = t.val by omega)
    rw [Cert.Reference24Ideal.Read.val_main_v2]
    unfold Cert.Reference24Ideal.Read.val_main_v1 Cert.Reference24Ideal.Read.val_main_v0
    pointwise [k0_pay1, k0_pay2, k0_pay4]
    refine (congrArg (fun z : EReal => (z + (_ : EReal) : EReal)) (congrFun ((Memref.isWhole_whole cc0_scratch0).read_unread _) y)).trans ?_
    pointwise
    refine Eq.trans ?_ (Fin.sum_univ_add (a := 2816) (b := 2816) _).symm
    refine congrArg₂ (· + ·) (Fin.sum_fin_congr fun k => ?_) (Fin.sum_fin_congr fun k => ?_)
    · blk_point [iblk, e0, e1, e2, e3, e4, e5, e6, e7]
      all_goals rfl
    · blk_point [iblk, e0, e1, e2, e3, e4, e5, e6, e7]
      all_goals rfl

/-- The channel mixer's output is the reference's product. -/
theorem algebraic : Cert.algebraic_Kernel24Ideal_Reference24Ideal (hKernel24Ideal := Cert.Kernel24Ideal.Gen.facts)
    (hReference24Ideal := Cert.Reference24Ideal.Gen.facts) := by
  intro m g m' g' _ hag
  refine ⟨fun c => (dats m 0 c).arrAt 2 cfg0.N, Cert.Kernel24Ideal.Value.run_blocks m g, ?_⟩
  refine (θ_run _ _ _).mono (fun r h c => ?_) (Cert.Reference24Ideal.Value.run (F := Ideal) m' g')
  refine ⟨((h c).1).trans ?_, (h c).2⟩
  rw [(hag c).1, (hag c).2]
  exact (arr m c).symm

end Cert.FfnOut

end
-- ==== Proof.Update.lean ====
module

public import proofs.«01_k».proof.Defs
public import proofs.«01_k».proof.Proof.Gen.Kernel25Ideal.Value
public import proofs.«01_k».proof.Proof.Gen.Reference25Ideal.Read
public import proofs.«01_k».proof.Proof.Gen.Kernel26Ideal.Value
public import proofs.«01_k».proof.Proof.Gen.Reference26Ideal.Read
public import proofs.«01_k».proof.Proof.Gen.Kernel27Ideal.Value
public import proofs.«01_k».proof.Proof.Gen.Reference27Ideal.Read
public import proofs.«01_k».proof.Proof.Gen.Kernel28Ideal.Value
public import proofs.«01_k».proof.Proof.Gen.Reference28Ideal.Read
public import proofs.«01_k».proof.Proof.Gen.Kernel29Ideal.Value
public import proofs.«01_k».proof.Proof.Gen.Reference29Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.UpdateNorm

open Cert.Kernel25Ideal Cert.Kernel25Ideal.Gen

/-- The update of a weight as wide as a row is the reference's. -/
theorem algebraic : Cert.algebraic_Kernel25Ideal_Reference25Ideal (hKernel25Ideal := Cert.Kernel25Ideal.Gen.facts)
    (hReference25Ideal := Cert.Reference25Ideal.Gen.facts) := by
  intro m g m' g' _ hag
  refine ⟨_, _, _, Cert.Kernel25Ideal.Value.run (F := Ideal) m g, ?_⟩
  refine (θ_run _ _ _).mono (fun r h c => ?_) (Cert.Reference25Ideal.Value.run (F := Ideal) m' g')
  refine ⟨((h c).1).trans ?_, ((h c).2.1).trans ?_, ((h c).2.2.1).trans ?_, (h c).2.2.2⟩
  · rw [(hag c).1, (hag c).2.1, (hag c).2.2.1, (hag c).2.2.2]
    rfl
  · rw [(hag c).2.1, (hag c).2.2.2]
    rfl
  · rw [(hag c).2.2.1, (hag c).2.2.2]
    rfl

end Cert.UpdateNorm

namespace Cert.UpdateRms

open Cert.Kernel26Ideal Cert.Kernel26Ideal.Gen

/-- The update of a low-rank norm weight is the reference's. -/
theorem algebraic : Cert.algebraic_Kernel26Ideal_Reference26Ideal (hKernel26Ideal := Cert.Kernel26Ideal.Gen.facts)
    (hReference26Ideal := Cert.Reference26Ideal.Gen.facts) := by
  intro m g m' g' _ hag
  refine ⟨_, _, _, Cert.Kernel26Ideal.Value.run (F := Ideal) m g, ?_⟩
  refine (θ_run _ _ _).mono (fun r h c => ?_) (Cert.Reference26Ideal.Value.run (F := Ideal) m' g')
  refine ⟨((h c).1).trans ?_, ((h c).2.1).trans ?_, ((h c).2.2.1).trans ?_, (h c).2.2.2⟩
  · rw [(hag c).1, (hag c).2.1, (hag c).2.2.1, (hag c).2.2.2]
    rfl
  · rw [(hag c).2.1, (hag c).2.2.2]
    rfl
  · rw [(hag c).2.2.1, (hag c).2.2.2]
    rfl

end Cert.UpdateRms

namespace Cert.UpdateBias

open Cert.Kernel27Ideal Cert.Kernel27Ideal.Gen

/-- The update of the conditioning bias is the reference's. -/
theorem algebraic : Cert.algebraic_Kernel27Ideal_Reference27Ideal (hKernel27Ideal := Cert.Kernel27Ideal.Gen.facts)
    (hReference27Ideal := Cert.Reference27Ideal.Gen.facts) := by
  intro m g m' g' _ hag
  refine ⟨_, _, _, Cert.Kernel27Ideal.Value.run (F := Ideal) m g, ?_⟩
  refine (θ_run _ _ _).mono (fun r h c => ?_) (Cert.Reference27Ideal.Value.run (F := Ideal) m' g')
  refine ⟨((h c).1).trans ?_, ((h c).2.1).trans ?_, ((h c).2.2.1).trans ?_, (h c).2.2.2⟩
  · rw [(hag c).1, (hag c).2.1, (hag c).2.2.1, (hag c).2.2.2]
    rfl
  · rw [(hag c).2.1, (hag c).2.2.2]
    rfl
  · rw [(hag c).2.2.1, (hag c).2.2.2]
    rfl

end Cert.UpdateBias

namespace Cert.UpdateTaps

open Cert.Kernel28Ideal Cert.Kernel28Ideal.Gen

/-- The update of the convolution's taps is the reference's. -/
theorem algebraic : Cert.algebraic_Kernel28Ideal_Reference28Ideal (hKernel28Ideal := Cert.Kernel28Ideal.Gen.facts)
    (hReference28Ideal := Cert.Reference28Ideal.Gen.facts) := by
  intro m g m' g' _ hag
  refine ⟨_, _, _, Cert.Kernel28Ideal.Value.run (F := Ideal) m g, ?_⟩
  refine (θ_run _ _ _).mono (fun r h c => ?_) (Cert.Reference28Ideal.Value.run (F := Ideal) m' g')
  refine ⟨((h c).1).trans ?_, ((h c).2.1).trans ?_, ((h c).2.2.1).trans ?_, (h c).2.2.2⟩
  · rw [(hag c).1, (hag c).2.1, (hag c).2.2.1, (hag c).2.2.2]
    rfl
  · rw [(hag c).2.1, (hag c).2.2.2]
    rfl
  · rw [(hag c).2.2.1, (hag c).2.2.2]
    rfl

end Cert.UpdateTaps

namespace Cert.UpdateAda

open Cert.Kernel29Ideal Cert.Kernel29Ideal.Gen

/-- The update of the conditioning weights is the reference's. -/
theorem algebraic : Cert.algebraic_Kernel29Ideal_Reference29Ideal (hKernel29Ideal := Cert.Kernel29Ideal.Gen.facts)
    (hReference29Ideal := Cert.Reference29Ideal.Gen.facts) := by
  intro m g m' g' _ hag
  refine ⟨_, _, _, Cert.Kernel29Ideal.Value.run (F := Ideal) m g, ?_⟩
  refine (θ_run _ _ _).mono (fun r h c => ?_) (Cert.Reference29Ideal.Value.run (F := Ideal) m' g')
  refine ⟨((h c).1).trans ?_, ((h c).2.1).trans ?_, ((h c).2.2.1).trans ?_, (h c).2.2.2⟩
  · rw [(hag c).1, (hag c).2.1, (hag c).2.2.1, (hag c).2.2.2]
    rfl
  · rw [(hag c).2.1, (hag c).2.2.2]
    rfl
  · rw [(hag c).2.2.1, (hag c).2.2.2]
    rfl

end Cert.UpdateAda

end
-- ==== Proof.Ada.lean ====
module

public import proofs.«01_k».proof.Defs
public import proofs.«01_k».proof.Proof.Gen.Kernel30Ideal.Value
public import proofs.«01_k».proof.Proof.Gen.Reference30Ideal.Read
public import proofs.«01_k».proof.Proof.Gen.Kernel31Ideal.Value
public import proofs.«01_k».proof.Proof.Gen.Reference31Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.AdaBwd

open Cert.Kernel30Ideal Cert.Kernel30Ideal.Gen

variable (m : (ℓ : Loc nD τ sig) → Buf (Elt Ideal) ℓ)

theorem idx : ∀ t : Fin cfg0.N, win0_0.index t 0 = 0 ∧ win0_0.index t 1 = 0 ∧ win0_1.index t 0 = 0 ∧ win0_1.index t 1 = win0_2.index t 1 ∧ win0_2.index t 0 = 0 :=
  (by decide +kernel : ∀ t : Fin grid0.N, win0_0.index t 0 = 0 ∧ win0_0.index t 1 = 0 ∧ win0_1.index t 0 = 0 ∧ win0_1.index t 1 = win0_2.index t 1 ∧ win0_2.index t 0 = 0)

theorem arr (c : Dev nD) :
    (dats m 0 c).arrAt 2 cfg0.N
      = Cert.Reference30Ideal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨e0, e1, e2, e3, e4⟩ := idx t
  rw [Cert.Reference30Ideal.Read.val_main_v4]
  unfold Cert.Reference30Ideal.Read.val_main_v3 Cert.Reference30Ideal.Read.val_main_v1 Cert.Reference30Ideal.Read.val_main_call0_v5 Cert.Reference30Ideal.Read.val_main_call0_v4 Cert.Reference30Ideal.Read.val_main_call0_cst_0 Cert.Reference30Ideal.Read.val_main_call0_v3 Cert.Reference30Ideal.Read.val_main_call0_v2 Cert.Reference30Ideal.Read.val_main_call0_cst Cert.Reference30Ideal.Read.val_main_call0_v1 Cert.Reference30Ideal.Read.val_main_call0_v0
  pointwise [k0_pay1]
  refine Fin.sum_fin_congr fun k => ?_
  refine (EReal.mul_comm _ _).trans ?_
  blk_point [iblk, e0, e1, e2, e3, e4, Ideal.logistic]
  refine congrArg₂ (· * ·) rfl (congrArg (fun z : EReal => Ideal.div 1 (1 + Ideal.exp (-z))) ?_)
  blk_point [e0, e1, e2, e3, e4]

/-- The gradient of the conditioning weights is the reference's. -/
theorem algebraic : Cert.algebraic_Kernel30Ideal_Reference30Ideal (hKernel30Ideal := Cert.Kernel30Ideal.Gen.facts)
    (hReference30Ideal := Cert.Reference30Ideal.Gen.facts) := by
  intro m g m' g' _ hag
  refine ⟨fun c => (dats m 0 c).arrAt 2 cfg0.N, Cert.Kernel30Ideal.Value.run_blocks m g, ?_⟩
  refine (θ_run _ _ _).mono (fun r h c => ?_) (Cert.Reference30Ideal.Value.run (F := Ideal) m' g')
  refine ⟨((h c).1).trans ?_, (h c).2⟩
  rw [(hag c).1, (hag c).2]
  exact (arr m c).symm

end Cert.AdaBwd

namespace Cert.AdaFwd

open Cert.Kernel31Ideal Cert.Kernel31Ideal.Gen

variable (m : (ℓ : Loc nD τ sig) → Buf (Elt Ideal) ℓ)

theorem idx : ∀ t : Fin cfg0.N, win0_0.index t 0 = 0 ∧ win0_0.index t 1 = 0 ∧ win0_1.index t 0 = 0 ∧ win0_1.index t 1 = win0_3.index t 1 ∧ win0_3.index t 0 = 0 ∧ win0_2.index t 0 = 0 ∧ win0_2.index t 1 = win0_3.index t 1 :=
  (by decide +kernel : ∀ t : Fin grid0.N, win0_0.index t 0 = 0 ∧ win0_0.index t 1 = 0 ∧ win0_1.index t 0 = 0 ∧ win0_1.index t 1 = win0_3.index t 1 ∧ win0_3.index t 0 = 0 ∧ win0_2.index t 0 = 0 ∧ win0_2.index t 1 = win0_3.index t 1)

theorem arr (c : Dev nD) :
    (dats m 0 c).arrAt 3 cfg0.N
      = Cert.Reference31Ideal.Read.val_main_v3 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  obtain ⟨e0, e1, e2, e3, e4, e5, e6⟩ := idx t
  rw [Cert.Reference31Ideal.Read.val_main_v3]
  unfold Cert.Reference31Ideal.Read.val_main_v2 Cert.Reference31Ideal.Read.val_main_v1 Cert.Reference31Ideal.Read.val_main_v0 Cert.Reference31Ideal.Read.val_main_call0_v5 Cert.Reference31Ideal.Read.val_main_call0_v4 Cert.Reference31Ideal.Read.val_main_call0_cst_0 Cert.Reference31Ideal.Read.val_main_call0_v3 Cert.Reference31Ideal.Read.val_main_call0_v2 Cert.Reference31Ideal.Read.val_main_call0_cst Cert.Reference31Ideal.Read.val_main_call0_v1 Cert.Reference31Ideal.Read.val_main_call0_v0
  pointwise [k0_pay1]
  refine congrArg₂ (· + ·) (Fin.sum_fin_congr fun k => ?_) ?_
  · blk_point [iblk, e0, e1, e2, e3, e4, e5, e6, Ideal.logistic]
    refine congrArg₂ (· * ·) rfl (congrArg (fun z : EReal => Ideal.div 1 (1 + Ideal.exp (-z))) ?_)
    blk_point [e0, e1, e2, e3, e4, e5, e6]
  · blk_point [iblk, e0, e1, e2, e3, e4, e5, e6]

/-- The conditioning rows are the reference's. -/
theorem algebraic : Cert.algebraic_Kernel31Ideal_Reference31Ideal (hKernel31Ideal := Cert.Kernel31Ideal.Gen.facts)
    (hReference31Ideal := Cert.Reference31Ideal.Gen.facts) := by
  intro m g m' g' _ hag
  refine ⟨fun c => (dats m 0 c).arrAt 3 cfg0.N, Cert.Kernel31Ideal.Value.run_blocks m g, ?_⟩
  refine (θ_run _ _ _).mono (fun r h c => ?_) (Cert.Reference31Ideal.Value.run (F := Ideal) m' g')
  refine ⟨((h c).1).trans ?_, (h c).2⟩
  rw [(hag c).1, (hag c).2.1, (hag c).2.2]
  exact (arr m c).symm

end Cert.AdaFwd

end
-- ==== Proof.Halves.lean ====
module

public import proofs.«01_k».proof.Defs
public import Idealize.ShloMosaic.Lib.Pipeline.ValueKit

@[expose] public section

noncomputable section

open Idealize.ShloMosaic Idealize.ShloMosaic.Pipeline

namespace Cert.Halves

/-- The first moment after a step, at one element. -/
def stepM (g m : Ideal .f32) : Ideal .f32 :=
  FloatOps.addf (FloatOps.mulf (FloatOps.ofBits .f32 0x3F666666#32) m) (FloatOps.mulf (FloatOps.ofBits .f32 0x3DCCCCCD#32) g)

/-- The second moment after a step, at one element. -/
def stepV (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The weight's change in a step, at one element. -/
def stepD (g w m v : Ideal .f32) : Ideal .f32 :=
  FloatOps.mulf (FloatOps.ofBits .f32 0xBA83126F#32)
    (FloatOps.addf
      (FloatOps.divf (FloatOps.divf (stepM g m) (FloatOps.ofBits .f32 0x3F26BD02#32))
        (FloatOps.addf (FloatOps.sqrt (FloatOps.divf (stepV g v) (FloatOps.ofBits .f32 0x3C231ACC#32)))
          (FloatOps.ofBits .f32 0x322BCC77#32)))
      (FloatOps.mulf (FloatOps.ofBits .f32 0x3C23D70A#32) w))

theorem stepM_congr {g g' m m' : Ideal .f32} (hg : g = g') (hm : m = m') : stepM g m = stepM g' m' := by
  rw [hg, hm]

theorem stepV_congr {g g' v v' : Ideal .f32} (hg : g = g') (hv : v = v') : stepV g v = stepV g' v' := by
  rw [hg, hv]

theorem stepD_congr {g g' w w' m m' v v' : Ideal .f32} (hg : g = g') (hw : w = w') (hm : m = m') (hv : v = v') :
    stepD g w m v = stepD g' w' m' v' := by
  rw [hg, hw, hm, hv]

/-- Choosing which half goes first is choosing between the two orders. -/
theorem halves_select {s s' t : Shape} {α : Type} (a : Fin t.rank) (b : BitVec 1) (u v : s.Idx → α) (u' v' : s'.Idx → α)
    (h : Shape.Concatenates [s, s'] t a) :
    concatenate t a [⟨s, Scalar.select b u v⟩, ⟨s', Scalar.select b v' u'⟩] h
      = Scalar.select b (concatenate t a [⟨s, u⟩, ⟨s', v'⟩] h) (concatenate t a [⟨s, v⟩, ⟨s', u'⟩] h) := by
  have cg : ∀ (p p' : s.Idx → α) (q q' : s'.Idx → α), p = p' → q = q' →
      concatenate t a [⟨s, p⟩, ⟨s', q⟩] h = concatenate t a [⟨s, p'⟩, ⟨s', q'⟩] h := by
    rintro _ _ _ _ rfl rfl
    rfl
  by_cases hb : b = 1
  · exact (cg _ _ _ _ (if_pos hb) (if_pos hb)).trans (if_pos hb).symm
  · exact (cg _ _ _ _ (if_neg hb) (if_neg hb)).trans (if_neg hb).symm

/-- A table of one word has one index. -/
theorem one_idx (i j : (⟨1, ![1]⟩ : Shape).Idx) : i = j :=
  funext fun a => match a with
    | ⟨0, _⟩ => Subsingleton.elim (α := Fin 1) _ _

/-- Two stacked column tiles, the second cut at its end, are the column tile of the two stacked halves. -/
theorem stack_tile {Rh Rs R Rf tc C : ℕ} (u : (⟨2, ![Rh, tc]⟩ : Shape).Idx → EReal) (v : (⟨2, ![Rs, tc]⟩ : Shape).Idx → EReal)
    (X Y : (⟨2, ![Rh, C]⟩ : Shape).Idx → EReal)
    (e : (⟨2, ![Rh, tc]⟩ : Shape).Idx → (⟨2, ![Rh, C]⟩ : Shape).Idx)
    (e' : (⟨2, ![Rs, tc]⟩ : Shape).Idx → (⟨2, ![Rh, C]⟩ : Shape).Idx)
    (E : (⟨2, ![R, tc]⟩ : Shape).Idx → (⟨2, ![Rf, C]⟩ : Shape).Idx) (off : ℕ)
    (hu : ∀ p, u p = X (e p)) (hv : ∀ p, v p = Y (e' p))
    (e0 : ∀ p, (e p 0).val = (p 0).val) (e1 : ∀ p, (e p 1).val = off + (p 1).val)
    (e0' : ∀ p, (e' p 0).val = (p 0).val) (e1' : ∀ p, (e' p 1).val = off + (p 1).val)
    (E0 : ∀ p, (E p 0).val = (p 0).val) (E1 : ∀ p, (E p 1).val = off + (p 1).val)
    (hR : R ≤ Rh + Rs)
    (h : Shape.Concatenates [(⟨2, ![Rh, tc]⟩ : Shape), ⟨2, ![Rs, tc]⟩] ⟨2, ![R, tc]⟩ 0)
    (H : Shape.Concatenates [(⟨2, ![Rh, C]⟩ : Shape), ⟨2, ![Rh, C]⟩] ⟨2, ![Rf, C]⟩ 0)
    (j : (⟨2, ![R, tc]⟩ : Shape).Idx) :
    concatenate ⟨2, ![R, tc]⟩ 0 [⟨⟨2, ![Rh, tc]⟩, u⟩, ⟨⟨2, ![Rs, tc]⟩, v⟩] h j
      = concatenate ⟨2, ![Rf, C]⟩ 0 [⟨⟨2, ![Rh, C]⟩, X⟩, ⟨⟨2, ![Rh, C]⟩, Y⟩] H (E j) := by
  have hj : (j 0).val < R := (j 0).isLt
  have hj1 : (j 1).val < tc := (j 1).isLt
  by_cases hlt : (j 0).val < Rh
  · let p : (⟨2, ![Rh, tc]⟩ : Shape).Idx := Fin.cons ⟨(j 0).val, hlt⟩ (Fin.cons ⟨(j 1).val, hj1⟩ fun a => a.elim0)
    rw [concatenate_pair_apply_left 0 u v h j rfl p (Fin.forall_fin_two.2 ⟨rfl, rfl⟩),
      concatenate_pair_apply_left 0 X Y H (E j) rfl (e p)
        (Fin.forall_fin_two.2 ⟨(e0 p).trans (E0 j).symm, (e1 p).trans (E1 j).symm⟩)]
    exact hu p
  · let p : (⟨2, ![Rs, tc]⟩ : Shape).Idx :=
      Fin.cons ⟨(j 0).val - Rh, by show _ < Rs; omega⟩ (Fin.cons ⟨(j 1).val, hj1⟩ fun a => a.elim0)
    have hp : (p 0).val + Rh = (j 0).val := by show (j 0).val - Rh + Rh = _; omega
    rw [concatenate_pair_apply_right 0 u v h j rfl rfl p
        (Fin.forall_fin_two.2 ⟨fun hb => absurd rfl hb, fun _ => rfl⟩) hp,
      concatenate_pair_apply_right 0 X Y H (E j) rfl rfl (e' p)
        (Fin.forall_fin_two.2 ⟨fun hb => absurd rfl hb, fun _ => (e1' p).trans (E1 j).symm⟩)
        ((congrArg (· + Rh) (e0' p)).trans (hp.trans (E0 j).symm))]
    exact hv p

end Cert.Halves

end
-- ==== Proof.UpdateO.lean ====
module

public import proofs.«01_k».proof.Proof.Halves
public import proofs.«01_k».proof.Proof.Gen.Kernel32Ideal.Frame
public import proofs.«01_k».proof.Proof.Gen.Reference32Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.UpdateO

open Cert.Halves
open Cert.Kernel32Ideal Cert.Kernel32Ideal.Gen

local notation "RV" => Cert.Reference32Ideal.Read.val_main_v4

variable (m : (ℓ : Loc nD τ sig) → Buf (Elt Ideal) ℓ)

/-- The table at zero, for the facts of the windows that no table's word enters. -/
abbrev zeroTable : (pcfg0 (F := Ideal)).Adm := ⟨fun k => match k with
    | ⟨0, _⟩ => fun _ => (0#32 : BitVec 32), trivial⟩

theorem covers5 (a : (pcfg0 (F := Ideal)).Adm) : ((cfg0 a).win 5).Covers :=
  (by decide +kernel : ((cfg0 zeroTable).win 5).Covers)

/-- The one word of the table, as the body reads it. -/
theorem word_eq (c : Dev nD) (i : S1.Idx) : tbl m 0 i = m ((c : Thread nD τ).loc main_arg0) i := by
  rw [Subsingleton.elim c 0]
  rfl

theorem idx5 (a : (pcfg0 (F := Ideal)).Adm) (t : Fin grid0.N) :
    ((cfg0 a).win 5).index t = ![0, (grid0.coords t 0).val] :=
  (by decide +kernel : ∀ t : Fin grid0.N, ((cfg0 zeroTable).win 5).index t = ![0, (grid0.coords t 0).val]) t

theorem idx3 (a : (pcfg0 (F := Ideal)).Adm) (t : Fin grid0.N) :
    ((cfg0 a).win 3).index t = ![0, (grid0.coords t 0).val] :=
  (by decide +kernel : ∀ t : Fin grid0.N, ((cfg0 zeroTable).win 3).index t = ![0, (grid0.coords t 0).val]) t

theorem pay2_congr {w : BitVec 32} {a a' b b' c c' d d' : S256x512.Idx → EReal} (y : S512x512.Idx) (ha : a = a') (hb : b = b') (hc : c = c') (hd : d = d') :
    k0_pay2 (F := Ideal) w a b c d y = k0_pay2 (F := Ideal) w a' b' c' d' y := by
  subst ha hb hc hd
  rfl

/-- The gradient's tile is the tile of the gradient, whichever half goes first. -/
theorem grad_at (c : Dev nD) (hO : Ok m) (t : Fin (cfgM m hO).N) (w : BitVec 32) (i : S1.Idx)
    (hw : w = m ((c : Thread nD τ).loc main_arg0) i) (y : S512x512.Idx) :
    k0_pay2 (F := Ideal) w (iblk m hO c 3 t) (iblk m hO c 4 t) (iblk m hO c 4 t) (iblk m hO c 3 t) y
      = RV (m ((c : Thread nD τ).loc main_arg0)) (m ((c : Thread nD τ).loc main_arg4)) (m ((c : Thread nD τ).loc main_arg5))
          (((spec0 5).arr.view.slice ((pcfg0.win (adm m hO) 5).rect t)).emb y) := by
  obtain rfl : i = Shape.Idx.first (by decide) := one_idx _ _
  refine (congrFun (halves_select (s := S256x512) (s' := S256x512) (t := S512x512) (α := EReal) 0 _ (iblk m hO c 3 t) (iblk m hO c 4 t) (iblk m hO c 3 t) (iblk m hO c 4 t)
    concatenates_S256x512_S256x512_S512x512_d0) y).trans ?_
  have key := fun (u v : S256x512.Idx → EReal) (X Y : S256x2048.Idx → EReal) hu hv =>
    stack_tile u v X Y (fun p => ((spec0 3).arr.view.slice ((pcfg0.win (adm m hO) 3).rect t)).emb p)
      (fun p => ((spec0 3).arr.view.slice ((pcfg0.win (adm m hO) 3).rect t)).emb p)
      (fun p => ((spec0 5).arr.view.slice ((pcfg0.win (adm m hO) 5).rect t)).emb p) ((grid0.coords t 0).val * 512) hu hv
      (fun p => by blk_simp; rw [show (pcfg0.win (adm m hO) 3).index t 0 = 0 from congrFun (idx3 (adm m hO) t) (0 : Fin 2), Nat.zero_mul, Nat.zero_add])
      (fun p => by blk_simp; rw [show (pcfg0.win (adm m hO) 3).index t 1 = _ from congrFun (idx3 (adm m hO) t) (1 : Fin 2)]; rfl)
      (fun p => by blk_simp; rw [show (pcfg0.win (adm m hO) 3).index t 0 = 0 from congrFun (idx3 (adm m hO) t) (0 : Fin 2), Nat.zero_mul, Nat.zero_add])
      (fun p => by blk_simp; rw [show (pcfg0.win (adm m hO) 3).index t 1 = _ from congrFun (idx3 (adm m hO) t) (1 : Fin 2)]; rfl)
      (fun p => by blk_simp; rw [show (pcfg0.win (adm m hO) 5).index t 0 = 0 from congrFun (idx5 (adm m hO) t) (0 : Fin 2), Nat.zero_mul, Nat.zero_add])
      (fun p => by blk_simp; rw [show (pcfg0.win (adm m hO) 5).index t 1 = _ from congrFun (idx5 (adm m hO) t) (1 : Fin 2)]; rfl)
      (by decide) concatenates_S256x512_S256x512_S512x512_d0 Cert.Reference32Ideal.Gen.concatenates_S256x2048_S256x2048_S512x2048_d0 y
  have k1 := key (iblk m hO c 3 t) (iblk m hO c 4 t) (m ((c : Thread nD τ).loc main_arg4)) (m ((c : Thread nD τ).loc main_arg5))
    (fun _ => rfl) (fun _ => rfl)
  have k2 := key (iblk m hO c 4 t) (iblk m hO c 3 t) (m ((c : Thread nD τ).loc main_arg5)) (m ((c : Thread nD τ).loc main_arg4))
    (fun _ => rfl) (fun _ => rfl)
  have hb : Cert.Reference32Ideal.Read.val_main_v1 (F := Ideal) (m ((c : Thread nD τ).loc main_arg0))
      = fun _ => Scalar.cmpi .eq w 0#32 := by
    subst hw
    funext j
    exact congrArg (fun x => Scalar.cmpi .eq x 0#32) (congrArg (m ((c : Thread nD τ).loc main_arg0)) (one_idx _ _))
  show _ = Scalar.select (Cert.Reference32Ideal.Read.val_main_v1 (F := Ideal) (m ((c : Thread nD τ).loc main_arg0)) _) _ _
  rw [hb]
  unfold Scalar.select
  by_cases hw1 : Scalar.cmpi .eq w 0#32 = 1
  · rw [if_pos hw1, if_pos hw1]
    exact k1
  · rw [if_neg hw1, if_neg hw1]
    exact k2

/-- What the body stores, at an element: the step's formulas at the gradient there. -/
theorem pay3_at (w : BitVec 32) (a b b' a' : S256x512.Idx → EReal) (q : S512x512.Idx → EReal) (y : S512x512.Idx) :
    k0_pay3 (F := Ideal) w a b b' a' q y = stepM (k0_pay2 (F := Ideal) w a b b' a' y) (q y) := rfl

theorem pay4_at (w : BitVec 32) (a b b' a' : S256x512.Idx → EReal) (q : S512x512.Idx → EReal) (y : S512x512.Idx) :
    k0_pay4 (F := Ideal) w a b b' a' q y = stepV (k0_pay2 (F := Ideal) w a b b' a' y) (q y) := rfl

theorem pay1_at (w : BitVec 32) (a b b' a' : S256x512.Idx → EReal) (p q r : S512x512.Idx → EReal) (y : S512x512.Idx) :
    k0_pay1 (F := Ideal) (k0_pay5 (F := Ideal) w a b b' a' p q r) (Scalar.ofBits .f32 0xBA83126F#32) y
      = stepD (k0_pay2 (F := Ideal) w a b b' a' y) (p y) (q y) (r y) := rfl

/-- The same of the reference, at an element. -/
theorem ref_m (x0 x2 x4 x5) (i : S512x2048.Idx) :
    Cert.Reference32Ideal.Read.val_main_v9 (F := Ideal) x0 x2 x4 x5 i = stepM (RV x0 x4 x5 i) (x2 i) := rfl

theorem ref_v (x0 x3 x4 x5) (i : S512x2048.Idx) :
    Cert.Reference32Ideal.Read.val_main_v15 (F := Ideal) x0 x3 x4 x5 i = stepV (RV x0 x4 x5 i) (x3 i) := rfl

theorem ref_d (x0 x1 x2 x3 x4 x5) (i : S512x2048.Idx) :
    Cert.Reference32Ideal.Read.val_main_v28 (F := Ideal) x0 x1 x2 x3 x4 x5 i = stepD (RV x0 x4 x5 i) (x1 i) (x2 i) (x3 i) := rfl

/-- The gradient as the body reads its operands. -/
theorem grad_read (c : Dev nD) (hO : Ok m) (t : Fin (cfgM m hO).N) (w : BitVec 32) (i : S1.Idx)
    (hw : w = tbl m 0 i) (y : S512x512.Idx) :
    k0_pay2 (F := Ideal) w
        (View.read (Elt Ideal) (ms0_3 m hO t).view ((hs0_3 m hO t).unread (iblk m hO c 3 t)))
        (View.read (Elt Ideal) (ms0_4 m hO t).view ((hs0_4 m hO t).unread (iblk m hO c 4 t)))
        (View.read (Elt Ideal) (ms0_4 m hO t).view ((hs0_4 m hO t).unread (iblk m hO c 4 t)))
        (View.read (Elt Ideal) (ms0_3 m hO t).view ((hs0_3 m hO t).unread (iblk m hO c 3 t))) y
      = RV (m ((c : Thread nD τ).loc main_arg0)) (m ((c : Thread nD τ).loc main_arg4)) (m ((c : Thread nD τ).loc main_arg5))
          (((spec0 5).arr.view.slice ((pcfg0.win (adm m hO) 5).rect t)).emb y) :=
  (pay2_congr y (Memref.IsWhole.read_unread _ _) (Memref.IsWhole.read_unread _ _) (Memref.IsWhole.read_unread _ _)
    (Memref.IsWhole.read_unread _ _)).trans (grad_at m c hO t w i (hw.trans (word_eq m c i)) y)

/-- The kernel's gradient is the reference's. -/
theorem arr5 (c : Dev nD) (hO : Ok m) : (dats m hO 0 c).arrAt 5 (cfgM m hO).N
    = Cert.Reference32Ideal.Read.val_main_v4 (F := Ideal) (m ((c : Thread nD τ).loc main_arg0)) (m ((c : Thread nD τ).loc main_arg4)) (m ((c : Thread nD τ).loc main_arg5)) := by
  refine (dats m hO 0 c).arrAt_eq_of_covers 5 _ (covers5 (adm m hO)) fun t hf y => ?_
  blk_simp
  rw [after0_5]
  unfold outsAt0
  frame_out
  exact grad_read m c hO t _ _ rfl y

theorem covers6 (a : (pcfg0 (F := Ideal)).Adm) : ((cfg0 a).win 6).Covers :=
  (by decide +kernel : ((cfg0 zeroTable).win 6).Covers)

/-- The kernel's change of the weight is the reference's. -/
theorem arr6 (c : Dev nD) (hO : Ok m) : (dats m hO 0 c).arrAt 6 (cfgM m hO).N
    = Cert.Reference32Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers6 (adm m hO)) fun t hf y => ?_
  blk_simp
  rw [after0_6]
  unfold outsAt0
  frame_out
  refine (pay1_at _ _ _ _ _ _ _ _ y).trans (Eq.trans ?_ (ref_d _ _ _ _ _ _ _).symm)
  exact stepD_congr (grad_read m c hO t _ _ rfl y) (congrFun (Memref.IsWhole.read_unread (hs0_0 m hO t) (iblk m hO c 0 t)) y) (congrFun (Memref.IsWhole.read_unread (hs0_1 m hO t) (iblk m hO c 1 t)) y) (congrFun (Memref.IsWhole.read_unread (hs0_2 m hO t) (iblk m hO c 2 t)) y)

theorem covers7 (a : (pcfg0 (F := Ideal)).Adm) : ((cfg0 a).win 7).Covers :=
  (by decide +kernel : ((cfg0 zeroTable).win 7).Covers)

/-- The kernel's first moment is the reference's. -/
theorem arr7 (c : Dev nD) (hO : Ok m) : (dats m hO 0 c).arrAt 7 (cfgM m hO).N
    = Cert.Reference32Ideal.Read.val_main_v9 (F := Ideal) (m ((c : Thread nD τ).loc main_arg0)) (m ((c : Thread nD τ).loc main_arg2)) (m ((c : Thread nD τ).loc main_arg4)) (m ((c : Thread nD τ).loc main_arg5)) := by
  refine (dats m hO 0 c).arrAt_eq_of_covers 7 _ (covers7 (adm m hO)) fun t hf y => ?_
  blk_simp
  rw [after0_7]
  unfold outsAt0
  frame_out
  refine (pay3_at _ _ _ _ _ _ y).trans (Eq.trans ?_ (ref_m _ _ _ _ _).symm)
  exact stepM_congr (grad_read m c hO t _ _ rfl y) (congrFun (Memref.IsWhole.read_unread (hs0_1 m hO t) (iblk m hO c 1 t)) y)

theorem covers8 (a : (pcfg0 (F := Ideal)).Adm) : ((cfg0 a).win 8).Covers :=
  (by decide +kernel : ((cfg0 zeroTable).win 8).Covers)

/-- The kernel's second moment is the reference's. -/
theorem arr8 (c : Dev nD) (hO : Ok m) : (dats m hO 0 c).arrAt 8 (cfgM m hO).N
    = Cert.Reference32Ideal.Read.val_main_v15 (F := Ideal) (m ((c : Thread nD τ).loc main_arg0)) (m ((c : Thread nD τ).loc main_arg3)) (m ((c : Thread nD τ).loc main_arg4)) (m ((c : Thread nD τ).loc main_arg5)) := by
  refine (dats m hO 0 c).arrAt_eq_of_covers 8 _ (covers8 (adm m hO)) fun t hf y => ?_
  blk_simp
  rw [after0_8]
  unfold outsAt0
  frame_out
  refine (pay4_at _ _ _ _ _ _ y).trans (Eq.trans ?_ (ref_v _ _ _ _ _).symm)
  exact stepV_congr (grad_read m c hO t _ _ rfl y) (congrFun (Memref.IsWhole.read_unread (hs0_2 m hO t) (iblk m hO c 2 t)) y)

/-- The update of w_o, w_o_a or w_o_b is the reference's, whichever core runs it. -/
theorem algebraic : Cert.algebraic_Kernel32Ideal_Reference32Ideal (hKernel32Ideal := Cert.Kernel32Ideal.Gen.facts)
    (hReference32Ideal := Cert.Reference32Ideal.Gen.facts) := by
  intro m g m' g' _ hag
  refine ⟨_, _, _, _, (θ_run _ _ _).mono (fun r h c => ⟨((h.2 c).1 5).trans (arr5 m c trivial),
    ((h.2 c).1 6).trans (arr6 m c trivial), ((h.2 c).1 7).trans (arr7 m c trivial), ((h.2 c).1 8).trans (arr8 m c trivial),
    h.1 c⟩) (θ_run_and (unchanged m g trivial) (run_main m g trivial)), ?_⟩
  refine (θ_run _ _ _).mono (fun r h c => ?_) (Cert.Reference32Ideal.Value.run (F := Ideal) m' g')
  obtain ⟨a0, a1, a2, a3, a4, a5⟩ := hag c
  refine ⟨((h c).1).trans ?_, ((h c).2.1).trans ?_, ((h c).2.2.1).trans ?_, ((h c).2.2.2.1).trans ?_, (h c).2.2.2.2⟩
  · rw [a0, a4, a5]
    rfl
  · rw [a0, a1, a2, a3, a4, a5]
    rfl
  · rw [a0, a2, a4, a5]
    rfl
  · rw [a0, a3, a4, a5]
    rfl

end Cert.UpdateO

end
-- ==== Proof.UpdateFfnOut.lean ====
module

public import proofs.«01_k».proof.Proof.Halves
public import proofs.«01_k».proof.Proof.Gen.Kernel33Ideal.Frame
public import proofs.«01_k».proof.Proof.Gen.Reference33Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.UpdateFfnOut

open Cert.Halves
open Cert.Kernel33Ideal Cert.Kernel33Ideal.Gen

local notation "RV" => Cert.Reference33Ideal.Read.val_main_v4

variable (m : (ℓ : Loc nD τ sig) → Buf (Elt Ideal) ℓ)

/-- The table at zero, for the facts of the windows that no table's word enters. -/
abbrev zeroTable : (pcfg0 (F := Ideal)).Adm := ⟨fun k => match k with
    | ⟨0, _⟩ => fun _ => (0#32 : BitVec 32), trivial⟩

theorem covers5 (a : (pcfg0 (F := Ideal)).Adm) : ((cfg0 a).win 5).Covers :=
  (by decide +kernel : ((cfg0 zeroTable).win 5).Covers)

/-- The one word of the table, as the body reads it. -/
theorem word_eq (c : Dev nD) (i : S1.Idx) : tbl m 0 i = m ((c : Thread nD τ).loc main_arg0) i := by
  rw [Subsingleton.elim c 0]
  rfl

theorem idx5 (a : (pcfg0 (F := Ideal)).Adm) (t : Fin grid0.N) :
    ((cfg0 a).win 5).index t = ![0, (grid0.coords t 0).val] :=
  (by decide +kernel : ∀ t : Fin grid0.N, ((cfg0 zeroTable).win 5).index t = ![0, (grid0.coords t 0).val]) t

theorem idx3 (a : (pcfg0 (F := Ideal)).Adm) (t : Fin grid0.N) :
    ((cfg0 a).win 3).index t = ![0, (grid0.coords t 0).val] :=
  (by decide +kernel : ∀ t : Fin grid0.N, ((cfg0 zeroTable).win 3).index t = ![0, (grid0.coords t 0).val]) t

theorem pay2_congr {w : BitVec 32} {a a' b b' c c' d d' : S704x256.Idx → EReal} (y : S1408x256.Idx) (ha : a = a') (hb : b = b') (hc : c = c') (hd : d = d') :
    k0_pay2 (F := Ideal) w a b c d y = k0_pay2 (F := Ideal) w a' b' c' d' y := by
  subst ha hb hc hd
  rfl

/-- The gradient's tile is the tile of the gradient, whichever half goes first. -/
theorem grad_at (c : Dev nD) (hO : Ok m) (t : Fin (cfgM m hO).N) (w : BitVec 32) (i : S1.Idx)
    (hw : w = m ((c : Thread nD τ).loc main_arg0) i) (y : S1408x256.Idx) :
    k0_pay2 (F := Ideal) w (iblk m hO c 3 t) (iblk m hO c 4 t) (iblk m hO c 4 t) (iblk m hO c 3 t) y
      = RV (m ((c : Thread nD τ).loc main_arg0)) (m ((c : Thread nD τ).loc main_arg4)) (m ((c : Thread nD τ).loc main_arg5))
          (((spec0 5).arr.view.slice ((pcfg0.win (adm m hO) 5).rect t)).emb y) := by
  obtain rfl : i = Shape.Idx.first (by decide) := one_idx _ _
  refine (congrFun (halves_select (s := S704x256) (s' := S704x256) (t := S1408x256) (α := EReal) 0 _ (iblk m hO c 3 t) (iblk m hO c 4 t) (iblk m hO c 3 t) (iblk m hO c 4 t)
    concatenates_S704x256_S704x256_S1408x256_d0) y).trans ?_
  have key := fun (u v : S704x256.Idx → EReal) (X Y : S704x2048.Idx → EReal) hu hv =>
    stack_tile u v X Y (fun p => ((spec0 3).arr.view.slice ((pcfg0.win (adm m hO) 3).rect t)).emb p)
      (fun p => ((spec0 3).arr.view.slice ((pcfg0.win (adm m hO) 3).rect t)).emb p)
      (fun p => ((spec0 5).arr.view.slice ((pcfg0.win (adm m hO) 5).rect t)).emb p) ((grid0.coords t 0).val * 256) hu hv
      (fun p => by blk_simp; rw [show (pcfg0.win (adm m hO) 3).index t 0 = 0 from congrFun (idx3 (adm m hO) t) (0 : Fin 2), Nat.zero_mul, Nat.zero_add])
      (fun p => by blk_simp; rw [show (pcfg0.win (adm m hO) 3).index t 1 = _ from congrFun (idx3 (adm m hO) t) (1 : Fin 2)]; rfl)
      (fun p => by blk_simp; rw [show (pcfg0.win (adm m hO) 3).index t 0 = 0 from congrFun (idx3 (adm m hO) t) (0 : Fin 2), Nat.zero_mul, Nat.zero_add])
      (fun p => by blk_simp; rw [show (pcfg0.win (adm m hO) 3).index t 1 = _ from congrFun (idx3 (adm m hO) t) (1 : Fin 2)]; rfl)
      (fun p => by blk_simp; rw [show (pcfg0.win (adm m hO) 5).index t 0 = 0 from congrFun (idx5 (adm m hO) t) (0 : Fin 2), Nat.zero_mul, Nat.zero_add])
      (fun p => by blk_simp; rw [show (pcfg0.win (adm m hO) 5).index t 1 = _ from congrFun (idx5 (adm m hO) t) (1 : Fin 2)]; rfl)
      (by decide) concatenates_S704x256_S704x256_S1408x256_d0 Cert.Reference33Ideal.Gen.concatenates_S704x2048_S704x2048_S1408x2048_d0 y
  have k1 := key (iblk m hO c 3 t) (iblk m hO c 4 t) (m ((c : Thread nD τ).loc main_arg4)) (m ((c : Thread nD τ).loc main_arg5))
    (fun _ => rfl) (fun _ => rfl)
  have k2 := key (iblk m hO c 4 t) (iblk m hO c 3 t) (m ((c : Thread nD τ).loc main_arg5)) (m ((c : Thread nD τ).loc main_arg4))
    (fun _ => rfl) (fun _ => rfl)
  have hb : Cert.Reference33Ideal.Read.val_main_v1 (F := Ideal) (m ((c : Thread nD τ).loc main_arg0))
      = fun _ => Scalar.cmpi .eq w 0#32 := by
    subst hw
    funext j
    exact congrArg (fun x => Scalar.cmpi .eq x 0#32) (congrArg (m ((c : Thread nD τ).loc main_arg0)) (one_idx _ _))
  show _ = Scalar.select (Cert.Reference33Ideal.Read.val_main_v1 (F := Ideal) (m ((c : Thread nD τ).loc main_arg0)) _) _ _
  rw [hb]
  unfold Scalar.select
  by_cases hw1 : Scalar.cmpi .eq w 0#32 = 1
  · rw [if_pos hw1, if_pos hw1]
    exact k1
  · rw [if_neg hw1, if_neg hw1]
    exact k2

/-- What the body stores, at an element: the step's formulas at the gradient there. -/
theorem pay3_at (w : BitVec 32) (a b b' a' : S704x256.Idx → EReal) (q : S1408x256.Idx → EReal) (y : S1408x256.Idx) :
    k0_pay3 (F := Ideal) w a b b' a' q y = stepM (k0_pay2 (F := Ideal) w a b b' a' y) (q y) := rfl

theorem pay4_at (w : BitVec 32) (a b b' a' : S704x256.Idx → EReal) (q : S1408x256.Idx → EReal) (y : S1408x256.Idx) :
    k0_pay4 (F := Ideal) w a b b' a' q y = stepV (k0_pay2 (F := Ideal) w a b b' a' y) (q y) := rfl

theorem pay1_at (w : BitVec 32) (a b b' a' : S704x256.Idx → EReal) (p q r : S1408x256.Idx → EReal) (y : S1408x256.Idx) :
    k0_pay1 (F := Ideal) (k0_pay5 (F := Ideal) w a b b' a' p q r) (Scalar.ofBits .f32 0xBA83126F#32) y
      = stepD (k0_pay2 (F := Ideal) w a b b' a' y) (p y) (q y) (r y) := rfl

/-- The same of the reference, at an element. -/
theorem ref_m (x0 x2 x4 x5) (i : S1408x2048.Idx) :
    Cert.Reference33Ideal.Read.val_main_v9 (F := Ideal) x0 x2 x4 x5 i = stepM (RV x0 x4 x5 i) (x2 i) := rfl

theorem ref_v (x0 x3 x4 x5) (i : S1408x2048.Idx) :
    Cert.Reference33Ideal.Read.val_main_v15 (F := Ideal) x0 x3 x4 x5 i = stepV (RV x0 x4 x5 i) (x3 i) := rfl

theorem ref_d (x0 x1 x2 x3 x4 x5) (i : S1408x2048.Idx) :
    Cert.Reference33Ideal.Read.val_main_v28 (F := Ideal) x0 x1 x2 x3 x4 x5 i = stepD (RV x0 x4 x5 i) (x1 i) (x2 i) (x3 i) := rfl

/-- The gradient as the body reads its operands. -/
theorem grad_read (c : Dev nD) (hO : Ok m) (t : Fin (cfgM m hO).N) (w : BitVec 32) (i : S1.Idx)
    (hw : w = tbl m 0 i) (y : S1408x256.Idx) :
    k0_pay2 (F := Ideal) w
        (View.read (Elt Ideal) (ms0_3 m hO t).view ((hs0_3 m hO t).unread (iblk m hO c 3 t)))
        (View.read (Elt Ideal) (ms0_4 m hO t).view ((hs0_4 m hO t).unread (iblk m hO c 4 t)))
        (View.read (Elt Ideal) (ms0_4 m hO t).view ((hs0_4 m hO t).unread (iblk m hO c 4 t)))
        (View.read (Elt Ideal) (ms0_3 m hO t).view ((hs0_3 m hO t).unread (iblk m hO c 3 t))) y
      = RV (m ((c : Thread nD τ).loc main_arg0)) (m ((c : Thread nD τ).loc main_arg4)) (m ((c : Thread nD τ).loc main_arg5))
          (((spec0 5).arr.view.slice ((pcfg0.win (adm m hO) 5).rect t)).emb y) :=
  (pay2_congr y (Memref.IsWhole.read_unread _ _) (Memref.IsWhole.read_unread _ _) (Memref.IsWhole.read_unread _ _)
    (Memref.IsWhole.read_unread _ _)).trans (grad_at m c hO t w i (hw.trans (word_eq m c i)) y)

/-- The kernel's gradient is the reference's. -/
theorem arr5 (c : Dev nD) (hO : Ok m) : (dats m hO 0 c).arrAt 5 (cfgM m hO).N
    = Cert.Reference33Ideal.Read.val_main_v4 (F := Ideal) (m ((c : Thread nD τ).loc main_arg0)) (m ((c : Thread nD τ).loc main_arg4)) (m ((c : Thread nD τ).loc main_arg5)) := by
  refine (dats m hO 0 c).arrAt_eq_of_covers 5 _ (covers5 (adm m hO)) fun t hf y => ?_
  blk_simp
  rw [after0_5]
  unfold outsAt0
  frame_out
  exact grad_read m c hO t _ _ rfl y

theorem covers6 (a : (pcfg0 (F := Ideal)).Adm) : ((cfg0 a).win 6).Covers :=
  (by decide +kernel : ((cfg0 zeroTable).win 6).Covers)

/-- The kernel's change of the weight is the reference's. -/
theorem arr6 (c : Dev nD) (hO : Ok m) : (dats m hO 0 c).arrAt 6 (cfgM m hO).N
    = Cert.Reference33Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers6 (adm m hO)) fun t hf y => ?_
  blk_simp
  rw [after0_6]
  unfold outsAt0
  frame_out
  refine (pay1_at _ _ _ _ _ _ _ _ y).trans (Eq.trans ?_ (ref_d _ _ _ _ _ _ _).symm)
  exact stepD_congr (grad_read m c hO t _ _ rfl y) (congrFun (Memref.IsWhole.read_unread (hs0_0 m hO t) (iblk m hO c 0 t)) y) (congrFun (Memref.IsWhole.read_unread (hs0_1 m hO t) (iblk m hO c 1 t)) y) (congrFun (Memref.IsWhole.read_unread (hs0_2 m hO t) (iblk m hO c 2 t)) y)

theorem covers7 (a : (pcfg0 (F := Ideal)).Adm) : ((cfg0 a).win 7).Covers :=
  (by decide +kernel : ((cfg0 zeroTable).win 7).Covers)

/-- The kernel's first moment is the reference's. -/
theorem arr7 (c : Dev nD) (hO : Ok m) : (dats m hO 0 c).arrAt 7 (cfgM m hO).N
    = Cert.Reference33Ideal.Read.val_main_v9 (F := Ideal) (m ((c : Thread nD τ).loc main_arg0)) (m ((c : Thread nD τ).loc main_arg2)) (m ((c : Thread nD τ).loc main_arg4)) (m ((c : Thread nD τ).loc main_arg5)) := by
  refine (dats m hO 0 c).arrAt_eq_of_covers 7 _ (covers7 (adm m hO)) fun t hf y => ?_
  blk_simp
  rw [after0_7]
  unfold outsAt0
  frame_out
  refine (pay3_at _ _ _ _ _ _ y).trans (Eq.trans ?_ (ref_m _ _ _ _ _).symm)
  exact stepM_congr (grad_read m c hO t _ _ rfl y) (congrFun (Memref.IsWhole.read_unread (hs0_1 m hO t) (iblk m hO c 1 t)) y)

theorem covers8 (a : (pcfg0 (F := Ideal)).Adm) : ((cfg0 a).win 8).Covers :=
  (by decide +kernel : ((cfg0 zeroTable).win 8).Covers)

/-- The kernel's second moment is the reference's. -/
theorem arr8 (c : Dev nD) (hO : Ok m) : (dats m hO 0 c).arrAt 8 (cfgM m hO).N
    = Cert.Reference33Ideal.Read.val_main_v15 (F := Ideal) (m ((c : Thread nD τ).loc main_arg0)) (m ((c : Thread nD τ).loc main_arg3)) (m ((c : Thread nD τ).loc main_arg4)) (m ((c : Thread nD τ).loc main_arg5)) := by
  refine (dats m hO 0 c).arrAt_eq_of_covers 8 _ (covers8 (adm m hO)) fun t hf y => ?_
  blk_simp
  rw [after0_8]
  unfold outsAt0
  frame_out
  refine (pay4_at _ _ _ _ _ _ y).trans (Eq.trans ?_ (ref_v _ _ _ _ _).symm)
  exact stepV_congr (grad_read m c hO t _ _ rfl y) (congrFun (Memref.IsWhole.read_unread (hs0_2 m hO t) (iblk m hO c 2 t)) y)

/-- The update of w_ffn_out is the reference's, whichever core runs it. -/
theorem algebraic : Cert.algebraic_Kernel33Ideal_Reference33Ideal (hKernel33Ideal := Cert.Kernel33Ideal.Gen.facts)
    (hReference33Ideal := Cert.Reference33Ideal.Gen.facts) := by
  intro m g m' g' _ hag
  refine ⟨_, _, _, _, (θ_run _ _ _).mono (fun r h c => ⟨((h.2 c).1 5).trans (arr5 m c trivial),
    ((h.2 c).1 6).trans (arr6 m c trivial), ((h.2 c).1 7).trans (arr7 m c trivial), ((h.2 c).1 8).trans (arr8 m c trivial),
    h.1 c⟩) (θ_run_and (unchanged m g trivial) (run_main m g trivial)), ?_⟩
  refine (θ_run _ _ _).mono (fun r h c => ?_) (Cert.Reference33Ideal.Value.run (F := Ideal) m' g')
  obtain ⟨a0, a1, a2, a3, a4, a5⟩ := hag c
  refine ⟨((h c).1).trans ?_, ((h c).2.1).trans ?_, ((h c).2.2.1).trans ?_, ((h c).2.2.2.1).trans ?_, (h c).2.2.2.2⟩
  · rw [a0, a4, a5]
    rfl
  · rw [a0, a1, a2, a3, a4, a5]
    rfl
  · rw [a0, a2, a4, a5]
    rfl
  · rw [a0, a3, a4, a5]
    rfl

end Cert.UpdateFfnOut

end
-- ==== Proof.UpdateFfnIn.lean ====
module

public import proofs.«01_k».proof.Proof.Halves
public import proofs.«01_k».proof.Proof.Gen.Kernel34Ideal.Frame
public import proofs.«01_k».proof.Proof.Gen.Reference34Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.UpdateFfnIn

open Cert.Halves
open Cert.Kernel34Ideal Cert.Kernel34Ideal.Gen

local notation "RV" => Cert.Reference34Ideal.Read.val_main_v4

variable (m : (ℓ : Loc nD τ sig) → Buf (Elt Ideal) ℓ)

/-- The table at zero, for the facts of the windows that no table's word enters. -/
abbrev zeroTable : (pcfg0 (F := Ideal)).Adm := ⟨fun k => match k with
    | ⟨0, _⟩ => fun _ => (0#32 : BitVec 32), trivial⟩

theorem covers5 (a : (pcfg0 (F := Ideal)).Adm) : ((cfg0 a).win 5).Covers :=
  (by decide +kernel : ((cfg0 zeroTable).win 5).Covers)

/-- The one word of the table, as the body reads it. -/
theorem word_eq (c : Dev nD) (i : S1.Idx) : tbl m 0 i = m ((c : Thread nD τ).loc main_arg0) i := by
  rw [Subsingleton.elim c 0]
  rfl

theorem idx5 (a : (pcfg0 (F := Ideal)).Adm) (t : Fin grid0.N) :
    ((cfg0 a).win 5).index t = ![0, (grid0.coords t 0).val] :=
  (by decide +kernel : ∀ t : Fin grid0.N, ((cfg0 zeroTable).win 5).index t = ![0, (grid0.coords t 0).val]) t

theorem idx3 (a : (pcfg0 (F := Ideal)).Adm) (t : Fin grid0.N) :
    ((cfg0 a).win 3).index t = ![0, (grid0.coords t 0).val] :=
  (by decide +kernel : ∀ t : Fin grid0.N, ((cfg0 zeroTable).win 3).index t = ![0, (grid0.coords t 0).val]) t

theorem pay2_congr {w : BitVec 32} {a a' b b' c c' d d' : S1024x128.Idx → EReal} (y : S2048x128.Idx) (ha : a = a') (hb : b = b') (hc : c = c') (hd : d = d') :
    k0_pay2 (F := Ideal) w a b c d y = k0_pay2 (F := Ideal) w a' b' c' d' y := by
  subst ha hb hc hd
  rfl

/-- The gradient's tile is the tile of the gradient, whichever half goes first. -/
theorem grad_at (c : Dev nD) (hO : Ok m) (t : Fin (cfgM m hO).N) (w : BitVec 32) (i : S1.Idx)
    (hw : w = m ((c : Thread nD τ).loc main_arg0) i) (y : S2048x128.Idx) :
    k0_pay2 (F := Ideal) w (iblk m hO c 3 t) (iblk m hO c 4 t) (iblk m hO c 4 t) (iblk m hO c 3 t) y
      = RV (m ((c : Thread nD τ).loc main_arg0)) (m ((c : Thread nD τ).loc main_arg4)) (m ((c : Thread nD τ).loc main_arg5))
          (((spec0 5).arr.view.slice ((pcfg0.win (adm m hO) 5).rect t)).emb y) := by
  obtain rfl : i = Shape.Idx.first (by decide) := one_idx _ _
  refine (congrFun (halves_select (s := S1024x128) (s' := S1024x128) (t := S2048x128) (α := EReal) 0 _ (iblk m hO c 3 t) (iblk m hO c 4 t) (iblk m hO c 3 t) (iblk m hO c 4 t)
    concatenates_S1024x128_S1024x128_S2048x128_d0) y).trans ?_
  have key := fun (u v : S1024x128.Idx → EReal) (X Y : S1024x2816.Idx → EReal) hu hv =>
    stack_tile u v X Y (fun p => ((spec0 3).arr.view.slice ((pcfg0.win (adm m hO) 3).rect t)).emb p)
      (fun p => ((spec0 3).arr.view.slice ((pcfg0.win (adm m hO) 3).rect t)).emb p)
      (fun p => ((spec0 5).arr.view.slice ((pcfg0.win (adm m hO) 5).rect t)).emb p) ((grid0.coords t 0).val * 128) hu hv
      (fun p => by blk_simp; rw [show (pcfg0.win (adm m hO) 3).index t 0 = 0 from congrFun (idx3 (adm m hO) t) (0 : Fin 2), Nat.zero_mul, Nat.zero_add])
      (fun p => by blk_simp; rw [show (pcfg0.win (adm m hO) 3).index t 1 = _ from congrFun (idx3 (adm m hO) t) (1 : Fin 2)]; rfl)
      (fun p => by blk_simp; rw [show (pcfg0.win (adm m hO) 3).index t 0 = 0 from congrFun (idx3 (adm m hO) t) (0 : Fin 2), Nat.zero_mul, Nat.zero_add])
      (fun p => by blk_simp; rw [show (pcfg0.win (adm m hO) 3).index t 1 = _ from congrFun (idx3 (adm m hO) t) (1 : Fin 2)]; rfl)
      (fun p => by blk_simp; rw [show (pcfg0.win (adm m hO) 5).index t 0 = 0 from congrFun (idx5 (adm m hO) t) (0 : Fin 2), Nat.zero_mul, Nat.zero_add])
      (fun p => by blk_simp; rw [show (pcfg0.win (adm m hO) 5).index t 1 = _ from congrFun (idx5 (adm m hO) t) (1 : Fin 2)]; rfl)
      (by decide) concatenates_S1024x128_S1024x128_S2048x128_d0 Cert.Reference34Ideal.Gen.concatenates_S1024x2816_S1024x2816_S2048x2816_d0 y
  have k1 := key (iblk m hO c 3 t) (iblk m hO c 4 t) (m ((c : Thread nD τ).loc main_arg4)) (m ((c : Thread nD τ).loc main_arg5))
    (fun _ => rfl) (fun _ => rfl)
  have k2 := key (iblk m hO c 4 t) (iblk m hO c 3 t) (m ((c : Thread nD τ).loc main_arg5)) (m ((c : Thread nD τ).loc main_arg4))
    (fun _ => rfl) (fun _ => rfl)
  have hb : Cert.Reference34Ideal.Read.val_main_v1 (F := Ideal) (m ((c : Thread nD τ).loc main_arg0))
      = fun _ => Scalar.cmpi .eq w 0#32 := by
    subst hw
    funext j
    exact congrArg (fun x => Scalar.cmpi .eq x 0#32) (congrArg (m ((c : Thread nD τ).loc main_arg0)) (one_idx _ _))
  show _ = Scalar.select (Cert.Reference34Ideal.Read.val_main_v1 (F := Ideal) (m ((c : Thread nD τ).loc main_arg0)) _) _ _
  rw [hb]
  unfold Scalar.select
  by_cases hw1 : Scalar.cmpi .eq w 0#32 = 1
  · rw [if_pos hw1, if_pos hw1]
    exact k1
  · rw [if_neg hw1, if_neg hw1]
    exact k2

/-- What the body stores, at an element: the step's formulas at the gradient there. -/
theorem pay3_at (w : BitVec 32) (a b b' a' : S1024x128.Idx → EReal) (q : S2048x128.Idx → EReal) (y : S2048x128.Idx) :
    k0_pay3 (F := Ideal) w a b b' a' q y = stepM (k0_pay2 (F := Ideal) w a b b' a' y) (q y) := rfl

theorem pay4_at (w : BitVec 32) (a b b' a' : S1024x128.Idx → EReal) (q : S2048x128.Idx → EReal) (y : S2048x128.Idx) :
    k0_pay4 (F := Ideal) w a b b' a' q y = stepV (k0_pay2 (F := Ideal) w a b b' a' y) (q y) := rfl

theorem pay1_at (w : BitVec 32) (a b b' a' : S1024x128.Idx → EReal) (p q r : S2048x128.Idx → EReal) (y : S2048x128.Idx) :
    k0_pay1 (F := Ideal) (k0_pay5 (F := Ideal) w a b b' a' p q r) (Scalar.ofBits .f32 0xBA83126F#32) y
      = stepD (k0_pay2 (F := Ideal) w a b b' a' y) (p y) (q y) (r y) := rfl

/-- The same of the reference, at an element. -/
theorem ref_m (x0 x2 x4 x5) (i : S2048x2816.Idx) :
    Cert.Reference34Ideal.Read.val_main_v9 (F := Ideal) x0 x2 x4 x5 i = stepM (RV x0 x4 x5 i) (x2 i) := rfl

theorem ref_v (x0 x3 x4 x5) (i : S2048x2816.Idx) :
    Cert.Reference34Ideal.Read.val_main_v15 (F := Ideal) x0 x3 x4 x5 i = stepV (RV x0 x4 x5 i) (x3 i) := rfl

theorem ref_d (x0 x1 x2 x3 x4 x5) (i : S2048x2816.Idx) :
    Cert.Reference34Ideal.Read.val_main_v28 (F := Ideal) x0 x1 x2 x3 x4 x5 i = stepD (RV x0 x4 x5 i) (x1 i) (x2 i) (x3 i) := rfl

/-- The gradient as the body reads its operands. -/
theorem grad_read (c : Dev nD) (hO : Ok m) (t : Fin (cfgM m hO).N) (w : BitVec 32) (i : S1.Idx)
    (hw : w = tbl m 0 i) (y : S2048x128.Idx) :
    k0_pay2 (F := Ideal) w
        (View.read (Elt Ideal) (ms0_3 m hO t).view ((hs0_3 m hO t).unread (iblk m hO c 3 t)))
        (View.read (Elt Ideal) (ms0_4 m hO t).view ((hs0_4 m hO t).unread (iblk m hO c 4 t)))
        (View.read (Elt Ideal) (ms0_4 m hO t).view ((hs0_4 m hO t).unread (iblk m hO c 4 t)))
        (View.read (Elt Ideal) (ms0_3 m hO t).view ((hs0_3 m hO t).unread (iblk m hO c 3 t))) y
      = RV (m ((c : Thread nD τ).loc main_arg0)) (m ((c : Thread nD τ).loc main_arg4)) (m ((c : Thread nD τ).loc main_arg5))
          (((spec0 5).arr.view.slice ((pcfg0.win (adm m hO) 5).rect t)).emb y) :=
  (pay2_congr y (Memref.IsWhole.read_unread _ _) (Memref.IsWhole.read_unread _ _) (Memref.IsWhole.read_unread _ _)
    (Memref.IsWhole.read_unread _ _)).trans (grad_at m c hO t w i (hw.trans (word_eq m c i)) y)

/-- The kernel's gradient is the reference's. -/
theorem arr5 (c : Dev nD) (hO : Ok m) : (dats m hO 0 c).arrAt 5 (cfgM m hO).N
    = Cert.Reference34Ideal.Read.val_main_v4 (F := Ideal) (m ((c : Thread nD τ).loc main_arg0)) (m ((c : Thread nD τ).loc main_arg4)) (m ((c : Thread nD τ).loc main_arg5)) := by
  refine (dats m hO 0 c).arrAt_eq_of_covers 5 _ (covers5 (adm m hO)) fun t hf y => ?_
  blk_simp
  rw [after0_5]
  unfold outsAt0
  frame_out
  exact grad_read m c hO t _ _ rfl y

theorem covers6 (a : (pcfg0 (F := Ideal)).Adm) : ((cfg0 a).win 6).Covers :=
  (by decide +kernel : ((cfg0 zeroTable).win 6).Covers)

/-- The kernel's change of the weight is the reference's. -/
theorem arr6 (c : Dev nD) (hO : Ok m) : (dats m hO 0 c).arrAt 6 (cfgM m hO).N
    = Cert.Reference34Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers6 (adm m hO)) fun t hf y => ?_
  blk_simp
  rw [after0_6]
  unfold outsAt0
  frame_out
  refine (pay1_at _ _ _ _ _ _ _ _ y).trans (Eq.trans ?_ (ref_d _ _ _ _ _ _ _).symm)
  exact stepD_congr (grad_read m c hO t _ _ rfl y) (congrFun (Memref.IsWhole.read_unread (hs0_0 m hO t) (iblk m hO c 0 t)) y) (congrFun (Memref.IsWhole.read_unread (hs0_1 m hO t) (iblk m hO c 1 t)) y) (congrFun (Memref.IsWhole.read_unread (hs0_2 m hO t) (iblk m hO c 2 t)) y)

theorem covers7 (a : (pcfg0 (F := Ideal)).Adm) : ((cfg0 a).win 7).Covers :=
  (by decide +kernel : ((cfg0 zeroTable).win 7).Covers)

/-- The kernel's first moment is the reference's. -/
theorem arr7 (c : Dev nD) (hO : Ok m) : (dats m hO 0 c).arrAt 7 (cfgM m hO).N
    = Cert.Reference34Ideal.Read.val_main_v9 (F := Ideal) (m ((c : Thread nD τ).loc main_arg0)) (m ((c : Thread nD τ).loc main_arg2)) (m ((c : Thread nD τ).loc main_arg4)) (m ((c : Thread nD τ).loc main_arg5)) := by
  refine (dats m hO 0 c).arrAt_eq_of_covers 7 _ (covers7 (adm m hO)) fun t hf y => ?_
  blk_simp
  rw [after0_7]
  unfold outsAt0
  frame_out
  refine (pay3_at _ _ _ _ _ _ y).trans (Eq.trans ?_ (ref_m _ _ _ _ _).symm)
  exact stepM_congr (grad_read m c hO t _ _ rfl y) (congrFun (Memref.IsWhole.read_unread (hs0_1 m hO t) (iblk m hO c 1 t)) y)

theorem covers8 (a : (pcfg0 (F := Ideal)).Adm) : ((cfg0 a).win 8).Covers :=
  (by decide +kernel : ((cfg0 zeroTable).win 8).Covers)

/-- The kernel's second moment is the reference's. -/
theorem arr8 (c : Dev nD) (hO : Ok m) : (dats m hO 0 c).arrAt 8 (cfgM m hO).N
    = Cert.Reference34Ideal.Read.val_main_v15 (F := Ideal) (m ((c : Thread nD τ).loc main_arg0)) (m ((c : Thread nD τ).loc main_arg3)) (m ((c : Thread nD τ).loc main_arg4)) (m ((c : Thread nD τ).loc main_arg5)) := by
  refine (dats m hO 0 c).arrAt_eq_of_covers 8 _ (covers8 (adm m hO)) fun t hf y => ?_
  blk_simp
  rw [after0_8]
  unfold outsAt0
  frame_out
  refine (pay4_at _ _ _ _ _ _ y).trans (Eq.trans ?_ (ref_v _ _ _ _ _).symm)
  exact stepV_congr (grad_read m c hO t _ _ rfl y) (congrFun (Memref.IsWhole.read_unread (hs0_2 m hO t) (iblk m hO c 2 t)) y)

/-- The update of w_ffn_in is the reference's, whichever core runs it. -/
theorem algebraic : Cert.algebraic_Kernel34Ideal_Reference34Ideal (hKernel34Ideal := Cert.Kernel34Ideal.Gen.facts)
    (hReference34Ideal := Cert.Reference34Ideal.Gen.facts) := by
  intro m g m' g' _ hag
  refine ⟨_, _, _, _, (θ_run _ _ _).mono (fun r h c => ⟨((h.2 c).1 5).trans (arr5 m c trivial),
    ((h.2 c).1 6).trans (arr6 m c trivial), ((h.2 c).1 7).trans (arr7 m c trivial), ((h.2 c).1 8).trans (arr8 m c trivial),
    h.1 c⟩) (θ_run_and (unchanged m g trivial) (run_main m g trivial)), ?_⟩
  refine (θ_run _ _ _).mono (fun r h c => ?_) (Cert.Reference34Ideal.Value.run (F := Ideal) m' g')
  obtain ⟨a0, a1, a2, a3, a4, a5⟩ := hag c
  refine ⟨((h c).1).trans ?_, ((h c).2.1).trans ?_, ((h c).2.2.1).trans ?_, ((h c).2.2.2.1).trans ?_, (h c).2.2.2.2⟩
  · rw [a0, a4, a5]
    rfl
  · rw [a0, a1, a2, a3, a4, a5]
    rfl
  · rw [a0, a2, a4, a5]
    rfl
  · rw [a0, a3, a4, a5]
    rfl

end Cert.UpdateFfnIn

end
-- ==== Proof.UpdateIn.lean ====
module

public import proofs.«01_k».proof.Proof.Halves
public import proofs.«01_k».proof.Proof.Gen.Kernel35Ideal.Frame
public import proofs.«01_k».proof.Proof.Gen.Reference35Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.UpdateIn

open Cert.Halves
open Cert.Kernel35Ideal Cert.Kernel35Ideal.Gen

local notation "RV" => Cert.Reference35Ideal.Read.val_main_v5

variable (m : (ℓ : Loc nD τ sig) → Buf (Elt Ideal) ℓ)

/-- The table at zero, for the facts of the windows that no table's word enters. -/
abbrev zeroTable : (pcfg0 (F := Ideal)).Adm := ⟨fun k => match k with
    | ⟨0, _⟩ => fun _ => (0#32 : BitVec 32), trivial⟩

theorem covers5 (a : (pcfg0 (F := Ideal)).Adm) : ((cfg0 a).win 5).Covers :=
  (by decide +kernel : ((cfg0 zeroTable).win 5).Covers)

/-- The one word of the table, as the body reads it. -/
theorem word_eq (c : Dev nD) (i : S1.Idx) : tbl m 0 i = m ((c : Thread nD τ).loc main_arg0) i := by
  rw [Subsingleton.elim c 0]
  rfl

theorem idx5 (a : (pcfg0 (F := Ideal)).Adm) (t : Fin grid0.N) :
    ((cfg0 a).win 5).index t = ![0, (grid0.coords t 0).val] :=
  (by decide +kernel : ∀ t : Fin grid0.N, ((cfg0 zeroTable).win 5).index t = ![0, (grid0.coords t 0).val]) t

theorem idx3 (a : (pcfg0 (F := Ideal)).Adm) (t : Fin grid0.N) :
    ((cfg0 a).win 3).index t = ![0, (grid0.coords t 0).val] :=
  (by decide +kernel : ∀ t : Fin grid0.N, ((cfg0 zeroTable).win 3).index t = ![0, (grid0.coords t 0).val]) t

/-- The rows of a half that stand in the weight when the half comes second. -/
abbrev cutRect : Rect S1424x128 := Rect.unit (s := S1424x128) ![0, 0] S1408x128.size inb_S1424x128_S1408x128_0_0

theorem pay2_congr {w : BitVec 32} {a a' b b' : S1424x128.Idx → EReal} {c c' d d' : S1408x128.Idx → EReal} (y : S2832x128.Idx) (ha : a = a') (hb : b = b') (hc : c = c') (hd : d = d') :
    k0_pay2 (F := Ideal) w a b c d y = k0_pay2 (F := Ideal) w a' b' c' d' y := by
  subst ha hb hc hd
  rfl

/-- The gradient's tile is the tile of the gradient, whichever half goes first. -/
theorem grad_at (c : Dev nD) (hO : Ok m) (t : Fin (cfgM m hO).N) (w : BitVec 32) (i : S1.Idx)
    (hw : w = m ((c : Thread nD τ).loc main_arg0) i) (y : S2832x128.Idx) :
    k0_pay2 (F := Ideal) w (iblk m hO c 3 t) (iblk m hO c 4 t) (View.ld (Val := Elt Ideal) (e' := .f32) (S := S1424x128) (iblk m hO c 4 t) cutRect)
        (View.ld (Val := Elt Ideal) (e' := .f32) (S := S1424x128) (iblk m hO c 3 t) cutRect) y
      = RV (m ((c : Thread nD τ).loc main_arg0)) (m ((c : Thread nD τ).loc main_arg4)) (m ((c : Thread nD τ).loc main_arg5))
          (((spec0 5).arr.view.slice ((pcfg0.win (adm m hO) 5).rect t)).emb y) := by
  obtain rfl : i = Shape.Idx.first (by decide) := one_idx _ _
  refine (congrFun (halves_select (s := S1424x128) (s' := S1408x128) (t := S2832x128) (α := EReal) 0 _ (iblk m hO c 3 t) (iblk m hO c 4 t)
    (View.ld (Val := Elt Ideal) (e' := .f32) (S := S1424x128) (iblk m hO c 3 t) cutRect) (View.ld (Val := Elt Ideal) (e' := .f32) (S := S1424x128) (iblk m hO c 4 t) cutRect)
    concatenates_S1424x128_S1408x128_S2832x128_d0) y).trans ?_
  have key := fun (u : S1424x128.Idx → EReal) (v : S1408x128.Idx → EReal) (X Y : S1424x2048.Idx → EReal) hu hv =>
    stack_tile u v X Y (fun p => ((spec0 3).arr.view.slice ((pcfg0.win (adm m hO) 3).rect t)).emb p)
      (fun p => ((spec0 3).arr.view.slice ((pcfg0.win (adm m hO) 3).rect t)).emb (cutRect.idx p))
      (fun p => Cert.Reference35Ideal.Read.idx_main_v5 (((spec0 5).arr.view.slice ((pcfg0.win (adm m hO) 5).rect t)).emb p)) ((grid0.coords t 0).val * 128) hu hv
      (fun p => by blk_simp; rw [show (pcfg0.win (adm m hO) 3).index t 0 = 0 from congrFun (idx3 (adm m hO) t) (0 : Fin 2), Nat.zero_mul, Nat.zero_add])
      (fun p => by blk_simp; rw [show (pcfg0.win (adm m hO) 3).index t 1 = _ from congrFun (idx3 (adm m hO) t) (1 : Fin 2)]; rfl)
      (fun p => by blk_simp; rw [show (pcfg0.win (adm m hO) 3).index t 0 = 0 from congrFun (idx3 (adm m hO) t) (0 : Fin 2), Nat.zero_mul, Nat.zero_add, Rect.idx_unit_val]; exact Nat.zero_add _)
      (fun p => by blk_simp; rw [show (pcfg0.win (adm m hO) 3).index t 1 = _ from congrFun (idx3 (adm m hO) t) (1 : Fin 2), Rect.idx_unit_val]; exact congrArg (_ + ·) (Nat.zero_add _))
      (fun p => by show ((((spec0 5).arr.view.slice ((pcfg0.win (adm m hO) 5).rect t)).emb p _ : Fin _) : ℕ) = _; blk_simp; rw [show (pcfg0.win (adm m hO) 5).index t 0 = 0 from congrFun (idx5 (adm m hO) t) (0 : Fin 2), Nat.zero_mul, Nat.zero_add])
      (fun p => by show ((((spec0 5).arr.view.slice ((pcfg0.win (adm m hO) 5).rect t)).emb p _ : Fin _) : ℕ) = _; blk_simp; rw [show (pcfg0.win (adm m hO) 5).index t 1 = _ from congrFun (idx5 (adm m hO) t) (1 : Fin 2)]; rfl)
      (by decide) concatenates_S1424x128_S1408x128_S2832x128_d0 Cert.Reference35Ideal.Gen.concatenates_S1424x2048_S1424x2048_S2848x2048_d0 y
  have k1 := key (iblk m hO c 3 t) (View.ld (Val := Elt Ideal) (e' := .f32) (S := S1424x128) (iblk m hO c 4 t) cutRect) (m ((c : Thread nD τ).loc main_arg4)) (m ((c : Thread nD τ).loc main_arg5))
    (fun _ => rfl) (fun _ => rfl)
  have k2 := key (iblk m hO c 4 t) (View.ld (Val := Elt Ideal) (e' := .f32) (S := S1424x128) (iblk m hO c 3 t) cutRect) (m ((c : Thread nD τ).loc main_arg5)) (m ((c : Thread nD τ).loc main_arg4))
    (fun _ => rfl) (fun _ => rfl)
  have hb : Cert.Reference35Ideal.Read.val_main_v1 (F := Ideal) (m ((c : Thread nD τ).loc main_arg0))
      = fun _ => Scalar.cmpi .eq w 0#32 := by
    subst hw
    funext j
    exact congrArg (fun x => Scalar.cmpi .eq x 0#32) (congrArg (m ((c : Thread nD τ).loc main_arg0)) (one_idx _ _))
  rw [Cert.Reference35Ideal.Read.val_main_v5_apply]
  show _ = Scalar.select (Cert.Reference35Ideal.Read.val_main_v1 (F := Ideal) (m ((c : Thread nD τ).loc main_arg0)) _) _ _
  rw [hb]
  unfold Scalar.select
  by_cases hw1 : Scalar.cmpi .eq w 0#32 = 1
  · rw [if_pos hw1, if_pos hw1]
    exact k1
  · rw [if_neg hw1, if_neg hw1]
    exact k2

/-- What the body stores, at an element: the step's formulas at the gradient there. -/
theorem pay3_at (w : BitVec 32) (a b : S1424x128.Idx → EReal) (b' a' : S1408x128.Idx → EReal) (q : S2832x128.Idx → EReal) (y : S2832x128.Idx) :
    k0_pay3 (F := Ideal) w a b b' a' q y = stepM (k0_pay2 (F := Ideal) w a b b' a' y) (q y) := rfl

theorem pay4_at (w : BitVec 32) (a b : S1424x128.Idx → EReal) (b' a' : S1408x128.Idx → EReal) (q : S2832x128.Idx → EReal) (y : S2832x128.Idx) :
    k0_pay4 (F := Ideal) w a b b' a' q y = stepV (k0_pay2 (F := Ideal) w a b b' a' y) (q y) := rfl

theorem pay1_at (w : BitVec 32) (a b : S1424x128.Idx → EReal) (b' a' : S1408x128.Idx → EReal) (p q r : S2832x128.Idx → EReal) (y : S2832x128.Idx) :
    k0_pay1 (F := Ideal) (k0_pay5 (F := Ideal) w a b b' a' p q r) (Scalar.ofBits .f32 0xBA83126F#32) y
      = stepD (k0_pay2 (F := Ideal) w a b b' a' y) (p y) (q y) (r y) := rfl

/-- The same of the reference, at an element. -/
theorem ref_m (x0 x2 x4 x5) (i : S2832x2048.Idx) :
    Cert.Reference35Ideal.Read.val_main_v10 (F := Ideal) x0 x2 x4 x5 i = stepM (RV x0 x4 x5 i) (x2 i) := rfl

theorem ref_v (x0 x3 x4 x5) (i : S2832x2048.Idx) :
    Cert.Reference35Ideal.Read.val_main_v16 (F := Ideal) x0 x3 x4 x5 i = stepV (RV x0 x4 x5 i) (x3 i) := rfl

theorem ref_d (x0 x1 x2 x3 x4 x5) (i : S2832x2048.Idx) :
    Cert.Reference35Ideal.Read.val_main_v29 (F := Ideal) x0 x1 x2 x3 x4 x5 i = stepD (RV x0 x4 x5 i) (x1 i) (x2 i) (x3 i) := rfl

/-- The gradient as the body reads its operands. -/
theorem grad_read (c : Dev nD) (hO : Ok m) (t : Fin (cfgM m hO).N) (w : BitVec 32) (i : S1.Idx)
    (hw : w = tbl m 0 i) (y : S2832x128.Idx) :
    k0_pay2 (F := Ideal) w
        (View.read (Elt Ideal) (ms0_3 m hO t).view ((hs0_3 m hO t).unread (iblk m hO c 3 t)))
        (View.read (Elt Ideal) (ms0_4 m hO t).view ((hs0_4 m hO t).unread (iblk m hO c 4 t)))
        (View.ld (Val := Elt Ideal) (e' := .f32) (S := S1424x128) (View.read (Elt Ideal) (ms0_4 m hO t).view ((hs0_4 m hO t).unread (iblk m hO c 4 t))) cutRect)
        (View.ld (Val := Elt Ideal) (e' := .f32) (S := S1424x128) (View.read (Elt Ideal) (ms0_3 m hO t).view ((hs0_3 m hO t).unread (iblk m hO c 3 t))) cutRect) y
      = RV (m ((c : Thread nD τ).loc main_arg0)) (m ((c : Thread nD τ).loc main_arg4)) (m ((c : Thread nD τ).loc main_arg5))
          (((spec0 5).arr.view.slice ((pcfg0.win (adm m hO) 5).rect t)).emb y) :=
  (pay2_congr y (Memref.IsWhole.read_unread _ _) (Memref.IsWhole.read_unread _ _)
    (congrArg (fun X => View.ld (Val := Elt Ideal) (e' := .f32) (S := S1424x128) X cutRect) (Memref.IsWhole.read_unread _ _))
    (congrArg (fun X => View.ld (Val := Elt Ideal) (e' := .f32) (S := S1424x128) X cutRect) (Memref.IsWhole.read_unread _ _))).trans (grad_at m c hO t w i (hw.trans (word_eq m c i)) y)

/-- The kernel's gradient is the reference's. -/
theorem arr5 (c : Dev nD) (hO : Ok m) : (dats m hO 0 c).arrAt 5 (cfgM m hO).N
    = Cert.Reference35Ideal.Read.val_main_v5 (F := Ideal) (m ((c : Thread nD τ).loc main_arg0)) (m ((c : Thread nD τ).loc main_arg4)) (m ((c : Thread nD τ).loc main_arg5)) := by
  refine (dats m hO 0 c).arrAt_eq_of_covers 5 _ (covers5 (adm m hO)) fun t hf y => ?_
  blk_simp
  rw [after0_5]
  unfold outsAt0
  frame_out
  exact grad_read m c hO t _ _ rfl y

theorem covers6 (a : (pcfg0 (F := Ideal)).Adm) : ((cfg0 a).win 6).Covers :=
  (by decide +kernel : ((cfg0 zeroTable).win 6).Covers)

/-- The kernel's change of the weight is the reference's. -/
theorem arr6 (c : Dev nD) (hO : Ok m) : (dats m hO 0 c).arrAt 6 (cfgM m hO).N
    = Cert.Reference35Ideal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers6 (adm m hO)) fun t hf y => ?_
  blk_simp
  rw [after0_6]
  unfold outsAt0
  frame_out
  refine (pay1_at _ _ _ _ _ _ _ _ y).trans (Eq.trans ?_ (ref_d _ _ _ _ _ _ _).symm)
  exact stepD_congr (grad_read m c hO t _ _ rfl y) (congrFun (Memref.IsWhole.read_unread (hs0_0 m hO t) (iblk m hO c 0 t)) y) (congrFun (Memref.IsWhole.read_unread (hs0_1 m hO t) (iblk m hO c 1 t)) y) (congrFun (Memref.IsWhole.read_unread (hs0_2 m hO t) (iblk m hO c 2 t)) y)

theorem covers7 (a : (pcfg0 (F := Ideal)).Adm) : ((cfg0 a).win 7).Covers :=
  (by decide +kernel : ((cfg0 zeroTable).win 7).Covers)

/-- The kernel's first moment is the reference's. -/
theorem arr7 (c : Dev nD) (hO : Ok m) : (dats m hO 0 c).arrAt 7 (cfgM m hO).N
    = Cert.Reference35Ideal.Read.val_main_v10 (F := Ideal) (m ((c : Thread nD τ).loc main_arg0)) (m ((c : Thread nD τ).loc main_arg2)) (m ((c : Thread nD τ).loc main_arg4)) (m ((c : Thread nD τ).loc main_arg5)) := by
  refine (dats m hO 0 c).arrAt_eq_of_covers 7 _ (covers7 (adm m hO)) fun t hf y => ?_
  blk_simp
  rw [after0_7]
  unfold outsAt0
  frame_out
  refine (pay3_at _ _ _ _ _ _ y).trans (Eq.trans ?_ (ref_m _ _ _ _ _).symm)
  exact stepM_congr (grad_read m c hO t _ _ rfl y) (congrFun (Memref.IsWhole.read_unread (hs0_1 m hO t) (iblk m hO c 1 t)) y)

theorem covers8 (a : (pcfg0 (F := Ideal)).Adm) : ((cfg0 a).win 8).Covers :=
  (by decide +kernel : ((cfg0 zeroTable).win 8).Covers)

/-- The kernel's second moment is the reference's. -/
theorem arr8 (c : Dev nD) (hO : Ok m) : (dats m hO 0 c).arrAt 8 (cfgM m hO).N
    = Cert.Reference35Ideal.Read.val_main_v16 (F := Ideal) (m ((c : Thread nD τ).loc main_arg0)) (m ((c : Thread nD τ).loc main_arg3)) (m ((c : Thread nD τ).loc main_arg4)) (m ((c : Thread nD τ).loc main_arg5)) := by
  refine (dats m hO 0 c).arrAt_eq_of_covers 8 _ (covers8 (adm m hO)) fun t hf y => ?_
  blk_simp
  rw [after0_8]
  unfold outsAt0
  frame_out
  refine (pay4_at _ _ _ _ _ _ y).trans (Eq.trans ?_ (ref_v _ _ _ _ _).symm)
  exact stepV_congr (grad_read m c hO t _ _ rfl y) (congrFun (Memref.IsWhole.read_unread (hs0_2 m hO t) (iblk m hO c 2 t)) y)

/-- The update of w_in is the reference's, whichever core runs it. -/
theorem algebraic : Cert.algebraic_Kernel35Ideal_Reference35Ideal (hKernel35Ideal := Cert.Kernel35Ideal.Gen.facts)
    (hReference35Ideal := Cert.Reference35Ideal.Gen.facts) := by
  intro m g m' g' _ hag
  refine ⟨_, _, _, _, (θ_run _ _ _).mono (fun r h c => ⟨((h.2 c).1 5).trans (arr5 m c trivial),
    ((h.2 c).1 6).trans (arr6 m c trivial), ((h.2 c).1 7).trans (arr7 m c trivial), ((h.2 c).1 8).trans (arr8 m c trivial),
    h.1 c⟩) (θ_run_and (unchanged m g trivial) (run_main m g trivial)), ?_⟩
  refine (θ_run _ _ _).mono (fun r h c => ?_) (Cert.Reference35Ideal.Value.run (F := Ideal) m' g')
  obtain ⟨a0, a1, a2, a3, a4, a5⟩ := hag c
  refine ⟨((h c).1).trans ?_, ((h c).2.1).trans ?_, ((h c).2.2.1).trans ?_, ((h c).2.2.2.1).trans ?_, (h c).2.2.2.2⟩
  · rw [a0, a4, a5]
    rfl
  · rw [a0, a1, a2, a3, a4, a5]
    rfl
  · rw [a0, a2, a4, a5]
    rfl
  · rw [a0, a3, a4, a5]
    rfl

end Cert.UpdateIn

end
-- ==== Proof.UpdateQ.lean ====
module

public import proofs.«01_k».proof.Proof.Halves
public import proofs.«01_k».proof.Proof.Gen.Kernel36Ideal.Frame
public import proofs.«01_k».proof.Proof.Gen.Reference36Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.UpdateQ

open Cert.Halves
open Cert.Kernel36Ideal Cert.Kernel36Ideal.Gen

local notation "RV" => Cert.Reference36Ideal.Read.val_main_v4

variable (m : (ℓ : Loc nD τ sig) → Buf (Elt Ideal) ℓ)

/-- The table at zero, for the facts of the windows that no table's word enters. -/
abbrev zeroTable : (pcfg0 (F := Ideal)).Adm := ⟨fun k => match k with
    | ⟨0, _⟩ => fun _ => (0#32 : BitVec 32), trivial⟩

theorem covers5 (a : (pcfg0 (F := Ideal)).Adm) : ((cfg0 a).win 5).Covers :=
  (by decide +kernel : ((cfg0 zeroTable).win 5).Covers)

/-- The one word of the table, as the body reads it. -/
theorem word_eq (c : Dev nD) (i : S1.Idx) : tbl m 0 i = m ((c : Thread nD τ).loc main_arg0) i := by
  rw [Subsingleton.elim c 0]
  rfl

theorem idx5 (a : (pcfg0 (F := Ideal)).Adm) (t : Fin grid0.N) :
    ((cfg0 a).win 5).index t = ![0, 0] :=
  (by decide +kernel : ∀ t : Fin grid0.N, ((cfg0 zeroTable).win 5).index t = ![0, 0]) t

theorem idx3 (a : (pcfg0 (F := Ideal)).Adm) (t : Fin grid0.N) :
    ((cfg0 a).win 3).index t = ![0, 0] :=
  (by decide +kernel : ∀ t : Fin grid0.N, ((cfg0 zeroTable).win 3).index t = ![0, 0]) t

theorem pay2_congr {w : BitVec 32} {a a' b b' c c' d d' : S256x768.Idx → EReal} (y : S512x768.Idx) (ha : a = a') (hb : b = b') (hc : c = c') (hd : d = d') :
    k0_pay2 (F := Ideal) w a b c d y = k0_pay2 (F := Ideal) w a' b' c' d' y := by
  subst ha hb hc hd
  rfl

/-- The gradient's tile is the tile of the gradient, whichever half goes first. -/
theorem grad_at (c : Dev nD) (hO : Ok m) (t : Fin (cfgM m hO).N) (w : BitVec 32) (i : S1.Idx)
    (hw : w = m ((c : Thread nD τ).loc main_arg0) i) (y : S512x768.Idx) :
    k0_pay2 (F := Ideal) w (iblk m hO c 3 t) (iblk m hO c 4 t) (iblk m hO c 4 t) (iblk m hO c 3 t) y
      = RV (m ((c : Thread nD τ).loc main_arg0)) (m ((c : Thread nD τ).loc main_arg4)) (m ((c : Thread nD τ).loc main_arg5))
          (((spec0 5).arr.view.slice ((pcfg0.win (adm m hO) 5).rect t)).emb y) := by
  obtain rfl : i = Shape.Idx.first (by decide) := one_idx _ _
  refine (congrFun (halves_select (s := S256x768) (s' := S256x768) (t := S512x768) (α := EReal) 0 _ (iblk m hO c 3 t) (iblk m hO c 4 t) (iblk m hO c 3 t) (iblk m hO c 4 t)
    concatenates_S256x768_S256x768_S512x768_d0) y).trans ?_
  have key := fun (u v : S256x768.Idx → EReal) (X Y : S256x768.Idx → EReal) hu hv =>
    stack_tile u v X Y (fun p => ((spec0 3).arr.view.slice ((pcfg0.win (adm m hO) 3).rect t)).emb p)
      (fun p => ((spec0 3).arr.view.slice ((pcfg0.win (adm m hO) 3).rect t)).emb p)
      (fun p => ((spec0 5).arr.view.slice ((pcfg0.win (adm m hO) 5).rect t)).emb p) 0 hu hv
      (fun p => by blk_simp; rw [show (pcfg0.win (adm m hO) 3).index t 0 = 0 from congrFun (idx3 (adm m hO) t) (0 : Fin 2), Nat.zero_mul, Nat.zero_add])
      (fun p => by blk_simp; rw [show (pcfg0.win (adm m hO) 3).index t 1 = 0 from congrFun (idx3 (adm m hO) t) (1 : Fin 2), Nat.zero_mul, Nat.zero_add])
      (fun p => by blk_simp; rw [show (pcfg0.win (adm m hO) 3).index t 0 = 0 from congrFun (idx3 (adm m hO) t) (0 : Fin 2), Nat.zero_mul, Nat.zero_add])
      (fun p => by blk_simp; rw [show (pcfg0.win (adm m hO) 3).index t 1 = 0 from congrFun (idx3 (adm m hO) t) (1 : Fin 2), Nat.zero_mul, Nat.zero_add])
      (fun p => by blk_simp; rw [show (pcfg0.win (adm m hO) 5).index t 0 = 0 from congrFun (idx5 (adm m hO) t) (0 : Fin 2), Nat.zero_mul, Nat.zero_add])
      (fun p => by blk_simp; rw [show (pcfg0.win (adm m hO) 5).index t 1 = 0 from congrFun (idx5 (adm m hO) t) (1 : Fin 2), Nat.zero_mul, Nat.zero_add])
      (by decide) concatenates_S256x768_S256x768_S512x768_d0 Cert.Reference36Ideal.Gen.concatenates_S256x768_S256x768_S512x768_d0 y
  have k1 := key (iblk m hO c 3 t) (iblk m hO c 4 t) (m ((c : Thread nD τ).loc main_arg4)) (m ((c : Thread nD τ).loc main_arg5))
    (fun _ => rfl) (fun _ => rfl)
  have k2 := key (iblk m hO c 4 t) (iblk m hO c 3 t) (m ((c : Thread nD τ).loc main_arg5)) (m ((c : Thread nD τ).loc main_arg4))
    (fun _ => rfl) (fun _ => rfl)
  have hb : Cert.Reference36Ideal.Read.val_main_v1 (F := Ideal) (m ((c : Thread nD τ).loc main_arg0))
      = fun _ => Scalar.cmpi .eq w 0#32 := by
    subst hw
    funext j
    exact congrArg (fun x => Scalar.cmpi .eq x 0#32) (congrArg (m ((c : Thread nD τ).loc main_arg0)) (one_idx _ _))
  show _ = Scalar.select (Cert.Reference36Ideal.Read.val_main_v1 (F := Ideal) (m ((c : Thread nD τ).loc main_arg0)) _) _ _
  rw [hb]
  unfold Scalar.select
  by_cases hw1 : Scalar.cmpi .eq w 0#32 = 1
  · rw [if_pos hw1, if_pos hw1]
    exact k1
  · rw [if_neg hw1, if_neg hw1]
    exact k2

/-- What the body stores, at an element: the step's formulas at the gradient there. -/
theorem pay3_at (w : BitVec 32) (a b b' a' : S256x768.Idx → EReal) (q : S512x768.Idx → EReal) (y : S512x768.Idx) :
    k0_pay3 (F := Ideal) w a b b' a' q y = stepM (k0_pay2 (F := Ideal) w a b b' a' y) (q y) := rfl

theorem pay4_at (w : BitVec 32) (a b b' a' : S256x768.Idx → EReal) (q : S512x768.Idx → EReal) (y : S512x768.Idx) :
    k0_pay4 (F := Ideal) w a b b' a' q y = stepV (k0_pay2 (F := Ideal) w a b b' a' y) (q y) := rfl

theorem pay1_at (w : BitVec 32) (a b b' a' : S256x768.Idx → EReal) (p q r : S512x768.Idx → EReal) (y : S512x768.Idx) :
    k0_pay1 (F := Ideal) (k0_pay5 (F := Ideal) w a b b' a' p q r) (Scalar.ofBits .f32 0xBA83126F#32) y
      = stepD (k0_pay2 (F := Ideal) w a b b' a' y) (p y) (q y) (r y) := rfl

/-- The same of the reference, at an element. -/
theorem ref_m (x0 x2 x4 x5) (i : S512x768.Idx) :
    Cert.Reference36Ideal.Read.val_main_v9 (F := Ideal) x0 x2 x4 x5 i = stepM (RV x0 x4 x5 i) (x2 i) := rfl

theorem ref_v (x0 x3 x4 x5) (i : S512x768.Idx) :
    Cert.Reference36Ideal.Read.val_main_v15 (F := Ideal) x0 x3 x4 x5 i = stepV (RV x0 x4 x5 i) (x3 i) := rfl

theorem ref_d (x0 x1 x2 x3 x4 x5) (i : S512x768.Idx) :
    Cert.Reference36Ideal.Read.val_main_v28 (F := Ideal) x0 x1 x2 x3 x4 x5 i = stepD (RV x0 x4 x5 i) (x1 i) (x2 i) (x3 i) := rfl

/-- The gradient as the body reads its operands. -/
theorem grad_read (c : Dev nD) (hO : Ok m) (t : Fin (cfgM m hO).N) (w : BitVec 32) (i : S1.Idx)
    (hw : w = tbl m 0 i) (y : S512x768.Idx) :
    k0_pay2 (F := Ideal) w
        (View.read (Elt Ideal) (ms0_3 m hO t).view ((hs0_3 m hO t).unread (iblk m hO c 3 t)))
        (View.read (Elt Ideal) (ms0_4 m hO t).view ((hs0_4 m hO t).unread (iblk m hO c 4 t)))
        (View.read (Elt Ideal) (ms0_4 m hO t).view ((hs0_4 m hO t).unread (iblk m hO c 4 t)))
        (View.read (Elt Ideal) (ms0_3 m hO t).view ((hs0_3 m hO t).unread (iblk m hO c 3 t))) y
      = RV (m ((c : Thread nD τ).loc main_arg0)) (m ((c : Thread nD τ).loc main_arg4)) (m ((c : Thread nD τ).loc main_arg5))
          (((spec0 5).arr.view.slice ((pcfg0.win (adm m hO) 5).rect t)).emb y) :=
  (pay2_congr y (Memref.IsWhole.read_unread _ _) (Memref.IsWhole.read_unread _ _) (Memref.IsWhole.read_unread _ _)
    (Memref.IsWhole.read_unread _ _)).trans (grad_at m c hO t w i (hw.trans (word_eq m c i)) y)

/-- The kernel's gradient is the reference's. -/
theorem arr5 (c : Dev nD) (hO : Ok m) : (dats m hO 0 c).arrAt 5 (cfgM m hO).N
    = Cert.Reference36Ideal.Read.val_main_v4 (F := Ideal) (m ((c : Thread nD τ).loc main_arg0)) (m ((c : Thread nD τ).loc main_arg4)) (m ((c : Thread nD τ).loc main_arg5)) := by
  refine (dats m hO 0 c).arrAt_eq_of_covers 5 _ (covers5 (adm m hO)) fun t hf y => ?_
  blk_simp
  rw [after0_5]
  unfold outsAt0
  frame_out
  exact grad_read m c hO t _ _ rfl y

theorem covers6 (a : (pcfg0 (F := Ideal)).Adm) : ((cfg0 a).win 6).Covers :=
  (by decide +kernel : ((cfg0 zeroTable).win 6).Covers)

/-- The kernel's change of the weight is the reference's. -/
theorem arr6 (c : Dev nD) (hO : Ok m) : (dats m hO 0 c).arrAt 6 (cfgM m hO).N
    = Cert.Reference36Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers6 (adm m hO)) fun t hf y => ?_
  blk_simp
  rw [after0_6]
  unfold outsAt0
  frame_out
  refine (pay1_at _ _ _ _ _ _ _ _ y).trans (Eq.trans ?_ (ref_d _ _ _ _ _ _ _).symm)
  exact stepD_congr (grad_read m c hO t _ _ rfl y) (congrFun (Memref.IsWhole.read_unread (hs0_0 m hO t) (iblk m hO c 0 t)) y) (congrFun (Memref.IsWhole.read_unread (hs0_1 m hO t) (iblk m hO c 1 t)) y) (congrFun (Memref.IsWhole.read_unread (hs0_2 m hO t) (iblk m hO c 2 t)) y)

theorem covers7 (a : (pcfg0 (F := Ideal)).Adm) : ((cfg0 a).win 7).Covers :=
  (by decide +kernel : ((cfg0 zeroTable).win 7).Covers)

/-- The kernel's first moment is the reference's. -/
theorem arr7 (c : Dev nD) (hO : Ok m) : (dats m hO 0 c).arrAt 7 (cfgM m hO).N
    = Cert.Reference36Ideal.Read.val_main_v9 (F := Ideal) (m ((c : Thread nD τ).loc main_arg0)) (m ((c : Thread nD τ).loc main_arg2)) (m ((c : Thread nD τ).loc main_arg4)) (m ((c : Thread nD τ).loc main_arg5)) := by
  refine (dats m hO 0 c).arrAt_eq_of_covers 7 _ (covers7 (adm m hO)) fun t hf y => ?_
  blk_simp
  rw [after0_7]
  unfold outsAt0
  frame_out
  refine (pay3_at _ _ _ _ _ _ y).trans (Eq.trans ?_ (ref_m _ _ _ _ _).symm)
  exact stepM_congr (grad_read m c hO t _ _ rfl y) (congrFun (Memref.IsWhole.read_unread (hs0_1 m hO t) (iblk m hO c 1 t)) y)

theorem covers8 (a : (pcfg0 (F := Ideal)).Adm) : ((cfg0 a).win 8).Covers :=
  (by decide +kernel : ((cfg0 zeroTable).win 8).Covers)

/-- The kernel's second moment is the reference's. -/
theorem arr8 (c : Dev nD) (hO : Ok m) : (dats m hO 0 c).arrAt 8 (cfgM m hO).N
    = Cert.Reference36Ideal.Read.val_main_v15 (F := Ideal) (m ((c : Thread nD τ).loc main_arg0)) (m ((c : Thread nD τ).loc main_arg3)) (m ((c : Thread nD τ).loc main_arg4)) (m ((c : Thread nD τ).loc main_arg5)) := by
  refine (dats m hO 0 c).arrAt_eq_of_covers 8 _ (covers8 (adm m hO)) fun t hf y => ?_
  blk_simp
  rw [after0_8]
  unfold outsAt0
  frame_out
  refine (pay4_at _ _ _ _ _ _ y).trans (Eq.trans ?_ (ref_v _ _ _ _ _).symm)
  exact stepV_congr (grad_read m c hO t _ _ rfl y) (congrFun (Memref.IsWhole.read_unread (hs0_2 m hO t) (iblk m hO c 2 t)) y)

/-- The update of w_q_b is the reference's, whichever core runs it. -/
theorem algebraic : Cert.algebraic_Kernel36Ideal_Reference36Ideal (hKernel36Ideal := Cert.Kernel36Ideal.Gen.facts)
    (hReference36Ideal := Cert.Reference36Ideal.Gen.facts) := by
  intro m g m' g' _ hag
  refine ⟨_, _, _, _, (θ_run _ _ _).mono (fun r h c => ⟨((h.2 c).1 5).trans (arr5 m c trivial),
    ((h.2 c).1 6).trans (arr6 m c trivial), ((h.2 c).1 7).trans (arr7 m c trivial), ((h.2 c).1 8).trans (arr8 m c trivial),
    h.1 c⟩) (θ_run_and (unchanged m g trivial) (run_main m g trivial)), ?_⟩
  refine (θ_run _ _ _).mono (fun r h c => ?_) (Cert.Reference36Ideal.Value.run (F := Ideal) m' g')
  obtain ⟨a0, a1, a2, a3, a4, a5⟩ := hag c
  refine ⟨((h c).1).trans ?_, ((h c).2.1).trans ?_, ((h c).2.2.1).trans ?_, ((h c).2.2.2.1).trans ?_, (h c).2.2.2.2⟩
  · rw [a0, a4, a5]
    rfl
  · rw [a0, a1, a2, a3, a4, a5]
    rfl
  · rw [a0, a2, a4, a5]
    rfl
  · rw [a0, a3, a4, a5]
    rfl

end Cert.UpdateQ

end
-- ==== Proof.UpdateKv.lean ====
module

public import proofs.«01_k».proof.Proof.Halves
public import proofs.«01_k».proof.Proof.Gen.Kernel37Ideal.Frame
public import proofs.«01_k».proof.Proof.Gen.Reference37Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.UpdateKv

open Cert.Halves
open Cert.Kernel37Ideal Cert.Kernel37Ideal.Gen

local notation "RV" => Cert.Reference37Ideal.Read.val_main_v4

variable (m : (ℓ : Loc nD τ sig) → Buf (Elt Ideal) ℓ)

/-- The table at zero, for the facts of the windows that no table's word enters. -/
abbrev zeroTable : (pcfg0 (F := Ideal)).Adm := ⟨fun k => match k with
    | ⟨0, _⟩ => fun _ => (0#32 : BitVec 32), trivial⟩

theorem covers5 (a : (pcfg0 (F := Ideal)).Adm) : ((cfg0 a).win 5).Covers :=
  (by decide +kernel : ((cfg0 zeroTable).win 5).Covers)

/-- The one word of the table, as the body reads it. -/
theorem word_eq (c : Dev nD) (i : S1.Idx) : tbl m 0 i = m ((c : Thread nD τ).loc main_arg0) i := by
  rw [Subsingleton.elim c 0]
  rfl

theorem idx5 (a : (pcfg0 (F := Ideal)).Adm) (t : Fin grid0.N) :
    ((cfg0 a).win 5).index t = ![0, (grid0.coords t 0).val] :=
  (by decide +kernel : ∀ t : Fin grid0.N, ((cfg0 zeroTable).win 5).index t = ![0, (grid0.coords t 0).val]) t

theorem idx3 (a : (pcfg0 (F := Ideal)).Adm) (t : Fin grid0.N) :
    ((cfg0 a).win 3).index t = ![0, (grid0.coords t 0).val] :=
  (by decide +kernel : ∀ t : Fin grid0.N, ((cfg0 zeroTable).win 3).index t = ![0, (grid0.coords t 0).val]) t

theorem pay2_congr {w : BitVec 32} {a a' b b' c c' d d' : S256x512.Idx → EReal} (y : S512x512.Idx) (ha : a = a') (hb : b = b') (hc : c = c') (hd : d = d') :
    k0_pay2 (F := Ideal) w a b c d y = k0_pay2 (F := Ideal) w a' b' c' d' y := by
  subst ha hb hc hd
  rfl

/-- The gradient's tile is the tile of the gradient, whichever half goes first. -/
theorem grad_at (c : Dev nD) (hO : Ok m) (t : Fin (cfgM m hO).N) (w : BitVec 32) (i : S1.Idx)
    (hw : w = m ((c : Thread nD τ).loc main_arg0) i) (y : S512x512.Idx) :
    k0_pay2 (F := Ideal) w (iblk m hO c 3 t) (iblk m hO c 4 t) (iblk m hO c 4 t) (iblk m hO c 3 t) y
      = RV (m ((c : Thread nD τ).loc main_arg0)) (m ((c : Thread nD τ).loc main_arg4)) (m ((c : Thread nD τ).loc main_arg5))
          (((spec0 5).arr.view.slice ((pcfg0.win (adm m hO) 5).rect t)).emb y) := by
  obtain rfl : i = Shape.Idx.first (by decide) := one_idx _ _
  refine (congrFun (halves_select (s := S256x512) (s' := S256x512) (t := S512x512) (α := EReal) 0 _ (iblk m hO c 3 t) (iblk m hO c 4 t) (iblk m hO c 3 t) (iblk m hO c 4 t)
    concatenates_S256x512_S256x512_S512x512_d0) y).trans ?_
  have key := fun (u v : S256x512.Idx → EReal) (X Y : S256x1024.Idx → EReal) hu hv =>
    stack_tile u v X Y (fun p => ((spec0 3).arr.view.slice ((pcfg0.win (adm m hO) 3).rect t)).emb p)
      (fun p => ((spec0 3).arr.view.slice ((pcfg0.win (adm m hO) 3).rect t)).emb p)
      (fun p => ((spec0 5).arr.view.slice ((pcfg0.win (adm m hO) 5).rect t)).emb p) ((grid0.coords t 0).val * 512) hu hv
      (fun p => by blk_simp; rw [show (pcfg0.win (adm m hO) 3).index t 0 = 0 from congrFun (idx3 (adm m hO) t) (0 : Fin 2), Nat.zero_mul, Nat.zero_add])
      (fun p => by blk_simp; rw [show (pcfg0.win (adm m hO) 3).index t 1 = _ from congrFun (idx3 (adm m hO) t) (1 : Fin 2)]; rfl)
      (fun p => by blk_simp; rw [show (pcfg0.win (adm m hO) 3).index t 0 = 0 from congrFun (idx3 (adm m hO) t) (0 : Fin 2), Nat.zero_mul, Nat.zero_add])
      (fun p => by blk_simp; rw [show (pcfg0.win (adm m hO) 3).index t 1 = _ from congrFun (idx3 (adm m hO) t) (1 : Fin 2)]; rfl)
      (fun p => by blk_simp; rw [show (pcfg0.win (adm m hO) 5).index t 0 = 0 from congrFun (idx5 (adm m hO) t) (0 : Fin 2), Nat.zero_mul, Nat.zero_add])
      (fun p => by blk_simp; rw [show (pcfg0.win (adm m hO) 5).index t 1 = _ from congrFun (idx5 (adm m hO) t) (1 : Fin 2)]; rfl)
      (by decide) concatenates_S256x512_S256x512_S512x512_d0 Cert.Reference37Ideal.Gen.concatenates_S256x1024_S256x1024_S512x1024_d0 y
  have k1 := key (iblk m hO c 3 t) (iblk m hO c 4 t) (m ((c : Thread nD τ).loc main_arg4)) (m ((c : Thread nD τ).loc main_arg5))
    (fun _ => rfl) (fun _ => rfl)
  have k2 := key (iblk m hO c 4 t) (iblk m hO c 3 t) (m ((c : Thread nD τ).loc main_arg5)) (m ((c : Thread nD τ).loc main_arg4))
    (fun _ => rfl) (fun _ => rfl)
  have hb : Cert.Reference37Ideal.Read.val_main_v1 (F := Ideal) (m ((c : Thread nD τ).loc main_arg0))
      = fun _ => Scalar.cmpi .eq w 0#32 := by
    subst hw
    funext j
    exact congrArg (fun x => Scalar.cmpi .eq x 0#32) (congrArg (m ((c : Thread nD τ).loc main_arg0)) (one_idx _ _))
  show _ = Scalar.select (Cert.Reference37Ideal.Read.val_main_v1 (F := Ideal) (m ((c : Thread nD τ).loc main_arg0)) _) _ _
  rw [hb]
  unfold Scalar.select
  by_cases hw1 : Scalar.cmpi .eq w 0#32 = 1
  · rw [if_pos hw1, if_pos hw1]
    exact k1
  · rw [if_neg hw1, if_neg hw1]
    exact k2

/-- What the body stores, at an element: the step's formulas at the gradient there. -/
theorem pay3_at (w : BitVec 32) (a b b' a' : S256x512.Idx → EReal) (q : S512x512.Idx → EReal) (y : S512x512.Idx) :
    k0_pay3 (F := Ideal) w a b b' a' q y = stepM (k0_pay2 (F := Ideal) w a b b' a' y) (q y) := rfl

theorem pay4_at (w : BitVec 32) (a b b' a' : S256x512.Idx → EReal) (q : S512x512.Idx → EReal) (y : S512x512.Idx) :
    k0_pay4 (F := Ideal) w a b b' a' q y = stepV (k0_pay2 (F := Ideal) w a b b' a' y) (q y) := rfl

theorem pay1_at (w : BitVec 32) (a b b' a' : S256x512.Idx → EReal) (p q r : S512x512.Idx → EReal) (y : S512x512.Idx) :
    k0_pay1 (F := Ideal) (k0_pay5 (F := Ideal) w a b b' a' p q r) (Scalar.ofBits .f32 0xBA83126F#32) y
      = stepD (k0_pay2 (F := Ideal) w a b b' a' y) (p y) (q y) (r y) := rfl

/-- The same of the reference, at an element. -/
theorem ref_m (x0 x2 x4 x5) (i : S512x1024.Idx) :
    Cert.Reference37Ideal.Read.val_main_v9 (F := Ideal) x0 x2 x4 x5 i = stepM (RV x0 x4 x5 i) (x2 i) := rfl

theorem ref_v (x0 x3 x4 x5) (i : S512x1024.Idx) :
    Cert.Reference37Ideal.Read.val_main_v15 (F := Ideal) x0 x3 x4 x5 i = stepV (RV x0 x4 x5 i) (x3 i) := rfl

theorem ref_d (x0 x1 x2 x3 x4 x5) (i : S512x1024.Idx) :
    Cert.Reference37Ideal.Read.val_main_v28 (F := Ideal) x0 x1 x2 x3 x4 x5 i = stepD (RV x0 x4 x5 i) (x1 i) (x2 i) (x3 i) := rfl

/-- The gradient as the body reads its operands. -/
theorem grad_read (c : Dev nD) (hO : Ok m) (t : Fin (cfgM m hO).N) (w : BitVec 32) (i : S1.Idx)
    (hw : w = tbl m 0 i) (y : S512x512.Idx) :
    k0_pay2 (F := Ideal) w
        (View.read (Elt Ideal) (ms0_3 m hO t).view ((hs0_3 m hO t).unread (iblk m hO c 3 t)))
        (View.read (Elt Ideal) (ms0_4 m hO t).view ((hs0_4 m hO t).unread (iblk m hO c 4 t)))
        (View.read (Elt Ideal) (ms0_4 m hO t).view ((hs0_4 m hO t).unread (iblk m hO c 4 t)))
        (View.read (Elt Ideal) (ms0_3 m hO t).view ((hs0_3 m hO t).unread (iblk m hO c 3 t))) y
      = RV (m ((c : Thread nD τ).loc main_arg0)) (m ((c : Thread nD τ).loc main_arg4)) (m ((c : Thread nD τ).loc main_arg5))
          (((spec0 5).arr.view.slice ((pcfg0.win (adm m hO) 5).rect t)).emb y) :=
  (pay2_congr y (Memref.IsWhole.read_unread _ _) (Memref.IsWhole.read_unread _ _) (Memref.IsWhole.read_unread _ _)
    (Memref.IsWhole.read_unread _ _)).trans (grad_at m c hO t w i (hw.trans (word_eq m c i)) y)

/-- The kernel's gradient is the reference's. -/
theorem arr5 (c : Dev nD) (hO : Ok m) : (dats m hO 0 c).arrAt 5 (cfgM m hO).N
    = Cert.Reference37Ideal.Read.val_main_v4 (F := Ideal) (m ((c : Thread nD τ).loc main_arg0)) (m ((c : Thread nD τ).loc main_arg4)) (m ((c : Thread nD τ).loc main_arg5)) := by
  refine (dats m hO 0 c).arrAt_eq_of_covers 5 _ (covers5 (adm m hO)) fun t hf y => ?_
  blk_simp
  rw [after0_5]
  unfold outsAt0
  frame_out
  exact grad_read m c hO t _ _ rfl y

theorem covers6 (a : (pcfg0 (F := Ideal)).Adm) : ((cfg0 a).win 6).Covers :=
  (by decide +kernel : ((cfg0 zeroTable).win 6).Covers)

/-- The kernel's change of the weight is the reference's. -/
theorem arr6 (c : Dev nD) (hO : Ok m) : (dats m hO 0 c).arrAt 6 (cfgM m hO).N
    = Cert.Reference37Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers6 (adm m hO)) fun t hf y => ?_
  blk_simp
  rw [after0_6]
  unfold outsAt0
  frame_out
  refine (pay1_at _ _ _ _ _ _ _ _ y).trans (Eq.trans ?_ (ref_d _ _ _ _ _ _ _).symm)
  exact stepD_congr (grad_read m c hO t _ _ rfl y) (congrFun (Memref.IsWhole.read_unread (hs0_0 m hO t) (iblk m hO c 0 t)) y) (congrFun (Memref.IsWhole.read_unread (hs0_1 m hO t) (iblk m hO c 1 t)) y) (congrFun (Memref.IsWhole.read_unread (hs0_2 m hO t) (iblk m hO c 2 t)) y)

theorem covers7 (a : (pcfg0 (F := Ideal)).Adm) : ((cfg0 a).win 7).Covers :=
  (by decide +kernel : ((cfg0 zeroTable).win 7).Covers)

/-- The kernel's first moment is the reference's. -/
theorem arr7 (c : Dev nD) (hO : Ok m) : (dats m hO 0 c).arrAt 7 (cfgM m hO).N
    = Cert.Reference37Ideal.Read.val_main_v9 (F := Ideal) (m ((c : Thread nD τ).loc main_arg0)) (m ((c : Thread nD τ).loc main_arg2)) (m ((c : Thread nD τ).loc main_arg4)) (m ((c : Thread nD τ).loc main_arg5)) := by
  refine (dats m hO 0 c).arrAt_eq_of_covers 7 _ (covers7 (adm m hO)) fun t hf y => ?_
  blk_simp
  rw [after0_7]
  unfold outsAt0
  frame_out
  refine (pay3_at _ _ _ _ _ _ y).trans (Eq.trans ?_ (ref_m _ _ _ _ _).symm)
  exact stepM_congr (grad_read m c hO t _ _ rfl y) (congrFun (Memref.IsWhole.read_unread (hs0_1 m hO t) (iblk m hO c 1 t)) y)

theorem covers8 (a : (pcfg0 (F := Ideal)).Adm) : ((cfg0 a).win 8).Covers :=
  (by decide +kernel : ((cfg0 zeroTable).win 8).Covers)

/-- The kernel's second moment is the reference's. -/
theorem arr8 (c : Dev nD) (hO : Ok m) : (dats m hO 0 c).arrAt 8 (cfgM m hO).N
    = Cert.Reference37Ideal.Read.val_main_v15 (F := Ideal) (m ((c : Thread nD τ).loc main_arg0)) (m ((c : Thread nD τ).loc main_arg3)) (m ((c : Thread nD τ).loc main_arg4)) (m ((c : Thread nD τ).loc main_arg5)) := by
  refine (dats m hO 0 c).arrAt_eq_of_covers 8 _ (covers8 (adm m hO)) fun t hf y => ?_
  blk_simp
  rw [after0_8]
  unfold outsAt0
  frame_out
  refine (pay4_at _ _ _ _ _ _ y).trans (Eq.trans ?_ (ref_v _ _ _ _ _).symm)
  exact stepV_congr (grad_read m c hO t _ _ rfl y) (congrFun (Memref.IsWhole.read_unread (hs0_2 m hO t) (iblk m hO c 2 t)) y)

/-- The update of w_kv_b is the reference's, whichever core runs it. -/
theorem algebraic : Cert.algebraic_Kernel37Ideal_Reference37Ideal (hKernel37Ideal := Cert.Kernel37Ideal.Gen.facts)
    (hReference37Ideal := Cert.Reference37Ideal.Gen.facts) := by
  intro m g m' g' _ hag
  refine ⟨_, _, _, _, (θ_run _ _ _).mono (fun r h c => ⟨((h.2 c).1 5).trans (arr5 m c trivial),
    ((h.2 c).1 6).trans (arr6 m c trivial), ((h.2 c).1 7).trans (arr7 m c trivial), ((h.2 c).1 8).trans (arr8 m c trivial),
    h.1 c⟩) (θ_run_and (unchanged m g trivial) (run_main m g trivial)), ?_⟩
  refine (θ_run _ _ _).mono (fun r h c => ?_) (Cert.Reference37Ideal.Value.run (F := Ideal) m' g')
  obtain ⟨a0, a1, a2, a3, a4, a5⟩ := hag c
  refine ⟨((h c).1).trans ?_, ((h c).2.1).trans ?_, ((h c).2.2.1).trans ?_, ((h c).2.2.2.1).trans ?_, (h c).2.2.2.2⟩
  · rw [a0, a4, a5]
    rfl
  · rw [a0, a1, a2, a3, a4, a5]
    rfl
  · rw [a0, a2, a4, a5]
    rfl
  · rw [a0, a3, a4, a5]
    rfl

end Cert.UpdateKv

end
-- ==== Proof.Sums.lean ====
module

public import proofs.«01_k».proof.Defs
public import proofs.«01_k».proof.Proof.Gen.Kernel38Ideal.Value
public import proofs.«01_k».proof.Proof.Gen.Reference38Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline

namespace Cert.Sums

open Cert.Kernel38Ideal Cert.Kernel38Ideal.Gen

/-- The sum over the devices is the reference's. -/
theorem algebraic : Cert.algebraic_Kernel38Ideal_Reference38Ideal (hKernel38Ideal := Cert.Kernel38Ideal.Gen.facts)
    (hReference38Ideal := Cert.Reference38Ideal.Gen.facts) := by
  intro m g m' g' _ hag
  refine ⟨_, Cert.Kernel38Ideal.Value.run (F := Ideal) m g, ?_⟩
  refine (θ_run _ _ _).mono (fun r h c => ?_) (Cert.Reference38Ideal.Value.run (F := Ideal) m' g')
  refine ⟨((h c).1).trans ?_, (h c).2⟩
  rw [hag c, Cert.Reference38Ideal.Read.val_main_v0_eq]
  funext i
  rw [Cert.Reference38Ideal.Read.val_main_v0_apply, Cert.Reference38Ideal.Read.val_main_cst_apply]
  pointwise [k0_pay1]
  have e : ∀ k : Fin 8, Cert.Reference38Ideal.Read.idx_main_v0 i k = ix3 k (i 0) (i 1) := fun k => by
    funext a
    fin_cases a <;> rfl
  simp only [e]
  exact Fin.sum_univ_eight _

end Cert.Sums

end
-- ==== Proof.MergeForward.lean ====
module

public import proofs.«01_k».proof.Defs
public import proofs.«01_k».proof.Proof.Gen.Kernel39.Frame
public import proofs.«01_k».proof.Proof.Gen.Kernel39Ideal.Value
public import proofs.«01_k».proof.Proof.Gen.Reference39Ideal.Read
public import Idealize.ShloMosaic.Lib.Pipeline.ValueKit
public import Idealize.ShloMosaic.Lib.Pointwise

@[expose] public section

set_option maxRecDepth 16384

noncomputable section

namespace Cert.MergeForward

open Idealize.ShloMosaic Idealize.ShloMosaic.TcCoe Idealize.SL.Sem Idealize.ShloMosaic.Pipeline
open Cert.Kernel39Ideal Cert.Kernel39Ideal.Gen

variable (m : (ℓ : Loc nD τ sig) → Buf (Elt Ideal) ℓ)

/-- Where the windows' blocks stand at each grid point. -/
theorem idx : ∀ t : Fin cfg0.N, win0_0.index t = ![t.val, 0] ∧ win0_1.index t = ![t.val, 0] ∧ win0_2.index t = ![t.val, 0]
    ∧ win0_3.index t = ![t.val, 1] ∧ win0_4.index t = ![t.val, 0] :=
  (by decide +kernel : ∀ t : Fin grid0.N, win0_0.index t = ![t.val, 0] ∧ win0_1.index t = ![t.val, 0] ∧ win0_2.index t = ![t.val, 0]
    ∧ win0_3.index t = ![t.val, 1] ∧ win0_4.index t = ![t.val, 0])

theorem arr4 (c : Dev nD) :
    (dats m 0 c).arrAt 4 cfg0.N
      = Cert.Reference39Ideal.Read.val_main_v20 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  frame_out
  obtain ⟨e0, e1, e2, e3, e4⟩ := idx t
  pointwise [k0_pay1, Ideal.logistic, Cert.Reference39Ideal.Read.val_main_v0, Cert.Reference39Ideal.Read.val_main_v1, Cert.Reference39Ideal.Read.val_main_v2, Cert.Reference39Ideal.Read.val_main_v3, Cert.Reference39Ideal.Read.val_main_v4, Cert.Reference39Ideal.Read.val_main_cst, Cert.Reference39Ideal.Read.val_main_v5, Cert.Reference39Ideal.Read.val_main_v6, Cert.Reference39Ideal.Read.val_main_cst_0, Cert.Reference39Ideal.Read.val_main_v7, Cert.Reference39Ideal.Read.val_main_v8, Cert.Reference39Ideal.Read.val_main_v9, Cert.Reference39Ideal.Read.val_main_v10, Cert.Reference39Ideal.Read.val_main_v11, Cert.Reference39Ideal.Read.val_main_v12, Cert.Reference39Ideal.Read.val_main_cst_1, Cert.Reference39Ideal.Read.val_main_v13, Cert.Reference39Ideal.Read.val_main_v14, Cert.Reference39Ideal.Read.val_main_cst_2, Cert.Reference39Ideal.Read.val_main_v15, Cert.Reference39Ideal.Read.val_main_v16, Cert.Reference39Ideal.Read.val_main_v17, Cert.Reference39Ideal.Read.val_main_v18, Cert.Reference39Ideal.Read.val_main_v19, Cert.Reference39Ideal.Read.val_main_v20]
  blk_point [iblk, e0, e1, e2, e3, e4]

/-- The kernel's gated merge is the reference's. -/
theorem algebraic : Cert.algebraic_Kernel39Ideal_Reference39Ideal (hKernel39Ideal := Cert.Kernel39Ideal.Gen.facts)
    (hReference39Ideal := Cert.Reference39Ideal.Gen.facts) := by
  intro m g m' g' _ hag
  refine ⟨fun c => (dats m 0 c).arrAt 4 cfg0.N, Cert.Kernel39Ideal.Value.run_blocks m g, ?_⟩
  refine (θ_run _ _ _).mono (fun r h c => ?_) (Cert.Reference39Ideal.Value.run (F := Ideal) m' g')
  refine ⟨((h c).1).trans ?_, (h c).2⟩
  rw [(hag c).1, (hag c).2.1, (hag c).2.2]
  exact (arr4 m c).symm

end Cert.MergeForward

end
-- ==== Proof.ConvForward.lean ====
module

public import proofs.«01_k».proof.Defs
public import proofs.«01_k».proof.Proof.Conv
public import proofs.«01_k».proof.Proof.Gen.Kernel40.Frame
public import proofs.«01_k».proof.Proof.Gen.Kernel40Ideal.Value
public import proofs.«01_k».proof.Proof.Gen.Reference40Ideal.Read
public import Idealize.ShloMosaic.Lib.Pipeline.ValueKit
public import Idealize.ShloMosaic.Lib.Pointwise

@[expose] public section

set_option maxRecDepth 16384

noncomputable section

namespace Cert.ConvForward

open Idealize.ShloMosaic Idealize.ShloMosaic.TcCoe Idealize.SL.Sem Idealize.ShloMosaic.Pipeline
open Cert.Kernel40Ideal Cert.Kernel40Ideal.Gen
open Cert.Conv (at2 at2_ix sh sh_lt sh_ge cz sel0)

/-- One block of rows: the convolution's output behind its gate. -/
theorem pay (a1 : S2048x6144.Idx → EReal) (a2 : S3x2048.Idx → EReal) (i : grid0.Coords) (v0 v2 : Vec Ideal S256x2048 .bf16)
    (v5 v7 : Vec Ideal S16x2048 .bf16) (w0 w1 w2 : Vec Ideal S1x2048 .f32) (v33 : Vec Ideal S256x2048 .bf16)
    (T : ℕ) (hi : (i 0).val = T) (hT : T < 8)
    (hw0 : ∀ n : Fin 2048, w0 (ix2 0 n) = at2 a2 0 n.val)
    (hw1 : ∀ n : Fin 2048, w1 (ix2 0 n) = at2 a2 1 n.val)
    (hw2 : ∀ n : Fin 2048, w2 (ix2 0 n) = at2 a2 2 n.val)
    (h33 : ∀ (p : Fin 256) (n : Fin 2048), v33 (ix2 p n) = at2 a1 (256 * T + p.val) n.val)
    (h0 : ∀ (p : Fin 256) (n : Fin 2048), v0 (ix2 p n) = at2 a1 (256 * T + p.val) (2048 + n.val))
    (h2 : ∀ (p : Fin 256) (n : Fin 2048), v2 (ix2 p n) = at2 a1 (256 * T + p.val) (4096 + n.val))
    (h5 : T ≠ 0 → ∀ (p : Fin 16) (n : Fin 2048), v5 (ix2 p n) = at2 a1 (256 * T - 16 + p.val) (2048 + n.val))
    (h7 : T ≠ 0 → ∀ (p : Fin 16) (n : Fin 2048), v7 (ix2 p n) = at2 a1 (256 * T - 16 + p.val) (4096 + n.val))
    (p : Fin 256) (n : Fin 2048) :
    k0_pay1 i v0 v2 v5 v7 w0 w1 w2 v33 (ix2 p n)
      = at2 a1 (256 * T + p.val) n.val * cz a1 a2 (256 * T + p.val) n.val := by
  pointwise [k0_pay1]
  rw [hi]
  have hp := p.isLt
  rw [cz, hw0, hw1, hw2, h33]
  refine congrArg (_ * ·) (congrArg₂ (· + ·) (congrArg₂ (· + ·) (congrArg (_ * ·) ?_) (congrArg (_ * ·) ?_)) (congrArg (_ * ·) ?_))
  iterate 2
    · split <;> rename_i h
      · rw [sel0 _ hT]
        by_cases e : T = 0
        · rw [if_pos e, sh_lt _ (by omega)]
        · rw [if_neg e, sh_ge _ (by omega), h5 e, h7 e]
          congr 2 <;> simp only [] <;> omega
      · rw [h0, h2, sh_ge _ (by omega)]
        congr 2 <;> simp only [] <;> omega
  · rw [h0, h2, sh_ge _ (by omega)]
    rfl

/-- The reference at an element. -/
theorem ref (a0 a1) (i : Cert.Reference40Ideal.S2048x2048.Idx) :
    Cert.Reference40Ideal.Read.val_main_v28 (F := Ideal) a0 a1 i
      = at2 a0 (i 0).val (i 1).val * cz a0 a1 (i 0).val (i 1).val := by
  idx_vars i
  have hr := i0.isLt
  have hk := i1.isLt
  pointwise [Cert.Reference40Ideal.Read.val_main_v0, Cert.Reference40Ideal.Read.val_main_v1, Cert.Reference40Ideal.Read.val_main_v2, Cert.Reference40Ideal.Read.val_main_v3, Cert.Reference40Ideal.Read.val_main_v4, Cert.Reference40Ideal.Read.val_main_cst, Cert.Reference40Ideal.Read.val_main_v5, Cert.Reference40Ideal.Read.val_main_v6, Cert.Reference40Ideal.Read.val_main_v7, Cert.Reference40Ideal.Read.val_main_v8, Cert.Reference40Ideal.Read.val_main_v9, Cert.Reference40Ideal.Read.val_main_v10, Cert.Reference40Ideal.Read.val_main_v11, Cert.Reference40Ideal.Read.val_main_v12, Cert.Reference40Ideal.Read.val_main_v13, Cert.Reference40Ideal.Read.val_main_v14, Cert.Reference40Ideal.Read.val_main_v15, Cert.Reference40Ideal.Read.val_main_v16, Cert.Reference40Ideal.Read.val_main_v17, Cert.Reference40Ideal.Read.val_main_v18, Cert.Reference40Ideal.Read.val_main_v19, Cert.Reference40Ideal.Read.val_main_v20, Cert.Reference40Ideal.Read.val_main_v21, Cert.Reference40Ideal.Read.val_main_v22, Cert.Reference40Ideal.Read.val_main_v23, Cert.Reference40Ideal.Read.val_main_v24, Cert.Reference40Ideal.Read.val_main_v25, Cert.Reference40Ideal.Read.val_main_v26, Cert.Reference40Ideal.Read.val_main_v27, Cert.Reference40Ideal.Read.val_main_v28]
  rw [cz, at2_ix a0, at2_ix a0, at2_ix a0, at2_ix a1, at2_ix a1, at2_ix a1, EReal.mul_comm (at2 a1 0 _), EReal.mul_comm (at2 a1 1 _),
    EReal.mul_comm (at2 a1 2 _), sh_ge (k := 0) _ (by omega)]
  refine congrArg (_ * ·) (congrArg₂ (· + ·) (congrArg₂ (· + ·) (congrArg (· * _) ?_) (congrArg (· * _) ?_)) rfl)
  · split <;> rename_i h
    · rw [sh_lt _ (by omega)]
    · rw [sh_ge _ (by omega), at2_ix a0, at2_ix a0]
  · split <;> rename_i h
    · rw [sh_lt _ (by omega)]
    · have e : 1 + i0.val - 2 = i0.val - 1 := by omega
      rw [sh_ge _ (by omega), at2_ix a0, at2_ix a0, ← e]

variable (m : (ℓ : Loc nD τ sig) → Buf (Elt Ideal) ℓ) (c : Dev nD)

abbrev A0 : S2048x6144.Idx → EReal := m ((c.tc : Thread nD τ).loc main_arg0)
abbrev A1 : S3x2048.Idx → EReal := m ((c.tc : Thread nD τ).loc main_arg1)

/-- Where the windows' blocks stand at each grid point. -/
theorem idx : ∀ t : Fin cfg0.N, win0_0.index t = ![t.val, 0] ∧ win0_1.index t = ![t.val, 1] ∧ win0_2.index t = ![t.val, 2]
    ∧ win0_3.index t = ![16 * t.val - 1, 1] ∧ win0_4.index t = ![16 * t.val - 1, 2] ∧ win0_5.index t = ![0, 0]
    ∧ win0_6.index t = ![t.val, 0] ∧ (grid0.coords t 0).val = t.val :=
  (by decide +kernel : ∀ t : Fin grid0.N, win0_0.index t = ![t.val, 0] ∧ win0_1.index t = ![t.val, 1] ∧ win0_2.index t = ![t.val, 2]
    ∧ win0_3.index t = ![16 * t.val - 1, 1] ∧ win0_4.index t = ![16 * t.val - 1, 2] ∧ win0_5.index t = ![0, 0]
    ∧ win0_6.index t = ![t.val, 0] ∧ (grid0.coords t 0).val = t.val)

theorem blk0 (t : Fin cfg0.N) (p : Fin 256) (n : Fin 2048) :
    iblk m c 0 t (ix2 p n) = at2 (A0 m c) (256 * t.val + p.val) (n.val) := by
  obtain ⟨e0, e1, e2, e3, e4, e5, -⟩ := idx t
  have ht : t.val < 8 := t.isLt
  rw [at2, dif_pos ⟨by omega, by omega⟩]
  blk_ext [iblk, e0]

theorem blk1 (t : Fin cfg0.N) (p : Fin 256) (n : Fin 2048) :
    iblk m c 1 t (ix2 p n) = at2 (A0 m c) (256 * t.val + p.val) (2048 + n.val) := by
  obtain ⟨e0, e1, e2, e3, e4, e5, -⟩ := idx t
  have ht : t.val < 8 := t.isLt
  rw [at2, dif_pos ⟨by omega, by omega⟩]
  blk_ext [iblk, e1]

theorem blk2 (t : Fin cfg0.N) (p : Fin 256) (n : Fin 2048) :
    iblk m c 2 t (ix2 p n) = at2 (A0 m c) (256 * t.val + p.val) (4096 + n.val) := by
  obtain ⟨e0, e1, e2, e3, e4, e5, -⟩ := idx t
  have ht : t.val < 8 := t.isLt
  rw [at2, dif_pos ⟨by omega, by omega⟩]
  blk_ext [iblk, e2]

theorem blk3 (t : Fin cfg0.N) (h : t.val ≠ 0) (p : Fin 16) (n : Fin 2048) :
    iblk m c 3 t (ix2 p n) = at2 (A0 m c) (256 * t.val - 16 + p.val) (2048 + n.val) := by
  obtain ⟨e0, e1, e2, e3, e4, e5, -⟩ := idx t
  have ht : t.val < 8 := t.isLt
  rw [at2, dif_pos ⟨by omega, by omega⟩]
  blk_ext [iblk, e3]

theorem blk4 (t : Fin cfg0.N) (h : t.val ≠ 0) (p : Fin 16) (n : Fin 2048) :
    iblk m c 4 t (ix2 p n) = at2 (A0 m c) (256 * t.val - 16 + p.val) (4096 + n.val) := by
  obtain ⟨e0, e1, e2, e3, e4, e5, -⟩ := idx t
  have ht : t.val < 8 := t.isLt
  rw [at2, dif_pos ⟨by omega, by omega⟩]
  blk_ext [iblk, e4]

theorem blk5 (t : Fin cfg0.N) (p : Fin 3) (n : Fin 2048) :
    iblk m c 5 t (ix2 p n) = at2 (A1 m c) (p.val) (n.val) := by
  obtain ⟨e0, e1, e2, e3, e4, e5, -⟩ := idx t
  have ht : t.val < 8 := t.isLt
  rw [at2, dif_pos ⟨by omega, by omega⟩]
  blk_ext [iblk, e5]

theorem w_at (t : Fin cfg0.N) (r : ℕ) (hr : r < 3) (inb) (n : Fin 2048) :
    View.ld (iblk m c 5 t) (Rect.unit (s := S3x2048) ![r, 0] ![1, 2048] inb) (ix2 0 n) = at2 (A1 m c) r n.val := by
  refine Eq.trans ?_ (blk5 m c t ⟨r, hr⟩ n)
  pointwise []

theorem arr6 : (dats m 0 c).arrAt 6 cfg0.N
    = Cert.Reference40Ideal.Read.val_main_v28 (F := Ideal) (A0 m c) (A1 m c) := by
  refine (dats m 0 c).arrAt_eq_of_covers 6 _ (by decide +kernel) fun t hf y => ?_
  blk_simp
  rw [after0_6]
  frame_out
  obtain ⟨-, -, -, -, -, -, e6, ec⟩ := idx t
  have hw0 := fun n => w_at m c t 0 (by omega) inb_S3x2048_S1x2048_0_0 n
  have hw1 := fun n => w_at m c t 1 (by omega) inb_S3x2048_S1x2048_1_0 n
  have hw2 := fun n => w_at m c t 2 (by omega) inb_S3x2048_S1x2048_2_0 n
  have i0 : ((((View.whole main_v0).slice (win0_6.rect t)).emb y 0 : Fin 2048) : ℕ) = 256 * t.val + (y 0).val := by
    blk_simp [e6]
    omega
  have i1 : ((((View.whole main_v0).slice (win0_6.rect t)).emb y 1 : Fin 2048) : ℕ) = (y 1).val := by
    blk_simp [e6]
  refine Eq.trans ?_ (ref _ _ _).symm
  rw [i0, i1]
  idx_vars y
  exact pay _ _ _ _ _ _ _ _ _ _ _ t.val ec t.isLt hw0 hw1 hw2 (blk0 m c t) (blk1 m c t) (blk2 m c t) (blk3 m c t) (blk4 m c t) y0 y1

/-- The kernel's gated convolution is the reference's. -/
theorem algebraic : Cert.algebraic_Kernel40Ideal_Reference40Ideal (hKernel40Ideal := Cert.Kernel40Ideal.Gen.facts)
    (hReference40Ideal := Cert.Reference40Ideal.Gen.facts) := by
  intro m g m' g' _ hag
  refine ⟨fun c => (dats m 0 c).arrAt 6 cfg0.N, Cert.Kernel40Ideal.Value.run_blocks m g, ?_⟩
  refine (θ_run _ _ _).mono (fun r h c => ?_) (Cert.Reference40Ideal.Value.run (F := Ideal) m' g')
  refine ⟨((h c).1).trans ?_, (h c).2⟩
  rw [(hag c).1, (hag c).2]
  exact (arr6 m c).symm

end Cert.ConvForward

end
-- ==== Proof.lean ====
module

public import proofs.«01_k».proof.Defs
public import proofs.«01_k».proof.Proof.AttnFrame
public import proofs.«01_k».proof.Proof.Gen.ReferenceIdeal.Run
public import proofs.«01_k».proof.Proof.Gen.Kernel4.Frame
public import proofs.«01_k».proof.Proof.Swiglu
public import proofs.«01_k».proof.Proof.Gen.Kernel6.Frame
public import proofs.«01_k».proof.Proof.NormOne
public import proofs.«01_k».proof.Proof.Gen.Kernel7.Frame
public import proofs.«01_k».proof.Proof.LossBack
public import proofs.«01_k».proof.Proof.Gen.Kernel2.Frame
public import proofs.«01_k».proof.Proof.Conv
public import proofs.«01_k».proof.Proof.Gen.Kernel3.Frame
public import proofs.«01_k».proof.Proof.Merge
public import proofs.«01_k».proof.Proof.Gen.Kernel5.Frame
public import proofs.«01_k».proof.Proof.RmsBack
public import proofs.«01_k».proof.Proof.Gen.Kernel8.Frame
public import proofs.«01_k».proof.Proof.Modulate
public import proofs.«01_k».proof.Proof.Gen.Kernel9.Frame
public import proofs.«01_k».proof.Proof.Product
public import proofs.«01_k».proof.Proof.Gen.Kernel10.Frame
public import proofs.«01_k».proof.Proof.ProductFfn
public import proofs.«01_k».proof.Proof.Gen.Kernel11.Frame
public import proofs.«01_k».proof.Proof.ProductO
public import proofs.«01_k».proof.Proof.Gen.Kernel12.Frame
public import proofs.«01_k».proof.Proof.Gen.Kernel13.Frame
public import proofs.«01_k».proof.Proof.Gen.Kernel14.Frame
public import proofs.«01_k».proof.Proof.ProductRows
public import proofs.«01_k».proof.Proof.Gen.Kernel15.Frame
public import proofs.«01_k».proof.Proof.ProductT
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Forward
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.FfnIn
public import proofs.«01_k».proof.Proof.Gen.Kernel24.Frame
public import proofs.«01_k».proof.Proof.FfnOut
public import proofs.«01_k».proof.Proof.Gen.Kernel25.Frame
public import proofs.«01_k».proof.Proof.Update
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Ada
public import proofs.«01_k».proof.Proof.Gen.Kernel31.Frame
public import proofs.«01_k».proof.Proof.Gen.Kernel32.Frame
public import proofs.«01_k».proof.Proof.UpdateO
public import proofs.«01_k».proof.Proof.Gen.Kernel33.Frame
public import proofs.«01_k».proof.Proof.UpdateFfnOut
public import proofs.«01_k».proof.Proof.Gen.Kernel34.Frame
public import proofs.«01_k».proof.Proof.UpdateFfnIn
public import proofs.«01_k».proof.Proof.Gen.Kernel35.Frame
public import proofs.«01_k».proof.Proof.UpdateIn
public import proofs.«01_k».proof.Proof.Gen.Kernel36.Frame
public import proofs.«01_k».proof.Proof.UpdateQ
public import proofs.«01_k».proof.Proof.Gen.Kernel37.Frame
public import proofs.«01_k».proof.Proof.UpdateKv
public import proofs.«01_k».proof.Proof.Gen.Kernel38.Frame
public import proofs.«01_k».proof.Proof.Sums
public import proofs.«01_k».proof.Proof.Gen.Kernel39.Frame
public import proofs.«01_k».proof.Proof.MergeForward
public import proofs.«01_k».proof.Proof.Gen.Kernel40.Frame
public import proofs.«01_k».proof.Proof.ConvForward
public import proofs.«01_k».proof.Proof.Gen.Pre_gate_finite
public import proofs.«01_k».proof.Proof.Gen.Pre_ln1_finite
public import proofs.«01_k».proof.Proof.Gen.Pre_ln2_finite

@[expose] public section

noncomputable section

namespace Cert.Proof

open Idealize.ShloMosaic Idealize.SL.Sem

theorem reference : Cert.quiescent_ReferenceIdeal (hReferenceIdeal := Cert.ReferenceIdeal.Gen.facts) := fun m g _ =>
  (θ_run Cert.ReferenceIdeal.defs _ _).mono (fun r h => ⟨fun c => (h c).2.2.2, Idealize.ShloMosaic.sem_eq_zero_of_no_sems (by decide) r.2⟩) (Cert.ReferenceIdeal.Value.run (F := Ideal) m g)

theorem reference4 : Cert.quiescent_Reference4Ideal (hReference4Ideal := Cert.Reference4Ideal.Gen.facts) := fun m g _ =>
  (θ_run Cert.Reference4Ideal.defs _ _).mono (fun r h => ⟨fun c => (h c).2, Idealize.ShloMosaic.sem_eq_zero_of_no_sems (by decide) r.2⟩) (Cert.Reference4Ideal.Value.run (F := Ideal) m g)

theorem reference6 : Cert.quiescent_Reference6Ideal (hReference6Ideal := Cert.Reference6Ideal.Gen.facts) := fun m g _ =>
  (θ_run Cert.Reference6Ideal.defs _ _).mono (fun r h => ⟨fun c => (h c).2.2.2.2.2.2.2, Idealize.ShloMosaic.sem_eq_zero_of_no_sems (by decide) r.2⟩) (Cert.Reference6Ideal.Value.run (F := Ideal) m g)

theorem reference7 : Cert.quiescent_Reference7Ideal (hReference7Ideal := Cert.Reference7Ideal.Gen.facts) := fun m g _ =>
  (θ_run Cert.Reference7Ideal.defs _ _).mono (fun r h => ⟨fun c => (h c).2.2.2.2.2.2, Idealize.ShloMosaic.sem_eq_zero_of_no_sems (by decide) r.2⟩) (Cert.Reference7Ideal.Value.run (F := Ideal) m g)

theorem reference2 : Cert.quiescent_Reference2Ideal (hReference2Ideal := Cert.Reference2Ideal.Gen.facts) := fun m g _ =>
  (θ_run Cert.Reference2Ideal.defs _ _).mono (fun r h => ⟨fun c => (h c).2.2, Idealize.ShloMosaic.sem_eq_zero_of_no_sems (by decide) r.2⟩) (Cert.Reference2Ideal.Value.run (F := Ideal) m g)

theorem reference3 : Cert.quiescent_Reference3Ideal (hReference3Ideal := Cert.Reference3Ideal.Gen.facts) := fun m g _ =>
  (θ_run Cert.Reference3Ideal.defs _ _).mono (fun r h => ⟨fun c => (h c).2.2.2, Idealize.ShloMosaic.sem_eq_zero_of_no_sems (by decide) r.2⟩) (Cert.Reference3Ideal.Value.run (F := Ideal) m g)

theorem reference5 : Cert.quiescent_Reference5Ideal (hReference5Ideal := Cert.Reference5Ideal.Gen.facts) := fun m g _ =>
  (θ_run Cert.Reference5Ideal.defs _ _).mono (fun r h => ⟨fun c => (h c).2.2.2, Idealize.ShloMosaic.sem_eq_zero_of_no_sems (by decide) r.2⟩) (Cert.Reference5Ideal.Value.run (F := Ideal) m g)

theorem reference8 : Cert.quiescent_Reference8Ideal (hReference8Ideal := Cert.Reference8Ideal.Gen.facts) := fun m g _ =>
  (θ_run Cert.Reference8Ideal.defs _ _).mono (fun r h => ⟨fun c => (h c).2.2.2, Idealize.ShloMosaic.sem_eq_zero_of_no_sems (by decide) r.2⟩) (Cert.Reference8Ideal.Value.run (F := Ideal) m g)

theorem reference9 : Cert.quiescent_Reference9Ideal (hReference9Ideal := Cert.Reference9Ideal.Gen.facts) := fun m g _ =>
  (θ_run Cert.Reference9Ideal.defs _ _).mono (fun r h => ⟨fun c => (h c).2, Idealize.ShloMosaic.sem_eq_zero_of_no_sems (by decide) r.2⟩) (Cert.Reference9Ideal.Value.run (F := Ideal) m g)

theorem reference10 : Cert.quiescent_Reference10Ideal (hReference10Ideal := Cert.Reference10Ideal.Gen.facts) := fun m g _ =>
  (θ_run Cert.Reference10Ideal.defs _ _).mono (fun r h => ⟨fun c => (h c).2, Idealize.ShloMosaic.sem_eq_zero_of_no_sems (by decide) r.2⟩) (Cert.Reference10Ideal.Value.run (F := Ideal) m g)

theorem reference11 : Cert.quiescent_Reference11Ideal (hReference11Ideal := Cert.Reference11Ideal.Gen.facts) := fun m g _ =>
  (θ_run Cert.Reference11Ideal.defs _ _).mono (fun r h => ⟨fun c => (h c).2, Idealize.ShloMosaic.sem_eq_zero_of_no_sems (by decide) r.2⟩) (Cert.Reference11Ideal.Value.run (F := Ideal) m g)

theorem reference12 : Cert.quiescent_Reference12Ideal (hReference12Ideal := Cert.Reference12Ideal.Gen.facts) := fun m g _ =>
  (θ_run Cert.Reference12Ideal.defs _ _).mono (fun r h => ⟨fun c => (h c).2, Idealize.ShloMosaic.sem_eq_zero_of_no_sems (by decide) r.2⟩) (Cert.Reference12Ideal.Value.run (F := Ideal) m g)

theorem reference13 : Cert.quiescent_Reference13Ideal (hReference13Ideal := Cert.Reference13Ideal.Gen.facts) := fun m g _ =>
  (θ_run Cert.Reference13Ideal.defs _ _).mono (fun r h => ⟨fun c => (h c).2, Idealize.ShloMosaic.sem_eq_zero_of_no_sems (by decide) r.2⟩) (Cert.Reference13Ideal.Value.run (F := Ideal) m g)

theorem reference14 : Cert.quiescent_Reference14Ideal (hReference14Ideal := Cert.Reference14Ideal.Gen.facts) := fun m g _ =>
  (θ_run Cert.Reference14Ideal.defs _ _).mono (fun r h => ⟨fun c => (h c).2, Idealize.ShloMosaic.sem_eq_zero_of_no_sems (by decide) r.2⟩) (Cert.Reference14Ideal.Value.run (F := Ideal) m g)

theorem reference15 : Cert.quiescent_Reference15Ideal (hReference15Ideal := Cert.Reference15Ideal.Gen.facts) := fun m g _ =>
  (θ_run Cert.Reference15Ideal.defs _ _).mono (fun r h => ⟨fun c => (h c).2, Idealize.ShloMosaic.sem_eq_zero_of_no_sems (by decide) r.2⟩) (Cert.Reference15Ideal.Value.run (F := Ideal) m g)

theorem reference16 : Cert.quiescent_Reference16Ideal (hReference16Ideal := Cert.Reference16Ideal.Gen.facts) := fun m g _ =>
  (θ_run Cert.Reference16Ideal.defs _ _).mono (fun r h => ⟨fun c => (h c).2, Idealize.ShloMosaic.sem_eq_zero_of_no_sems (by decide) r.2⟩) (Cert.Reference16Ideal.Value.run (F := Ideal) m g)

theorem reference17 : Cert.quiescent_Reference17Ideal (hReference17Ideal := Cert.Reference17Ideal.Gen.facts) := fun m g _ =>
  (θ_run Cert.Reference17Ideal.defs _ _).mono (fun r h => ⟨fun c => (h c).2, Idealize.ShloMosaic.sem_eq_zero_of_no_sems (by decide) r.2⟩) (Cert.Reference17Ideal.Value.run (F := Ideal) m g)

theorem reference18 : Cert.quiescent_Reference18Ideal (hReference18Ideal := Cert.Reference18Ideal.Gen.facts) := fun m g _ =>
  (θ_run Cert.Reference18Ideal.defs _ _).mono (fun r h => ⟨fun c => (h c).2, Idealize.ShloMosaic.sem_eq_zero_of_no_sems (by decide) r.2⟩) (Cert.Reference18Ideal.Value.run (F := Ideal) m g)

theorem reference19 : Cert.quiescent_Reference19Ideal (hReference19Ideal := Cert.Reference19Ideal.Gen.facts) := fun m g _ =>
  (θ_run Cert.Reference19Ideal.defs _ _).mono (fun r h => ⟨fun c => (h c).2, Idealize.ShloMosaic.sem_eq_zero_of_no_sems (by decide) r.2⟩) (Cert.Reference19Ideal.Value.run (F := Ideal) m g)

theorem reference20 : Cert.quiescent_Reference20Ideal (hReference20Ideal := Cert.Reference20Ideal.Gen.facts) := fun m g _ =>
  (θ_run Cert.Reference20Ideal.defs _ _).mono (fun r h => ⟨fun c => (h c).2, Idealize.ShloMosaic.sem_eq_zero_of_no_sems (by decide) r.2⟩) (Cert.Reference20Ideal.Value.run (F := Ideal) m g)

theorem reference21 : Cert.quiescent_Reference21Ideal (hReference21Ideal := Cert.Reference21Ideal.Gen.facts) := fun m g _ =>
  (θ_run Cert.Reference21Ideal.defs _ _).mono (fun r h => ⟨fun c => (h c).2, Idealize.ShloMosaic.sem_eq_zero_of_no_sems (by decide) r.2⟩) (Cert.Reference21Ideal.Value.run (F := Ideal) m g)

theorem reference22 : Cert.quiescent_Reference22Ideal (hReference22Ideal := Cert.Reference22Ideal.Gen.facts) := fun m g _ =>
  (θ_run Cert.Reference22Ideal.defs _ _).mono (fun r h => ⟨fun c => (h c).2, Idealize.ShloMosaic.sem_eq_zero_of_no_sems (by decide) r.2⟩) (Cert.Reference22Ideal.Value.run (F := Ideal) m g)

theorem reference23 : Cert.quiescent_Reference23Ideal (hReference23Ideal := Cert.Reference23Ideal.Gen.facts) := fun m g _ =>
  (θ_run Cert.Reference23Ideal.defs _ _).mono (fun r h => ⟨fun c => (h c).2, Idealize.ShloMosaic.sem_eq_zero_of_no_sems (by decide) r.2⟩) (Cert.Reference23Ideal.Value.run (F := Ideal) m g)

theorem reference24 : Cert.quiescent_Reference24Ideal (hReference24Ideal := Cert.Reference24Ideal.Gen.facts) := fun m g _ =>
  (θ_run Cert.Reference24Ideal.defs _ _).mono (fun r h => ⟨fun c => (h c).2, Idealize.ShloMosaic.sem_eq_zero_of_no_sems (by decide) r.2⟩) (Cert.Reference24Ideal.Value.run (F := Ideal) m g)

theorem reference25 : Cert.quiescent_Reference25Ideal (hReference25Ideal := Cert.Reference25Ideal.Gen.facts) := fun m g _ =>
  (θ_run Cert.Reference25Ideal.defs _ _).mono (fun r h => ⟨fun c => (h c).2.2.2, Idealize.ShloMosaic.sem_eq_zero_of_no_sems (by decide) r.2⟩) (Cert.Reference25Ideal.Value.run (F := Ideal) m g)

theorem reference26 : Cert.quiescent_Reference26Ideal (hReference26Ideal := Cert.Reference26Ideal.Gen.facts) := fun m g _ =>
  (θ_run Cert.Reference26Ideal.defs _ _).mono (fun r h => ⟨fun c => (h c).2.2.2, Idealize.ShloMosaic.sem_eq_zero_of_no_sems (by decide) r.2⟩) (Cert.Reference26Ideal.Value.run (F := Ideal) m g)

theorem reference27 : Cert.quiescent_Reference27Ideal (hReference27Ideal := Cert.Reference27Ideal.Gen.facts) := fun m g _ =>
  (θ_run Cert.Reference27Ideal.defs _ _).mono (fun r h => ⟨fun c => (h c).2.2.2, Idealize.ShloMosaic.sem_eq_zero_of_no_sems (by decide) r.2⟩) (Cert.Reference27Ideal.Value.run (F := Ideal) m g)

theorem reference28 : Cert.quiescent_Reference28Ideal (hReference28Ideal := Cert.Reference28Ideal.Gen.facts) := fun m g _ =>
  (θ_run Cert.Reference28Ideal.defs _ _).mono (fun r h => ⟨fun c => (h c).2.2.2, Idealize.ShloMosaic.sem_eq_zero_of_no_sems (by decide) r.2⟩) (Cert.Reference28Ideal.Value.run (F := Ideal) m g)

theorem reference29 : Cert.quiescent_Reference29Ideal (hReference29Ideal := Cert.Reference29Ideal.Gen.facts) := fun m g _ =>
  (θ_run Cert.Reference29Ideal.defs _ _).mono (fun r h => ⟨fun c => (h c).2.2.2, Idealize.ShloMosaic.sem_eq_zero_of_no_sems (by decide) r.2⟩) (Cert.Reference29Ideal.Value.run (F := Ideal) m g)

theorem reference30 : Cert.quiescent_Reference30Ideal (hReference30Ideal := Cert.Reference30Ideal.Gen.facts) := fun m g _ =>
  (θ_run Cert.Reference30Ideal.defs _ _).mono (fun r h => ⟨fun c => (h c).2, Idealize.ShloMosaic.sem_eq_zero_of_no_sems (by decide) r.2⟩) (Cert.Reference30Ideal.Value.run (F := Ideal) m g)

theorem reference31 : Cert.quiescent_Reference31Ideal (hReference31Ideal := Cert.Reference31Ideal.Gen.facts) := fun m g _ =>
  (θ_run Cert.Reference31Ideal.defs _ _).mono (fun r h => ⟨fun c => (h c).2, Idealize.ShloMosaic.sem_eq_zero_of_no_sems (by decide) r.2⟩) (Cert.Reference31Ideal.Value.run (F := Ideal) m g)

theorem reference32 : Cert.quiescent_Reference32Ideal (hReference32Ideal := Cert.Reference32Ideal.Gen.facts) := fun m g _ =>
  (θ_run Cert.Reference32Ideal.defs _ _).mono (fun r h => ⟨fun c => (h c).2.2.2.2, Idealize.ShloMosaic.sem_eq_zero_of_no_sems (by decide) r.2⟩) (Cert.Reference32Ideal.Value.run (F := Ideal) m g)

theorem reference33 : Cert.quiescent_Reference33Ideal (hReference33Ideal := Cert.Reference33Ideal.Gen.facts) := fun m g _ =>
  (θ_run Cert.Reference33Ideal.defs _ _).mono (fun r h => ⟨fun c => (h c).2.2.2.2, Idealize.ShloMosaic.sem_eq_zero_of_no_sems (by decide) r.2⟩) (Cert.Reference33Ideal.Value.run (F := Ideal) m g)

theorem reference34 : Cert.quiescent_Reference34Ideal (hReference34Ideal := Cert.Reference34Ideal.Gen.facts) := fun m g _ =>
  (θ_run Cert.Reference34Ideal.defs _ _).mono (fun r h => ⟨fun c => (h c).2.2.2.2, Idealize.ShloMosaic.sem_eq_zero_of_no_sems (by decide) r.2⟩) (Cert.Reference34Ideal.Value.run (F := Ideal) m g)

theorem reference35 : Cert.quiescent_Reference35Ideal (hReference35Ideal := Cert.Reference35Ideal.Gen.facts) := fun m g _ =>
  (θ_run Cert.Reference35Ideal.defs _ _).mono (fun r h => ⟨fun c => (h c).2.2.2.2, Idealize.ShloMosaic.sem_eq_zero_of_no_sems (by decide) r.2⟩) (Cert.Reference35Ideal.Value.run (F := Ideal) m g)

theorem reference36 : Cert.quiescent_Reference36Ideal (hReference36Ideal := Cert.Reference36Ideal.Gen.facts) := fun m g _ =>
  (θ_run Cert.Reference36Ideal.defs _ _).mono (fun r h => ⟨fun c => (h c).2.2.2.2, Idealize.ShloMosaic.sem_eq_zero_of_no_sems (by decide) r.2⟩) (Cert.Reference36Ideal.Value.run (F := Ideal) m g)

theorem reference37 : Cert.quiescent_Reference37Ideal (hReference37Ideal := Cert.Reference37Ideal.Gen.facts) := fun m g _ =>
  (θ_run Cert.Reference37Ideal.defs _ _).mono (fun r h => ⟨fun c => (h c).2.2.2.2, Idealize.ShloMosaic.sem_eq_zero_of_no_sems (by decide) r.2⟩) (Cert.Reference37Ideal.Value.run (F := Ideal) m g)

theorem reference38 : Cert.quiescent_Reference38Ideal (hReference38Ideal := Cert.Reference38Ideal.Gen.facts) := fun m g _ =>
  (θ_run Cert.Reference38Ideal.defs _ _).mono (fun r h => ⟨fun c => (h c).2, Idealize.ShloMosaic.sem_eq_zero_of_no_sems (by decide) r.2⟩) (Cert.Reference38Ideal.Value.run (F := Ideal) m g)

theorem reference39 : Cert.quiescent_Reference39Ideal (hReference39Ideal := Cert.Reference39Ideal.Gen.facts) := fun m g _ =>
  (θ_run Cert.Reference39Ideal.defs _ _).mono (fun r h => ⟨fun c => (h c).2, Idealize.ShloMosaic.sem_eq_zero_of_no_sems (by decide) r.2⟩) (Cert.Reference39Ideal.Value.run (F := Ideal) m g)

theorem reference40 : Cert.quiescent_Reference40Ideal (hReference40Ideal := Cert.Reference40Ideal.Gen.facts) := fun m g _ =>
  (θ_run Cert.Reference40Ideal.defs _ _).mono (fun r h => ⟨fun c => (h c).2, Idealize.ShloMosaic.sem_eq_zero_of_no_sems (by decide) r.2⟩) (Cert.Reference40Ideal.Value.run (F := Ideal) m g)

set_option maxHeartbeats 2000000 in
theorem claim : Cert.Claim :=
  ⟨Cert.KernelIdeal.Gen.facts, Cert.ReferenceIdeal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel5.Gen.facts, Cert.Kernel5Ideal.Gen.facts, Cert.Reference5Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Pre_gate_finite.Gen.facts, Cert.Pre_ln1_finite.Gen.facts, Cert.Pre_ln2_finite.Gen.facts,
    fun m ρ _ => Cert.Attn.frame (F := Ideal) m ρ, reference, fun m ρ _ => Cert.Kernel4.Gen.frame m ρ, fun m ρ _ => Cert.Kernel4Ideal.Gen.frame m ρ, fun m ρ _ => Cert.Kernel4Ideal.Gen.frame m ρ, reference4, fun m ρ _ => reference4 m ρ trivial, fun m ρ _ => Cert.Kernel6.Gen.frame m ρ, fun m ρ _ => Cert.Kernel6Ideal.Gen.frame m ρ, fun m ρ _ => Cert.Kernel6Ideal.Gen.frame m ρ, reference6, fun m ρ _ => reference6 m ρ trivial, fun m ρ _ => Cert.Kernel7.Gen.frame m ρ, fun m ρ _ => Cert.Kernel7Ideal.Gen.frame m ρ, fun m ρ _ => Cert.Kernel7Ideal.Gen.frame m ρ, reference7, fun m ρ _ => reference7 m ρ trivial, fun m ρ _ => Cert.Kernel2.Gen.frame m ρ, fun m ρ _ => Cert.Kernel2Ideal.Gen.frame m ρ, reference2, fun m ρ _ => Cert.Kernel3.Gen.frame m ρ, fun m ρ _ => Cert.Kernel3Ideal.Gen.frame m ρ, reference3, fun m ρ _ => Cert.Kernel5.Gen.frame m ρ, fun m ρ _ => Cert.Kernel5Ideal.Gen.frame m ρ, reference5, fun m ρ _ => Cert.Kernel8.Gen.frame m ρ, fun m ρ _ => Cert.Kernel8Ideal.Gen.frame m ρ, reference8, fun m ρ _ => Cert.Kernel9.Gen.frame m ρ, fun m ρ _ => Cert.Kernel9Ideal.Gen.frame m ρ, reference9, fun m ρ _ => Cert.Kernel10.Gen.frame m ρ, fun m ρ _ => Cert.Kernel10Ideal.Gen.frame m ρ, reference10, fun m ρ _ => Cert.Kernel11.Gen.frame m ρ, fun m ρ _ => Cert.Kernel11Ideal.Gen.frame m ρ, reference11, fun m ρ _ => Cert.Kernel12.Gen.frame m ρ, fun m ρ _ => Cert.Kernel12Ideal.Gen.frame m ρ, reference12, fun m ρ _ => Cert.Kernel13.Gen.frame m ρ, fun m ρ _ => Cert.Kernel13Ideal.Gen.frame m ρ, reference13, fun m ρ _ => Cert.Kernel14.Gen.frame m ρ, fun m ρ _ => Cert.Kernel14Ideal.Gen.frame m ρ, reference14, fun m ρ _ => Cert.Kernel15.Gen.frame m ρ, fun m ρ _ => Cert.Kernel15Ideal.Gen.frame m ρ, reference15, fun m ρ _ => Cert.Kernel16.Gen.frame m ρ, fun m ρ _ => Cert.Kernel16Ideal.Gen.frame m ρ, reference16, fun m ρ _ => Cert.Kernel17.Gen.frame m ρ, fun m ρ _ => Cert.Kernel17Ideal.Gen.frame m ρ, reference17, fun m ρ _ => Cert.Kernel18.Gen.frame m ρ, fun m ρ _ => Cert.Kernel18Ideal.Gen.frame m ρ, reference18, fun m ρ _ => Cert.Kernel19.Gen.frame m ρ, fun m ρ _ => Cert.Kernel19Ideal.Gen.frame m ρ, reference19, fun m ρ _ => Cert.Kernel20.Gen.frame m ρ, fun m ρ _ => Cert.Kernel20Ideal.Gen.frame m ρ, reference20, fun m ρ _ => Cert.Kernel21.Gen.frame m ρ, fun m ρ _ => Cert.Kernel21Ideal.Gen.frame m ρ, reference21, fun m ρ _ => Cert.Kernel22.Gen.frame m ρ, fun m ρ _ => Cert.Kernel22Ideal.Gen.frame m ρ, reference22, fun m ρ _ => Cert.Kernel23.Gen.frame m ρ, fun m ρ _ => Cert.Kernel23Ideal.Gen.frame m ρ, reference23, fun m ρ _ => Cert.Kernel24.Gen.frame m ρ, fun m ρ _ => Cert.Kernel24Ideal.Gen.frame m ρ, reference24, fun m ρ _ => Cert.Kernel25.Gen.frame m ρ, fun m ρ _ => Cert.Kernel25Ideal.Gen.frame m ρ, reference25, fun m ρ _ => Cert.Kernel26.Gen.frame m ρ, fun m ρ _ => Cert.Kernel26Ideal.Gen.frame m ρ, reference26, fun m ρ _ => Cert.Kernel27.Gen.frame m ρ, fun m ρ _ => Cert.Kernel27Ideal.Gen.frame m ρ, reference27, fun m ρ _ => Cert.Kernel28.Gen.frame m ρ, fun m ρ _ => Cert.Kernel28Ideal.Gen.frame m ρ, reference28, fun m ρ _ => Cert.Kernel29.Gen.frame m ρ, fun m ρ _ => Cert.Kernel29Ideal.Gen.frame m ρ, reference29, fun m ρ _ => Cert.Kernel30.Gen.frame m ρ, fun m ρ _ => Cert.Kernel30Ideal.Gen.frame m ρ, reference30, fun m ρ _ => Cert.Kernel31.Gen.frame m ρ, fun m ρ _ => Cert.Kernel31Ideal.Gen.frame m ρ, reference31, fun m ρ _ => Cert.Kernel32.Gen.frame m ρ trivial, fun m ρ _ => Cert.Kernel32Ideal.Gen.frame m ρ trivial, reference32, fun m ρ _ => Cert.Kernel33.Gen.frame m ρ trivial, fun m ρ _ => Cert.Kernel33Ideal.Gen.frame m ρ trivial, reference33, fun m ρ _ => Cert.Kernel34.Gen.frame m ρ trivial, fun m ρ _ => Cert.Kernel34Ideal.Gen.frame m ρ trivial, reference34, fun m ρ _ => Cert.Kernel35.Gen.frame m ρ trivial, fun m ρ _ => Cert.Kernel35Ideal.Gen.frame m ρ trivial, reference35, fun m ρ _ => Cert.Kernel36.Gen.frame m ρ trivial, fun m ρ _ => Cert.Kernel36Ideal.Gen.frame m ρ trivial, reference36, fun m ρ _ => Cert.Kernel37.Gen.frame m ρ trivial, fun m ρ _ => Cert.Kernel37Ideal.Gen.frame m ρ trivial, reference37, fun m ρ _ => Cert.Kernel38.Gen.frame m ρ, fun m ρ _ => Cert.Kernel38Ideal.Gen.frame m ρ, reference38, fun m ρ _ => Cert.Kernel39.Gen.frame m ρ, fun m ρ _ => Cert.Kernel39Ideal.Gen.frame m ρ, reference39, fun m ρ _ => Cert.Kernel40.Gen.frame m ρ, fun m ρ _ => Cert.Kernel40Ideal.Gen.frame m ρ, reference40,
    trivial, Cert.Swiglu.algebraic, trivial, Cert.NormOne.algebraic, trivial, Cert.LossBack.algebraic, trivial, Cert.Conv.algebraic, trivial, Cert.Merge.algebraic, trivial, Cert.RmsBack.algebraic, trivial, Cert.Modulate.algebraic, trivial, Cert.Product.algebraic, trivial, Cert.ProductFfn.algebraic, trivial, Cert.ProductO.algebraic, trivial, Cert.ProductMerged.algebraic, trivial, Cert.ProductQ.algebraic, trivial, Cert.ProductRq.algebraic, trivial, Cert.ProductQkv.algebraic, trivial, Cert.ProductConv.algebraic, trivial, Cert.ProductGate.algebraic, trivial, Cert.ProductGateRows.algebraic, trivial, Cert.ProjQkv.algebraic, trivial, Cert.ProjConv.algebraic, trivial, Cert.KvB.algebraic, trivial, Cert.OutRows.algebraic, trivial, Cert.FfnIn.algebraic, trivial, Cert.FfnOut.algebraic, trivial, Cert.UpdateNorm.algebraic, trivial, Cert.UpdateRms.algebraic, trivial, Cert.UpdateBias.algebraic, trivial, Cert.UpdateTaps.algebraic, trivial, Cert.UpdateAda.algebraic, trivial, Cert.AdaBwd.algebraic, trivial, Cert.AdaFwd.algebraic, trivial, Cert.UpdateO.algebraic, trivial, Cert.UpdateFfnOut.algebraic, trivial, Cert.UpdateFfnIn.algebraic, trivial, Cert.UpdateIn.algebraic, trivial, Cert.UpdateQ.algebraic, trivial, Cert.UpdateKv.algebraic, trivial, Cert.Sums.algebraic, trivial, Cert.MergeForward.algebraic, trivial, Cert.ConvForward.algebraic⟩

end Cert.Proof

end
